-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)) (v4 : (c : Dev Cert.Kernel5Ideal.nD) → Buf (Elt Ideal) ((c.tc : Thread Cert.Kernel5Ideal.nD Cert.Kernel5Ideal.τ).loc Cert.Kernel5Ideal.main_v1_4)) (v5 : (c : Dev Cert.Kernel5Ideal.nD) → Buf (Elt Ideal) ((c.tc : Thread Cert.Kernel5Ideal.nD Cert.Kernel5Ideal.τ).loc Cert.Kernel5Ideal.main_v1_5)) (v6 : (c : Dev Cert.Kernel5Ideal.nD) → Buf (Elt Ideal) ((c.tc : Thread Cert.Kernel5Ideal.nD Cert.Kernel5Ideal.τ).loc Cert.Kernel5Ideal.main_v1_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_v1_4) = v4 c
          ∧ r.2.mem ((c.tc : Thread Cert.Kernel5Ideal.nD Cert.Kernel5Ideal.τ).loc Cert.Kernel5Ideal.main_v1_5) = v5 c
          ∧ r.2.mem ((c.tc : Thread Cert.Kernel5Ideal.nD Cert.Kernel5Ideal.τ).loc Cert.Kernel5Ideal.main_v1_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_v82) = v4 c
          ∧ r.2.mem ((c.tc : Thread Cert.Reference5Ideal.nD Cert.Reference5Ideal.τ).loc Cert.Reference5Ideal.main_v83) = v5 c
          ∧ r.2.mem ((c.tc : Thread Cert.Reference5Ideal.nD Cert.Reference5Ideal.τ).loc Cert.Reference5Ideal.main_v84) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S1024x8192 : Shape := ⟨2, ![1024, 8192]⟩
abbrev S512x8192 : Shape := ⟨2, ![512, 8192]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩

class Facts : Prop where
  bcast_S_S1024x8192 : S_.BroadcastsInDim S1024x8192 (![] : Fin 0 → Fin S1024x8192.rank)
  bcast_S_S512x8192 : S_.BroadcastsInDim S512x8192 (![] : Fin 0 → Fin S512x8192.rank)
  bcast_S_S1x512 : S_.BroadcastsInDim S1x512 (![] : Fin 0 → Fin S1x512.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S1024x8192 .bf16) (main_arg1 : FVec F S512x8192 .bf16) (main_arg2 : FVec F S1x512 .f32) (main_arg3 : FVec F S1x512 .f32) (main_arg4 : FVec F S8x128x128 .f32) (main_arg5 : FVec F S8x128 .f32) : IVec S1024x8192 1 × IVec S512x8192 1 × IVec S1x512 1 × IVec S1x512 1 × IVec S8x128x128 1 × IVec S8x128 1 :=
  let main_v0 : FVec F S1024x8192 .bf16 := Host.absf main_arg0
  let main_cst : FVec F S_ .bf16 := constant S_ .bf16 0x7F80#16
  let main_v1 : FVec F S1024x8192 .bf16 := broadcastInDim S1024x8192 ![] bcast_S_S1024x8192 main_cst
  let main_v2 : IVec S1024x8192 1 := cmpf .olt main_v0 main_v1
  let main_v3 : FVec F S512x8192 .bf16 := Host.absf main_arg1
  let main_cst_0 : FVec F S_ .bf16 := constant S_ .bf16 0x7F80#16
  let main_v4 : FVec F S512x8192 .bf16 := broadcastInDim S512x8192 ![] bcast_S_S512x8192 main_cst_0
  let main_v5 : IVec S512x8192 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Pre_finite3.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S2816x1024 .bf16) (main_arg4 : FVec F S2816x1024 .bf16) (main_arg5 : FVec F S2816x1024 .bf16) : IVec S8192x1024 1 × IVec S8192x1024 1 × IVec S1x1024 1 × IVec S2816x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  let main_v15 : FVec F S2816x1024 .bf16 := Host.absf main_arg5
  let main_cst_4 : FVec F S_ .bf16 := constant S_ .bf16 0x7F80#16
  let main_v16 : FVec F S2816x1024 .bf16 := broadcastInDim S2816x1024 ![] bcast_S_S2816x1024 main_cst_4
  let main_v17 : IVec S2816x1024 1 := cmpf .olt main_v15 main_v16
  (main_v2, main_v5, main_v8, main_v11, main_v14, main_v17)
-- ==== Pre_finite4.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S2816x1024 .bf16) (main_arg3 : FVec F S2816x1024 .bf16) : IVec S8192x1024 1 × IVec S1x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  (main_v2, main_v5, main_v8, main_v11)
-- ==== Pre_finite5.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1024 .f32) (main_v2 : IVec S8192x1024 1) (main_v5 : IVec S1x1024 1) (main_v8 : IVec S2816x1024 1) (main_v11 : IVec S2816x1024 1) (main_v14 : IVec S2816x1024 1) (main_v17 : IVec S8192x1024 1) : IVec S8192x1024 1 × IVec S1x1024 1 × IVec S2816x1024 1 × IVec S2816x1024 1 × IVec S2816x1024 1 × IVec S8192x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S2816x1024 .bf16) (main_arg3 : FVec F S2816x1024 .bf16) (main_arg4 : FVec F S2816x1024 .bf16) (main_arg5 : FVec F S8192x1024 .f32) (main_arg6 : FVec F S1024 .f32) : IVec S8192x1024 1 × IVec S1x1024 1 × IVec S2816x1024 1 × IVec S2816x1024 1 × IVec S2816x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Kernel.lean ====
abbrev S1024x8192 : Shape := ⟨2, ![1024, 8192]⟩
abbrev S512x8192 : Shape := ⟨2, ![512, 8192]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S512x1024 : Shape := ⟨2, ![512, 1024]⟩
abbrev S512x128 : Shape := ⟨2, ![512, 128]⟩
abbrev S128x512 : Shape := ⟨2, ![128, 512]⟩
abbrev S512x1 : Shape := ⟨2, ![512, 1]⟩
abbrev S1024 : Shape := ⟨1, ![1024]⟩
abbrev S1x1024 : Shape := ⟨2, ![1, 1024]⟩
abbrev S1x128x128 : Shape := ⟨3, ![1, 128, 128]⟩
abbrev S128x128 : Shape := ⟨2, ![128, 128]⟩
abbrev S64x1024 : Shape := ⟨2, ![64, 1024]⟩
abbrev S64x128 : Shape := ⟨2, ![64, 128]⟩
abbrev S1x128 : Shape := ⟨2, ![1, 128]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S1024x8192, .bf16⟩
  | .hbm, ⟨1, _⟩ => ⟨S512x8192, .bf16⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S1024x8192, .bf16⟩
  | .hbm, ⟨7, _⟩ => ⟨S8x128x128, .f32⟩
  | .hbm, ⟨8, _⟩ => ⟨S8x128, .f32⟩
  | .hbm, ⟨9, _⟩ => ⟨S1x512, .f32⟩
  | .hbm, ⟨10, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S8x128, .f32⟩
  | .local _ .vmem, ⟨8, _⟩ => ⟨S1024x1024, .bf16⟩
  | .local _ .vmem, ⟨9, _⟩ => ⟨S1024x1024, .bf16⟩
  | .local _ .vmem, ⟨10, _⟩ => ⟨S8x128x128, .f32⟩
  | .local _ .vmem, ⟨11, _⟩ => ⟨S8x128, .f32⟩
  | .local _ .vmem, ⟨12, _⟩ => ⟨S1x512, .f32⟩
  | .local _ .vmem, ⟨13, _⟩ => ⟨S1x512, .f32⟩
  | .local _ .vmem, ⟨14, _⟩ => ⟨S512x128, .f32⟩
  | .local _ .vmem, ⟨15, _⟩ => ⟨S512x128, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1103 : BitVec 1 := Scalar.cmpi .eq arg0 c7_i32
  let v1104 : BitVec 32 := Scalar.extui v1103
  let c0_i32_280 : BitVec 32 := 0#32
  let v1105 : BitVec 1 := Scalar.cmpi .ne v1104 c0_i32_280
  v1105

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S1024x8192 : Shape := ⟨2, ![1024, 8192]⟩
abbrev S512x8192 : Shape := ⟨2, ![512, 8192]⟩
abbrev S1x512 : Shape := ⟨2, ![1, 512]⟩
abbrev S8x128x128 : Shape := ⟨3, ![8, 128, 128]⟩
abbrev S8x128 : Shape := ⟨2, ![8, 128]⟩
abbrev S8192x1024 : Shape := ⟨2, ![8192, 1024]⟩
abbrev S1x8192x1024 : Shape := ⟨3, ![1, 8192, 1024]⟩
abbrev S8192x512 : Shape := ⟨2, ![8192, 512]⟩
abbrev S1x8192x512 : Shape := ⟨3, ![1, 8192, 512]⟩
abbrev S512 : Shape := ⟨1, ![512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8192 : Shape := ⟨1, ![8192]⟩

abbrev nBuf : Space → Nat
  | .hbm => 198
  | .vmem => 0
  | .smem => 0
  | _ => 0

abbrev hbmTy0_0 (i : Nat) : BufTy := match i % 128 with
  | 0 => ⟨S1024x8192, .bf16⟩
  | 1 => ⟨S512x8192, .bf16⟩
  | 2 => ⟨S1x512, .f32⟩
  | 3 => ⟨S1x512, .f32⟩
  | 4 => ⟨S8x128x128, .f32⟩
  | 5 => ⟨S8x128, .f32⟩
  | 6 => ⟨S1024x8192, .f32⟩
  | 7 => ⟨S8192x1024, .f32⟩
  | 8 => ⟨S1x8192x1024, .f32⟩
  | 9 => ⟨S512x8192, .f32⟩
  | 10 => ⟨S8192x512, .f32⟩
  | 11 => ⟨S1x8192x512, .f32⟩
  | 12 => ⟨S512, .f32⟩
  | 13 => ⟨S512, .f32⟩
  | 14 => ⟨S1x8192x1024, .f32⟩
  | 15 => ⟨S1x8192x1024, .f32⟩
  | 16 => ⟨S1x8192x1024, .f32⟩
  | 17 => ⟨S_, .f32⟩
  | 18 => ⟨S1x8192x1024, .f32⟩
  | 19 => ⟨S1x8192x1024, .f32⟩
  | 20 => ⟨S_, .f32⟩
  | 21 => ⟨S1x8192x1024, .f32⟩
  | 22 => ⟨S1x8192x1024, .f32⟩
  | 23 => ⟨S_, .f32⟩
  | 24 => ⟨S1x8192x1024, .f32⟩
  | 25 => ⟨S1x8192x1024, .f32⟩
  | 26 => ⟨S1x8192x1024, .f32⟩
  | 27 => ⟨S_, .f32⟩
  | 28 => ⟨S1x8192x1024, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S_, .f32⟩
  | 35 => ⟨S1x8192x1024, .f32⟩
  | 36 => ⟨S1x8192x1024, .f32⟩
  | 37 => ⟨S1x8192x1024, .f32⟩
  | 38 => ⟨S_, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S1x8192x1024, .f32⟩
  | 45 => ⟨S1x8192x512, .f32⟩
  | 46 => ⟨S1x8192x512, .f32⟩
  | 47 => ⟨S_, .f32⟩
  | 48 => ⟨S1x8192, .f32⟩
  | 49 => ⟨S1x8192x1, .f32⟩
  | 50 => ⟨S_, .f32⟩
  | 51 => ⟨S1x8192x1, .f32⟩
  | 52 => ⟨S1x8192x1, .f32⟩
  | 53 => ⟨S1x8192x512, .f32⟩
  | 54 => ⟨S1x8192x512, .f32⟩
  | 55 => ⟨S1x8192x512, .f32⟩
  | 56 => ⟨S_, .f32⟩
  | 57 => ⟨S1x8192x512, .f32⟩
  | 58 => ⟨S1x8192x512, .f32⟩
  | 59 => ⟨S_, .f32⟩
  | 60 => ⟨S1x8192, .f32⟩
  | 61 => ⟨S1x8192x1, .f32⟩
  | 62 => ⟨S_, .f32⟩
  | 63 => ⟨S1x8192x1, .f32⟩
  | 64 => ⟨S1x8192x1, .f32⟩
  | 65 => ⟨S1x8192x512, .f32⟩
  | 66 => ⟨S1x8192x512, .f32⟩
  | 67 => ⟨S_, .f32⟩
  | 68 => ⟨S1x8192x1, .f32⟩
  | 69 => ⟨S1x8192x1, .f32⟩
  | 70 => ⟨S1x8192x1, .f32⟩
  | 71 => ⟨S1x8192x1, .f32⟩
  | 72 => ⟨S_, .f32⟩
  | 73 => ⟨S1x8192x1, .f32⟩
  | 74 => ⟨S1x8192x1, .f32⟩
  | 75 => ⟨S1x8192x512, .f32⟩
  | 76 => ⟨S1x8192x512, .f32⟩
  | 77 => ⟨S1x1x512, .f32⟩
  | 78 => ⟨S1x8192x512, .f32⟩
  | 79 => ⟨S1x8192x512, .f32⟩
  | 80 => ⟨S1x1x512, .f32⟩
  | 81 => ⟨S1x8192x512, .f32⟩
  | 82 => ⟨S1x8192x512, .f32⟩
  | 83 => ⟨S1x64x128x8x64, .f32⟩
  | 84 => ⟨S_, .i1⟩
  | 85 => ⟨S128x128, .i1⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .i1⟩
  | 93 => ⟨S128x128, .i1⟩
  | 94 => ⟨S128x128, .i1⟩
  | 95 => ⟨S1x128x128, .i1⟩
  | 96 => ⟨S_, .i32⟩
  | 97 => ⟨S_, .f32⟩
  | 98 => ⟨S8x128x128, .i1⟩
  | 99 => ⟨S8x128x128, .f32⟩
  | 100 => ⟨S8x128x128, .f32⟩
  | 101 => ⟨S_, .f32⟩
  | 102 => ⟨S8x128x128, .f32⟩
  | 103 => ⟨S8x1x64x64x128, .f32⟩
  | 104 => ⟨S1x64x128x8x64, .f32⟩
  | 105 => ⟨S128x8, .f32⟩
  | 106 => ⟨S1x1x128x8x1, .f32⟩
  | 107 => ⟨S1x64x128x8x64, .f32⟩
  | 108 => ⟨S1x64x128x8x64, .f32⟩
  | 109 => ⟨S1x8192x512, .f32⟩
  | 110 => ⟨S1x8192x512, .f32⟩
  | 111 => ⟨S1x8192x512, .f32⟩
  | 112 => ⟨S1x8192x512, .f32⟩
  | 113 => ⟨S1x64x128x8x64, .f32⟩
  | 114 => ⟨S_, .f32⟩
  | 115 => ⟨S1x128x8, .f32⟩
  | 116 => ⟨S1x1x128x8x1, .f32⟩
  | 117 => ⟨S_, .f32⟩
  | 118 => ⟨S128x8, .f32⟩
  | 119 => ⟨S8x128, .f32⟩
  | 120 => ⟨S8x1x64x64x128, .f32⟩
  | 121 => ⟨S8x128x128, .f32⟩
  | 122 => ⟨S8x1x64x64x128, .f32⟩
  | 123 => ⟨S1x64x128x8x64, .f32⟩
  | 124 => ⟨S_, .f32⟩
  | 125 => ⟨S8x128x128, .f32⟩
  | 126 => ⟨S8x128x128, .f32⟩
  | 127 => ⟨S1x8192x512, .f32⟩
  | _ => ⟨S1024x8192, .bf16⟩

abbrev hbmTy0_1 (i : Nat) : BufTy := match i % 128 with
  | 0 => ⟨S_, .f32⟩
  | 1 => ⟨S1x512, .f32⟩
  | 2 => ⟨S1x1x512, .f32⟩
  | 3 => ⟨S_, .f32⟩
  | 4 => ⟨S512, .f32⟩
  | 5 => ⟨S1x8192x512, .f32⟩
  | 6 => ⟨S_, .f32⟩
  | 7 => ⟨S1x512, .f32⟩
  | 8 => ⟨S1x1x512, .f32⟩
  | 9 => ⟨S1x8192x512, .f32⟩
  | 10 => ⟨S1x8192x512, .f32⟩
  | 11 => ⟨S_, .f32⟩
  | 12 => ⟨S512, .f32⟩
  | 13 => ⟨S1x8192x512, .f32⟩
  | 14 => ⟨S_, .f32⟩
  | 15 => ⟨S1x8192, .f32⟩
  | 16 => ⟨S1x8192x1, .f32⟩
  | 17 => ⟨S1x8192x512, .f32⟩
  | 18 => ⟨S1x8192x512, .f32⟩
  | 19 => ⟨S1x8192x1, .f32⟩
  | 20 => ⟨S1x8192x512, .f32⟩
  | 21 => ⟨S_, .f32⟩
  | 22 => ⟨S1x8192, .f32⟩
  | 23 => ⟨S1x8192x1, .f32⟩
  | 24 => ⟨S_, .f32⟩
  | 25 => ⟨S1x8192x1, .f32⟩
  | 26 => ⟨S1x8192x1, .f32⟩
  | 27 => ⟨S_, .f32⟩
  | 28 => ⟨S8192, .f32⟩
  | 29 => ⟨S1x8192, .f32⟩
  | 30 => ⟨S1x8192x512, .f32⟩
  | 31 => ⟨S1x8192x512, .f32⟩
  | 32 => ⟨S1x8192x512, .f32⟩
  | 33 => ⟨S_, .f32⟩
  | 34 => ⟨S1x8192, .f32⟩
  | 35 => ⟨S1x8192x1, .f32⟩
  | 36 => ⟨S1x8192x512, .f32⟩
  | 37 => ⟨S1x8192x1, .f32⟩
  | 38 => ⟨S_, .f32⟩
  | 39 => ⟨S1x8192x1, .f32⟩
  | 40 => ⟨S1x8192x1, .f32⟩
  | 41 => ⟨S_, .f32⟩
  | 42 => ⟨S8192, .f32⟩
  | 43 => ⟨S1x8192, .f32⟩
  | 44 => ⟨S1x8192x512, .f32⟩
  | 45 => ⟨S1x8192x512, .f32⟩
  | 46 => ⟨S1x8192x1024, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S1x8192x1024, .f32⟩
  | 57 => ⟨S_, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S1x8192x1024, .f32⟩
  | 64 => ⟨S1x8192x1024, .f32⟩
  | 65 => ⟨S8192x1024, .f32⟩
  | 66 => ⟨S1024x8192, .f32⟩
  | 67 => ⟨S1024x8192, .bf16⟩
  | 68 => ⟨S1x512, .f32⟩
  | 69 => ⟨S1x512, .f32⟩
  | _ => ⟨S1024x8192, .bf16⟩

abbrev hbmTy (i : Nat) : BufTy := match i / 128 with
  | 0 => hbmTy0_0 i
  | 1 => hbmTy0_1 i
  | _ => ⟨S1024x8192, .bf16⟩

abbrev bufTy : (tb : Table) → Fin (tcTables nBuf tb) → BufTy
  | .hbm, ⟨i, _⟩ => hbmTy i
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_call1_v0 : Ref sig .tc := ⟨.hbm, 97, rfl⟩
abbrev main_v66_1 : Ref sig .tc := ⟨.hbm, 98, rfl⟩
abbrev main_call1_v2 : Ref sig .tc := ⟨.hbm, 99, rfl⟩
abbrev main_v66_0 : Ref sig .tc := ⟨.hbm, 100, rfl⟩
abbrev main_call1_cst : Ref sig .tc := ⟨.hbm, 101, rfl⟩
abbrev main_v66_2 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call2_cst : Ref sig .tc := ⟨.hbm, 124, rfl⟩
abbrev main_call2_v0 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_cst_23 : Ref sig .tc := ⟨.hbm, 152, rfl⟩
abbrev main_v106 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_26 : Ref sig .tc := ⟨.hbm, 166, rfl⟩
abbrev main_v117 : Ref sig .tc := ⟨.hbm, 167, rfl⟩
abbrev main_v118 : Ref sig .tc := ⟨.hbm, 168, rfl⟩
abbrev main_cst_27 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_28 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_29 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_30 : Ref sig .tc := ⟨.hbm, 185, rfl⟩
abbrev main_v132 : Ref sig .tc := ⟨.hbm, 186, rfl⟩
abbrev main_v133 : Ref sig .tc := ⟨.hbm, 187, rfl⟩
abbrev main_cst_31 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S256x1024 : Shape := ⟨2, ![256, 1024]⟩
abbrev S256x2816 : Shape := ⟨2, ![256, 2816]⟩
abbrev S2x256x1024 : Shape := ⟨3, ![2, 256, 1024]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 53
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S2816x1024, .f32⟩
  | .hbm, ⟨24, _⟩ => ⟨S1024x2816, .f32⟩
  | .hbm, ⟨25, _⟩ => ⟨S8192x2816, .f32⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .bf16⟩
  | .hbm, ⟨47, _⟩ => ⟨S8192x2816, .bf16⟩
  | .hbm, ⟨48, _⟩ => ⟨S8192x1024, .f32⟩
  | .hbm, ⟨49, _⟩ => ⟨S8192x2816, .bf16⟩
  | .hbm, ⟨50, _⟩ => ⟨S8192x2816, .bf16⟩
  | .hbm, ⟨51, _⟩ => ⟨S8192x1024, .bf16⟩
  | .hbm, ⟨52, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S2x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_v24_3 : Ref sig .tc := ⟨.hbm, 51, rfl⟩
abbrev main_v24_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32_2 : BitVec 32 := 0#32
  let v6 : BitVec 1 := Scalar.cmpi .ne v5 c0_i32_2
  v6

def k0_off1 (i : grid0.Coords) : Fin 3 → Nat :=
  let arg0 : BitVec 32 := BitVec.ofNat 32 (i 0).val
  let c1_i32 : BitVec 32 := 1#32
  let v178 : BitVec 32 := Scalar.addi arg0 c1_i32
  let c2_i32 : BitVec 32 := 2#32
  let c0_i32_130 : BitVec 32 := 0#32
  let v179 : BitVec 1 := Scalar.cmpi .eq c2_i32 c0_i32_130
  let c1_i32_131 : BitVec 32 := 1#32
  let v180 : BitVec 32 := Scalar.select v179 c1_i32_131 c2_i32
  let v181 : BitVec 32 := Scalar.remsi v178 v180
  let c0_i32_133 : BitVec 32 := 0#32
  let v183 : BitVec 1 := Scalar.cmpi .slt v181 c0_i32_133
  let c0_i32_134 : BitVec 32 := 0#32
  let v184 : BitVec 1 := Scalar.cmpi .slt v180 c0_i32_134
  let v185 : BitVec 1 := Scalar.xori v183 v184
  let c0_i32_132 : BitVec 32 := 0#32
  let v182 : BitVec 1 := Scalar.cmpi .ne v181 c0_i32_132
  let v186 : BitVec 1 := Scalar.andi v185 v182
  let v187 : BitVec 32 := Scalar.addi v181 v180
  let v188 : BitVec 32 := Scalar.select v186 v187 v181
  let v198 : Index := Scalar.indexCast v188
  let c0_140 : Index := 0#32
  let c0_141 : Index := 0#32
  ![v198.toNat, 0, 0]
def k0_off2 (i : grid0.Coords) : Fin 3 → Nat :=
  let arg0 : BitVec 32 := BitVec.ofNat 32 (i 0).val
  let c2_i32_153 : BitVec 32 := 2#32
  let c0_i32_154 : BitVec 32 := 0#32
  let v225 : BitVec 1 := Scalar.cmpi .eq c2_i32_153 c0_i32_154
  let c1_i32_155 : BitVec 32 := 1#32
  let v226 : BitVec 32 := Scalar.select v225 c1_i32_155 c2_i32_153
  let v227 : BitVec 32 := Scalar.remsi arg0 v226
  let c0_i32_157 : BitVec 32 := 0#32
  let v229 : BitVec 1 := Scalar.cmpi .slt v227 c0_i32_157
  let c0_i32_158 : BitVec 32 := 0#32
  let v230 : BitVec 1 := Scalar.cmpi .slt v226 c0_i32_158
  let v231 : BitVec 1 := Scalar.xori v229 v230
  let c0_i32_156 : BitVec 32 := 0#32
  let v228 : BitVec 1 := Scalar.cmpi .ne v227 c0_i32_156
  let v232 : BitVec 1 := Scalar.andi v231 v228
  let v233 : BitVec 32 := Scalar.addi v227 v226
  let v234 : BitVec 32 := Scalar.select v232 v233 v227
  let v235 : Index := Scalar.indexCast v234
  let c0_159 : Index := 0#32
  let c0_160 : Index := 0#32
  ![v235.toNat, 0, 0]
def k0_cond3 (i : grid0.Coords) : BitVec 1 :=
  let arg0 : BitVec 32 := BitVec.ofNat 32 (i 0).val
  let c32_i32_3 : BitVec 32 := 32#32
  let v7 : BitVec 1 := Scalar.cmpi .eq arg0 c32_i32_3
  let v8 : BitVec 32 := Scalar.extui v7
  let c0_i32_4 : BitVec 32 := 0#32
  let v9 : BitVec 1 := Scalar.cmpi .ne v8 c0_i32_4
  v9

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S2816x1024, .f32⟩
  | .hbm, ⟨31, _⟩ => ⟨S1024x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S2816x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x2816, .bf16⟩
  | .hbm, ⟨89, _⟩ => ⟨S8192x2816, .bf16⟩
  | .hbm, ⟨90, _⟩ => ⟨S8192x1024, .bf16⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S2816x1024, .f32⟩
  | .hbm, ⟨22, _⟩ => ⟨S1024x2816, .f32⟩
  | .hbm, ⟨23, _⟩ => ⟨S8192x2816, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .bf16⟩
  | .hbm, ⟨46, _⟩ => ⟨S8192x2816, .bf16⟩
  | .hbm, ⟨47, _⟩ => ⟨S8192x2816, .bf16⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v20_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v20_1 : Ref sig .tc := ⟨.hbm, 38, rfl⟩
abbrev main_v20_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 15
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x1024, .bf16⟩
  | .hbm, ⟨13, _⟩ => ⟨S1x1024, .f32⟩
  | .hbm, ⟨14, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S2816x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x2816, .f32⟩
  | .hbm, ⟨118, _⟩ => ⟨S8192x2816, .f32⟩
  | .hbm, ⟨119, _⟩ => ⟨S8192x2816, .f32⟩
  | .hbm, ⟨120, _⟩ => ⟨S8192x2816, .f32⟩
  | .hbm, ⟨121, _⟩ => ⟨S8192x2816, .bf16⟩
  | .hbm, ⟨122, _⟩ => ⟨S8192x2816, .bf16⟩
  | .hbm, ⟨123, _⟩ => ⟨S8192x2816, .bf16⟩
  | .hbm, ⟨124, _⟩ => ⟨S8192x1024, .bf16⟩
  | .hbm, ⟨125, _⟩ => ⟨S1x1024, .f32⟩
  | .hbm, ⟨126, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_cst_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]
-- ==== Proof.Gmlp.Lift.lean ====
/- Matrices of real numbers seen as tiles of extended reals, and how the vector operations act on them. -/
module

public import Idealize.ShloMosaic.Lib.Pipeline.Value
public import Idealize.ShloMosaic.Lib.ValueIdx
public import Idealize.ShloMosaic.PureOps.Ideal.Laws

@[expose] public section

noncomputable section

namespace Cert.Lift

open Idealize.ShloMosaic Finset

variable {a b c d : ℕ} {φ : FTy}

/-- A sum of reals, seen as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- A sum over the numbers below `n` of reals, from the extended reals. -/
theorem sum_fin_coe (n : ℕ) (f : ℕ → ℝ) : ∑ k : Fin n, ((f k.val : ℝ) : EReal) = ((∑ k ∈ range n, f k : ℝ) : EReal) := by
  rw [← Fin.sum_univ_eq_sum_range f n, coe_sum]

/-- A sum over `a` blocks of `b`. -/
theorem sum_blocks (a b : ℕ) (f : ℕ → ℝ) : ∑ t ∈ range (a * b), f t = ∑ i ∈ range a, ∑ j ∈ range b, f (b * i + j) := by
  induction a with
  | zero => simp
  | succ a ih => rw [Nat.succ_mul, Finset.sum_range_add, ih, Finset.sum_range_succ, Nat.mul_comm a b]

/-- The tile whose entries are the real numbers `f i j`. -/
def rv (a b : ℕ) (φ : FTy) (f : ℕ → ℕ → ℝ) : FVec Ideal ⟨2, ![a, b]⟩ φ := fun i => ((f (i 0).val (i 1).val : ℝ) : EReal)

/-- The block of rank three whose entries are the real numbers `f i j k`. -/
def rv3 (a b c : ℕ) (φ : FTy) (f : ℕ → ℕ → ℕ → ℝ) : FVec Ideal ⟨3, ![a, b, c]⟩ φ :=
  fun i => ((f (i 0).val (i 1).val (i 2).val : ℝ) : EReal)

theorem rv_congr {f g : ℕ → ℕ → ℝ} (h : ∀ i j, i < a → j < b → f i j = g i j) : rv a b φ f = rv a b φ g := by
  funext i
  unfold rv
  rw [h _ _ (i 0).isLt (i 1).isLt]

theorem rv3_congr {f g : ℕ → ℕ → ℕ → ℝ} (h : ∀ i j k, i < a → j < b → k < c → f i j k = g i j k) :
    rv3 a b c φ f = rv3 a b c φ g := by
  funext i
  unfold rv3
  rw [h _ _ _ (i 0).isLt (i 1).isLt (i 2).isLt]

theorem rv_mul (f g : ℕ → ℕ → ℝ) : mulf (rv a b φ f) (rv a b φ g) = rv a b φ fun i j => f i j * g i j := by
  funext i; exact (EReal.coe_mul _ _).symm
theorem rv_add (f g : ℕ → ℕ → ℝ) : addf (rv a b φ f) (rv a b φ g) = rv a b φ fun i j => f i j + g i j := by
  funext i; exact (EReal.coe_add _ _).symm
theorem rv_sub (f g : ℕ → ℕ → ℝ) : subf (rv a b φ f) (rv a b φ g) = rv a b φ fun i j => f i j - g i j := by
  funext i; exact (EReal.coe_sub _ _).symm
theorem rv_ext {ψ : FTy} (f : ℕ → ℕ → ℝ) (h : φ.bits < ψ.bits) : extf ψ (rv a b φ f) h = rv a b ψ f := rfl
theorem rv_trunc {ψ : FTy} (f : ℕ → ℕ → ℝ) (h : ψ.bits < φ.bits) : truncf ψ (rv a b φ f) h = rv a b ψ f := rfl
theorem rv_const {x : Ideal φ} {r : ℝ} (h : x = ((r : ℝ) : EReal)) : broadcast ⟨2, ![a, b]⟩ x = rv a b φ fun _ _ => r := by
  funext i; exact h
theorem rv_tanh (f : ℕ → ℕ → ℝ) : tanh (rv a b φ f) = rv a b φ fun i j => Real.tanh (f i j) := by
  funext i; exact Ideal.tanh_coe _
theorem rv_rsqrt (f : ℕ → ℕ → ℝ) (h : ∀ i j, 0 < f i j) : rsqrt (rv a b φ f) = rv a b φ fun i j => (√(f i j))⁻¹ := by
  funext i
  show Ideal.rsqrt (((f (i 0).val (i 1).val : ℝ) : EReal)) = _
  rw [Ideal.rsqrt_coe, if_neg (not_lt.mpr (h _ _).le), if_neg (h _ _).ne']
  rfl
theorem div_coe_coe (x y : ℝ) (h : y ≠ 0) : Ideal.div ((x : ℝ) : EReal) ((y : ℝ) : EReal) = ((x / y : ℝ) : EReal) := by
  rw [Ideal.div_coe h, ← EReal.coe_mul, mul_one_div]
theorem rv_div (f : ℕ → ℕ → ℝ) (g : ℕ → ℕ → ℝ) (h : ∀ i j, g i j ≠ 0) :
    divf (rv a b φ f) (rv a b φ g) = rv a b φ fun i j => f i j / g i j := by
  funext i
  exact div_coe_coe _ _ (h _ _)

theorem rv_slice (f : ℕ → ℕ → ℝ) (o p : ℕ) (h : (⟨2, ![a, b]⟩ : Shape).Slices ![o, p] ⟨2, ![c, d]⟩) :
    extractStridedSlice ⟨2, ![c, d]⟩ ![o, p] (rv a b φ f) h = rv c d φ fun i j => f (o + i) (p + j) := rfl

theorem rv_transpose (f : ℕ → ℕ → ℝ) (h : (⟨2, ![a, b]⟩ : Shape).Transposes [1, 0] ⟨2, ![b, a]⟩) :
    transpose ⟨2, ![b, a]⟩ [1, 0] (rv a b φ f) h = rv b a φ fun i j => f j i := by
  funext i
  exact transpose_apply [1, 0] (rv a b φ f) h i (fun z => match z with | ⟨0, _⟩ => i 1 | ⟨1, _⟩ => i 0)
    (fun z => match z with | ⟨0, _⟩ => rfl | ⟨1, _⟩ => rfl)

theorem rv_bcast_row (f : ℕ → ℕ → ℝ) (h : (⟨2, ![1, b]⟩ : Shape).Broadcasts ⟨2, ![a, b]⟩) :
    broadcastTo ⟨2, ![a, b]⟩ (rv 1 b φ f) h = rv a b φ fun _ j => f 0 j := by
  funext i
  refine (broadcastTo_apply (rv 1 b φ f) h i (fun z => match z with | ⟨0, _⟩ => ⟨0, Nat.one_pos⟩ | ⟨1, _⟩ => i 1) ?_).trans rfl
  intro z
  match z with
  | ⟨0, _⟩ => rfl
  | ⟨1, _⟩ =>
    show (i 1).val = if b = 1 then 0 else (i 1).val
    split
    · next h1 => have := (i 1).isLt; change (i 1).val < b at this; omega
    · rfl

theorem rv_bcast_col (f : ℕ → ℕ → ℝ) (h : (⟨2, ![a, 1]⟩ : Shape).Broadcasts ⟨2, ![a, b]⟩) :
    broadcastTo ⟨2, ![a, b]⟩ (rv a 1 φ f) h = rv a b φ fun i _ => f i 0 := by
  funext i
  refine (broadcastTo_apply (rv a 1 φ f) h i (fun z => match z with | ⟨0, _⟩ => i 0 | ⟨1, _⟩ => ⟨0, Nat.one_pos⟩) ?_).trans rfl
  intro z
  match z with
  | ⟨1, _⟩ => rfl
  | ⟨0, _⟩ =>
    show (i 0).val = if a = 1 then 0 else (i 0).val
    split
    · next h1 => have := (i 0).isLt; change (i 0).val < a at this; omega
    · rfl

theorem rv3_drop (f : ℕ → ℕ → ℕ → ℝ) (h : (⟨3, ![1, a, b]⟩ : Shape).ShapeCasts ⟨2, ![a, b]⟩) :
    shapeCast ⟨2, ![a, b]⟩ (rv3 1 a b φ f) h = rv a b φ (f 0) := by
  funext i
  exact (shapeCast_dropUnit_apply ![a, b] (rv3 1 a b φ f) h i).trans rfl

theorem rv_addUnit (f : ℕ → ℕ → ℝ) (h : (⟨2, ![a, b]⟩ : Shape).ShapeCasts ⟨3, ![1, a, b]⟩) :
    shapeCast ⟨3, ![1, a, b]⟩ (rv a b φ f) h = rv3 1 a b φ fun _ => f := by
  funext i
  exact (shapeCast_addUnit_apply ![a, b] (rv a b φ f) h i).trans rfl

theorem rv_colsum (f : ℕ → ℕ → ℝ) (acc : BitVec φ.bits) (h : (⟨2, ![a, b]⟩ : Shape).Reduces [0] ⟨1, ![b]⟩) (hφ : FKind.Formats φ)
    (hacc : acc = FKind.add.neutral φ hφ) (hc : (⟨1, ![b]⟩ : Shape).ShapeCasts ⟨2, ![1, b]⟩) :
    shapeCast ⟨2, ![1, b]⟩ (multiReduction .add [0] ⟨1, ![b]⟩ (rv a b φ f) acc h hφ hacc) hc
      = rv 1 b φ fun _ j => ∑ k ∈ range a, f k j := by
  funext i
  refine (shapeCast_addUnit_apply ![b] _ hc i).trans ?_
  refine (Ideal.multiReduction_add_single _ acc h hφ hacc _).trans ?_
  exact sum_fin_coe a (fun k => f k (i 1).val)

end Cert.Lift

end
-- ==== Proof.Gmlp.Ops.lean ====
/- The tile operations of one channel group, as whole-tile expressions, and their entries on tiles of real numbers. -/
module

public import proofs.«01_k».proof.Proof.Gen.KernelIdeal.Skeleton
public import proofs.«01_k».proof.Proof.Gmlp.Lift
public import Idealize.ShloMosaic.Lib.WordCmp

@[expose] public section

set_option maxRecDepth 16384

noncomputable section

namespace Cert.KernelIdeal.Tile

open Cert.KernelIdeal Cert.KernelIdeal.Gen Idealize.ShloMosaic Cert.Lift Finset

abbrev V (s : Shape) (φ : FTy) := FVec Ideal s φ

/-- Eight tiles of `a` rows on top of each other. -/
theorem rv_cat0 {a b n : ℕ} {φ : FTy} (f : ℕ → ℕ → ℕ → ℝ) (hn : n = 8 * a) (ha : 0 < a)
    (h : Shape.Concatenates [(⟨2, ![a, b]⟩ : Shape), ⟨2, ![a, b]⟩, ⟨2, ![a, b]⟩, ⟨2, ![a, b]⟩, ⟨2, ![a, b]⟩, ⟨2, ![a, b]⟩, ⟨2, ![a, b]⟩, ⟨2, ![a, b]⟩] ⟨2, ![n, b]⟩ 0) :
    concatenate (⟨2, ![n, b]⟩ : Shape) 0 [⟨⟨2, ![a, b]⟩, rv a b φ (f 0)⟩, ⟨⟨2, ![a, b]⟩, rv a b φ (f 1)⟩, ⟨⟨2, ![a, b]⟩, rv a b φ (f 2)⟩, ⟨⟨2, ![a, b]⟩, rv a b φ (f 3)⟩,
      ⟨⟨2, ![a, b]⟩, rv a b φ (f 4)⟩, ⟨⟨2, ![a, b]⟩, rv a b φ (f 5)⟩, ⟨⟨2, ![a, b]⟩, rv a b φ (f 6)⟩, ⟨⟨2, ![a, b]⟩, rv a b φ (f 7)⟩] h
      = rv n b φ fun i j => f (i / a) (i % a) j := by
  funext j
  have hj : (j 0).val < n := (j 0).isLt
  exact concatenate_ofFn_apply (s₁ := ⟨2, ![a, b]⟩) (t := ⟨2, ![n, b]⟩) 0 (fun k : Fin 8 => rv a b φ (f k.val)) h rfl a rfl j
    ⟨(j 0).val / a, (Nat.div_lt_iff_lt_mul ha).mpr (by omega)⟩ rfl
    (fun z => match z with | ⟨0, _⟩ => ⟨(j 0).val % a, Nat.mod_lt _ ha⟩ | ⟨1, _⟩ => j 1) rfl
    (fun z hz => match z, hz with | ⟨0, _⟩, hz => absurd rfl hz | ⟨1, _⟩, _ => rfl)

/-- Eight tiles of `b` columns next to each other. -/
theorem rv_cat1 {a b n : ℕ} {φ : FTy} (f : ℕ → ℕ → ℕ → ℝ) (hn : n = 8 * b) (hb : 0 < b)
    (h : Shape.Concatenates [(⟨2, ![a, b]⟩ : Shape), ⟨2, ![a, b]⟩, ⟨2, ![a, b]⟩, ⟨2, ![a, b]⟩, ⟨2, ![a, b]⟩, ⟨2, ![a, b]⟩, ⟨2, ![a, b]⟩, ⟨2, ![a, b]⟩] ⟨2, ![a, n]⟩ 1) :
    concatenate (⟨2, ![a, n]⟩ : Shape) 1 [⟨⟨2, ![a, b]⟩, rv a b φ (f 0)⟩, ⟨⟨2, ![a, b]⟩, rv a b φ (f 1)⟩, ⟨⟨2, ![a, b]⟩, rv a b φ (f 2)⟩, ⟨⟨2, ![a, b]⟩, rv a b φ (f 3)⟩,
      ⟨⟨2, ![a, b]⟩, rv a b φ (f 4)⟩, ⟨⟨2, ![a, b]⟩, rv a b φ (f 5)⟩, ⟨⟨2, ![a, b]⟩, rv a b φ (f 6)⟩, ⟨⟨2, ![a, b]⟩, rv a b φ (f 7)⟩] h
      = rv a n φ fun i j => f (j / b) i (j % b) := by
  funext j
  have hj : (j 1).val < n := (j 1).isLt
  exact concatenate_ofFn_apply (s₁ := ⟨2, ![a, b]⟩) (t := ⟨2, ![a, n]⟩) 1 (fun k : Fin 8 => rv a b φ (f k.val)) h rfl b rfl j
    ⟨(j 1).val / b, (Nat.div_lt_iff_lt_mul hb).mpr (by omega)⟩ rfl
    (fun z => match z with | ⟨0, _⟩ => j 0 | ⟨1, _⟩ => ⟨(j 1).val % b, Nat.mod_lt _ hb⟩) rfl
    (fun z hz => match z, hz with | ⟨1, _⟩, hz => absurd rfl hz | ⟨0, _⟩, _ => rfl)

/-- The eight chunks of a group's tile, stacked on the rows. -/
def stack (v : V S64x1024 .bf16) : V S512x128 .bf16 :=
  concatenate S512x128 0 [⟨S64x128, extractStridedSlice S64x128 ![0, 0] v slices_S64x1024_o0_0_S64x128⟩, ⟨S64x128, extractStridedSlice S64x128 ![0, 128] v slices_S64x1024_o0_128_S64x128⟩, ⟨S64x128, extractStridedSlice S64x128 ![0, 256] v slices_S64x1024_o0_256_S64x128⟩, ⟨S64x128, extractStridedSlice S64x128 ![0, 384] v slices_S64x1024_o0_384_S64x128⟩, ⟨S64x128, extractStridedSlice S64x128 ![0, 512] v slices_S64x1024_o0_512_S64x128⟩, ⟨S64x128, extractStridedSlice S64x128 ![0, 640] v slices_S64x1024_o0_640_S64x128⟩, ⟨S64x128, extractStridedSlice S64x128 ![0, 768] v slices_S64x1024_o0_768_S64x128⟩, ⟨S64x128, extractStridedSlice S64x128 ![0, 896] v slices_S64x1024_o0_896_S64x128⟩] concatenates_S64x128_S64x128_S64x128_S64x128_S64x128_S64x128_S64x128_S64x128_S512x128_d0

theorem stack_rv (f : ℕ → ℕ → ℝ) : stack (rv 64 1024 .bf16 f) = rv 512 128 .bf16 fun i j => f (i % 64) (128 * (i / 64) + j) := by
  refine (rv_cat0 (a := 64) (b := 128) (n := 512) (fun k i j => f (0 + i) (128 * k + j)) rfl (by norm_num)
    concatenates_S64x128_S64x128_S64x128_S64x128_S64x128_S64x128_S64x128_S64x128_S512x128_d0).trans ?_
  simp only [Nat.zero_add]

/-- The chunks stacked on the rows, put side by side again. -/
def unstack (v : V S512x128 .f32) : V S64x1024 .f32 :=
  concatenate S64x1024 1 [⟨S64x128, extractStridedSlice S64x128 ![0, 0] v slices_S512x128_o0_0_S64x128⟩, ⟨S64x128, extractStridedSlice S64x128 ![64, 0] v slices_S512x128_o64_0_S64x128⟩, ⟨S64x128, extractStridedSlice S64x128 ![128, 0] v slices_S512x128_o128_0_S64x128⟩, ⟨S64x128, extractStridedSlice S64x128 ![192, 0] v slices_S512x128_o192_0_S64x128⟩, ⟨S64x128, extractStridedSlice S64x128 ![256, 0] v slices_S512x128_o256_0_S64x128⟩, ⟨S64x128, extractStridedSlice S64x128 ![320, 0] v slices_S512x128_o320_0_S64x128⟩, ⟨S64x128, extractStridedSlice S64x128 ![384, 0] v slices_S512x128_o384_0_S64x128⟩, ⟨S64x128, extractStridedSlice S64x128 ![448, 0] v slices_S512x128_o448_0_S64x128⟩] concatenates_S64x128_S64x128_S64x128_S64x128_S64x128_S64x128_S64x128_S64x128_S64x1024_d1

theorem unstack_rv (f : ℕ → ℕ → ℝ) : unstack (rv 512 128 .f32 f) = rv 64 1024 .f32 fun i j => f (64 * (j / 128) + i) (j % 128) := by
  refine (rv_cat1 (a := 64) (b := 128) (n := 1024) (fun k i j => f (64 * k + i) (0 + j)) rfl (by norm_num)
    concatenates_S64x128_S64x128_S64x128_S64x128_S64x128_S64x128_S64x128_S64x128_S64x1024_d1).trans ?_
  simp only [Nat.zero_add]

/-- The lower triangle: column at most row. -/
def triB : IVec S128x128 1 :=
  cmpi .sle (iota .tc S128x128 32 [1] iota_S128x128_d1_w32) (iota .tc S128x128 32 [0] iota_S128x128_d0_w32)

theorem triB_apply (i : S128x128.Idx) : triB i = BitVec.ofBool (decide ((i 1).val ≤ (i 0).val)) := by
  have h0 : (i 0).val < 128 := (i 0).isLt
  have h1 : (i 1).val < 128 := (i 1).isLt
  unfold triB
  show IntOp.cmpi .sle (iota .tc S128x128 32 [1] iota_S128x128_d1_w32 i) (iota .tc S128x128 32 [0] iota_S128x128_d0_w32 i) = _
  rw [iota_single_apply, iota_single_apply]
  exact WordCmp.cmpi_sle_ofNat (by norm_num; omega) (by norm_num; omega)

/-- The zero a mask puts above the diagonal. -/
theorem zero_f32 : (Scalar.ofBits .f32 0x00000000#32 : Ideal .f32) = ((0 : ℝ) : EReal) := by
  rw [EReal.coe_zero]; exact Ideal.ofBits_zero_f32

theorem tri_rv (f : ℕ → ℕ → ℝ) :
    select triB (rv 128 128 .f32 f) (broadcast S128x128 (Scalar.ofBits .f32 0x00000000#32 : Ideal .f32)) = rv 128 128 .f32 fun i j => if j ≤ i then f i j else 0 := by
  funext i
  show Scalar.select (triB i) _ _ = _
  rw [triB_apply]
  unfold Scalar.select
  by_cases h : (i 1).val ≤ (i 0).val
  · rw [decide_eq_true h]
    refine (if_pos rfl).trans ?_
    unfold rv
    exact congrArg _ (if_pos h).symm
  · rw [decide_eq_false h]
    refine (if_neg (by decide)).trans ?_
    refine Eq.trans zero_f32 ?_
    unfold rv
    exact congrArg _ (if_neg h).symm

/-- The masked spatial weights of a group. -/
def maskW (w : Vec Ideal S1x128x128 .f32) : V S128x128 .bf16 :=
  truncf .bf16 (select triB (shapeCast S128x128 w shapeCasts_S1x128x128_S128x128) (broadcast S128x128 (Scalar.ofBits .f32 0x00000000#32 : Ideal .f32))) bitsLt_bf16_f32

theorem maskW_rv (f : ℕ → ℕ → ℕ → ℝ) : maskW (rv3 1 128 128 .f32 f) = rv 128 128 .bf16 fun i j => if j ≤ i then f 0 i j else 0 := by
  unfold maskW
  rw [rv3_drop, tri_rv, rv_trunc]

/-- Rows against rows. -/
theorem dot_rr (f g : ℕ → ℕ → ℝ) :
    matmul dot_S512x128_S128x128_S512x128_1_1_0_0_n_n none (rv 512 128 .bf16 f) (rv 128 128 .bf16 g) (constant S512x128 .f32 0x00000000#32)
      = rv 512 128 .f32 fun i j => ∑ k ∈ range 128, f i k * g j k := by
  funext i
  refine (Ideal.matmul_constant_zero_apply dot_S512x128_S128x128_S512x128_1_1_0_0_n_n none (rv 512 128 .bf16 f) (rv 128 128 .bf16 g) i).trans ?_
  rw [← Equiv.sum_comp (ValueIdx.contrEquiv1 dot_S512x128_S128x128_S512x128_1_1_0_0_n_n 128 rfl rfl).symm]
  refine (Finset.sum_congr rfl fun k _ => ?_).trans (sum_fin_coe 128 fun k => f (i 0).val k * g (i 1).val k)
  have hk := ValueIdx.contrEquiv1_symm_val dot_S512x128_S128x128_S512x128_1_1_0_0_n_n 128 rfl rfl k
  generalize (ValueIdx.contrEquiv1 dot_S512x128_S128x128_S512x128_1_1_0_0_n_n 128 rfl rfl).symm k = q at hk ⊢
  have l0 : (dot_S512x128_S128x128_S512x128_1_1_0_0_n_n.lhsIdx i q 0).val = (i 0).val := by
    unfold DotDims.lhsIdx
    rw [dif_neg (show ¬(0 : Fin S512x128.rank) ∈ dot_S512x128_S128x128_S512x128_1_1_0_0_n_n.lhsBatch by decide), dif_pos (show (0 : Fin S512x128.rank) ∈ dot_S512x128_S128x128_S512x128_1_1_0_0_n_n.lhsNonContracting by decide)]
    rfl
  have l1 : (dot_S512x128_S128x128_S512x128_1_1_0_0_n_n.lhsIdx i q 1).val = k.val :=
    (dot_S512x128_S128x128_S512x128_1_1_0_0_n_n.lhsIdx_val_of_single rfl i q).trans hk
  have r0 : (dot_S512x128_S128x128_S512x128_1_1_0_0_n_n.rhsIdx i q 0).val = (i 1).val := by
    unfold DotDims.rhsIdx
    rw [dif_neg (show ¬(0 : Fin S128x128.rank) ∈ dot_S512x128_S128x128_S512x128_1_1_0_0_n_n.rhsBatch by decide), dif_pos (show (0 : Fin S128x128.rank) ∈ dot_S512x128_S128x128_S512x128_1_1_0_0_n_n.rhsNonContracting by decide)]
    rfl
  have r1 : (dot_S512x128_S128x128_S512x128_1_1_0_0_n_n.rhsIdx i q 1).val = k.val :=
    (dot_S512x128_S128x128_S512x128_1_1_0_0_n_n.rhsIdx_val_of_single rfl i q).trans hk
  unfold rv
  rw [l0, l1, r0, r1, ← EReal.coe_mul]

/-- Rows against columns. -/
theorem dot_rc (f g : ℕ → ℕ → ℝ) :
    matmul dot_S512x128_S128x128_S512x128_1_0_0_1_n_n none (rv 512 128 .bf16 f) (rv 128 128 .bf16 g) (constant S512x128 .f32 0x00000000#32)
      = rv 512 128 .f32 fun i j => ∑ k ∈ range 128, f i k * g k j := by
  funext i
  refine (Ideal.matmul_constant_zero_apply dot_S512x128_S128x128_S512x128_1_0_0_1_n_n none (rv 512 128 .bf16 f) (rv 128 128 .bf16 g) i).trans ?_
  rw [← Equiv.sum_comp (ValueIdx.contrEquiv1 dot_S512x128_S128x128_S512x128_1_0_0_1_n_n 128 rfl rfl).symm]
  refine (Finset.sum_congr rfl fun k _ => ?_).trans (sum_fin_coe 128 fun k => f (i 0).val k * g k (i 1).val)
  have hk := ValueIdx.contrEquiv1_symm_val dot_S512x128_S128x128_S512x128_1_0_0_1_n_n 128 rfl rfl k
  generalize (ValueIdx.contrEquiv1 dot_S512x128_S128x128_S512x128_1_0_0_1_n_n 128 rfl rfl).symm k = q at hk ⊢
  have l0 : (dot_S512x128_S128x128_S512x128_1_0_0_1_n_n.lhsIdx i q 0).val = (i 0).val := by
    unfold DotDims.lhsIdx
    rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
    rfl
  have l1 : (dot_S512x128_S128x128_S512x128_1_0_0_1_n_n.lhsIdx i q 1).val = k.val :=
    (dot_S512x128_S128x128_S512x128_1_0_0_1_n_n.lhsIdx_val_of_single rfl i q).trans hk
  have r1 : (dot_S512x128_S128x128_S512x128_1_0_0_1_n_n.rhsIdx i q 1).val = (i 1).val := by
    unfold DotDims.rhsIdx
    rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
    rfl
  have r0 : (dot_S512x128_S128x128_S512x128_1_0_0_1_n_n.rhsIdx i q 0).val = k.val :=
    (dot_S512x128_S128x128_S512x128_1_0_0_1_n_n.rhsIdx_val_of_single rfl i q).trans hk
  unfold rv
  rw [l0, l1, r0, r1, ← EReal.coe_mul]

/-- Columns against columns. -/
theorem dot_cc (f g : ℕ → ℕ → ℝ) :
    matmul dot_S512x128_S512x128_S128x128_0_0_1_1_n_n none (rv 512 128 .bf16 f) (rv 512 128 .bf16 g) (constant S128x128 .f32 0x00000000#32)
      = rv 128 128 .f32 fun i j => ∑ k ∈ range 512, f k i * g k j := by
  funext i
  refine (Ideal.matmul_constant_zero_apply dot_S512x128_S512x128_S128x128_0_0_1_1_n_n none (rv 512 128 .bf16 f) (rv 512 128 .bf16 g) i).trans ?_
  rw [← Equiv.sum_comp (ValueIdx.contrEquiv1 dot_S512x128_S512x128_S128x128_0_0_1_1_n_n 512 rfl rfl).symm]
  refine (Finset.sum_congr rfl fun k _ => ?_).trans (sum_fin_coe 512 fun k => f k (i 0).val * g k (i 1).val)
  have hk := ValueIdx.contrEquiv1_symm_val dot_S512x128_S512x128_S128x128_0_0_1_1_n_n 512 rfl rfl k
  generalize (ValueIdx.contrEquiv1 dot_S512x128_S512x128_S128x128_0_0_1_1_n_n 512 rfl rfl).symm k = q at hk ⊢
  have l1 : (dot_S512x128_S512x128_S128x128_0_0_1_1_n_n.lhsIdx i q 1).val = (i 0).val := by
    unfold DotDims.lhsIdx
    rw [dif_neg (show ¬(1 : Fin S512x128.rank) ∈ dot_S512x128_S512x128_S128x128_0_0_1_1_n_n.lhsBatch by decide), dif_pos (show (1 : Fin S512x128.rank) ∈ dot_S512x128_S512x128_S128x128_0_0_1_1_n_n.lhsNonContracting by decide)]
    rfl
  have l0 : (dot_S512x128_S512x128_S128x128_0_0_1_1_n_n.lhsIdx i q 0).val = k.val :=
    (dot_S512x128_S512x128_S128x128_0_0_1_1_n_n.lhsIdx_val_of_single rfl i q).trans hk
  have r1 : (dot_S512x128_S512x128_S128x128_0_0_1_1_n_n.rhsIdx i q 1).val = (i 1).val := by
    unfold DotDims.rhsIdx
    rw [dif_neg (show ¬(1 : Fin S512x128.rank) ∈ dot_S512x128_S512x128_S128x128_0_0_1_1_n_n.rhsBatch by decide), dif_pos (show (1 : Fin S512x128.rank) ∈ dot_S512x128_S512x128_S128x128_0_0_1_1_n_n.rhsNonContracting by decide)]
    rfl
  have r0 : (dot_S512x128_S512x128_S128x128_0_0_1_1_n_n.rhsIdx i q 0).val = k.val :=
    (dot_S512x128_S512x128_S128x128_0_0_1_1_n_n.rhsIdx_val_of_single rfl i q).trans hk
  unfold rv
  rw [l0, l1, r0, r1, ← EReal.coe_mul]

end Cert.KernelIdeal.Tile

end
-- ==== Proof.Gmlp.Model.lean ====
/- The gradient of the gMLP token mixing in real numbers: channels are rows, tokens are columns. -/
module

public import proofs.«01_k».proof.Proof.Gmlp.Lift

@[expose] public section

noncomputable section

namespace Cert.Model

open Finset

/-- The inner coefficient of the tanh gelu. -/
def ca : ℝ := 8943 / 200000
/-- Three times that coefficient, the derivative's. -/
def c3a : ℝ := 26829 / 200000
/-- The outer coefficient, the number its float word holds. -/
def cg : ℝ := 13386282 / 16777216
/-- The normalisation's epsilon, the number its float word holds. -/
def eps : ℝ := 8796093 / 8796093022208

/-- The tanh gelu. -/
def gel (z : ℝ) : ℝ := 1 / 2 * z * (1 + Real.tanh (cg * (z + ca * z * z * z)))

/-- The tanh gelu's derivative. -/
def dgel (z : ℝ) : ℝ :=
  1 / 2 * (1 + Real.tanh (cg * (z + ca * z * z * z)))
    + 1 / 2 * z * (1 - Real.tanh (cg * (z + ca * z * z * z)) * Real.tanh (cg * (z + ca * z * z * z))) * cg * (1 + c3a * z * z)

/-- The inputs: pre-activations, output gradients, norm scale and shift, spatial weights and bias. -/
structure Inp where
  Z : ℕ → ℕ → ℝ
  Y : ℕ → ℕ → ℝ
  LG : ℕ → ℝ
  LB : ℕ → ℝ
  W : ℕ → ℕ → ℕ → ℝ
  B : ℕ → ℕ → ℝ

/-- The inputs with the token axis moved on. -/
def Inp.shift (p : Inp) (o : ℕ) : Inp := { p with Z := fun i j => p.Z i (o + j), Y := fun i j => p.Y i (o + j) }

def xc (p : Inp) (i t : ℕ) : ℝ := gel (p.Z (512 + i) t) - (∑ k ∈ range 512, gel (p.Z (512 + k) t)) / 512
def var (p : Inp) (t : ℕ) : ℝ := (∑ k ∈ range 512, xc p k t * xc p k t) / 512
def rs (p : Inp) (t : ℕ) : ℝ := (√(var p t + eps))⁻¹
def xh (p : Inp) (i t : ℕ) : ℝ := xc p i t * rs p t
def vn (p : Inp) (i t : ℕ) : ℝ := xh p i t * p.LG i + p.LB i
def wm (p : Inp) (g i j : ℕ) : ℝ := if j ≤ i then p.W g i j else 0
def mix (p : Inp) (i t : ℕ) : ℝ := ∑ s ∈ range 128, vn p i (128 * (t / 128) + s) * wm p (i / 64) (t % 128) s + p.B (i / 64) (t % 128)
def dm (p : Inp) (i t : ℕ) : ℝ := p.Y i t * gel (p.Z i t)
def dvn (p : Inp) (i t : ℕ) : ℝ := ∑ s ∈ range 128, dm p i (128 * (t / 128) + s) * wm p (i / 64) s (t % 128)
/-- The gradient of the gate half. -/
def dzu (p : Inp) (i t : ℕ) : ℝ := p.Y i t * mix p i t * dgel (p.Z i t)
def dxh (p : Inp) (i t : ℕ) : ℝ := dvn p i t * p.LG i
def dvv (p : Inp) (i t : ℕ) : ℝ :=
  rs p t * (dxh p i t - (∑ k ∈ range 512, dxh p k t) / 512 - xh p i t * ((∑ k ∈ range 512, dxh p k t * xh p k t) / 512))
/-- The gradient of the mixed half. -/
def dzl (p : Inp) (i t : ℕ) : ℝ := dvv p i t * dgel (p.Z (512 + i) t)
/-- The gradient of the pre-activations. -/
def dz (p : Inp) (i t : ℕ) : ℝ := if i < 512 then dzu p i t else dzl p (i - 512) t
/-- The spatial weights' gradient over `n` chunks. -/
def dw (p : Inp) (n g i j : ℕ) : ℝ :=
  if j ≤ i then ∑ k ∈ range n, ∑ c ∈ range 64, dm p (64 * g + c) (128 * k + i) * vn p (64 * g + c) (128 * k + j) else 0
/-- The spatial bias's gradient over `n` chunks. -/
def db (p : Inp) (n g j : ℕ) : ℝ := ∑ k ∈ range n, ∑ c ∈ range 64, dm p (64 * g + c) (128 * k + j)
/-- The norm scale's gradient over `n` chunks, one lane. -/
def dg (p : Inp) (n i l : ℕ) : ℝ := ∑ k ∈ range n, dvn p i (128 * k + l) * xh p i (128 * k + l)
/-- The norm shift's gradient over `n` chunks, one lane. -/
def dh (p : Inp) (n i l : ℕ) : ℝ := ∑ k ∈ range n, dvn p i (128 * k + l)

theorem eps_pos : 0 < eps := by unfold eps; norm_num

theorem var_nonneg (p : Inp) (t : ℕ) : 0 ≤ var p t :=
  div_nonneg (Finset.sum_nonneg fun k _ => mul_self_nonneg _) (by norm_num)

theorem var_pos (p : Inp) (t : ℕ) : 0 < var p t + eps := add_pos_of_nonneg_of_pos (var_nonneg p t) eps_pos

section shift
variable (p : Inp) (o : ℕ)

theorem xc_shift (i t : ℕ) : xc (p.shift (128 * o)) i t = xc p i (128 * o + t) := rfl
theorem rs_shift (t : ℕ) : rs (p.shift (128 * o)) t = rs p (128 * o + t) := rfl
theorem xh_shift (i t : ℕ) : xh (p.shift (128 * o)) i t = xh p i (128 * o + t) := rfl
theorem vn_shift (i t : ℕ) : vn (p.shift (128 * o)) i t = vn p i (128 * o + t) := rfl
theorem dm_shift (i t : ℕ) : dm (p.shift (128 * o)) i t = dm p i (128 * o + t) := rfl
theorem mix_shift (i t : ℕ) : mix (p.shift (128 * o)) i t = mix p i (128 * o + t) := by
  have h1 : (128 * o + t) / 128 = o + t / 128 := by omega
  have h2 : (128 * o + t) % 128 = t % 128 := by omega
  unfold mix
  rw [h1, h2, Nat.mul_add]
  simp only [vn_shift, Nat.add_assoc]
  rfl
theorem dvn_shift (i t : ℕ) : dvn (p.shift (128 * o)) i t = dvn p i (128 * o + t) := by
  have h1 : (128 * o + t) / 128 = o + t / 128 := by omega
  have h2 : (128 * o + t) % 128 = t % 128 := by omega
  unfold dvn
  rw [h1, h2, Nat.mul_add]
  simp only [dm_shift, Nat.add_assoc]
  rfl
theorem dzu_shift (i t : ℕ) : dzu (p.shift (128 * o)) i t = dzu p i (128 * o + t) := by
  unfold dzu
  rw [mix_shift]
  rfl
theorem dxh_shift (i t : ℕ) : dxh (p.shift (128 * o)) i t = dxh p i (128 * o + t) := by
  unfold dxh
  rw [dvn_shift]
  rfl
theorem dzl_shift (i t : ℕ) : dzl (p.shift (128 * o)) i t = dzl p i (128 * o + t) := by
  unfold dzl dvv
  simp only [dxh_shift, rs_shift, xh_shift]
  rfl
theorem dz_shift (i t : ℕ) : dz (p.shift (128 * o)) i t = dz p i (128 * o + t) := by
  unfold dz
  rw [dzu_shift, dzl_shift]

theorem dw_succ (n g i j : ℕ) : dw p (8 * (n + 1)) g i j = dw p (8 * n) g i j + dw (p.shift (128 * (8 * n))) 8 g i j := by
  unfold dw
  split
  · rw [Nat.mul_succ, Finset.sum_range_add]
    simp only [dm_shift, vn_shift, Nat.mul_add, Nat.add_assoc]
  · rw [add_zero]
theorem db_succ (n g j : ℕ) : db p (8 * (n + 1)) g j = db p (8 * n) g j + db (p.shift (128 * (8 * n))) 8 g j := by
  unfold db
  rw [Nat.mul_succ, Finset.sum_range_add]
  simp only [dm_shift, Nat.mul_add, Nat.add_assoc]
theorem dg_succ (n i l : ℕ) : dg p (8 * (n + 1)) i l = dg p (8 * n) i l + dg (p.shift (128 * (8 * n))) 8 i l := by
  unfold dg
  rw [Nat.mul_succ, Finset.sum_range_add]
  simp only [dvn_shift, xh_shift, Nat.mul_add, Nat.add_assoc]
theorem dh_succ (n i l : ℕ) : dh p (8 * (n + 1)) i l = dh p (8 * n) i l + dh (p.shift (128 * (8 * n))) 8 i l := by
  unfold dh
  rw [Nat.mul_succ, Finset.sum_range_add]
  simp only [dvn_shift, Nat.mul_add, Nat.add_assoc]
theorem dw_zero (g i j : ℕ) : dw p 0 g i j = 0 := by unfold dw; simp
theorem db_zero (g j : ℕ) : db p 0 g j = 0 := by unfold db; simp
theorem dg_zero (i l : ℕ) : dg p 0 i l = 0 := by unfold dg; simp
theorem dh_zero (i l : ℕ) : dh p 0 i l = 0 := by unfold dh; simp
end shift

end Cert.Model

end
-- ==== Proof.Gmlp.Group.lean ====
/- One channel group of one grid step: its tile expressions and their entries on tiles of real numbers. -/
module

public import proofs.«01_k».proof.Proof.Gmlp.Ops
public import proofs.«01_k».proof.Proof.Gmlp.Model
public import Idealize.ShloMosaic.PureOps.IdealRules

@[expose] public section

set_option maxRecDepth 16384

noncomputable section

namespace Cert.KernelIdeal.Tile

open Cert.KernelIdeal Cert.KernelIdeal.Gen Idealize.ShloMosaic Cert.Lift Cert.Model Finset

/-! ## The constants -/

theorem half_f32 : (Scalar.ofBits .f32 0x3F000000#32 : Ideal .f32) = ((1 / 2 : ℝ) : EReal) := by
  show Ideal.ofBits .f32 0x3F000000#32 = _
  simp [Ideal.ofBits, Ideal.ieee, -EReal.coe_mul]; norm_num
theorem one_f32 : (Scalar.ofBits .f32 0x3F800000#32 : Ideal .f32) = ((1 : ℝ) : EReal) := by
  show Ideal.ofBits .f32 0x3F800000#32 = _
  simp [Ideal.ofBits, Ideal.ieee, -EReal.coe_mul]; norm_num
theorem cg_f32 : (Scalar.ofBits .f32 0x3F4C422A#32 : Ideal .f32) = ((cg : ℝ) : EReal) := by
  show Ideal.ofBits .f32 0x3F4C422A#32 = _
  unfold cg
  simp [Ideal.ofBits, Ideal.ieee, -EReal.coe_mul]; norm_num
theorem n512_f32 : (Scalar.ofBits .f32 0x44000000#32 : Ideal .f32) = ((512 : ℝ) : EReal) := by
  show Ideal.ofBits .f32 0x44000000#32 = _
  simp [Ideal.ofBits, Ideal.ieee, -EReal.coe_mul]; norm_num
theorem eps_f32 : (Scalar.ofBits .f32 0x358637BD#32 : Ideal .f32) = ((eps : ℝ) : EReal) := by
  show Ideal.ofBits .f32 0x358637BD#32 = _
  unfold eps
  simp [Ideal.ofBits, Ideal.ieee, -EReal.coe_mul]; norm_num
theorem ca_named : Named.named (F := Ideal) κ "gelu_a" (φ := .f32) 0x3D372713#32 = ((ca : ℝ) : EReal) :=
  IdealRules.named_const.ideal_named_scalar _ _ _ _ rfl
theorem c3a_named : Named.named (F := Ideal) κ "gelu_3a" (φ := .f32) 0x3E095D4F#32 = ((c3a : ℝ) : EReal) :=
  IdealRules.named_const.ideal_named_scalar _ _ _ _ rfl

section consts
variable {a b : ℕ}
theorem bc_half : broadcast ⟨2, ![a, b]⟩ (Scalar.ofBits .f32 0x3F000000#32 : Ideal .f32) = rv a b .f32 fun _ _ => 1 / 2 := rv_const half_f32
theorem bc_one : broadcast ⟨2, ![a, b]⟩ (Scalar.ofBits .f32 0x3F800000#32 : Ideal .f32) = rv a b .f32 fun _ _ => 1 := rv_const one_f32
theorem bc_cg : broadcast ⟨2, ![a, b]⟩ (Scalar.ofBits .f32 0x3F4C422A#32 : Ideal .f32) = rv a b .f32 fun _ _ => cg := rv_const cg_f32
theorem bc_512 : broadcast ⟨2, ![a, b]⟩ (Scalar.ofBits .f32 0x44000000#32 : Ideal .f32) = rv a b .f32 fun _ _ => 512 := rv_const n512_f32
theorem bc_eps : broadcast ⟨2, ![a, b]⟩ (Scalar.ofBits .f32 0x358637BD#32 : Ideal .f32) = rv a b .f32 fun _ _ => eps := rv_const eps_f32
theorem bc_ca : broadcast ⟨2, ![a, b]⟩ (Named.named (F := Ideal) κ "gelu_a" (φ := .f32) 0x3D372713#32) = rv a b .f32 fun _ _ => ca := rv_const ca_named
theorem bc_c3a : broadcast ⟨2, ![a, b]⟩ (Named.named (F := Ideal) κ "gelu_3a" (φ := .f32) 0x3E095D4F#32) = rv a b .f32 fun _ _ => c3a := rv_const c3a_named
theorem rv_div512 (f : ℕ → ℕ → ℝ) : divf (rv a b .f32 f) (rv a b .f32 fun _ _ => 512) = rv a b .f32 fun i j => f i j / 512 :=
  rv_div f _ fun _ _ => by norm_num
end consts

/-! ## The gelu and its derivative -/

def geluT (s : Shape) (z : V s .f32) : V s .f32 :=
  mulf (mulf (broadcast s (Scalar.ofBits .f32 0x3F000000#32)) z)
    (addf (broadcast s (Scalar.ofBits .f32 0x3F800000#32))
      (tanh (mulf (broadcast s (Scalar.ofBits .f32 0x3F4C422A#32))
        (addf z (mulf (mulf (mulf (broadcast s (Named.named (F := Ideal) κ "gelu_a" (φ := .f32) 0x3D372713#32)) z) z) z)))))

def tanhT (s : Shape) (z : V s .f32) : V s .f32 :=
  tanh (mulf (broadcast s (Scalar.ofBits .f32 0x3F4C422A#32))
        (addf z (mulf (mulf (mulf (broadcast s (Named.named (F := Ideal) κ "gelu_a" (φ := .f32) 0x3D372713#32)) z) z) z)))

def dgeluT (s : Shape) (z : V s .f32) : V s .f32 :=
  addf (mulf (broadcast s (Scalar.ofBits .f32 0x3F000000#32)) (addf (broadcast s (Scalar.ofBits .f32 0x3F800000#32)) (tanhT s z)))
    (mulf (mulf (mulf (mulf (broadcast s (Scalar.ofBits .f32 0x3F000000#32)) z)
        (subf (broadcast s (Scalar.ofBits .f32 0x3F800000#32)) (mulf (tanhT s z) (tanhT s z)))) (broadcast s (Scalar.ofBits .f32 0x3F4C422A#32)))
      (addf (broadcast s (Scalar.ofBits .f32 0x3F800000#32)) (mulf (mulf (broadcast s (Named.named (F := Ideal) κ "gelu_3a" (φ := .f32) 0x3E095D4F#32)) z) z)))

theorem geluT_rv (a b : ℕ) (f : ℕ → ℕ → ℝ) : geluT ⟨2, ![a, b]⟩ (rv a b .f32 f) = rv a b .f32 fun i j => gel (f i j) := by
  unfold geluT
  simp only [bc_half, bc_one, bc_cg, bc_ca, rv_mul, rv_add, rv_tanh]
  rfl

theorem dgeluT_rv (a b : ℕ) (f : ℕ → ℕ → ℝ) : dgeluT ⟨2, ![a, b]⟩ (rv a b .f32 f) = rv a b .f32 fun i j => dgel (f i j) := by
  unfold dgeluT tanhT
  simp only [bc_half, bc_one, bc_cg, bc_ca, bc_c3a, rv_mul, rv_add, rv_sub, rv_tanh]
  rfl

/-! ## The whole-tile part: the norm -/

theorem pay8_rv (Z : ℕ → ℕ → ℝ) : k0_pay8 (rv 1024 1024 .bf16 Z) = rv 1024 1024 .f32 Z := rfl
theorem pay18_rv (Z : ℕ → ℕ → ℝ) : k0_pay18 (rv 512 1024 .bf16 Z) = rv 512 1024 .f32 Z := rfl

theorem colT_rv (f : ℕ → ℕ → ℝ) : k0_pay9 (rv 1 512 .f32 f) = rv 512 1 .f32 fun i _ => f 0 i := by
  unfold k0_pay9
  dsimp only
  rw [shapeCast_self, rv_bcast_row, rv_transpose, rv_slice]
  exact rv_congr fun i j _ _ => by rw [Nat.zero_add]

theorem pay10_eq (x : Vec Ideal S1x512 .f32) : k0_pay10 x = k0_pay9 x := rfl

theorem pay11_eq (x : Vec Ideal S1024x1024 .bf16) : k0_pay11 x = geluT S1024x1024 (k0_pay8 x) := rfl

theorem pay12_rv (p : Inp) : k0_pay12 (rv 1024 1024 .bf16 p.Z) = rv 512 1024 .f32 fun i t => gel (p.Z i t) := by
  unfold k0_pay12
  dsimp only
  rw [pay11_eq, pay8_rv, geluT_rv, rv_slice]
  exact rv_congr fun i j _ _ => by rw [Nat.zero_add, Nat.zero_add]

theorem pay13_rv (p : Inp) : k0_pay13 (rv 1024 1024 .bf16 p.Z) = rv 512 1024 .f32 (xc p) := by
  unfold k0_pay13
  dsimp only
  set_option backward.isDefEq.respectTransparency false in
  rw [pay11_eq, pay8_rv, geluT_rv, rv_slice, rv_colsum, bc_512, rv_div512, rv_bcast_row, rv_sub]
  exact rv_congr fun i j _ _ => by simp only [Nat.zero_add]; rfl

theorem pay14_rv (p : Inp) : k0_pay14 (rv 1024 1024 .bf16 p.Z) = rv 1 1024 .f32 fun _ t => var p t := by
  unfold k0_pay14
  dsimp only
  set_option backward.isDefEq.respectTransparency false in
  rw [pay13_rv, rv_mul, rv_colsum, bc_512, rv_div512]
  rfl

abbrev epsI : Ideal .f32 := Scalar.ofBits .f32 0x358637BD#32

theorem pay15_rv (p : Inp) : k0_pay15 (rv 1 1024 .f32 fun _ t => var p t) epsI = rv 1 1024 .f32 fun _ t => rs p t := by
  unfold k0_pay15
  dsimp only
  rw [bc_eps, rv_add, rv_rsqrt _ fun _ _ => var_pos p _]
  rfl

theorem pay16_rv (p : Inp) : k0_pay16 (rv 512 1024 .f32 (xc p)) (rv 1 1024 .f32 fun _ t => var p t) epsI = rv 512 1024 .f32 (xh p) := by
  unfold k0_pay16
  dsimp only
  rw [pay15_rv, rv_bcast_row, rv_mul]
  rfl

/-- The normalised, scaled and shifted half of a tile. -/
def vnT (x0 : Vec Ideal S1024x1024 .bf16) (x2 x3 : Vec Ideal S1x512 .f32) : V S512x1024 .f32 :=
  k0_pay17 (k0_pay9 x2) (k0_pay10 x3) (k0_pay13 x0) (k0_pay14 x0) epsI

/-- The normalised half of a tile. -/
def xhT (x0 : Vec Ideal S1024x1024 .bf16) : V S512x1024 .f32 := k0_pay16 (k0_pay13 x0) (k0_pay14 x0) epsI

theorem xhT_rv (p : Inp) : xhT (rv 1024 1024 .bf16 p.Z) = rv 512 1024 .f32 (xh p) := by
  unfold xhT
  rw [pay13_rv, pay14_rv, pay16_rv]

theorem vnT_rv (p : Inp) : vnT (rv 1024 1024 .bf16 p.Z) (rv 1 512 .f32 fun _ i => p.LG i) (rv 1 512 .f32 fun _ i => p.LB i) = rv 512 1024 .f32 (vn p) := by
  unfold vnT k0_pay17
  dsimp only
  rw [pay10_eq, colT_rv, colT_rv, pay13_rv, pay14_rv, pay16_rv, rv_bcast_col, rv_bcast_col, rv_mul, rv_add]
  rfl

/-! ## A group -/

/-- The mixed tile of a group. -/
def mixG (v : V S64x1024 .f32) (w : Vec Ideal S1x128x128 .f32) (b : Vec Ideal S1x128 .f32) : V S64x1024 .f32 :=
  unstack (addf (matmul dot_S512x128_S128x128_S512x128_1_1_0_0_n_n none (stack (truncf .bf16 v bitsLt_bf16_f32)) (maskW w) (constant S512x128 .f32 0x00000000#32))
    (broadcastTo S512x128 b broadcasts_S1x128_S512x128))

/-- The gate half's gradient of a group. -/
def dzG (z y v : V S64x1024 .f32) (w : Vec Ideal S1x128x128 .f32) (b : Vec Ideal S1x128 .f32) : V S64x1024 .bf16 :=
  truncf .bf16 (mulf (mulf y (mixG v w b)) (dgeluT S64x1024 z)) bitsLt_bf16_f32

/-- The spatial weights' gradient of a group, added to what was there. -/
def dwG (v d : V S64x1024 .f32) (o : Vec Ideal S1x128x128 .f32) : V S1x128x128 .f32 :=
  shapeCast S1x128x128 (addf (shapeCast S128x128 o shapeCasts_S1x128x128_S128x128)
    (select triB (matmul dot_S512x128_S512x128_S128x128_0_0_1_1_n_n none (stack (truncf .bf16 d bitsLt_bf16_f32)) (stack (truncf .bf16 v bitsLt_bf16_f32)) (constant S128x128 .f32 0x00000000#32))
      (broadcast S128x128 (Scalar.ofBits .f32 0x00000000#32 : Ideal .f32)))) shapeCasts_S128x128_S1x128x128

/-- The eight chunks' sum of a row. -/
def lanes1 (v : V S1x1024 .f32) : V S1x128 .f32 :=
  addf (addf (addf (addf (addf (addf (addf (extractStridedSlice S1x128 ![0, 0] v slices_S1x1024_o0_0_S1x128) (extractStridedSlice S1x128 ![0, 128] v slices_S1x1024_o0_128_S1x128)) (extractStridedSlice S1x128 ![0, 256] v slices_S1x1024_o0_256_S1x128)) (extractStridedSlice S1x128 ![0, 384] v slices_S1x1024_o0_384_S1x128)) (extractStridedSlice S1x128 ![0, 512] v slices_S1x1024_o0_512_S1x128)) (extractStridedSlice S1x128 ![0, 640] v slices_S1x1024_o0_640_S1x128)) (extractStridedSlice S1x128 ![0, 768] v slices_S1x1024_o0_768_S1x128)) (extractStridedSlice S1x128 ![0, 896] v slices_S1x1024_o0_896_S1x128)

/-- The eight chunks' sum of the rows. -/
def lanes (v : V S512x1024 .f32) : V S512x128 .f32 :=
  addf (addf (addf (addf (addf (addf (addf (extractStridedSlice S512x128 ![0, 0] v slices_S512x1024_o0_0_S512x128) (extractStridedSlice S512x128 ![0, 128] v slices_S512x1024_o0_128_S512x128)) (extractStridedSlice S512x128 ![0, 256] v slices_S512x1024_o0_256_S512x128)) (extractStridedSlice S512x128 ![0, 384] v slices_S512x1024_o0_384_S512x128)) (extractStridedSlice S512x128 ![0, 512] v slices_S512x1024_o0_512_S512x128)) (extractStridedSlice S512x128 ![0, 640] v slices_S512x1024_o0_640_S512x128)) (extractStridedSlice S512x128 ![0, 768] v slices_S512x1024_o0_768_S512x128)) (extractStridedSlice S512x128 ![0, 896] v slices_S512x1024_o0_896_S512x128)

/-- The spatial bias's gradient of a group, added to what was there. -/
def dbG (d : V S64x1024 .f32) (o : Vec Ideal S1x128 .f32) : V S1x128 .f32 :=
  addf (shapeCast S1x128 o shapeCasts_S1x128_S1x128)
    (lanes1 (shapeCast S1x1024 (multiReduction .add [0] S1024 d 0x00000000#32 reduces_S64x1024_S1024 (.inl rfl) rfl) shapeCasts_S1024_S1x1024))

/-- The normalised half's gradient of a group. -/
def dvG (d : V S64x1024 .f32) (w : Vec Ideal S1x128x128 .f32) : V S64x1024 .f32 :=
  unstack (matmul dot_S512x128_S128x128_S512x128_1_0_0_1_n_n none (stack (truncf .bf16 d bitsLt_bf16_f32)) (maskW w) (constant S512x128 .f32 0x00000000#32))

theorem lanes1_rv (f : ℕ → ℕ → ℝ) : lanes1 (rv 1 1024 .f32 f) = rv 1 128 .f32 fun i j => ∑ k ∈ range 8, f i (128 * k + j) := by
  refine (?_ : _ = rv 1 128 .f32 fun i j => f (0 + i) (0 + j) + f (0 + i) (128 + j) + f (0 + i) (256 + j) + f (0 + i) (384 + j) + f (0 + i) (512 + j) + f (0 + i) (640 + j) + f (0 + i) (768 + j) + f (0 + i) (896 + j)).trans ?_
  · unfold lanes1
    rw [rv_slice, rv_slice, rv_slice, rv_slice, rv_slice, rv_slice, rv_slice, rv_slice]
    simp only [rv_add]
  · exact rv_congr fun i j _ _ => by simp only [Finset.sum_range_succ, Finset.sum_range_zero, Nat.zero_add, zero_add, Nat.mul_zero, Nat.mul_one, Nat.reduceMul]

theorem lanes_rv (f : ℕ → ℕ → ℝ) : lanes (rv 512 1024 .f32 f) = rv 512 128 .f32 fun i j => ∑ k ∈ range 8, f i (128 * k + j) := by
  refine (?_ : _ = rv 512 128 .f32 fun i j => f (0 + i) (0 + j) + f (0 + i) (128 + j) + f (0 + i) (256 + j) + f (0 + i) (384 + j) + f (0 + i) (512 + j) + f (0 + i) (640 + j) + f (0 + i) (768 + j) + f (0 + i) (896 + j)).trans ?_
  · unfold lanes
    rw [rv_slice, rv_slice, rv_slice, rv_slice, rv_slice, rv_slice, rv_slice, rv_slice]
    simp only [rv_add]
  · exact rv_congr fun i j _ _ => by simp only [Finset.sum_range_succ, Finset.sum_range_zero, Nat.zero_add, zero_add, Nat.mul_zero, Nat.mul_one, Nat.reduceMul]

section group
variable (p : Inp) (g : ℕ)

/-- Group `g`'s rows of a model function. -/
def gr (g : ℕ) (φ : FTy) (f : ℕ → ℕ → ℝ) : V S64x1024 φ := rv 64 1024 φ fun i t => f (64 * g + i) t

/-- Group `g`'s spatial weights. -/
def gw (g : ℕ) (f : ℕ → ℕ → ℕ → ℝ) : Vec Ideal S1x128x128 .f32 := rv3 1 128 128 .f32 fun _ i j => f g i j

/-- Group `g`'s spatial bias. -/
def gb (g : ℕ) (f : ℕ → ℕ → ℝ) : Vec Ideal S1x128 .f32 := rv 1 128 .f32 fun _ j => f g j

theorem gr_mul (f h : ℕ → ℕ → ℝ) : mulf (gr g .f32 f) (gr g .f32 h) = gr g .f32 fun i t => f i t * h i t := rv_mul _ _

theorem stackG (f : ℕ → ℕ → ℝ) : stack (truncf .bf16 (gr g .f32 f) bitsLt_bf16_f32) = rv 512 128 .bf16 fun i j => f (64 * g + i % 64) (128 * (i / 64) + j) := by
  unfold gr
  rw [rv_trunc, stack_rv]

theorem mixG_rv : mixG (gr g .f32 (vn p)) (gw g p.W) (gb g p.B) = gr g .f32 (mix p) := by
  unfold mixG gw gb
  rw [stackG, maskW_rv, dot_rr, rv_bcast_row, rv_add, unstack_rv]
  refine rv_congr fun i t hi ht => ?_
  have h1 : (64 * (t / 128) + i) % 64 = i := by omega
  have h2 : (64 * (t / 128) + i) / 64 = t / 128 := by omega
  have h3 : (64 * g + i) / 64 = g := by omega
  rw [h1, h2]
  unfold mix wm
  rw [h3]

theorem dzG_rv : dzG (gr g .f32 p.Z) (gr g .f32 p.Y) (gr g .f32 (vn p)) (gw g p.W) (gb g p.B) = gr g .bf16 (dzu p) := by
  unfold dzG
  rw [mixG_rv, gr_mul]
  unfold gr
  rw [dgeluT_rv, rv_mul, rv_trunc]
  rfl

theorem dwG_rv (o : ℕ → ℕ → ℕ → ℝ) : dwG (gr g .f32 (vn p)) (gr g .f32 (dm p)) (gw g o) = gw g fun g i j => o g i j + dw p 8 g i j := by
  unfold dwG gw
  rw [stackG, stackG, dot_cc, tri_rv, rv3_drop, rv_add, rv_addUnit]
  refine rv3_congr fun _ i j _ _ _ => congrArg₂ _ rfl ?_
  unfold dw
  refine if_congr Iff.rfl ?_ rfl
  refine (sum_blocks 8 64 fun k => dm p (64 * g + k % 64) (128 * (k / 64) + i) * vn p (64 * g + k % 64) (128 * (k / 64) + j)).trans ?_
  refine Finset.sum_congr rfl fun k _ => Finset.sum_congr rfl fun c hc => ?_
  have hc' : c < 64 := Finset.mem_range.mp hc
  have h1 : (64 * k + c) % 64 = c := by omega
  have h2 : (64 * k + c) / 64 = k := by omega
  rw [h1, h2]

theorem dbG_rv (o : ℕ → ℕ → ℝ) : dbG (gr g .f32 (dm p)) (gb g o) = gb g fun g j => o g j + db p 8 g j := by
  unfold dbG gb gr
  set_option backward.isDefEq.respectTransparency false in
  rw [rv_colsum, lanes1_rv, shapeCast_self, rv_add]
  rfl

theorem dvG_rv : dvG (gr g .f32 (dm p)) (gw g p.W) = gr g .f32 (dvn p) := by
  unfold dvG gw
  rw [stackG, maskW_rv, dot_rc, unstack_rv]
  refine rv_congr fun i t hi ht => ?_
  have h1 : (64 * (t / 128) + i) % 64 = i := by omega
  have h2 : (64 * (t / 128) + i) / 64 = t / 128 := by omega
  have h3 : (64 * g + i) / 64 = g := by omega
  rw [h1, h2]
  unfold dvn wm
  rw [h3]
end group

/-! ## The lower half -/

/-- The groups' gradients on top of each other. -/
def catV (v0 v1 v2 v3 v4 v5 v6 v7 : V S64x1024 .f32) : V S512x1024 .f32 :=
  concatenate S512x1024 0 [⟨S64x1024, v0⟩, ⟨S64x1024, v1⟩, ⟨S64x1024, v2⟩, ⟨S64x1024, v3⟩, ⟨S64x1024, v4⟩, ⟨S64x1024, v5⟩, ⟨S64x1024, v6⟩, ⟨S64x1024, v7⟩] concatenates_S64x1024_S64x1024_S64x1024_S64x1024_S64x1024_S64x1024_S64x1024_S64x1024_S512x1024_d0

theorem catV_rv (f : ℕ → ℕ → ℝ) : catV (gr 0 .f32 f) (gr 1 .f32 f) (gr 2 .f32 f) (gr 3 .f32 f) (gr 4 .f32 f) (gr 5 .f32 f) (gr 6 .f32 f) (gr 7 .f32 f) = rv 512 1024 .f32 f := by
  refine (rv_cat0 (a := 64) (b := 1024) (n := 512) (fun k i j => f (64 * k + i) j) rfl (by norm_num)
    concatenates_S64x1024_S64x1024_S64x1024_S64x1024_S64x1024_S64x1024_S64x1024_S64x1024_S512x1024_d0).trans ?_
  exact rv_congr fun i j _ _ => by rw [Nat.div_add_mod]

/-- The lower half's gradient. -/
def dlT (x0 : Vec Ideal S1024x1024 .bf16) (x2 : Vec Ideal S1x512 .f32) (dv : V S512x1024 .f32) : V S512x1024 .bf16 :=
  truncf .bf16 (mulf (k0_pay157 (k0_pay15 (k0_pay14 x0) epsI) (xhT x0) (k0_pay154 (k0_pay9 x2) dv) (k0_pay155 (k0_pay9 x2) dv) (k0_pay156 (k0_pay9 x2) (xhT x0) dv))
    (dgeluT S512x1024 (extractStridedSlice S512x1024 ![512, 0] (k0_pay8 x0) slices_S1024x1024_o512_0_S512x1024))) bitsLt_bf16_f32

theorem dlT_rv (p : Inp) : dlT (rv 1024 1024 .bf16 p.Z) (rv 1 512 .f32 fun _ i => p.LG i) (rv 512 1024 .f32 (dvn p)) = rv 512 1024 .bf16 (dzl p) := by
  have h154 : k0_pay154 (k0_pay9 (rv 1 512 .f32 fun _ i => p.LG i)) (rv 512 1024 .f32 (dvn p)) = rv 512 1024 .f32 (dxh p) := by
    unfold k0_pay154
    dsimp only
    rw [colT_rv, rv_bcast_col, rv_mul]
    rfl
  unfold dlT k0_pay155 k0_pay156 k0_pay157
  dsimp only
  set_option backward.isDefEq.respectTransparency false in
  rw [h154, xhT_rv, pay14_rv, pay15_rv, pay8_rv, rv_colsum, rv_mul, rv_colsum, bc_512, rv_div512, rv_div512, rv_bcast_row, rv_bcast_row, rv_bcast_row, rv_sub, rv_mul,
    rv_sub, rv_mul, rv_slice, dgeluT_rv, rv_mul, rv_trunc]
  exact rv_congr fun i t _ _ => by rw [Nat.zero_add]; rfl

end Cert.KernelIdeal.Tile

end
-- ==== Proof.Gmlp.Parts.lean ====
/- The eight channel groups of one grid step, each evaluated at tiles of real numbers, and the loads of the step's buffers. -/
module

public import proofs.«01_k».proof.Proof.Gmlp.Group
public import Idealize.ShloMosaic.Lib.Pipeline.Value
public import Idealize.ShloMosaic.Lib.Pipeline.ReadBack
public import Idealize.ShloMosaic.Lib.VecWindow

@[expose] public section

set_option maxRecDepth 16384

noncomputable section

namespace Cert.KernelIdeal.Tile

open Cert.KernelIdeal Cert.KernelIdeal.Gen Idealize.ShloMosaic Cert.Lift Cert.Model Finset

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## Loads -/

section loads
variable {sp : Space}

/-- A load of a whole buffer. -/
theorem rd2 {a b : ℕ} {φ : EltTy} (r : Memref sig .tc sp ⟨2, ![a, b]⟩ φ) (h : r.IsWhole) (x : Vec Ideal ⟨2, ![a, b]⟩ φ)
    (inb : ∀ k, (![0, 0] : Fin 2 → ℕ) k + (⟨2, ![a, b]⟩ : Shape).size k ≤ (⟨2, ![a, b]⟩ : Shape).size k) :
    View.readAt (Elt Ideal) r.view (Rect.unit ![0, 0] (⟨2, ![a, b]⟩ : Shape).size inb).toLoadRect (h.unread x) = x := by
  rw [View.readAt_eq_ld, h.read_unread, View.ld_unit_zero hz2]

/-- A load of a group's spatial weights. -/
theorem rdw (r : Memref sig .tc sp S8x128x128 .f32) (h : r.IsWhole) (f : ℕ → ℕ → ℕ → ℝ) (g : ℕ)
    (inb : ∀ k, (![g, 0, 0] : Fin 3 → ℕ) k + S1x128x128.size k ≤ S8x128x128.size k) :
    View.readAt (Elt Ideal) r.view (Rect.unit (s := S8x128x128) ![g, 0, 0] S1x128x128.size inb).toLoadRect (h.unread (rv3 8 128 128 .f32 f)) = gw g f := by
  rw [View.readAt_eq_ld, h.read_unread]
  funext x
  have h0 : (x 0).val < 1 := (x 0).isLt
  have e0 : g + 1 * (x 0).val = g := by omega
  have e1 : 0 + 1 * (x 1).val = (x 1).val := by omega
  have e2 : 0 + 1 * (x 2).val = (x 2).val := by omega
  show ((f (g + 1 * (x 0).val) (0 + 1 * (x 1).val) (0 + 1 * (x 2).val) : ℝ) : EReal) = ((f g (x 1).val (x 2).val : ℝ) : EReal)
  rw [e0, e1, e2]

/-- A load of a group's spatial bias. -/
theorem rdb (r : Memref sig .tc sp S8x128 .f32) (h : r.IsWhole) (f : ℕ → ℕ → ℝ) (g : ℕ)
    (inb : ∀ k, (![g, 0] : Fin 2 → ℕ) k + S1x128.size k ≤ S8x128.size k) :
    View.readAt (Elt Ideal) r.view (Rect.unit (s := S8x128) ![g, 0] S1x128.size inb).toLoadRect (h.unread (rv 8 128 .f32 f)) = gb g f := by
  rw [View.readAt_eq_ld, h.read_unread]
  funext x
  have h0 : (x 0).val < 1 := (x 0).isLt
  have e0 : g + 1 * (x 0).val = g := by omega
  have e1 : 0 + 1 * (x 1).val = (x 1).val := by omega
  show ((f (g + 1 * (x 0).val) (0 + 1 * (x 1).val) : ℝ) : EReal) = ((f g (x 1).val : ℝ) : EReal)
  rw [e0, e1]
end loads

/-- What the first step's resets leave. -/
theorem pay4_rv : (k0_pay4 : V S8x128x128 .f32) = rv3 8 128 128 .f32 fun _ _ _ => 0 := funext fun _ => zero_f32
theorem pay5_rv : (k0_pay5 : V S8x128 .f32) = rv 8 128 .f32 fun _ _ => 0 := funext fun _ => zero_f32
theorem pay6_rv : (k0_pay6 : V S512x128 .f32) = rv 512 128 .f32 fun _ _ => 0 := by
  unfold k0_pay6
  dsimp only
  rw [shapeCast_self]
  exact funext fun _ => zero_f32
theorem pay7_rv : (k0_pay7 : V S512x128 .f32) = rv 512 128 .f32 fun _ _ => 0 := pay6_rv

theorem ldw_zero (g : ℕ) (inb : ∀ k, (![g, 0, 0] : Fin 3 → ℕ) k + S1x128x128.size k ≤ S8x128x128.size k) :
    View.ld (Val := Elt Ideal) (k0_pay4 : V S8x128x128 .f32) (Rect.unit (s := S8x128x128) ![g, 0, 0] S1x128x128.size inb) = gw g fun _ _ _ => 0 := by
  rw [pay4_rv]
  rfl
theorem ldb_zero (g : ℕ) (inb : ∀ k, (![g, 0] : Fin 2 → ℕ) k + S1x128.size k ≤ S8x128.size k) :
    View.ld (Val := Elt Ideal) (k0_pay5 : V S8x128 .f32) (Rect.unit (s := S8x128) ![g, 0] S1x128.size inb) = gb g fun _ _ => 0 := by
  rw [pay5_rv]
  rfl

/-! ## The groups -/

section parts
variable (x0 : Vec Ideal S1024x1024 .bf16) (x1 : Vec Ideal S512x1024 .bf16) (x2 x3 : Vec Ideal S1x512 .f32) (w : Vec Ideal S1x128x128 .f32) (b : Vec Ideal S1x128 .f32)

def dmP0 : V S64x1024 .f32 := mulf (extractStridedSlice S64x1024 ![0, 0] (k0_pay18 x1) slices_S512x1024_o0_0_S64x1024) (extractStridedSlice S64x1024 ![0, 0] (k0_pay12 x0) slices_S512x1024_o0_0_S64x1024)
def vnP0 : V S64x1024 .f32 := extractStridedSlice S64x1024 ![0, 0] (vnT x0 x2 x3) slices_S512x1024_o0_0_S64x1024
def dzP0 : V S64x1024 .bf16 := dzG (extractStridedSlice S64x1024 ![0, 0] (k0_pay8 x0) slices_S1024x1024_o0_0_S64x1024) (extractStridedSlice S64x1024 ![0, 0] (k0_pay18 x1) slices_S512x1024_o0_0_S64x1024) (vnP0 x0 x2 x3) w b

def dmP1 : V S64x1024 .f32 := mulf (extractStridedSlice S64x1024 ![64, 0] (k0_pay18 x1) slices_S512x1024_o64_0_S64x1024) (extractStridedSlice S64x1024 ![64, 0] (k0_pay12 x0) slices_S512x1024_o64_0_S64x1024)
def vnP1 : V S64x1024 .f32 := extractStridedSlice S64x1024 ![64, 0] (vnT x0 x2 x3) slices_S512x1024_o64_0_S64x1024
def dzP1 : V S64x1024 .bf16 := dzG (extractStridedSlice S64x1024 ![64, 0] (k0_pay8 x0) slices_S1024x1024_o64_0_S64x1024) (extractStridedSlice S64x1024 ![64, 0] (k0_pay18 x1) slices_S512x1024_o64_0_S64x1024) (vnP1 x0 x2 x3) w b

def dmP2 : V S64x1024 .f32 := mulf (extractStridedSlice S64x1024 ![128, 0] (k0_pay18 x1) slices_S512x1024_o128_0_S64x1024) (extractStridedSlice S64x1024 ![128, 0] (k0_pay12 x0) slices_S512x1024_o128_0_S64x1024)
def vnP2 : V S64x1024 .f32 := extractStridedSlice S64x1024 ![128, 0] (vnT x0 x2 x3) slices_S512x1024_o128_0_S64x1024
def dzP2 : V S64x1024 .bf16 := dzG (extractStridedSlice S64x1024 ![128, 0] (k0_pay8 x0) slices_S1024x1024_o128_0_S64x1024) (extractStridedSlice S64x1024 ![128, 0] (k0_pay18 x1) slices_S512x1024_o128_0_S64x1024) (vnP2 x0 x2 x3) w b

def dmP3 : V S64x1024 .f32 := mulf (extractStridedSlice S64x1024 ![192, 0] (k0_pay18 x1) slices_S512x1024_o192_0_S64x1024) (extractStridedSlice S64x1024 ![192, 0] (k0_pay12 x0) slices_S512x1024_o192_0_S64x1024)
def vnP3 : V S64x1024 .f32 := extractStridedSlice S64x1024 ![192, 0] (vnT x0 x2 x3) slices_S512x1024_o192_0_S64x1024
def dzP3 : V S64x1024 .bf16 := dzG (extractStridedSlice S64x1024 ![192, 0] (k0_pay8 x0) slices_S1024x1024_o192_0_S64x1024) (extractStridedSlice S64x1024 ![192, 0] (k0_pay18 x1) slices_S512x1024_o192_0_S64x1024) (vnP3 x0 x2 x3) w b

def dmP4 : V S64x1024 .f32 := mulf (extractStridedSlice S64x1024 ![256, 0] (k0_pay18 x1) slices_S512x1024_o256_0_S64x1024) (extractStridedSlice S64x1024 ![256, 0] (k0_pay12 x0) slices_S512x1024_o256_0_S64x1024)
def vnP4 : V S64x1024 .f32 := extractStridedSlice S64x1024 ![256, 0] (vnT x0 x2 x3) slices_S512x1024_o256_0_S64x1024
def dzP4 : V S64x1024 .bf16 := dzG (extractStridedSlice S64x1024 ![256, 0] (k0_pay8 x0) slices_S1024x1024_o256_0_S64x1024) (extractStridedSlice S64x1024 ![256, 0] (k0_pay18 x1) slices_S512x1024_o256_0_S64x1024) (vnP4 x0 x2 x3) w b

def dmP5 : V S64x1024 .f32 := mulf (extractStridedSlice S64x1024 ![320, 0] (k0_pay18 x1) slices_S512x1024_o320_0_S64x1024) (extractStridedSlice S64x1024 ![320, 0] (k0_pay12 x0) slices_S512x1024_o320_0_S64x1024)
def vnP5 : V S64x1024 .f32 := extractStridedSlice S64x1024 ![320, 0] (vnT x0 x2 x3) slices_S512x1024_o320_0_S64x1024
def dzP5 : V S64x1024 .bf16 := dzG (extractStridedSlice S64x1024 ![320, 0] (k0_pay8 x0) slices_S1024x1024_o320_0_S64x1024) (extractStridedSlice S64x1024 ![320, 0] (k0_pay18 x1) slices_S512x1024_o320_0_S64x1024) (vnP5 x0 x2 x3) w b

def dmP6 : V S64x1024 .f32 := mulf (extractStridedSlice S64x1024 ![384, 0] (k0_pay18 x1) slices_S512x1024_o384_0_S64x1024) (extractStridedSlice S64x1024 ![384, 0] (k0_pay12 x0) slices_S512x1024_o384_0_S64x1024)
def vnP6 : V S64x1024 .f32 := extractStridedSlice S64x1024 ![384, 0] (vnT x0 x2 x3) slices_S512x1024_o384_0_S64x1024
def dzP6 : V S64x1024 .bf16 := dzG (extractStridedSlice S64x1024 ![384, 0] (k0_pay8 x0) slices_S1024x1024_o384_0_S64x1024) (extractStridedSlice S64x1024 ![384, 0] (k0_pay18 x1) slices_S512x1024_o384_0_S64x1024) (vnP6 x0 x2 x3) w b

def dmP7 : V S64x1024 .f32 := mulf (extractStridedSlice S64x1024 ![448, 0] (k0_pay18 x1) slices_S512x1024_o448_0_S64x1024) (extractStridedSlice S64x1024 ![448, 0] (k0_pay12 x0) slices_S512x1024_o448_0_S64x1024)
def vnP7 : V S64x1024 .f32 := extractStridedSlice S64x1024 ![448, 0] (vnT x0 x2 x3) slices_S512x1024_o448_0_S64x1024
def dzP7 : V S64x1024 .bf16 := dzG (extractStridedSlice S64x1024 ![448, 0] (k0_pay8 x0) slices_S1024x1024_o448_0_S64x1024) (extractStridedSlice S64x1024 ![448, 0] (k0_pay18 x1) slices_S512x1024_o448_0_S64x1024) (vnP7 x0 x2 x3) w b
end parts

section evals
variable (p : Inp)

theorem slice_gr (g o : ℕ) (n : ℕ) {φ : FTy} (f : ℕ → ℕ → ℝ) (ho : o = 64 * g) (h : (⟨2, ![n, 1024]⟩ : Shape).Slices ![o, 0] S64x1024) :
    extractStridedSlice S64x1024 ![o, 0] (rv n 1024 φ f) h = gr g φ f := by
  subst ho
  exact (rv_slice f (64 * g) 0 h).trans (rv_congr fun i j _ _ => by rw [Nat.zero_add])

theorem dmP0_rv : dmP0 (rv 1024 1024 .bf16 p.Z) (rv 512 1024 .bf16 p.Y) = gr 0 .f32 (dm p) := by
  unfold dmP0
  rw [pay18_rv, pay12_rv, slice_gr 0 0 512 _ rfl, slice_gr 0 0 512 _ rfl, gr_mul]
  rfl
theorem vnP0_rv : vnP0 (rv 1024 1024 .bf16 p.Z) (rv 1 512 .f32 fun _ i => p.LG i) (rv 1 512 .f32 fun _ i => p.LB i) = gr 0 .f32 (vn p) := by
  unfold vnP0
  rw [vnT_rv, slice_gr 0 0 512 _ rfl]
theorem dzP0_rv : dzP0 (rv 1024 1024 .bf16 p.Z) (rv 512 1024 .bf16 p.Y) (rv 1 512 .f32 fun _ i => p.LG i) (rv 1 512 .f32 fun _ i => p.LB i) (gw 0 p.W) (gb 0 p.B) = gr 0 .bf16 (dzu p) := by
  unfold dzP0
  rw [pay8_rv, pay18_rv, vnP0_rv, slice_gr 0 0 1024 _ rfl, slice_gr 0 0 512 _ rfl, dzG_rv]

theorem dmP1_rv : dmP1 (rv 1024 1024 .bf16 p.Z) (rv 512 1024 .bf16 p.Y) = gr 1 .f32 (dm p) := by
  unfold dmP1
  rw [pay18_rv, pay12_rv, slice_gr 1 64 512 _ rfl, slice_gr 1 64 512 _ rfl, gr_mul]
  rfl
theorem vnP1_rv : vnP1 (rv 1024 1024 .bf16 p.Z) (rv 1 512 .f32 fun _ i => p.LG i) (rv 1 512 .f32 fun _ i => p.LB i) = gr 1 .f32 (vn p) := by
  unfold vnP1
  rw [vnT_rv, slice_gr 1 64 512 _ rfl]
theorem dzP1_rv : dzP1 (rv 1024 1024 .bf16 p.Z) (rv 512 1024 .bf16 p.Y) (rv 1 512 .f32 fun _ i => p.LG i) (rv 1 512 .f32 fun _ i => p.LB i) (gw 1 p.W) (gb 1 p.B) = gr 1 .bf16 (dzu p) := by
  unfold dzP1
  rw [pay8_rv, pay18_rv, vnP1_rv, slice_gr 1 64 1024 _ rfl, slice_gr 1 64 512 _ rfl, dzG_rv]

theorem dmP2_rv : dmP2 (rv 1024 1024 .bf16 p.Z) (rv 512 1024 .bf16 p.Y) = gr 2 .f32 (dm p) := by
  unfold dmP2
  rw [pay18_rv, pay12_rv, slice_gr 2 128 512 _ rfl, slice_gr 2 128 512 _ rfl, gr_mul]
  rfl
theorem vnP2_rv : vnP2 (rv 1024 1024 .bf16 p.Z) (rv 1 512 .f32 fun _ i => p.LG i) (rv 1 512 .f32 fun _ i => p.LB i) = gr 2 .f32 (vn p) := by
  unfold vnP2
  rw [vnT_rv, slice_gr 2 128 512 _ rfl]
theorem dzP2_rv : dzP2 (rv 1024 1024 .bf16 p.Z) (rv 512 1024 .bf16 p.Y) (rv 1 512 .f32 fun _ i => p.LG i) (rv 1 512 .f32 fun _ i => p.LB i) (gw 2 p.W) (gb 2 p.B) = gr 2 .bf16 (dzu p) := by
  unfold dzP2
  rw [pay8_rv, pay18_rv, vnP2_rv, slice_gr 2 128 1024 _ rfl, slice_gr 2 128 512 _ rfl, dzG_rv]

theorem dmP3_rv : dmP3 (rv 1024 1024 .bf16 p.Z) (rv 512 1024 .bf16 p.Y) = gr 3 .f32 (dm p) := by
  unfold dmP3
  rw [pay18_rv, pay12_rv, slice_gr 3 192 512 _ rfl, slice_gr 3 192 512 _ rfl, gr_mul]
  rfl
theorem vnP3_rv : vnP3 (rv 1024 1024 .bf16 p.Z) (rv 1 512 .f32 fun _ i => p.LG i) (rv 1 512 .f32 fun _ i => p.LB i) = gr 3 .f32 (vn p) := by
  unfold vnP3
  rw [vnT_rv, slice_gr 3 192 512 _ rfl]
theorem dzP3_rv : dzP3 (rv 1024 1024 .bf16 p.Z) (rv 512 1024 .bf16 p.Y) (rv 1 512 .f32 fun _ i => p.LG i) (rv 1 512 .f32 fun _ i => p.LB i) (gw 3 p.W) (gb 3 p.B) = gr 3 .bf16 (dzu p) := by
  unfold dzP3
  rw [pay8_rv, pay18_rv, vnP3_rv, slice_gr 3 192 1024 _ rfl, slice_gr 3 192 512 _ rfl, dzG_rv]

theorem dmP4_rv : dmP4 (rv 1024 1024 .bf16 p.Z) (rv 512 1024 .bf16 p.Y) = gr 4 .f32 (dm p) := by
  unfold dmP4
  rw [pay18_rv, pay12_rv, slice_gr 4 256 512 _ rfl, slice_gr 4 256 512 _ rfl, gr_mul]
  rfl
theorem vnP4_rv : vnP4 (rv 1024 1024 .bf16 p.Z) (rv 1 512 .f32 fun _ i => p.LG i) (rv 1 512 .f32 fun _ i => p.LB i) = gr 4 .f32 (vn p) := by
  unfold vnP4
  rw [vnT_rv, slice_gr 4 256 512 _ rfl]
theorem dzP4_rv : dzP4 (rv 1024 1024 .bf16 p.Z) (rv 512 1024 .bf16 p.Y) (rv 1 512 .f32 fun _ i => p.LG i) (rv 1 512 .f32 fun _ i => p.LB i) (gw 4 p.W) (gb 4 p.B) = gr 4 .bf16 (dzu p) := by
  unfold dzP4
  rw [pay8_rv, pay18_rv, vnP4_rv, slice_gr 4 256 1024 _ rfl, slice_gr 4 256 512 _ rfl, dzG_rv]

theorem dmP5_rv : dmP5 (rv 1024 1024 .bf16 p.Z) (rv 512 1024 .bf16 p.Y) = gr 5 .f32 (dm p) := by
  unfold dmP5
  rw [pay18_rv, pay12_rv, slice_gr 5 320 512 _ rfl, slice_gr 5 320 512 _ rfl, gr_mul]
  rfl
theorem vnP5_rv : vnP5 (rv 1024 1024 .bf16 p.Z) (rv 1 512 .f32 fun _ i => p.LG i) (rv 1 512 .f32 fun _ i => p.LB i) = gr 5 .f32 (vn p) := by
  unfold vnP5
  rw [vnT_rv, slice_gr 5 320 512 _ rfl]
theorem dzP5_rv : dzP5 (rv 1024 1024 .bf16 p.Z) (rv 512 1024 .bf16 p.Y) (rv 1 512 .f32 fun _ i => p.LG i) (rv 1 512 .f32 fun _ i => p.LB i) (gw 5 p.W) (gb 5 p.B) = gr 5 .bf16 (dzu p) := by
  unfold dzP5
  rw [pay8_rv, pay18_rv, vnP5_rv, slice_gr 5 320 1024 _ rfl, slice_gr 5 320 512 _ rfl, dzG_rv]

theorem dmP6_rv : dmP6 (rv 1024 1024 .bf16 p.Z) (rv 512 1024 .bf16 p.Y) = gr 6 .f32 (dm p) := by
  unfold dmP6
  rw [pay18_rv, pay12_rv, slice_gr 6 384 512 _ rfl, slice_gr 6 384 512 _ rfl, gr_mul]
  rfl
theorem vnP6_rv : vnP6 (rv 1024 1024 .bf16 p.Z) (rv 1 512 .f32 fun _ i => p.LG i) (rv 1 512 .f32 fun _ i => p.LB i) = gr 6 .f32 (vn p) := by
  unfold vnP6
  rw [vnT_rv, slice_gr 6 384 512 _ rfl]
theorem dzP6_rv : dzP6 (rv 1024 1024 .bf16 p.Z) (rv 512 1024 .bf16 p.Y) (rv 1 512 .f32 fun _ i => p.LG i) (rv 1 512 .f32 fun _ i => p.LB i) (gw 6 p.W) (gb 6 p.B) = gr 6 .bf16 (dzu p) := by
  unfold dzP6
  rw [pay8_rv, pay18_rv, vnP6_rv, slice_gr 6 384 1024 _ rfl, slice_gr 6 384 512 _ rfl, dzG_rv]

theorem dmP7_rv : dmP7 (rv 1024 1024 .bf16 p.Z) (rv 512 1024 .bf16 p.Y) = gr 7 .f32 (dm p) := by
  unfold dmP7
  rw [pay18_rv, pay12_rv, slice_gr 7 448 512 _ rfl, slice_gr 7 448 512 _ rfl, gr_mul]
  rfl
theorem vnP7_rv : vnP7 (rv 1024 1024 .bf16 p.Z) (rv 1 512 .f32 fun _ i => p.LG i) (rv 1 512 .f32 fun _ i => p.LB i) = gr 7 .f32 (vn p) := by
  unfold vnP7
  rw [vnT_rv, slice_gr 7 448 512 _ rfl]
theorem dzP7_rv : dzP7 (rv 1024 1024 .bf16 p.Z) (rv 512 1024 .bf16 p.Y) (rv 1 512 .f32 fun _ i => p.LG i) (rv 1 512 .f32 fun _ i => p.LB i) (gw 7 p.W) (gb 7 p.B) = gr 7 .bf16 (dzu p) := by
  unfold dzP7
  rw [pay8_rv, pay18_rv, vnP7_rv, slice_gr 7 448 1024 _ rfl, slice_gr 7 448 512 _ rfl, dzG_rv]
end evals

/-- All groups' gradients of the normalised half. -/
def dvAll (x0 : Vec Ideal S1024x1024 .bf16) (x1 : Vec Ideal S512x1024 .bf16) (w0 w1 w2 w3 w4 w5 w6 w7 : Vec Ideal S1x128x128 .f32) : V S512x1024 .f32 :=
  catV (dvG (dmP0 x0 x1) w0) (dvG (dmP1 x0 x1) w1) (dvG (dmP2 x0 x1) w2) (dvG (dmP3 x0 x1) w3) (dvG (dmP4 x0 x1) w4) (dvG (dmP5 x0 x1) w5) (dvG (dmP6 x0 x1) w6) (dvG (dmP7 x0 x1) w7)

theorem dvAll_rv (p : Inp) : dvAll (rv 1024 1024 .bf16 p.Z) (rv 512 1024 .bf16 p.Y) (gw 0 p.W) (gw 1 p.W) (gw 2 p.W) (gw 3 p.W) (gw 4 p.W) (gw 5 p.W) (gw 6 p.W) (gw 7 p.W) = rv 512 1024 .f32 (dvn p) := by
  unfold dvAll
  rw [dmP0_rv, dvG_rv, dmP1_rv, dvG_rv, dmP2_rv, dvG_rv, dmP3_rv, dvG_rv, dmP4_rv, dvG_rv, dmP5_rv, dvG_rv, dmP6_rv, dvG_rv, dmP7_rv, dvG_rv, catV_rv]

/-- The running lane sums of the norm scale's gradient. -/
def gaT (x0 : Vec Ideal S1024x1024 .bf16) (dv : V S512x1024 .f32) (o : Vec Ideal S512x128 .f32) : V S512x128 .f32 :=
  shapeCast S512x128 (addf o (lanes (mulf dv (xhT x0)))) shapeCasts_S512x128_S512x128

/-- The running lane sums of the norm shift's gradient. -/
def baT (dv : V S512x1024 .f32) (o : Vec Ideal S512x128 .f32) : V S512x128 .f32 :=
  shapeCast S512x128 (addf o (lanes dv)) shapeCasts_S512x128_S512x128

theorem gaT_rv (p : Inp) (o : ℕ → ℕ → ℝ) : gaT (rv 1024 1024 .bf16 p.Z) (rv 512 1024 .f32 (dvn p)) (rv 512 128 .f32 o) = rv 512 128 .f32 fun i l => o i l + dg p 8 i l := by
  unfold gaT
  rw [xhT_rv, rv_mul, lanes_rv, rv_add, shapeCast_self]
  rfl

theorem baT_rv (p : Inp) (o : ℕ → ℕ → ℝ) : baT (rv 512 1024 .f32 (dvn p)) (rv 512 128 .f32 o) = rv 512 128 .f32 fun i l => o i l + dh p 8 i l := by
  unfold baT
  rw [lanes_rv, rv_add, shapeCast_self]
  rfl

/-- The last step's sum over the lanes. -/
theorem pay2_rv (f : ℕ → ℕ → ℝ) : k0_pay2 (rv 512 128 .f32 f) = rv 1 512 .f32 fun _ i => ∑ l ∈ range 128, f i l := by
  unfold k0_pay2
  dsimp only
  set_option backward.isDefEq.respectTransparency false in
  rw [rv_transpose, rv_colsum]
theorem pay3_rv (f : ℕ → ℕ → ℝ) : k0_pay3 (rv 512 128 .f32 f) = rv 1 512 .f32 fun _ i => ∑ l ∈ range 128, f i l := pay2_rv f

/-! ## A stored block, read at the block's own index -/

theorem pw (f : ℕ → ℕ → ℕ → ℝ) (g : ℕ) (inb : ∀ k, (![g, 0, 0] : Fin 3 → ℕ) k + S1x128x128.size k ≤ S8x128x128.size k) (x : S1x128x128.Idx) :
    gw g f x = rv3 8 128 128 .f32 f ((Rect.unit (s := S8x128x128) ![g, 0, 0] S1x128x128.size inb).emb x) := by
  have h0 : (x 0).val < 1 := (x 0).isLt
  have e0 : g + 1 * (x 0).val = g := by omega
  have e1 : 0 + 1 * (x 1).val = (x 1).val := by omega
  have e2 : 0 + 1 * (x 2).val = (x 2).val := by omega
  show ((f g (x 1).val (x 2).val : ℝ) : EReal) = ((f (g + 1 * (x 0).val) (0 + 1 * (x 1).val) (0 + 1 * (x 2).val) : ℝ) : EReal)
  rw [e0, e1, e2]

theorem pb (f : ℕ → ℕ → ℝ) (g : ℕ) (inb : ∀ k, (![g, 0] : Fin 2 → ℕ) k + S1x128.size k ≤ S8x128.size k) (x : S1x128.Idx) :
    gb g f x = rv 8 128 .f32 f ((Rect.unit (s := S8x128) ![g, 0] S1x128.size inb).emb x) := by
  have h0 : (x 0).val < 1 := (x 0).isLt
  have e0 : g + 1 * (x 0).val = g := by omega
  have e1 : 0 + 1 * (x 1).val = (x 1).val := by omega
  show ((f g (x 1).val : ℝ) : EReal) = ((f (g + 1 * (x 0).val) (0 + 1 * (x 1).val) : ℝ) : EReal)
  rw [e0, e1]

/-- The rows a group stores of the gradient at the gate's input. -/
theorem pz (p : Inp) (g o : ℕ) (hg : g < 8) (ho : o = 64 * g) (inb : ∀ k, (![o, 0] : Fin 2 → ℕ) k + S64x1024.size k ≤ S1024x1024.size k) (x : S64x1024.Idx) :
    gr g .bf16 (dzu p) x = rv 1024 1024 .bf16 (dz p) ((Rect.unit (s := S1024x1024) ![o, 0] S64x1024.size inb).emb x) := by
  subst ho
  have h0 : (x 0).val < 64 := (x 0).isLt
  have e0 : 64 * g + 1 * (x 0).val = 64 * g + (x 0).val := by omega
  have e1 : 0 + 1 * (x 1).val = (x 1).val := by omega
  have e2 : 64 * g + (x 0).val < 512 := by omega
  show ((dzu p (64 * g + (x 0).val) (x 1).val : ℝ) : EReal) = ((dz p (64 * g + 1 * (x 0).val) (0 + 1 * (x 1).val) : ℝ) : EReal)
  rw [e0, e1, dz, if_pos e2]

/-- The rows stored of the gradient at the normalised half's input. -/
theorem pl (p : Inp) (inb : ∀ k, (![512, 0] : Fin 2 → ℕ) k + S512x1024.size k ≤ S1024x1024.size k) (x : S512x1024.Idx) :
    rv 512 1024 .bf16 (dzl p) x = rv 1024 1024 .bf16 (dz p) ((Rect.unit (s := S1024x1024) ![512, 0] S512x1024.size inb).emb x) := by
  have e0 : 512 + 1 * (x 0).val - 512 = (x 0).val := by omega
  have e1 : 0 + 1 * (x 1).val = (x 1).val := by omega
  have e2 : ¬ 512 + 1 * (x 0).val < 512 := by omega
  show ((dzl p (x 0).val (x 1).val : ℝ) : EReal) = ((dz p (512 + 1 * (x 0).val) (0 + 1 * (x 1).val) : ℝ) : EReal)
  rw [e1, dz, if_neg e2, e0]

theorem ps (f : ℕ → ℕ → ℝ) (inb : ∀ k, (![0, 0] : Fin 2 → ℕ) k + S512x128.size k ≤ S512x128.size k) (x : S512x128.Idx) :
    rv 512 128 .f32 f x = rv 512 128 .f32 f ((Rect.unit (s := S512x128) ![0, 0] S512x128.size inb).emb x) := by
  have e0 : 0 + 1 * (x 0).val = (x 0).val := by omega
  have e1 : 0 + 1 * (x 1).val = (x 1).val := by omega
  show ((f (x 0).val (x 1).val : ℝ) : EReal) = ((f (0 + 1 * (x 0).val) (0 + 1 * (x 1).val) : ℝ) : EReal)
  rw [e0, e1]

theorem pn (f : ℕ → ℕ → ℝ) (inb : ∀ k, (![0, 0] : Fin 2 → ℕ) k + S1x512.size k ≤ S1x512.size k) (x : S1x512.Idx) :
    rv 1 512 .f32 f x = rv 1 512 .f32 f ((Rect.unit (s := S1x512) ![0, 0] S1x512.size inb).emb x) := by
  have e0 : 0 + 1 * (x 0).val = (x 0).val := by omega
  have e1 : 0 + 1 * (x 1).val = (x 1).val := by omega
  show ((f (x 0).val (x 1).val : ℝ) : EReal) = ((f (0 + 1 * (x 0).val) (0 + 1 * (x 1).val) : ℝ) : EReal)
  rw [e0, e1]

/-! ## What a group stores, over equal loads -/

section stored
variable (p : Inp) {X0 : Vec Ideal S1024x1024 .bf16} {X1 : Vec Ideal S512x1024 .bf16} {X2 X3 : Vec Ideal S1x512 .f32}
  (h0 : X0 = rv 1024 1024 .bf16 p.Z) (h1 : X1 = rv 512 1024 .bf16 p.Y) (h2 : X2 = rv 1 512 .f32 fun _ i => p.LG i) (h3 : X3 = rv 1 512 .f32 fun _ i => p.LB i)
include h0

include h1 h2 h3 in
theorem stW0 {O : Vec Ideal S1x128x128 .f32} (o : ℕ → ℕ → ℕ → ℝ) (hO : O = gw 0 o) :
    dwG (vnP0 X0 X2 X3) (dmP0 X0 X1) O = gw 0 fun g i j => o g i j + dw p 8 g i j := by
  subst h0 h1 h2 h3 hO
  rw [vnP0_rv, dmP0_rv, dwG_rv]
include h1 in
theorem stB0 {O : Vec Ideal S1x128 .f32} (o : ℕ → ℕ → ℝ) (hO : O = gb 0 o) :
    dbG (dmP0 X0 X1) O = gb 0 fun g j => o g j + db p 8 g j := by
  subst h0 h1 hO
  rw [dmP0_rv, dbG_rv]
include h1 h2 h3 in
theorem stZ0 {W : Vec Ideal S1x128x128 .f32} {B : Vec Ideal S1x128 .f32} (hW : W = gw 0 p.W) (hB : B = gb 0 p.B) :
    dzP0 X0 X1 X2 X3 W B = gr 0 .bf16 (dzu p) := by
  subst h0 h1 h2 h3 hW hB
  exact dzP0_rv p

include h1 h2 h3 in
theorem stW1 {O : Vec Ideal S1x128x128 .f32} (o : ℕ → ℕ → ℕ → ℝ) (hO : O = gw 1 o) :
    dwG (vnP1 X0 X2 X3) (dmP1 X0 X1) O = gw 1 fun g i j => o g i j + dw p 8 g i j := by
  subst h0 h1 h2 h3 hO
  rw [vnP1_rv, dmP1_rv, dwG_rv]
include h1 in
theorem stB1 {O : Vec Ideal S1x128 .f32} (o : ℕ → ℕ → ℝ) (hO : O = gb 1 o) :
    dbG (dmP1 X0 X1) O = gb 1 fun g j => o g j + db p 8 g j := by
  subst h0 h1 hO
  rw [dmP1_rv, dbG_rv]
include h1 h2 h3 in
theorem stZ1 {W : Vec Ideal S1x128x128 .f32} {B : Vec Ideal S1x128 .f32} (hW : W = gw 1 p.W) (hB : B = gb 1 p.B) :
    dzP1 X0 X1 X2 X3 W B = gr 1 .bf16 (dzu p) := by
  subst h0 h1 h2 h3 hW hB
  exact dzP1_rv p

include h1 h2 h3 in
theorem stW2 {O : Vec Ideal S1x128x128 .f32} (o : ℕ → ℕ → ℕ → ℝ) (hO : O = gw 2 o) :
    dwG (vnP2 X0 X2 X3) (dmP2 X0 X1) O = gw 2 fun g i j => o g i j + dw p 8 g i j := by
  subst h0 h1 h2 h3 hO
  rw [vnP2_rv, dmP2_rv, dwG_rv]
include h1 in
theorem stB2 {O : Vec Ideal S1x128 .f32} (o : ℕ → ℕ → ℝ) (hO : O = gb 2 o) :
    dbG (dmP2 X0 X1) O = gb 2 fun g j => o g j + db p 8 g j := by
  subst h0 h1 hO
  rw [dmP2_rv, dbG_rv]
include h1 h2 h3 in
theorem stZ2 {W : Vec Ideal S1x128x128 .f32} {B : Vec Ideal S1x128 .f32} (hW : W = gw 2 p.W) (hB : B = gb 2 p.B) :
    dzP2 X0 X1 X2 X3 W B = gr 2 .bf16 (dzu p) := by
  subst h0 h1 h2 h3 hW hB
  exact dzP2_rv p

include h1 h2 h3 in
theorem stW3 {O : Vec Ideal S1x128x128 .f32} (o : ℕ → ℕ → ℕ → ℝ) (hO : O = gw 3 o) :
    dwG (vnP3 X0 X2 X3) (dmP3 X0 X1) O = gw 3 fun g i j => o g i j + dw p 8 g i j := by
  subst h0 h1 h2 h3 hO
  rw [vnP3_rv, dmP3_rv, dwG_rv]
include h1 in
theorem stB3 {O : Vec Ideal S1x128 .f32} (o : ℕ → ℕ → ℝ) (hO : O = gb 3 o) :
    dbG (dmP3 X0 X1) O = gb 3 fun g j => o g j + db p 8 g j := by
  subst h0 h1 hO
  rw [dmP3_rv, dbG_rv]
include h1 h2 h3 in
theorem stZ3 {W : Vec Ideal S1x128x128 .f32} {B : Vec Ideal S1x128 .f32} (hW : W = gw 3 p.W) (hB : B = gb 3 p.B) :
    dzP3 X0 X1 X2 X3 W B = gr 3 .bf16 (dzu p) := by
  subst h0 h1 h2 h3 hW hB
  exact dzP3_rv p

include h1 h2 h3 in
theorem stW4 {O : Vec Ideal S1x128x128 .f32} (o : ℕ → ℕ → ℕ → ℝ) (hO : O = gw 4 o) :
    dwG (vnP4 X0 X2 X3) (dmP4 X0 X1) O = gw 4 fun g i j => o g i j + dw p 8 g i j := by
  subst h0 h1 h2 h3 hO
  rw [vnP4_rv, dmP4_rv, dwG_rv]
include h1 in
theorem stB4 {O : Vec Ideal S1x128 .f32} (o : ℕ → ℕ → ℝ) (hO : O = gb 4 o) :
    dbG (dmP4 X0 X1) O = gb 4 fun g j => o g j + db p 8 g j := by
  subst h0 h1 hO
  rw [dmP4_rv, dbG_rv]
include h1 h2 h3 in
theorem stZ4 {W : Vec Ideal S1x128x128 .f32} {B : Vec Ideal S1x128 .f32} (hW : W = gw 4 p.W) (hB : B = gb 4 p.B) :
    dzP4 X0 X1 X2 X3 W B = gr 4 .bf16 (dzu p) := by
  subst h0 h1 h2 h3 hW hB
  exact dzP4_rv p

include h1 h2 h3 in
theorem stW5 {O : Vec Ideal S1x128x128 .f32} (o : ℕ → ℕ → ℕ → ℝ) (hO : O = gw 5 o) :
    dwG (vnP5 X0 X2 X3) (dmP5 X0 X1) O = gw 5 fun g i j => o g i j + dw p 8 g i j := by
  subst h0 h1 h2 h3 hO
  rw [vnP5_rv, dmP5_rv, dwG_rv]
include h1 in
theorem stB5 {O : Vec Ideal S1x128 .f32} (o : ℕ → ℕ → ℝ) (hO : O = gb 5 o) :
    dbG (dmP5 X0 X1) O = gb 5 fun g j => o g j + db p 8 g j := by
  subst h0 h1 hO
  rw [dmP5_rv, dbG_rv]
include h1 h2 h3 in
theorem stZ5 {W : Vec Ideal S1x128x128 .f32} {B : Vec Ideal S1x128 .f32} (hW : W = gw 5 p.W) (hB : B = gb 5 p.B) :
    dzP5 X0 X1 X2 X3 W B = gr 5 .bf16 (dzu p) := by
  subst h0 h1 h2 h3 hW hB
  exact dzP5_rv p

include h1 h2 h3 in
theorem stW6 {O : Vec Ideal S1x128x128 .f32} (o : ℕ → ℕ → ℕ → ℝ) (hO : O = gw 6 o) :
    dwG (vnP6 X0 X2 X3) (dmP6 X0 X1) O = gw 6 fun g i j => o g i j + dw p 8 g i j := by
  subst h0 h1 h2 h3 hO
  rw [vnP6_rv, dmP6_rv, dwG_rv]
include h1 in
theorem stB6 {O : Vec Ideal S1x128 .f32} (o : ℕ → ℕ → ℝ) (hO : O = gb 6 o) :
    dbG (dmP6 X0 X1) O = gb 6 fun g j => o g j + db p 8 g j := by
  subst h0 h1 hO
  rw [dmP6_rv, dbG_rv]
include h1 h2 h3 in
theorem stZ6 {W : Vec Ideal S1x128x128 .f32} {B : Vec Ideal S1x128 .f32} (hW : W = gw 6 p.W) (hB : B = gb 6 p.B) :
    dzP6 X0 X1 X2 X3 W B = gr 6 .bf16 (dzu p) := by
  subst h0 h1 h2 h3 hW hB
  exact dzP6_rv p

include h1 h2 h3 in
theorem stW7 {O : Vec Ideal S1x128x128 .f32} (o : ℕ → ℕ → ℕ → ℝ) (hO : O = gw 7 o) :
    dwG (vnP7 X0 X2 X3) (dmP7 X0 X1) O = gw 7 fun g i j => o g i j + dw p 8 g i j := by
  subst h0 h1 h2 h3 hO
  rw [vnP7_rv, dmP7_rv, dwG_rv]
include h1 in
theorem stB7 {O : Vec Ideal S1x128 .f32} (o : ℕ → ℕ → ℝ) (hO : O = gb 7 o) :
    dbG (dmP7 X0 X1) O = gb 7 fun g j => o g j + db p 8 g j := by
  subst h0 h1 hO
  rw [dmP7_rv, dbG_rv]
include h1 h2 h3 in
theorem stZ7 {W : Vec Ideal S1x128x128 .f32} {B : Vec Ideal S1x128 .f32} (hW : W = gw 7 p.W) (hB : B = gb 7 p.B) :
    dzP7 X0 X1 X2 X3 W B = gr 7 .bf16 (dzu p) := by
  subst h0 h1 h2 h3 hW hB
  exact dzP7_rv p

variable {W0 W1 W2 W3 W4 W5 W6 W7 : Vec Ideal S1x128x128 .f32} (hW0 : W0 = gw 0 p.W) (hW1 : W1 = gw 1 p.W) (hW2 : W2 = gw 2 p.W) (hW3 : W3 = gw 3 p.W) (hW4 : W4 = gw 4 p.W) (hW5 : W5 = gw 5 p.W) (hW6 : W6 = gw 6 p.W) (hW7 : W7 = gw 7 p.W)
include h1 hW0 hW1 hW2 hW3 hW4 hW5 hW6 hW7
include h2 in
theorem stL : dlT X0 X2 (dvAll X0 X1 W0 W1 W2 W3 W4 W5 W6 W7) = rv 512 1024 .bf16 (dzl p) := by
  subst h0 h1 h2 hW0 hW1 hW2 hW3 hW4 hW5 hW6 hW7
  rw [dvAll_rv, dlT_rv]
theorem stG {O : Vec Ideal S512x128 .f32} (o : ℕ → ℕ → ℝ) (hO : O = rv 512 128 .f32 o) : gaT X0 (dvAll X0 X1 W0 W1 W2 W3 W4 W5 W6 W7) O = rv 512 128 .f32 fun i l => o i l + dg p 8 i l := by
  subst h0 h1 hO hW0 hW1 hW2 hW3 hW4 hW5 hW6 hW7
  rw [dvAll_rv, gaT_rv]
theorem stH {O : Vec Ideal S512x128 .f32} (o : ℕ → ℕ → ℝ) (hO : O = rv 512 128 .f32 o) : baT (dvAll X0 X1 W0 W1 W2 W3 W4 W5 W6 W7) O = rv 512 128 .f32 fun i l => o i l + dh p 8 i l := by
  subst h0 h1 hO hW0 hW1 hW2 hW3 hW4 hW5 hW6 hW7
  rw [dvAll_rv, baT_rv]
end stored

end Cert.KernelIdeal.Tile

end
-- ==== Proof.Gmlp.TileA.lean ====
/- What one grid step of case A leaves in each window and scratch, at tiles of real numbers. -/
module

public import proofs.«01_k».proof.Proof.Gmlp.Parts
public import proofs.«01_k».proof.Proof.Gen.KernelIdeal.Frame

@[expose] public section

set_option maxRecDepth 16384

noncomputable section

namespace Cert.KernelIdeal.Tile

open Cert.KernelIdeal Cert.KernelIdeal.Gen Idealize.ShloMosaic Cert.Lift Cert.Model Finset

theorem carryW0 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v129 (F := Ideal) c arg8 = gw 0 fun _ _ _ => 0 := by
  unfold kernelRun0_A.sl.v129
  exact (View.readCov_fill _ _ _ _ _ (fun a => by fin_cases a <;> rfl)).trans (ldw_zero 0 _)
theorem carryB0 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v141 (F := Ideal) c arg9 = gb 0 fun _ _ => 0 := by
  unfold kernelRun0_A.sl.v141
  exact (View.readCov_fill _ _ _ _ _ (fun a => by fin_cases a <;> rfl)).trans (ldb_zero 0 _)
theorem carryW1 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v249 (F := Ideal) c arg1 harg1 arg2 harg2 arg3 harg3 arg4 harg4 arg8 x0 x1 x2 x3 = gw 1 fun _ _ _ => 0 := by
  unfold kernelRun0_A.sl.v249
  refine (View.readCov_skip _ _ _ _ _ (by decide +kernel)).trans ?_
  exact (View.readCov_fill _ _ _ _ _ (fun a => by fin_cases a <;> rfl)).trans (ldw_zero 1 _)
theorem carryB1 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v261 (F := Ideal) c arg1 harg1 arg2 harg2 arg9 x0 x1 = gb 1 fun _ _ => 0 := by
  unfold kernelRun0_A.sl.v261
  refine (View.readCov_skip _ _ _ _ _ (by decide +kernel)).trans ?_
  exact (View.readCov_fill _ _ _ _ _ (fun a => by fin_cases a <;> rfl)).trans (ldb_zero 1 _)
theorem carryW2 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v369 (F := Ideal) c arg1 harg1 arg2 harg2 arg3 harg3 arg4 harg4 arg8 x0 x1 x2 x3 = gw 2 fun _ _ _ => 0 := by
  unfold kernelRun0_A.sl.v369
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 2 _)
theorem carryB2 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v381 (F := Ideal) c arg1 harg1 arg2 harg2 arg9 x0 x1 = gb 2 fun _ _ => 0 := by
  unfold kernelRun0_A.sl.v381
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 2 _)
theorem carryW3 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v489 (F := Ideal) c arg1 harg1 arg2 harg2 arg3 harg3 arg4 harg4 arg8 x0 x1 x2 x3 = gw 3 fun _ _ _ => 0 := by
  unfold kernelRun0_A.sl.v489
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 3 _)
theorem carryB3 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v501 (F := Ideal) c arg1 harg1 arg2 harg2 arg9 x0 x1 = gb 3 fun _ _ => 0 := by
  unfold kernelRun0_A.sl.v501
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 3 _)
theorem carryW4 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v609 (F := Ideal) c arg1 harg1 arg2 harg2 arg3 harg3 arg4 harg4 arg8 x0 x1 x2 x3 = gw 4 fun _ _ _ => 0 := by
  unfold kernelRun0_A.sl.v609
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 4 _)
theorem carryB4 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v621 (F := Ideal) c arg1 harg1 arg2 harg2 arg9 x0 x1 = gb 4 fun _ _ => 0 := by
  unfold kernelRun0_A.sl.v621
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 4 _)
theorem carryW5 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v729 (F := Ideal) c arg1 harg1 arg2 harg2 arg3 harg3 arg4 harg4 arg8 x0 x1 x2 x3 = gw 5 fun _ _ _ => 0 := by
  unfold kernelRun0_A.sl.v729
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 5 _)
theorem carryB5 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v741 (F := Ideal) c arg1 harg1 arg2 harg2 arg9 x0 x1 = gb 5 fun _ _ => 0 := by
  unfold kernelRun0_A.sl.v741
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 5 _)
theorem carryW6 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v849 (F := Ideal) c arg1 harg1 arg2 harg2 arg3 harg3 arg4 harg4 arg8 x0 x1 x2 x3 = gw 6 fun _ _ _ => 0 := by
  unfold kernelRun0_A.sl.v849
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 6 _)
theorem carryB6 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v861 (F := Ideal) c arg1 harg1 arg2 harg2 arg9 x0 x1 = gb 6 fun _ _ => 0 := by
  unfold kernelRun0_A.sl.v861
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 6 _)
theorem carryW7 (c : Dev nD) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg8 : Memref sig .tc .vmem S8x128x128 .f32) (x0 : Vec Ideal S1024x1024 .bf16) (x1 : Vec Ideal S512x1024 .bf16) (x2 : Vec Ideal S1x512 .f32) (x3 : Vec Ideal S1x512 .f32) : kernelRun0_A.sl.v969 (F := Ideal) c arg1 harg1 arg2 harg2 arg3 harg3 arg4 harg4 arg8 x0 x1 x2 x3 = gw 7 fun _ _ _ => 0 := by
  unfold kernelRun0_A.sl.v969
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldw_zero 7 _)
theorem carryB7 (c : Dev nD) (arg1 : Memref sig .tc .vmem S1024x1024 .bf16) (harg1 : arg1.IsWhole) (arg2 : Memref sig .tc .vmem S512x1024 .bf16) (harg2 : arg2.IsWhole) (arg9 : Memref sig .tc .vmem S8x128 .f32) (x0 : Vec Ideal S1024x1024 .bf16) (x1 : Vec Ideal S512x1024 .bf16) : kernelRun0_A.sl.v981 (F := Ideal) c arg1 harg1 arg2 harg2 arg9 x0 x1 = gb 7 fun _ _ => 0 := by
  unfold kernelRun0_A.sl.v981
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  refine (View.readCov_skip _ _ _ _ _ (by decide +kernel)).trans ?_
  exact (View.readCov_fill _ _ _ _ _ (fun a => by fin_cases a <;> rfl)).trans (ldb_zero 7 _)
variable (c : Dev nD) (i : grid0.Coords) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S1024x1024 .bf16) (harg7 : arg7.IsWhole) (arg8 : Memref sig .tc .vmem S8x128x128 .f32) (harg8 : arg8.IsWhole) (arg9 : Memref sig .tc .vmem S8x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x128 .f32) (harg12 : arg12.IsWhole) (arg13 : Memref sig .tc .vmem S512x128 .f32) (harg13 : arg13.IsWhole) (hc0 : cond0_0 i) (hc1 : ¬cond0_1 i) (p : Inp)
include c i arg1 harg1 arg2 harg2 arg3 harg3 arg4 harg4 arg5 harg5 arg6 harg6 arg7 harg7 arg8 harg8 arg9 harg9 arg10 harg10 arg11 harg11 arg12 harg12 arg13 harg13 hc0 hc1 p

theorem tile_A_6 :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) = rv 1024 1024 .bf16 (dz p) := by
  unfold out0_A_6
  have K := cover0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B)
  refine (View.read_writes_eq_canon _ _ _ K).trans (funext fun y => View.canon_apply_of_pieces (rv 1024 1024 .bf16 (dz p)) _ (View.PiecesOf.mem ?_) y (K y))
  unfold kernelRun0_A
  dsimp only
  refine ⟨fun x => (congrFun (stL p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0))) x).trans (pl p inb_S1024x1024_S512x1024_512_0 x), fun x => (congrFun (stZ7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 7 inb_S8x128x128_S1x128x128_7_0_0) (rdb arg6 harg6 _ 7 inb_S8x128_S1x128_7_0)) x).trans (pz p 7 448 (by decide) rfl inb_S1024x1024_S64x1024_448_0 x), fun x => (congrFun (stZ6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 6 inb_S8x128x128_S1x128x128_6_0_0) (rdb arg6 harg6 _ 6 inb_S8x128_S1x128_6_0)) x).trans (pz p 6 384 (by decide) rfl inb_S1024x1024_S64x1024_384_0 x), fun x => (congrFun (stZ5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 5 inb_S8x128x128_S1x128x128_5_0_0) (rdb arg6 harg6 _ 5 inb_S8x128_S1x128_5_0)) x).trans (pz p 5 320 (by decide) rfl inb_S1024x1024_S64x1024_320_0 x), fun x => (congrFun (stZ4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 4 inb_S8x128x128_S1x128x128_4_0_0) (rdb arg6 harg6 _ 4 inb_S8x128_S1x128_4_0)) x).trans (pz p 4 256 (by decide) rfl inb_S1024x1024_S64x1024_256_0 x), fun x => (congrFun (stZ3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 3 inb_S8x128x128_S1x128x128_3_0_0) (rdb arg6 harg6 _ 3 inb_S8x128_S1x128_3_0)) x).trans (pz p 3 192 (by decide) rfl inb_S1024x1024_S64x1024_192_0 x), fun x => (congrFun (stZ2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 2 inb_S8x128x128_S1x128x128_2_0_0) (rdb arg6 harg6 _ 2 inb_S8x128_S1x128_2_0)) x).trans (pz p 2 128 (by decide) rfl inb_S1024x1024_S64x1024_128_0 x), fun x => (congrFun (stZ1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 1 inb_S8x128x128_S1x128x128_1_0_0) (rdb arg6 harg6 _ 1 inb_S8x128_S1x128_1_0)) x).trans (pz p 1 64 (by decide) rfl inb_S1024x1024_S64x1024_64_0 x), fun x => (congrFun (stZ0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 0 inb_S8x128x128_S1x128x128_0_0_0) (rdb arg6 harg6 _ 0 inb_S8x128_S1x128_0_0)) x).trans (pz p 0 0 (by decide) rfl inb_S1024x1024_S64x1024_0_0 x), trivial⟩

theorem tile_A_7 :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) = rv3 8 128 128 .f32 fun g i j => 0 + dw p 8 g i j := by
  unfold out0_A_7
  refine (View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B))).trans (funext fun y => ?_)
  rw [← List.take_append_drop 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B)).2.1]
  refine View.canon_append_of_piecesOf (rv3 8 128 128 .f32 fun g i j => 0 + dw p 8 g i j) _ _ ?_ y (View.cover_of_tiledL (List.take 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B)).2.1) S1x128x128.size (by sl_kernel_rfl) y)
  unfold kernelRun0_A
  dsimp only
  simp only [List.take_succ_cons, List.take_zero]
  refine ⟨fun x => (congrFun (stW7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW7 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 7 inb_S8x128x128_S1x128x128_7_0_0 x), fun x => (congrFun (stW6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW6 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 6 inb_S8x128x128_S1x128x128_6_0_0 x), fun x => (congrFun (stW5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW5 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 5 inb_S8x128x128_S1x128x128_5_0_0 x), fun x => (congrFun (stW4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW4 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 4 inb_S8x128x128_S1x128x128_4_0_0 x), fun x => (congrFun (stW3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW3 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 3 inb_S8x128x128_S1x128x128_3_0_0 x), fun x => (congrFun (stW2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW2 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 2 inb_S8x128x128_S1x128x128_2_0_0 x), fun x => (congrFun (stW1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW1 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 1 inb_S8x128x128_S1x128x128_1_0_0 x), fun x => (congrFun (stW0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (fun _ _ _ => 0) (carryW0 c arg1 harg1 arg2 harg2 arg3 harg3 arg4 harg4 arg8 (rv 1024 1024 .bf16 p.Z) (rv 512 1024 .bf16 p.Y) (rv 1 512 .f32 fun _ i => p.LG i) (rv 1 512 .f32 fun _ i => p.LB i))) x).trans (pw _ 0 inb_S8x128x128_S1x128x128_0_0_0 x), trivial⟩

theorem tile_A_8 :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) = rv 8 128 .f32 fun g j => 0 + db p 8 g j := by
  unfold out0_A_8
  refine (View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B))).trans (funext fun y => ?_)
  rw [← List.take_append_drop 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B)).2.2.1]
  refine View.canon_append_of_piecesOf (rv 8 128 .f32 fun g j => 0 + db p 8 g j) _ _ ?_ y (View.cover_of_tiledL (List.take 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B)).2.2.1) S1x128.size (by sl_kernel_rfl) y)
  unfold kernelRun0_A
  dsimp only
  simp only [List.take_succ_cons, List.take_zero]
  refine ⟨fun x => (congrFun (stB7 p (rd2 (a := 1024) (b := 1024) arg1 harg1 _ inb_S1024x1024_S1024x1024_0_0) (rd2 (a := 512) (b := 1024) arg2 harg2 _ inb_S512x1024_S512x1024_0_0) (fun _ _ => 0) (carryB7 c arg1 harg1 arg2 harg2 arg9 (rv 1024 1024 .bf16 p.Z) (rv 512 1024 .bf16 p.Y))) x).trans (pb _ 7 inb_S8x128_S1x128_7_0 x), fun x => (congrFun (stB6 p (rd2 (a := 1024) (b := 1024) arg1 harg1 _ inb_S1024x1024_S1024x1024_0_0) (rd2 (a := 512) (b := 1024) arg2 harg2 _ inb_S512x1024_S512x1024_0_0) (fun _ _ => 0) (carryB6 c arg1 harg1 arg2 harg2 arg9 (rv 1024 1024 .bf16 p.Z) (rv 512 1024 .bf16 p.Y))) x).trans (pb _ 6 inb_S8x128_S1x128_6_0 x), fun x => (congrFun (stB5 p (rd2 (a := 1024) (b := 1024) arg1 harg1 _ inb_S1024x1024_S1024x1024_0_0) (rd2 (a := 512) (b := 1024) arg2 harg2 _ inb_S512x1024_S512x1024_0_0) (fun _ _ => 0) (carryB5 c arg1 harg1 arg2 harg2 arg9 (rv 1024 1024 .bf16 p.Z) (rv 512 1024 .bf16 p.Y))) x).trans (pb _ 5 inb_S8x128_S1x128_5_0 x), fun x => (congrFun (stB4 p (rd2 (a := 1024) (b := 1024) arg1 harg1 _ inb_S1024x1024_S1024x1024_0_0) (rd2 (a := 512) (b := 1024) arg2 harg2 _ inb_S512x1024_S512x1024_0_0) (fun _ _ => 0) (carryB4 c arg1 harg1 arg2 harg2 arg9 (rv 1024 1024 .bf16 p.Z) (rv 512 1024 .bf16 p.Y))) x).trans (pb _ 4 inb_S8x128_S1x128_4_0 x), fun x => (congrFun (stB3 p (rd2 (a := 1024) (b := 1024) arg1 harg1 _ inb_S1024x1024_S1024x1024_0_0) (rd2 (a := 512) (b := 1024) arg2 harg2 _ inb_S512x1024_S512x1024_0_0) (fun _ _ => 0) (carryB3 c arg1 harg1 arg2 harg2 arg9 (rv 1024 1024 .bf16 p.Z) (rv 512 1024 .bf16 p.Y))) x).trans (pb _ 3 inb_S8x128_S1x128_3_0 x), fun x => (congrFun (stB2 p (rd2 (a := 1024) (b := 1024) arg1 harg1 _ inb_S1024x1024_S1024x1024_0_0) (rd2 (a := 512) (b := 1024) arg2 harg2 _ inb_S512x1024_S512x1024_0_0) (fun _ _ => 0) (carryB2 c arg1 harg1 arg2 harg2 arg9 (rv 1024 1024 .bf16 p.Z) (rv 512 1024 .bf16 p.Y))) x).trans (pb _ 2 inb_S8x128_S1x128_2_0 x), fun x => (congrFun (stB1 p (rd2 (a := 1024) (b := 1024) arg1 harg1 _ inb_S1024x1024_S1024x1024_0_0) (rd2 (a := 512) (b := 1024) arg2 harg2 _ inb_S512x1024_S512x1024_0_0) (fun _ _ => 0) (carryB1 c arg1 harg1 arg2 harg2 arg9 (rv 1024 1024 .bf16 p.Z) (rv 512 1024 .bf16 p.Y))) x).trans (pb _ 1 inb_S8x128_S1x128_1_0 x), fun x => (congrFun (stB0 p (rd2 (a := 1024) (b := 1024) arg1 harg1 _ inb_S1024x1024_S1024x1024_0_0) (rd2 (a := 512) (b := 1024) arg2 harg2 _ inb_S512x1024_S512x1024_0_0) (fun _ _ => 0) (carryB0 c arg1 harg1 arg2 harg2 arg9 (rv 1024 1024 .bf16 p.Z) (rv 512 1024 .bf16 p.Y))) x).trans (pb _ 0 inb_S8x128_S1x128_0_0 x), trivial⟩

theorem scr_A_0 :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) = rv 512 128 .f32 fun i l => 0 + dg p 8 i l := by
  unfold sout0_A_0
  refine (View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B))).trans ?_
  unfold kernelRun0_A
  dsimp only
  refine (View.canon_cons_unit_lit inb_S512x128_S512x128_0_0 _ _ (fun a => by fin_cases a <;> rfl)).trans ?_
  exact stG p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) (fun _ _ => 0) ((View.readCov_full _ _ _ _ _).trans pay6_rv)

theorem scr_A_1 :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) = rv 512 128 .f32 fun i l => 0 + dh p 8 i l := by
  unfold sout0_A_1
  refine (View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B))).trans ?_
  unfold kernelRun0_A
  dsimp only
  refine (View.canon_cons_unit_lit inb_S512x128_S512x128_0_0 _ _ (fun a => by fin_cases a <;> rfl)).trans ?_
  exact stH p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) (fun _ _ => 0) ((View.readCov_full _ _ _ _ _).trans pay7_rv)

end Cert.KernelIdeal.Tile

end
-- ==== Proof.Gmlp.TileB.lean ====
/- What one grid step of case B leaves in each window and scratch, at tiles of real numbers. -/
module

public import proofs.«01_k».proof.Proof.Gmlp.Parts
public import proofs.«01_k».proof.Proof.Gen.KernelIdeal.Frame

@[expose] public section

set_option maxRecDepth 16384

noncomputable section

namespace Cert.KernelIdeal.Tile

open Cert.KernelIdeal Cert.KernelIdeal.Gen Idealize.ShloMosaic Cert.Lift Cert.Model Finset

variable (c : Dev nD) (i : grid0.Coords) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S1024x1024 .bf16) (harg7 : arg7.IsWhole) (arg8 : Memref sig .tc .vmem S8x128x128 .f32) (harg8 : arg8.IsWhole) (arg9 : Memref sig .tc .vmem S8x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : ¬cond0_1 i) (p : Inp) (o7 : ℕ → ℕ → ℕ → ℝ) (o8 o9 o10 : ℕ → ℕ → ℝ)
include c i arg1 harg1 arg2 harg2 arg3 harg3 arg4 harg4 arg5 harg5 arg6 harg6 arg7 harg7 arg8 harg8 arg9 harg9 arg10 harg10 arg11 harg11 arg12 harg12 arg13 harg13 hc0 hc1 p o7 o8 o9 o10

theorem tile_B_6 :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 1024 1024 .bf16 (dz p) := by
  unfold out0_B_6
  have K := cover0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 1024 1024 .bf16 (dz p)) _ (View.PiecesOf.mem ?_) y (K y))
  unfold kernelRun0_B
  dsimp only
  refine ⟨fun x => (congrFun (stL p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0))) x).trans (pl p inb_S1024x1024_S512x1024_512_0 x), fun x => (congrFun (stZ7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 7 inb_S8x128x128_S1x128x128_7_0_0) (rdb arg6 harg6 _ 7 inb_S8x128_S1x128_7_0)) x).trans (pz p 7 448 (by decide) rfl inb_S1024x1024_S64x1024_448_0 x), fun x => (congrFun (stZ6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 6 inb_S8x128x128_S1x128x128_6_0_0) (rdb arg6 harg6 _ 6 inb_S8x128_S1x128_6_0)) x).trans (pz p 6 384 (by decide) rfl inb_S1024x1024_S64x1024_384_0 x), fun x => (congrFun (stZ5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 5 inb_S8x128x128_S1x128x128_5_0_0) (rdb arg6 harg6 _ 5 inb_S8x128_S1x128_5_0)) x).trans (pz p 5 320 (by decide) rfl inb_S1024x1024_S64x1024_320_0 x), fun x => (congrFun (stZ4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 4 inb_S8x128x128_S1x128x128_4_0_0) (rdb arg6 harg6 _ 4 inb_S8x128_S1x128_4_0)) x).trans (pz p 4 256 (by decide) rfl inb_S1024x1024_S64x1024_256_0 x), fun x => (congrFun (stZ3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 3 inb_S8x128x128_S1x128x128_3_0_0) (rdb arg6 harg6 _ 3 inb_S8x128_S1x128_3_0)) x).trans (pz p 3 192 (by decide) rfl inb_S1024x1024_S64x1024_192_0 x), fun x => (congrFun (stZ2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 2 inb_S8x128x128_S1x128x128_2_0_0) (rdb arg6 harg6 _ 2 inb_S8x128_S1x128_2_0)) x).trans (pz p 2 128 (by decide) rfl inb_S1024x1024_S64x1024_128_0 x), fun x => (congrFun (stZ1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 1 inb_S8x128x128_S1x128x128_1_0_0) (rdb arg6 harg6 _ 1 inb_S8x128_S1x128_1_0)) x).trans (pz p 1 64 (by decide) rfl inb_S1024x1024_S64x1024_64_0 x), fun x => (congrFun (stZ0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 0 inb_S8x128x128_S1x128x128_0_0_0) (rdb arg6 harg6 _ 0 inb_S8x128_S1x128_0_0)) x).trans (pz p 0 0 (by decide) rfl inb_S1024x1024_S64x1024_0_0 x), trivial⟩

theorem tile_B_7 :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv3 8 128 128 .f32 fun g i j => o7 g i j + dw p 8 g i j := by
  unfold out0_B_7
  have K := cover0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv3 8 128 128 .f32 fun g i j => o7 g i j + dw p 8 g i j) _ (View.PiecesOf.mem ?_) y (K y))
  unfold kernelRun0_B
  dsimp only
  refine ⟨fun x => (congrFun (stW7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 7 inb_S8x128x128_S1x128x128_7_0_0)) x).trans (pw _ 7 inb_S8x128x128_S1x128x128_7_0_0 x), fun x => (congrFun (stW6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 6 inb_S8x128x128_S1x128x128_6_0_0)) x).trans (pw _ 6 inb_S8x128x128_S1x128x128_6_0_0 x), fun x => (congrFun (stW5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 5 inb_S8x128x128_S1x128x128_5_0_0)) x).trans (pw _ 5 inb_S8x128x128_S1x128x128_5_0_0 x), fun x => (congrFun (stW4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 4 inb_S8x128x128_S1x128x128_4_0_0)) x).trans (pw _ 4 inb_S8x128x128_S1x128x128_4_0_0 x), fun x => (congrFun (stW3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 3 inb_S8x128x128_S1x128x128_3_0_0)) x).trans (pw _ 3 inb_S8x128x128_S1x128x128_3_0_0 x), fun x => (congrFun (stW2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 2 inb_S8x128x128_S1x128x128_2_0_0)) x).trans (pw _ 2 inb_S8x128x128_S1x128x128_2_0_0 x), fun x => (congrFun (stW1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 1 inb_S8x128x128_S1x128x128_1_0_0)) x).trans (pw _ 1 inb_S8x128x128_S1x128x128_1_0_0 x), fun x => (congrFun (stW0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 0 inb_S8x128x128_S1x128x128_0_0_0)) x).trans (pw _ 0 inb_S8x128x128_S1x128x128_0_0_0 x), trivial⟩

theorem tile_B_8 :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 8 128 .f32 fun g j => o8 g j + db p 8 g j := by
  unfold out0_B_8
  have K := cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 8 128 .f32 fun g j => o8 g j + db p 8 g j) _ (View.PiecesOf.mem ?_) y (K y))
  unfold kernelRun0_B
  dsimp only
  refine ⟨fun x => (congrFun (stB7 p (rd2 (a := 1024) (b := 1024) arg1 harg1 _ inb_S1024x1024_S1024x1024_0_0) (rd2 (a := 512) (b := 1024) arg2 harg2 _ inb_S512x1024_S512x1024_0_0) (o8) (rdb arg9 harg9 o8 7 inb_S8x128_S1x128_7_0)) x).trans (pb _ 7 inb_S8x128_S1x128_7_0 x), fun x => (congrFun (stB6 p (rd2 (a := 1024) (b := 1024) arg1 harg1 _ inb_S1024x1024_S1024x1024_0_0) (rd2 (a := 512) (b := 1024) arg2 harg2 _ inb_S512x1024_S512x1024_0_0) (o8) (rdb arg9 harg9 o8 6 inb_S8x128_S1x128_6_0)) x).trans (pb _ 6 inb_S8x128_S1x128_6_0 x), fun x => (congrFun (stB5 p (rd2 (a := 1024) (b := 1024) arg1 harg1 _ inb_S1024x1024_S1024x1024_0_0) (rd2 (a := 512) (b := 1024) arg2 harg2 _ inb_S512x1024_S512x1024_0_0) (o8) (rdb arg9 harg9 o8 5 inb_S8x128_S1x128_5_0)) x).trans (pb _ 5 inb_S8x128_S1x128_5_0 x), fun x => (congrFun (stB4 p (rd2 (a := 1024) (b := 1024) arg1 harg1 _ inb_S1024x1024_S1024x1024_0_0) (rd2 (a := 512) (b := 1024) arg2 harg2 _ inb_S512x1024_S512x1024_0_0) (o8) (rdb arg9 harg9 o8 4 inb_S8x128_S1x128_4_0)) x).trans (pb _ 4 inb_S8x128_S1x128_4_0 x), fun x => (congrFun (stB3 p (rd2 (a := 1024) (b := 1024) arg1 harg1 _ inb_S1024x1024_S1024x1024_0_0) (rd2 (a := 512) (b := 1024) arg2 harg2 _ inb_S512x1024_S512x1024_0_0) (o8) (rdb arg9 harg9 o8 3 inb_S8x128_S1x128_3_0)) x).trans (pb _ 3 inb_S8x128_S1x128_3_0 x), fun x => (congrFun (stB2 p (rd2 (a := 1024) (b := 1024) arg1 harg1 _ inb_S1024x1024_S1024x1024_0_0) (rd2 (a := 512) (b := 1024) arg2 harg2 _ inb_S512x1024_S512x1024_0_0) (o8) (rdb arg9 harg9 o8 2 inb_S8x128_S1x128_2_0)) x).trans (pb _ 2 inb_S8x128_S1x128_2_0 x), fun x => (congrFun (stB1 p (rd2 (a := 1024) (b := 1024) arg1 harg1 _ inb_S1024x1024_S1024x1024_0_0) (rd2 (a := 512) (b := 1024) arg2 harg2 _ inb_S512x1024_S512x1024_0_0) (o8) (rdb arg9 harg9 o8 1 inb_S8x128_S1x128_1_0)) x).trans (pb _ 1 inb_S8x128_S1x128_1_0 x), fun x => (congrFun (stB0 p (rd2 (a := 1024) (b := 1024) arg1 harg1 _ inb_S1024x1024_S1024x1024_0_0) (rd2 (a := 512) (b := 1024) arg2 harg2 _ inb_S512x1024_S512x1024_0_0) (o8) (rdb arg9 harg9 o8 0 inb_S8x128_S1x128_0_0)) x).trans (pb _ 0 inb_S8x128_S1x128_0_0 x), trivial⟩

theorem scr_B_0 :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 512 128 .f32 fun i l => o9 i l + dg p 8 i l := by
  unfold sout0_B_0
  have K := scover0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 512 128 .f32 fun i l => o9 i l + dg p 8 i l) _ (View.PiecesOf.mem ?_) y (K y))
  unfold kernelRun0_B
  dsimp only
  refine ⟨fun x => (congrFun (stG p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o9 (rd2 (a := 512) (b := 128) arg12 harg12 _ inb_S512x128_S512x128_0_0)) x).trans (ps _ inb_S512x128_S512x128_0_0 x), trivial⟩

theorem scr_B_1 :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 512 128 .f32 fun i l => o10 i l + dh p 8 i l := by
  unfold sout0_B_1
  have K := scover0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 512 128 .f32 fun i l => o10 i l + dh p 8 i l) _ (View.PiecesOf.mem ?_) y (K y))
  unfold kernelRun0_B
  dsimp only
  refine ⟨fun x => (congrFun (stH p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o10 (rd2 (a := 512) (b := 128) arg13 harg13 _ inb_S512x128_S512x128_0_0)) x).trans (ps _ inb_S512x128_S512x128_0_0 x), trivial⟩

end Cert.KernelIdeal.Tile

end
-- ==== Proof.Gmlp.TileC.lean ====
/- What one grid step of case C leaves in each window and scratch, at tiles of real numbers. -/
module

public import proofs.«01_k».proof.Proof.Gmlp.Parts
public import proofs.«01_k».proof.Proof.Gen.KernelIdeal.Frame

@[expose] public section

set_option maxRecDepth 16384

noncomputable section

namespace Cert.KernelIdeal.Tile

open Cert.KernelIdeal Cert.KernelIdeal.Gen Idealize.ShloMosaic Cert.Lift Cert.Model Finset

variable (c : Dev nD) (i : grid0.Coords) (arg1 : Memref sig .tc .vmem S1024x1024 .bf16) (harg1 : arg1.IsWhole) (arg2 : Memref sig .tc .vmem S512x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S8x128x128 .f32) (harg5 : arg5.IsWhole) (arg6 : Memref sig .tc .vmem S8x128 .f32) (harg6 : arg6.IsWhole) (arg7 : Memref sig .tc .vmem S1024x1024 .bf16) (harg7 : arg7.IsWhole) (arg8 : Memref sig .tc .vmem S8x128x128 .f32) (harg8 : arg8.IsWhole) (arg9 : Memref sig .tc .vmem S8x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x128 .f32) (harg12 : arg12.IsWhole) (arg13 : Memref sig .tc .vmem S512x128 .f32) (harg13 : arg13.IsWhole) (hc0 : ¬cond0_0 i) (hc1 : cond0_1 i) (p : Inp) (o7 : ℕ → ℕ → ℕ → ℝ) (o8 o9 o10 : ℕ → ℕ → ℝ)
include c i arg1 harg1 arg2 harg2 arg3 harg3 arg4 harg4 arg5 harg5 arg6 harg6 arg7 harg7 arg8 harg8 arg9 harg9 arg10 harg10 arg11 harg11 arg12 harg12 arg13 harg13 hc0 hc1 p o7 o8 o9 o10

theorem tile_C_6 :
    out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 1024 1024 .bf16 (dz p) := by
  unfold out0_C_6
  have K := cover0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 1024 1024 .bf16 (dz p)) _ (View.PiecesOf.mem ?_) y (K y))
  unfold kernelRun0_C
  dsimp only
  refine ⟨fun x => (congrFun (stL p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0))) x).trans (pl p inb_S1024x1024_S512x1024_512_0 x), fun x => (congrFun (stZ7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 7 inb_S8x128x128_S1x128x128_7_0_0) (rdb arg6 harg6 _ 7 inb_S8x128_S1x128_7_0)) x).trans (pz p 7 448 (by decide) rfl inb_S1024x1024_S64x1024_448_0 x), fun x => (congrFun (stZ6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 6 inb_S8x128x128_S1x128x128_6_0_0) (rdb arg6 harg6 _ 6 inb_S8x128_S1x128_6_0)) x).trans (pz p 6 384 (by decide) rfl inb_S1024x1024_S64x1024_384_0 x), fun x => (congrFun (stZ5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 5 inb_S8x128x128_S1x128x128_5_0_0) (rdb arg6 harg6 _ 5 inb_S8x128_S1x128_5_0)) x).trans (pz p 5 320 (by decide) rfl inb_S1024x1024_S64x1024_320_0 x), fun x => (congrFun (stZ4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 4 inb_S8x128x128_S1x128x128_4_0_0) (rdb arg6 harg6 _ 4 inb_S8x128_S1x128_4_0)) x).trans (pz p 4 256 (by decide) rfl inb_S1024x1024_S64x1024_256_0 x), fun x => (congrFun (stZ3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 3 inb_S8x128x128_S1x128x128_3_0_0) (rdb arg6 harg6 _ 3 inb_S8x128_S1x128_3_0)) x).trans (pz p 3 192 (by decide) rfl inb_S1024x1024_S64x1024_192_0 x), fun x => (congrFun (stZ2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 2 inb_S8x128x128_S1x128x128_2_0_0) (rdb arg6 harg6 _ 2 inb_S8x128_S1x128_2_0)) x).trans (pz p 2 128 (by decide) rfl inb_S1024x1024_S64x1024_128_0 x), fun x => (congrFun (stZ1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 1 inb_S8x128x128_S1x128x128_1_0_0) (rdb arg6 harg6 _ 1 inb_S8x128_S1x128_1_0)) x).trans (pz p 1 64 (by decide) rfl inb_S1024x1024_S64x1024_64_0 x), fun x => (congrFun (stZ0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (rdw arg5 harg5 _ 0 inb_S8x128x128_S1x128x128_0_0_0) (rdb arg6 harg6 _ 0 inb_S8x128_S1x128_0_0)) x).trans (pz p 0 0 (by decide) rfl inb_S1024x1024_S64x1024_0_0 x), trivial⟩

theorem tile_C_7 :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv3 8 128 128 .f32 fun g i j => o7 g i j + dw p 8 g i j := by
  unfold out0_C_7
  have K := cover0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv3 8 128 128 .f32 fun g i j => o7 g i j + dw p 8 g i j) _ (View.PiecesOf.mem ?_) y (K y))
  unfold kernelRun0_C
  dsimp only
  refine ⟨fun x => (congrFun (stW7 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 7 inb_S8x128x128_S1x128x128_7_0_0)) x).trans (pw _ 7 inb_S8x128x128_S1x128x128_7_0_0 x), fun x => (congrFun (stW6 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 6 inb_S8x128x128_S1x128x128_6_0_0)) x).trans (pw _ 6 inb_S8x128x128_S1x128x128_6_0_0 x), fun x => (congrFun (stW5 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 5 inb_S8x128x128_S1x128x128_5_0_0)) x).trans (pw _ 5 inb_S8x128x128_S1x128x128_5_0_0 x), fun x => (congrFun (stW4 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 4 inb_S8x128x128_S1x128x128_4_0_0)) x).trans (pw _ 4 inb_S8x128x128_S1x128x128_4_0_0 x), fun x => (congrFun (stW3 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 3 inb_S8x128x128_S1x128x128_3_0_0)) x).trans (pw _ 3 inb_S8x128x128_S1x128x128_3_0_0 x), fun x => (congrFun (stW2 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 2 inb_S8x128x128_S1x128x128_2_0_0)) x).trans (pw _ 2 inb_S8x128x128_S1x128x128_2_0_0 x), fun x => (congrFun (stW1 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 1 inb_S8x128x128_S1x128x128_1_0_0)) x).trans (pw _ 1 inb_S8x128x128_S1x128x128_1_0_0 x), fun x => (congrFun (stW0 p (rd2 (a := 1024) (b := 1024) arg1 harg1 _ inb_S1024x1024_S1024x1024_0_0) (rd2 (a := 512) (b := 1024) arg2 harg2 _ inb_S512x1024_S512x1024_0_0) (rd2 (a := 1) (b := 512) arg3 harg3 _ inb_S1x512_S1x512_0_0) (rd2 (a := 1) (b := 512) arg4 harg4 _ inb_S1x512_S1x512_0_0) (o7) (rdw arg8 harg8 o7 0 inb_S8x128x128_S1x128x128_0_0_0)) x).trans (pw _ 0 inb_S8x128x128_S1x128x128_0_0_0 x), trivial⟩

theorem tile_C_8 :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 8 128 .f32 fun g j => o8 g j + db p 8 g j := by
  unfold out0_C_8
  have K := cover0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 8 128 .f32 fun g j => o8 g j + db p 8 g j) _ (View.PiecesOf.mem ?_) y (K y))
  unfold kernelRun0_C
  dsimp only
  refine ⟨fun x => (congrFun (stB7 p (rd2 (a := 1024) (b := 1024) arg1 harg1 _ inb_S1024x1024_S1024x1024_0_0) (rd2 (a := 512) (b := 1024) arg2 harg2 _ inb_S512x1024_S512x1024_0_0) (o8) (rdb arg9 harg9 o8 7 inb_S8x128_S1x128_7_0)) x).trans (pb _ 7 inb_S8x128_S1x128_7_0 x), fun x => (congrFun (stB6 p (rd2 (a := 1024) (b := 1024) arg1 harg1 _ inb_S1024x1024_S1024x1024_0_0) (rd2 (a := 512) (b := 1024) arg2 harg2 _ inb_S512x1024_S512x1024_0_0) (o8) (rdb arg9 harg9 o8 6 inb_S8x128_S1x128_6_0)) x).trans (pb _ 6 inb_S8x128_S1x128_6_0 x), fun x => (congrFun (stB5 p (rd2 (a := 1024) (b := 1024) arg1 harg1 _ inb_S1024x1024_S1024x1024_0_0) (rd2 (a := 512) (b := 1024) arg2 harg2 _ inb_S512x1024_S512x1024_0_0) (o8) (rdb arg9 harg9 o8 5 inb_S8x128_S1x128_5_0)) x).trans (pb _ 5 inb_S8x128_S1x128_5_0 x), fun x => (congrFun (stB4 p (rd2 (a := 1024) (b := 1024) arg1 harg1 _ inb_S1024x1024_S1024x1024_0_0) (rd2 (a := 512) (b := 1024) arg2 harg2 _ inb_S512x1024_S512x1024_0_0) (o8) (rdb arg9 harg9 o8 4 inb_S8x128_S1x128_4_0)) x).trans (pb _ 4 inb_S8x128_S1x128_4_0 x), fun x => (congrFun (stB3 p (rd2 (a := 1024) (b := 1024) arg1 harg1 _ inb_S1024x1024_S1024x1024_0_0) (rd2 (a := 512) (b := 1024) arg2 harg2 _ inb_S512x1024_S512x1024_0_0) (o8) (rdb arg9 harg9 o8 3 inb_S8x128_S1x128_3_0)) x).trans (pb _ 3 inb_S8x128_S1x128_3_0 x), fun x => (congrFun (stB2 p (rd2 (a := 1024) (b := 1024) arg1 harg1 _ inb_S1024x1024_S1024x1024_0_0) (rd2 (a := 512) (b := 1024) arg2 harg2 _ inb_S512x1024_S512x1024_0_0) (o8) (rdb arg9 harg9 o8 2 inb_S8x128_S1x128_2_0)) x).trans (pb _ 2 inb_S8x128_S1x128_2_0 x), fun x => (congrFun (stB1 p (rd2 (a := 1024) (b := 1024) arg1 harg1 _ inb_S1024x1024_S1024x1024_0_0) (rd2 (a := 512) (b := 1024) arg2 harg2 _ inb_S512x1024_S512x1024_0_0) (o8) (rdb arg9 harg9 o8 1 inb_S8x128_S1x128_1_0)) x).trans (pb _ 1 inb_S8x128_S1x128_1_0 x), fun x => (congrFun (stB0 p (rd2 (a := 1024) (b := 1024) arg1 harg1 _ inb_S1024x1024_S1024x1024_0_0) (rd2 (a := 512) (b := 1024) arg2 harg2 _ inb_S512x1024_S512x1024_0_0) (o8) (rdb arg9 harg9 o8 0 inb_S8x128_S1x128_0_0)) x).trans (pb _ 0 inb_S8x128_S1x128_0_0 x), trivial⟩

theorem scr_C_0 :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 512 128 .f32 fun i l => o9 i l + dg p 8 i l := by
  unfold sout0_C_0
  have K := scover0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 512 128 .f32 fun i l => o9 i l + dg p 8 i l) _ (View.PiecesOf.mem ?_) y (K y))
  unfold kernelRun0_C
  dsimp only
  refine ⟨fun x => (congrFun (stG p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o9 (rd2 (a := 512) (b := 128) arg12 harg12 _ inb_S512x128_S512x128_0_0)) x).trans (ps _ inb_S512x128_S512x128_0_0 x), trivial⟩

theorem scr_C_1 :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 512 128 .f32 fun i l => o10 i l + dh p 8 i l := by
  unfold sout0_C_1
  have K := scover0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 512 128 .f32 fun i l => o10 i l + dh p 8 i l) _ (View.PiecesOf.mem ?_) y (K y))
  unfold kernelRun0_C
  dsimp only
  refine ⟨fun x => (congrFun (stH p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o10 (rd2 (a := 512) (b := 128) arg13 harg13 _ inb_S512x128_S512x128_0_0)) x).trans (ps _ inb_S512x128_S512x128_0_0 x), trivial⟩

theorem tile_C_9 :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 1 512 .f32 fun _ i => ∑ l ∈ range 128, (o9 i l + dg p 8 i l) := by
  unfold out0_C_9
  have K := cover0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 1 512 .f32 fun _ i => ∑ l ∈ range 128, (o9 i l + dg p 8 i l)) _ (View.PiecesOf.mem ?_) y (K y))
  unfold kernelRun0_C
  dsimp only
  refine ⟨fun x => (congrFun ((congrArg k0_pay2 ((View.readCov_full _ _ _ _ _).trans (stG p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o9 (rd2 (a := 512) (b := 128) arg12 harg12 _ inb_S512x128_S512x128_0_0)))).trans (pay2_rv _)) x).trans (pn _ inb_S1x512_S1x512_0_0 x), trivial⟩

theorem tile_C_10 :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10) = rv 1 512 .f32 fun _ i => ∑ l ∈ range 128, (o10 i l + dh p 8 i l) := by
  unfold out0_C_10
  have K := cover0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 (rv 1024 1024 .bf16 p.Z) (rv 512 1024 .bf16 p.Y) (rv 1 512 .f32 fun _ i => p.LG i) (rv 1 512 .f32 fun _ i => p.LB i) (rv3 8 128 128 .f32 p.W) (rv 8 128 .f32 p.B) (rv3 8 128 128 .f32 o7) (rv 8 128 .f32 o8) (rv 512 128 .f32 o9) (rv 512 128 .f32 o10)
  refine (View.read_writes_eq_canon _ _ _ K).trans (funext fun y => View.canon_apply_of_pieces (rv 1 512 .f32 fun _ i => ∑ l ∈ range 128, (o10 i l + dh p 8 i l)) _ (View.PiecesOf.mem ?_) y (K y))
  unfold kernelRun0_C
  dsimp only
  refine ⟨fun x => (congrFun ((congrArg k0_pay3 ((View.readCov_full _ _ _ _ _).trans (stH p (rd2 (a := 1024) (b := 1024) arg1 harg1 _ inb_S1024x1024_S1024x1024_0_0) (rd2 (a := 512) (b := 1024) arg2 harg2 _ inb_S512x1024_S512x1024_0_0) (hW0 := (rdw arg5 harg5 _ 0 inb_S8x128x128_S1x128x128_0_0_0)) (hW1 := (rdw arg5 harg5 _ 1 inb_S8x128x128_S1x128x128_1_0_0)) (hW2 := (rdw arg5 harg5 _ 2 inb_S8x128x128_S1x128x128_2_0_0)) (hW3 := (rdw arg5 harg5 _ 3 inb_S8x128x128_S1x128x128_3_0_0)) (hW4 := (rdw arg5 harg5 _ 4 inb_S8x128x128_S1x128x128_4_0_0)) (hW5 := (rdw arg5 harg5 _ 5 inb_S8x128x128_S1x128x128_5_0_0)) (hW6 := (rdw arg5 harg5 _ 6 inb_S8x128x128_S1x128x128_6_0_0)) (hW7 := (rdw arg5 harg5 _ 7 inb_S8x128x128_S1x128x128_7_0_0)) o10 (rd2 (a := 512) (b := 128) arg13 harg13 _ inb_S512x128_S512x128_0_0)))).trans (pay3_rv _)) x).trans (pn _ inb_S1x512_S1x512_0_0 x), trivial⟩

end Cert.KernelIdeal.Tile

end
-- ==== Proof.Gmlp.Blocks.lean ====
/- What each window reads at a grid step, at real arguments. -/
module

public import proofs.«01_k».proof.Proof.Gmlp.TileA
public import proofs.«01_k».proof.Proof.Gmlp.TileB
public import proofs.«01_k».proof.Proof.Gmlp.TileC
public import proofs.«01_k».proof.Proof.Gen.KernelIdeal.Value

@[expose] public section

set_option maxRecDepth 16384

noncomputable section

namespace Cert.KernelIdeal.Tile

open Cert.KernelIdeal Cert.KernelIdeal.Gen Idealize.ShloMosaic Cert.Lift Cert.Model Finset

variable (m : (ℓ : Loc nD τ sig) → Buf (Elt Ideal) ℓ) (c : Dev nD) (p : Inp)

theorem col0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem col1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem col2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem col3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem col4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem col5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The input at step `n`: its own columns. -/
abbrev at8 (n : ℕ) : Inp := p.shift (128 * (8 * n))

theorem blk0 (h : m ((c.tc : Thread nD τ).loc main_arg0) = rv 1024 8192 .bf16 p.Z) (t : Fin cfg0.N) :
    iblk (F := Ideal) m c 0 t = rv 1024 1024 .bf16 (at8 p t.val).Z := by
  obtain ⟨e0, e1⟩ := col0 t
  funext y
  show m ((c.tc : Thread nD τ).loc main_arg0) (((cfg0.win 0).blk t).view.emb y) = _
  rw [h]
  have a0 : (((cfg0.win 0).blk t).view.emb y 0).val = win0_0.index t (0 : Fin 2) * 1024 + 1 * (y 0).val := rfl
  have a1 : (((cfg0.win 0).blk t).view.emb y 1).val = win0_0.index t (1 : Fin 2) * 1024 + 1 * (y 1).val := rfl
  show ((p.Z (((cfg0.win 0).blk t).view.emb y 0).val (((cfg0.win 0).blk t).view.emb y 1).val : ℝ) : EReal) = ((p.Z (y 0).val (128 * (8 * t.val) + (y 1).val) : ℝ) : EReal)
  rw [a0, a1, e0, e1, show 0 * 1024 + 1 * (y 0).val = (y 0).val by omega, show t.val * 1024 + 1 * (y 1).val = 128 * (8 * t.val) + (y 1).val by omega]

theorem blk1 (h : m ((c.tc : Thread nD τ).loc main_arg1) = rv 512 8192 .bf16 p.Y) (t : Fin cfg0.N) :
    iblk (F := Ideal) m c 1 t = rv 512 1024 .bf16 (at8 p t.val).Y := by
  obtain ⟨e0, e1⟩ := col1 t
  funext y
  show m ((c.tc : Thread nD τ).loc main_arg1) (((cfg0.win 1).blk t).view.emb y) = _
  rw [h]
  have a0 : (((cfg0.win 1).blk t).view.emb y 0).val = win0_1.index t (0 : Fin 2) * 512 + 1 * (y 0).val := rfl
  have a1 : (((cfg0.win 1).blk t).view.emb y 1).val = win0_1.index t (1 : Fin 2) * 1024 + 1 * (y 1).val := rfl
  show ((p.Y (((cfg0.win 1).blk t).view.emb y 0).val (((cfg0.win 1).blk t).view.emb y 1).val : ℝ) : EReal) = ((p.Y (y 0).val (128 * (8 * t.val) + (y 1).val) : ℝ) : EReal)
  rw [a0, a1, e0, e1, show 0 * 512 + 1 * (y 0).val = (y 0).val by omega, show t.val * 1024 + 1 * (y 1).val = 128 * (8 * t.val) + (y 1).val by omega]

theorem blk2 (h : m ((c.tc : Thread nD τ).loc main_arg2) = rv 1 512 .f32 fun _ i => p.LG i) (t : Fin cfg0.N) :
    iblk (F := Ideal) m c 2 t = rv 1 512 .f32 fun _ i => (at8 p t.val).LG i := by
  obtain ⟨e0, e1⟩ := col2 t
  funext y
  show m ((c.tc : Thread nD τ).loc main_arg2) (((cfg0.win 2).blk t).view.emb y) = _
  rw [h]
  have a1 : (((cfg0.win 2).blk t).view.emb y 1).val = win0_2.index t (1 : Fin 2) * 512 + 1 * (y 1).val := rfl
  show ((p.LG (((cfg0.win 2).blk t).view.emb y 1).val : ℝ) : EReal) = ((p.LG (y 1).val : ℝ) : EReal)
  rw [a1, e1, show 0 * 512 + 1 * (y 1).val = (y 1).val by omega]

theorem blk3 (h : m ((c.tc : Thread nD τ).loc main_arg3) = rv 1 512 .f32 fun _ i => p.LB i) (t : Fin cfg0.N) :
    iblk (F := Ideal) m c 3 t = rv 1 512 .f32 fun _ i => (at8 p t.val).LB i := by
  obtain ⟨e0, e1⟩ := col3 t
  funext y
  show m ((c.tc : Thread nD τ).loc main_arg3) (((cfg0.win 3).blk t).view.emb y) = _
  rw [h]
  have a1 : (((cfg0.win 3).blk t).view.emb y 1).val = win0_3.index t (1 : Fin 2) * 512 + 1 * (y 1).val := rfl
  show ((p.LB (((cfg0.win 3).blk t).view.emb y 1).val : ℝ) : EReal) = ((p.LB (y 1).val : ℝ) : EReal)
  rw [a1, e1, show 0 * 512 + 1 * (y 1).val = (y 1).val by omega]

theorem blk4 (h : m ((c.tc : Thread nD τ).loc main_arg4) = rv3 8 128 128 .f32 p.W) (t : Fin cfg0.N) :
    iblk (F := Ideal) m c 4 t = rv3 8 128 128 .f32 (at8 p t.val).W := by
  obtain ⟨e0, e1, e2⟩ := col4 t
  funext y
  show m ((c.tc : Thread nD τ).loc main_arg4) (((cfg0.win 4).blk t).view.emb y) = _
  rw [h]
  have a0 : (((cfg0.win 4).blk t).view.emb y 0).val = win0_4.index t (0 : Fin 3) * 8 + 1 * (y 0).val := rfl
  have a1 : (((cfg0.win 4).blk t).view.emb y 1).val = win0_4.index t (1 : Fin 3) * 128 + 1 * (y 1).val := rfl
  have a2 : (((cfg0.win 4).blk t).view.emb y 2).val = win0_4.index t (2 : Fin 3) * 128 + 1 * (y 2).val := rfl
  show ((p.W (((cfg0.win 4).blk t).view.emb y 0).val (((cfg0.win 4).blk t).view.emb y 1).val (((cfg0.win 4).blk t).view.emb y 2).val : ℝ) : EReal) = ((p.W (y 0).val (y 1).val (y 2).val : ℝ) : EReal)
  rw [a0, a1, a2, e0, e1, e2, show 0 * 8 + 1 * (y 0).val = (y 0).val by omega, show 0 * 128 + 1 * (y 1).val = (y 1).val by omega, show 0 * 128 + 1 * (y 2).val = (y 2).val by omega]

theorem blk5 (h : m ((c.tc : Thread nD τ).loc main_arg5) = rv 8 128 .f32 p.B) (t : Fin cfg0.N) :
    iblk (F := Ideal) m c 5 t = rv 8 128 .f32 (at8 p t.val).B := by
  obtain ⟨e0, e1⟩ := col5 t
  funext y
  show m ((c.tc : Thread nD τ).loc main_arg5) (((cfg0.win 5).blk t).view.emb y) = _
  rw [h]
  have a0 : (((cfg0.win 5).blk t).view.emb y 0).val = win0_5.index t (0 : Fin 2) * 8 + 1 * (y 0).val := rfl
  have a1 : (((cfg0.win 5).blk t).view.emb y 1).val = win0_5.index t (1 : Fin 2) * 128 + 1 * (y 1).val := rfl
  show ((p.B (((cfg0.win 5).blk t).view.emb y 0).val (((cfg0.win 5).blk t).view.emb y 1).val : ℝ) : EReal) = ((p.B (y 0).val (y 1).val : ℝ) : EReal)
  rw [a0, a1, e0, e1, show 0 * 8 + 1 * (y 0).val = (y 0).val by omega, show 0 * 128 + 1 * (y 1).val = (y 1).val by omega]

/-- The arguments are the tiles of the real inputs. -/
structure Args : Prop where
  h0 : m ((c.tc : Thread nD τ).loc main_arg0) = rv 1024 8192 .bf16 p.Z
  h1 : m ((c.tc : Thread nD τ).loc main_arg1) = rv 512 8192 .bf16 p.Y
  h2 : m ((c.tc : Thread nD τ).loc main_arg2) = rv 1 512 .f32 fun _ i => p.LG i
  h3 : m ((c.tc : Thread nD τ).loc main_arg3) = rv 1 512 .f32 fun _ i => p.LB i
  h4 : m ((c.tc : Thread nD τ).loc main_arg4) = rv3 8 128 128 .f32 p.W
  h5 : m ((c.tc : Thread nD τ).loc main_arg5) = rv 8 128 .f32 p.B

/-- What is held after step `n`, but for the two rows that only the last step stores. -/
structure Holds (n : ℕ) (s : Vec Ideal S1024x1024 .bf16 × Vec Ideal S8x128x128 .f32 × Vec Ideal S8x128 .f32 × Vec Ideal S1x512 .f32 × Vec Ideal S1x512 .f32 × Vec Ideal S512x128 .f32 × Vec Ideal S512x128 .f32) : Prop where
  z : s.1 = rv 1024 1024 .bf16 (dz (at8 p n))
  w : s.2.1 = rv3 8 128 128 .f32 (dw p (8 * (n + 1)))
  b : s.2.2.1 = rv 8 128 .f32 (db p (8 * (n + 1)))
  g : s.2.2.2.2.2.1 = rv 512 128 .f32 (dg p (8 * (n + 1)))
  h : s.2.2.2.2.2.2 = rv 512 128 .f32 (dh p (8 * (n + 1)))

end Cert.KernelIdeal.Tile

end
-- ==== Proof.Gmlp.Fold.lean ====
/- The eight grid steps in turn: what the windows and the scratch hold after each, at real arguments. -/
module

public import proofs.«01_k».proof.Proof.Gmlp.Blocks
public import proofs.«01_k».proof.Proof.Gmlp.TileA
public import proofs.«01_k».proof.Proof.Gmlp.TileB
public import proofs.«01_k».proof.Proof.Gmlp.TileC
public import proofs.«01_k».proof.Proof.Gen.KernelIdeal.Value

@[expose] public section

set_option maxRecDepth 16384

noncomputable section

namespace Cert.KernelIdeal.Tile

open Cert.KernelIdeal Cert.KernelIdeal.Gen Idealize.ShloMosaic Cert.Lift Cert.Model Finset

variable {m : (ℓ : Loc nD τ sig) → Buf (Elt Ideal) ℓ} {c : Dev nD} {p : Inp}

theorem holds_zero (A : Args m c p) (hn : 0 < cfg0.N) : Holds p 0 (outsAt0 (F := Ideal) m c 0 hn) := by
  rw [Value.outsAt0_zero, Value.stAt0_A m c ⟨0, hn⟩ _ (Nat.zero_mod _) (fun h => by (try dsimp only at h); omega)]
  rw [blk0 m c p A.h0, blk1 m c p A.h1, blk2 m c p A.h2, blk3 m c p A.h3, blk4 m c p A.h4, blk5 m c p A.h5]
  dsimp only
  refine ⟨?_, ?_, ?_, ?_, ?_⟩ <;> dsimp only
  · exact tile_A_6 _ _ _ _ _ _ _ _ _ _ _ _ _ _ _ _ _ _ _ _ _ _ _ _ _ _ _ _ _ _ (at8 p 0)
  · exact (tile_A_7 _ _ _ _ _ _ _ _ _ _ _ _ _ _ _ _ _ _ _ _ _ _ _ _ _ _ _ _ _ _ (at8 p 0)).trans (rv3_congr fun g i j _ _ _ => (congrArg (fun x : ℝ => x + dw (p.shift (128 * (8 * 0))) 8 g i j) (dw_zero p g i j).symm).trans (dw_succ p 0 g i j).symm)
  · exact (tile_A_8 _ _ _ _ _ _ _ _ _ _ _ _ _ _ _ _ _ _ _ _ _ _ _ _ _ _ _ _ _ _ (at8 p 0)).trans (rv_congr fun g j _ _ => (congrArg (· + _) (db_zero p g j).symm).trans (db_succ p 0 g j).symm)
  · exact (scr_A_0 _ _ _ _ _ _ _ _ _ _ _ _ _ _ _ _ _ _ _ _ _ _ _ _ _ _ _ _ _ _ (at8 p 0)).trans (rv_congr fun i l _ _ => (congrArg (· + _) (dg_zero p i l).symm).trans (dg_succ p 0 i l).symm)
  · exact (scr_A_1 _ _ _ _ _ _ _ _ _ _ _ _ _ _ _ _ _ _ _ _ _ _ _ _ _ _ _ _ _ _ (at8 p 0)).trans (rv_congr fun i l _ _ => (congrArg (· + _) (dh_zero p i l).symm).trans (dh_succ p 0 i l).symm)

theorem holds_mid (A : Args m c p) (n : ℕ) (hn : n + 1 < cfg0.N) (h7 : n + 1 < 7) (H : Holds p n (outsAt0 (F := Ideal) m c n (Nat.lt_of_succ_lt hn))) :
    Holds p (n + 1) (outsAt0 (F := Ideal) m c (n + 1) hn) := by
  rw [Value.outsAt0_succ, Value.stAt0_B m c ⟨n + 1, hn⟩ _ (by show ¬ (n + 1) % 8 = 0; omega) (by show ¬ (n + 1) % 8 = 7; omega)]
  rw [blk0 m c p A.h0, blk1 m c p A.h1, blk2 m c p A.h2, blk3 m c p A.h3, blk4 m c p A.h4, blk5 m c p A.h5, H.w, H.b, H.g, H.h]
  dsimp only
  refine ⟨?_, ?_, ?_, ?_, ?_⟩ <;> dsimp only
  · exact tile_B_6 _ _ _ _ _ _ _ _ _ _ _ _ _ _ _ _ _ _ _ _ _ _ _ _ _ _ _ _ _ _ (at8 p (n + 1)) _ _ _ _
  · exact (tile_B_7 _ _ _ _ _ _ _ _ _ _ _ _ _ _ _ _ _ _ _ _ _ _ _ _ _ _ _ _ _ _ (at8 p (n + 1)) _ _ _ _).trans (rv3_congr fun g i j _ _ _ => (dw_succ p (n + 1) g i j).symm)
  · exact (tile_B_8 _ _ _ _ _ _ _ _ _ _ _ _ _ _ _ _ _ _ _ _ _ _ _ _ _ _ _ _ _ _ (at8 p (n + 1)) _ _ _ _).trans (rv_congr fun g j _ _ => (db_succ p (n + 1) g j).symm)
  · exact (scr_B_0 _ _ _ _ _ _ _ _ _ _ _ _ _ _ _ _ _ _ _ _ _ _ _ _ _ _ _ _ _ _ (at8 p (n + 1)) _ _ _ _).trans (rv_congr fun i l _ _ => (dg_succ p (n + 1) i l).symm)
  · exact (scr_B_1 _ _ _ _ _ _ _ _ _ _ _ _ _ _ _ _ _ _ _ _ _ _ _ _ _ _ _ _ _ _ (at8 p (n + 1)) _ _ _ _).trans (rv_congr fun i l _ _ => (dh_succ p (n + 1) i l).symm)

theorem holds_last (A : Args m c p) (n : ℕ) (hn : n + 1 < cfg0.N) (h7 : n + 1 = 7) (H : Holds p n (outsAt0 (F := Ideal) m c n (Nat.lt_of_succ_lt hn))) :
    Holds p (n + 1) (outsAt0 (F := Ideal) m c (n + 1) hn) ∧ (outsAt0 (F := Ideal) m c (n + 1) hn).2.2.2.1 = rv 1 512 .f32 (fun _ i => ∑ l ∈ range 128, dg p (8 * (n + 1 + 1)) i l)
      ∧ (outsAt0 (F := Ideal) m c (n + 1) hn).2.2.2.2.1 = rv 1 512 .f32 (fun _ i => ∑ l ∈ range 128, dh p (8 * (n + 1 + 1)) i l) := by
  rw [Value.outsAt0_succ, Value.stAt0_C m c ⟨n + 1, hn⟩ _ (by show ¬ (n + 1) % 8 = 0; omega) (by show (n + 1) % 8 = 7; omega)]
  rw [blk0 m c p A.h0, blk1 m c p A.h1, blk2 m c p A.h2, blk3 m c p A.h3, blk4 m c p A.h4, blk5 m c p A.h5, H.w, H.b, H.g, H.h]
  dsimp only
  refine ⟨?_, ?_, ?_⟩
  · refine ⟨?_, ?_, ?_, ?_, ?_⟩ <;> dsimp only
    · exact tile_C_6 _ _ _ _ _ _ _ _ _ _ _ _ _ _ _ _ _ _ _ _ _ _ _ _ _ _ _ _ _ _ (at8 p (n + 1)) _ _ _ _
    · exact (tile_C_7 _ _ _ _ _ _ _ _ _ _ _ _ _ _ _ _ _ _ _ _ _ _ _ _ _ _ _ _ _ _ (at8 p (n + 1)) _ _ _ _).trans (rv3_congr fun g i j _ _ _ => (dw_succ p (n + 1) g i j).symm)
    · exact (tile_C_8 _ _ _ _ _ _ _ _ _ _ _ _ _ _ _ _ _ _ _ _ _ _ _ _ _ _ _ _ _ _ (at8 p (n + 1)) _ _ _ _).trans (rv_congr fun g j _ _ => (db_succ p (n + 1) g j).symm)
    · exact (scr_C_0 _ _ _ _ _ _ _ _ _ _ _ _ _ _ _ _ _ _ _ _ _ _ _ _ _ _ _ _ _ _ (at8 p (n + 1)) _ _ _ _).trans (rv_congr fun i l _ _ => (dg_succ p (n + 1) i l).symm)
    · exact (scr_C_1 _ _ _ _ _ _ _ _ _ _ _ _ _ _ _ _ _ _ _ _ _ _ _ _ _ _ _ _ _ _ (at8 p (n + 1)) _ _ _ _).trans (rv_congr fun i l _ _ => (dh_succ p (n + 1) i l).symm)
  · exact (tile_C_9 _ _ _ _ _ _ _ _ _ _ _ _ _ _ _ _ _ _ _ _ _ _ _ _ _ _ _ _ _ _ (at8 p (n + 1)) _ _ _ _).trans (rv_congr fun _ i _ _ => Finset.sum_congr rfl fun l _ => (dg_succ p (n + 1) i l).symm)
  · exact (tile_C_10 _ _ _ _ _ _ _ _ _ _ _ _ _ _ _ _ _ _ _ _ _ _ _ _ _ _ _ _ _ _ (at8 p (n + 1)) _ _ _ _).trans (rv_congr fun _ i _ _ => Finset.sum_congr rfl fun l _ => (dh_succ p (n + 1) i l).symm)

theorem holds (A : Args m c p) : ∀ (n : ℕ) (hn : n < cfg0.N), Holds p n (outsAt0 (F := Ideal) m c n hn)
  | 0, hn => holds_zero A hn
  | n + 1, hn => by
    have hN : n + 1 < 8 := lt_of_lt_of_eq hn (show cfg0.N = 8 from N_0)
    rcases Nat.lt_or_ge (n + 1) 7 with h | h
    · exact holds_mid A n hn h (holds A n (Nat.lt_of_succ_lt hn))
    · exact (holds_last A n hn (by omega) (holds A n (Nat.lt_of_succ_lt hn))).1

theorem hN7 : 7 < cfg0.N := lt_of_lt_of_eq (by decide) N_0.symm

/-- The array of pre-activation gradients. -/
theorem out6 (A : Args m c p) : Value.G6 (F := Ideal) m c = rv 1024 8192 .bf16 (dz p) := by
  funext i
  have h0 : (i 0).val < 1024 := (i 0).isLt
  have h1 : (i 1).val < 8192 := (i 1).isLt
  have hp : Value.pt6Of i = (i 1).val / 1024 := by
    show 8 * ((i 0).val / 1024 - 0) + 1 * ((i 1).val / 1024 - 0) = _
    omega
  have hlt : Value.pt6Of i < cfg0.N := by rw [hp]; exact lt_of_lt_of_eq (by omega) (show cfg0.N = 8 from N_0).symm
  unfold Value.G6
  rw [dif_pos hlt, ← Value.outsAt0_sweep m c _ hlt, (holds A _ hlt).z]
  show ((dz (at8 p (Value.pt6Of i)) ((i 0).val % 1024) ((i 1).val % 1024) : ℝ) : EReal) = ((dz p (i 0).val (i 1).val : ℝ) : EReal)
  rw [hp, dz_shift, show (i 0).val % 1024 = (i 0).val by omega, show 128 * (8 * ((i 1).val / 1024)) + (i 1).val % 1024 = (i 1).val by omega]

/-- The array of spatial weight gradients. -/
theorem out7 (A : Args m c p) : Value.G7 (F := Ideal) m c = rv3 8 128 128 .f32 (dw p 64) := by
  rw [Value.G7_last, ← Value.outsAt0_sweep m c 7 hN7]
  exact (holds A 7 hN7).w
/-- The array of spatial bias gradients. -/
theorem out8 (A : Args m c p) : Value.G8 (F := Ideal) m c = rv 8 128 .f32 (db p 64) := by
  rw [Value.G8_last, ← Value.outsAt0_sweep m c 7 hN7]
  exact (holds A 7 hN7).b
/-- The row of norm scale gradients. -/
theorem out9 (A : Args m c p) : Value.G9 (F := Ideal) m c = rv 1 512 .f32 fun _ i => ∑ l ∈ range 128, dg p 64 i l := by
  rw [Value.G9_last, ← Value.outsAt0_sweep m c 7 hN7]
  exact (holds_last A 6 hN7 rfl (holds A 6 (Nat.lt_of_succ_lt hN7))).2.1
/-- The row of norm shift gradients. -/
theorem out10 (A : Args m c p) : Value.G10 (F := Ideal) m c = rv 1 512 .f32 fun _ i => ∑ l ∈ range 128, dh p 64 i l := by
  rw [Value.G10_last, ← Value.outsAt0_sweep m c 7 hN7]
  exact (holds_last A 6 hN7 rfl (holds A 6 (Nat.lt_of_succ_lt hN7))).2.2

end Cert.KernelIdeal.Tile

end
-- ==== Proof.Gmlp.Finite.lean ====
/- The precondition says that every entry of the arguments is a real number. -/
module

public import proofs.«01_k».proof.Defs
public import proofs.«01_k».proof.Proof.Gmlp.Fold

@[expose] public section

set_option maxRecDepth 16384

noncomputable section

namespace Cert.Finite

open Idealize.ShloMosaic Cert.Lift Cert.Model Finset

instance : Cert.Pre_finite.Facts := ⟨by decide, by decide, by decide, by decide, by decide⟩

/-- A magnitude below plus infinity belongs to a real number. -/
theorem real_of_abs {x : EReal} (h : Ideal.cmp .olt (max x (-x)) ⊤ = 1#1) : x = ((x.toReal : ℝ) : EReal) := by
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h'; simp at h'
  have h2 : x ≠ ⊥ := fun e => by rw [e] at h'; simp at h'
  exact (EReal.coe_toReal h1 h2).symm

theorem inf_bf16 : Ideal.ofBits .bf16 0x7F80#16 = ⊤ := by
  simp [Ideal.ofBits, Ideal.ieee]
theorem inf_f32 : Ideal.ofBits .f32 0x7F800000#32 = ⊤ := by
  simp [Ideal.ofBits, Ideal.ieee]

/-- The position of row `i` and column `j`. -/
def ix2 {a b : ℕ} (i j : ℕ) (hi : i < a) (hj : j < b) : (⟨2, ![a, b]⟩ : Shape).Idx :=
  fun k => match k with
    | ⟨0, _⟩ => ⟨i, hi⟩
    | ⟨1, _⟩ => ⟨j, hj⟩

def ix3 {a b c : ℕ} (i j k : ℕ) (hi : i < a) (hj : j < b) (hk : k < c) : (⟨3, ![a, b, c]⟩ : Shape).Idx :=
  fun d => match d with
    | ⟨0, _⟩ => ⟨i, hi⟩
    | ⟨1, _⟩ => ⟨j, hj⟩
    | ⟨2, _⟩ => ⟨k, hk⟩

/-- The real numbers of a block of rank two, zero outside of it. -/
def re2 {a b : ℕ} {φ : FTy} (x : FVec Ideal ⟨2, ![a, b]⟩ φ) (i j : ℕ) : ℝ :=
  if h : i < a ∧ j < b then EReal.toReal (x (ix2 i j h.1 h.2)) else 0

def re3 {a b c : ℕ} {φ : FTy} (x : FVec Ideal ⟨3, ![a, b, c]⟩ φ) (i j k : ℕ) : ℝ :=
  if h : i < a ∧ j < b ∧ k < c then EReal.toReal (x (ix3 i j k h.1 h.2.1 h.2.2)) else 0

theorem eq_re2 {a b : ℕ} {φ : FTy} (x : FVec Ideal ⟨2, ![a, b]⟩ φ)
    (h : ∀ i, x i = ((EReal.toReal (x i) : ℝ) : EReal)) : x = rv a b φ (re2 x) := by
  funext i
  have h0 : (i 0).val < a := (i 0).isLt
  have h1 : (i 1).val < b := (i 1).isLt
  have hi : ix2 (i 0).val (i 1).val h0 h1 = i := by
    funext k
    match k with
    | ⟨0, _⟩ => rfl
    | ⟨1, _⟩ => rfl
  show x i = ((re2 x (i 0).val (i 1).val : ℝ) : EReal)
  unfold re2
  rw [dif_pos ⟨h0, h1⟩, hi]
  exact h i

theorem eq_re3 {a b c : ℕ} {φ : FTy} (x : FVec Ideal ⟨3, ![a, b, c]⟩ φ)
    (h : ∀ i, x i = ((EReal.toReal (x i) : ℝ) : EReal)) : x = rv3 a b c φ (re3 x) := by
  funext i
  have h0 : (i 0).val < a := (i 0).isLt
  have h1 : (i 1).val < b := (i 1).isLt
  have h2 : (i 2).val < c := (i 2).isLt
  have hi : ix3 (i 0).val (i 1).val (i 2).val h0 h1 h2 = i := by
    funext k
    match k with
    | ⟨0, _⟩ => rfl
    | ⟨1, _⟩ => rfl
    | ⟨2, _⟩ => rfl
  show x i = ((re3 x (i 0).val (i 1).val (i 2).val : ℝ) : EReal)
  unfold re3
  rw [dif_pos ⟨h0, h1, h2⟩, hi]
  exact h i

/-- A block of one row depends on its column only. -/
theorem eq_row {b : ℕ} {φ : FTy} (x : FVec Ideal ⟨2, ![1, b]⟩ φ)
    (h : ∀ i, x i = ((EReal.toReal (x i) : ℝ) : EReal)) : x = rv 1 b φ fun _ i => re2 x 0 i := by
  refine (eq_re2 x h).trans (rv_congr fun i j hi _ => ?_)
  rw [Nat.lt_one_iff.mp hi]

open Cert.KernelIdeal in
/-- The real inputs of the device `c`. -/
def inp (m : (ℓ : Loc nD τ sig) → Buf (Elt Ideal) ℓ) (c : Dev nD) : Inp where
  Z := re2 (a := 1024) (b := 8192) (φ := .bf16) (m ((c.tc : Thread nD τ).loc main_arg0))
  Y := re2 (a := 512) (b := 8192) (φ := .bf16) (m ((c.tc : Thread nD τ).loc main_arg1))
  LG := re2 (a := 1) (b := 512) (φ := .f32) (m ((c.tc : Thread nD τ).loc main_arg2)) 0
  LB := re2 (a := 1) (b := 512) (φ := .f32) (m ((c.tc : Thread nD τ).loc main_arg3)) 0
  W := re3 (a := 8) (b := 128) (c := 128) (φ := .f32) (m ((c.tc : Thread nD τ).loc main_arg4))
  B := re2 (a := 8) (b := 128) (φ := .f32) (m ((c.tc : Thread nD τ).loc main_arg5))

open Cert.KernelIdeal in
theorem args (m : (ℓ : Loc nD τ sig) → Buf (Elt Ideal) ℓ) (h : Cert.Pre_KernelIdeal_finite m) (c : Dev nD) :
    Cert.KernelIdeal.Tile.Args m c (inp m c) := by
  obtain ⟨e0, e1, e2, e3, e4, e5⟩ := h c
  refine ⟨eq_re2 _ fun i => real_of_abs ?_, eq_re2 _ fun i => real_of_abs ?_, eq_row _ fun i => real_of_abs ?_,
    eq_row _ fun i => real_of_abs ?_, eq_re3 _ fun i => real_of_abs ?_, eq_re2 _ fun i => real_of_abs ?_⟩
  · rw [← inf_bf16]; exact congrFun e0 i
  · rw [← inf_bf16]; exact congrFun e1 i
  · rw [← inf_f32]; exact congrFun e2 i
  · rw [← inf_f32]; exact congrFun e3 i
  · rw [← inf_f32]; exact congrFun e4 i
  · rw [← inf_f32]; exact congrFun e5 i

end Cert.Finite

end
-- ==== Proof.Gmlp.Host.lean ====
/- Host operations at real numbers: each takes real elements to a real element. -/
module

public import proofs.«01_k».proof.Proof.Gmlp.Lift
public import Idealize.ShloMosaic.Lib.ValueIdx

@[expose] public section

set_option maxRecDepth 16384

noncomputable section

namespace Cert.Lift

open Idealize.ShloMosaic Finset

variable {φ : FTy} {a b : Ideal φ} {x y : ℝ}

theorem c_mul (ha : a = ((x : ℝ) : EReal)) (hb : b = ((y : ℝ) : EReal)) : FloatOps.mulf a b = ((x * y : ℝ) : EReal) := by
  subst ha hb; exact (EReal.coe_mul _ _).symm
theorem c_add (ha : a = ((x : ℝ) : EReal)) (hb : b = ((y : ℝ) : EReal)) : FloatOps.addf a b = ((x + y : ℝ) : EReal) := by
  subst ha hb; exact (EReal.coe_add _ _).symm
theorem c_sub (ha : a = ((x : ℝ) : EReal)) (hb : b = ((y : ℝ) : EReal)) : FloatOps.subf a b = ((x - y : ℝ) : EReal) := by
  subst ha hb; exact (EReal.coe_sub _ _).symm
theorem c_neg (ha : a = ((x : ℝ) : EReal)) : FloatOps.hostNegf a = ((-x : ℝ) : EReal) := by
  subst ha; exact (EReal.coe_neg _).symm
theorem c_div (ha : a = ((x : ℝ) : EReal)) (hb : b = ((y : ℝ) : EReal)) (h : y ≠ 0) : FloatOps.hostDivf a b = ((x / y : ℝ) : EReal) := by
  subst ha hb; exact div_coe_coe _ _ h
theorem c_tanh (ha : a = ((x : ℝ) : EReal)) : FloatOps.hostUnary .tanh a = ((Real.tanh x : ℝ) : EReal) := by
  subst ha; exact Ideal.tanh_coe _
theorem c_rsqrt (ha : a = ((x : ℝ) : EReal)) (h : 0 < x) : FloatOps.hostUnary .rsqrt a = (((√x)⁻¹ : ℝ) : EReal) := by
  subst ha
  show Ideal.rsqrt ((x : ℝ) : EReal) = _
  rw [Ideal.rsqrt_coe, if_neg (not_lt.mpr h.le), if_neg h.ne']
theorem c_eq {u v : ℝ} (ha : a = ((u : ℝ) : EReal)) (h : u = v) : a = ((v : ℝ) : EReal) := by
  subst h; exact ha

/-- A sum of real elements from nothing. -/
theorem c_sum (n : ℕ) {i : EReal} (hi : i = 0) (f : ℕ → ℝ) (g : Fin n → EReal) (h : ∀ k, g k = ((f k.val : ℝ) : EReal)) :
    i + ∑ k, g k = ((∑ k ∈ range n, f k : ℝ) : EReal) := by
  rw [hi, zero_add, Finset.sum_congr rfl fun k _ => h k, sum_fin_coe]

/-- A contraction of real elements. -/
theorem c_dot (n : ℕ) (f g : ℕ → ℝ) (u v : Fin n → EReal) (hu : ∀ k, u k = ((f k.val : ℝ) : EReal)) (hv : ∀ k, v k = ((g k.val : ℝ) : EReal)) :
    ∑ k, u k * v k = ((∑ k ∈ range n, f k * g k : ℝ) : EReal) := by
  rw [← sum_fin_coe n fun k => f k * g k]
  exact Finset.sum_congr rfl fun k _ => by rw [hu k, hv k]; exact (EReal.coe_mul _ _).symm

/-- The elements that reduce to one index, listed without repetition. -/
theorem reduce_list {s t : Shape} {axes : List (Fin s.rank)} (h : s.ReducesTo axes t) (z : s.Idx → EReal) (i : EReal) (j : t.Idx)
    {ι : Type} [Fintype ι] (e : ι → s.Idx) (he : Function.Injective e) (hm : ∀ w, h.drop w = j ↔ ∃ k, e k = w) :
    Ideal.hostReduceAdd h z i j = i + ∑ k, z (e k) := by
  show i + ∑ w ∈ univ.filter (fun w => h.drop w = j), z w = _
  rw [show (univ.filter fun w => h.drop w = j) = univ.map ⟨e, he⟩ by
    ext w; simp [hm w]]
  rw [Finset.sum_map]
  rfl

theorem ofBits_zero : (FloatOps.ofBits .f32 0x00000000#32 : Ideal .f32) = ((0 : ℝ) : EReal) := by
  show Ideal.ofBits .f32 0x00000000#32 = _
  simp [Ideal.ofBits, Ideal.ieee, -EReal.coe_mul]
theorem ofBits_half : (FloatOps.ofBits .f32 0x3F000000#32 : Ideal .f32) = ((1 / 2 : ℝ) : EReal) := by
  show Ideal.ofBits .f32 0x3F000000#32 = _
  simp [Ideal.ofBits, Ideal.ieee, -EReal.coe_mul]; norm_num
theorem ofBits_nhalf : (FloatOps.ofBits .f32 0xBF000000#32 : Ideal .f32) = ((-(1 / 2) : ℝ) : EReal) := by
  show Ideal.ofBits .f32 0xBF000000#32 = _
  simp [Ideal.ofBits, Ideal.ieee, -EReal.coe_mul]; norm_num
theorem ofBits_one : (FloatOps.ofBits .f32 0x3F800000#32 : Ideal .f32) = ((1 : ℝ) : EReal) := by
  show Ideal.ofBits .f32 0x3F800000#32 = _
  simp [Ideal.ofBits, Ideal.ieee, -EReal.coe_mul]; norm_num
theorem ofBits_two : (FloatOps.ofBits .f32 0x40000000#32 : Ideal .f32) = ((2 : ℝ) : EReal) := by
  show Ideal.ofBits .f32 0x40000000#32 = _
  simp [Ideal.ofBits, Ideal.ieee, -EReal.coe_mul]; norm_num
theorem ofBits_three : (FloatOps.ofBits .f32 0x40400000#32 : Ideal .f32) = ((3 : ℝ) : EReal) := by
  show Ideal.ofBits .f32 0x40400000#32 = _
  simp [Ideal.ofBits, Ideal.ieee, -EReal.coe_mul]; norm_num
theorem ofBits_44715 : (FloatOps.ofBits .f32 0x472EAB00#32 : Ideal .f32) = ((44715 : ℝ) : EReal) := by
  show Ideal.ofBits .f32 0x472EAB00#32 = _
  simp [Ideal.ofBits, Ideal.ieee, -EReal.coe_mul]; norm_num
theorem ofBits_million : (FloatOps.ofBits .f32 0x49742400#32 : Ideal .f32) = ((1000000 : ℝ) : EReal) := by
  show Ideal.ofBits .f32 0x49742400#32 = _
  simp [Ideal.ofBits, Ideal.ieee, -EReal.coe_mul]; norm_num
theorem ofBits_512 : (FloatOps.ofBits .f32 0x44000000#32 : Ideal .f32) = ((512 : ℝ) : EReal) := by
  show Ideal.ofBits .f32 0x44000000#32 = _
  simp [Ideal.ofBits, Ideal.ieee, -EReal.coe_mul]; norm_num
theorem ofBits_cg : (FloatOps.ofBits .f32 0x3F4C422A#32 : Ideal .f32) = ((13386282 / 16777216 : ℝ) : EReal) := by
  show Ideal.ofBits .f32 0x3F4C422A#32 = _
  simp [Ideal.ofBits, Ideal.ieee, -EReal.coe_mul]; norm_num
theorem ofBits_eps : (FloatOps.ofBits .f32 0x358637BD#32 : Ideal .f32) = ((8796093 / 8796093022208 : ℝ) : EReal) := by
  show Ideal.ofBits .f32 0x358637BD#32 = _
  simp [Ideal.ofBits, Ideal.ieee, -EReal.coe_mul]; norm_num

/-- The lower triangle as the signed comparison of row and column numbers. -/
theorem tril_word : ∀ a b : Fin 128, Scalar.select (IntOp.cmpi .sge (IntOp.addi (BitVec.ofNat 32 a.val) 0#32) (BitVec.ofNat 32 b.val)) 1#1 0#1
    = if b.val ≤ a.val then 1#1 else 0#1 := by decide +kernel

end Cert.Lift

end
-- ==== Proof.Gmlp.RefA.lean ====
/- The reference forward pass at real arguments, one operation at a time, up to the normalised half. -/
module

public import proofs.«01_k».proof.Proof.Gmlp.Host
public import proofs.«01_k».proof.Proof.Gmlp.Model
public import proofs.«01_k».proof.Proof.Gen.ReferenceIdeal.Read

@[expose] public section

set_option maxRecDepth 16384

noncomputable section

namespace Cert.RefReal

open Cert.ReferenceIdeal Cert.ReferenceIdeal.Read Idealize.ShloMosaic Cert.Lift Cert.Model Finset

variable (q : Inp)
/-- The arguments, as arrays of reals. -/
abbrev X0 : (⟨S1024x8192, .bf16⟩ : BufTy).Contents (Elt Ideal) := rv 1024 8192 .bf16 q.Z
abbrev X1 : (⟨S512x8192, .bf16⟩ : BufTy).Contents (Elt Ideal) := rv 512 8192 .bf16 q.Y
abbrev X2 : (⟨S1x512, .f32⟩ : BufTy).Contents (Elt Ideal) := rv 1 512 .f32 fun _ i => q.LG i
abbrev X3 : (⟨S1x512, .f32⟩ : BufTy).Contents (Elt Ideal) := rv 1 512 .f32 fun _ i => q.LB i
abbrev X4 : (⟨S8x128x128, .f32⟩ : BufTy).Contents (Elt Ideal) := rv3 8 128 128 .f32 q.W
abbrev X5 : (⟨S8x128, .f32⟩ : BufTy).Contents (Elt Ideal) := rv 8 128 .f32 q.B

/-- The tanh of the gelu. -/
def th (z : ℝ) : ℝ := Real.tanh (cg * (z + ca * z * z * z))

theorem at_v0 (p : Inp) (i : S1024x8192.Idx) : val_main_v0 (F := Ideal) (X0 p) i = ((p.Z (i 0).val (i 1).val : ℝ) : EReal) :=
  rfl
theorem at_v1 (p : Inp) (i : S8192x1024.Idx) : val_main_v1 (F := Ideal) (X0 p) i = ((p.Z (i 1).val (i 0).val : ℝ) : EReal) :=
  (val_main_v1_apply (X0 p) i).trans (at_v0 p _)
theorem at_v2 (p : Inp) (i : S1x8192x1024.Idx) : val_main_v2 (F := Ideal) (X0 p) i = ((p.Z (i 2).val (i 1).val : ℝ) : EReal) :=
  (val_main_v2_apply (X0 p) i).trans (at_v1 p _)
theorem at_v3 (p : Inp) (i : S512x8192.Idx) : val_main_v3 (F := Ideal) (X1 p) i = ((p.Y (i 0).val (i 1).val : ℝ) : EReal) :=
  rfl
theorem at_v4 (p : Inp) (i : S8192x512.Idx) : val_main_v4 (F := Ideal) (X1 p) i = ((p.Y (i 1).val (i 0).val : ℝ) : EReal) :=
  (val_main_v4_apply (X1 p) i).trans (at_v3 p _)
theorem at_v5 (p : Inp) (i : S1x8192x512.Idx) : val_main_v5 (F := Ideal) (X1 p) i = ((p.Y (i 2).val (i 1).val : ℝ) : EReal) :=
  (val_main_v5_apply (X1 p) i).trans (at_v4 p _)
theorem at_v6 (p : Inp) (i : S512.Idx) : val_main_v6 (F := Ideal) (X2 p) i = ((p.LG (i 0).val : ℝ) : EReal) :=
  c_eq (φ := .f32) (u := p.LG (((i 0).val) % 512)) ((val_main_v6_apply (X2 p) i)) (by have h : (i 0).val < 512 := (i 0).isLt; rw [Nat.mod_eq_of_lt h])
theorem at_v7 (p : Inp) (i : S512.Idx) : val_main_v7 (F := Ideal) (X3 p) i = ((p.LB (i 0).val : ℝ) : EReal) :=
  c_eq (φ := .f32) (u := p.LB (((i 0).val) % 512)) ((val_main_v7_apply (X3 p) i)) (by have h : (i 0).val < 512 := (i 0).isLt; rw [Nat.mod_eq_of_lt h])
theorem at_v8 (p : Inp) (i : S1x8192x1024.Idx) : val_main_v8 (F := Ideal) (X0 p) i = (((p.Z (i 2).val (i 1).val) * (p.Z (i 2).val (i 1).val) : ℝ) : EReal) :=
  (val_main_v8_apply (X0 p) i).trans (c_mul (at_v2 p i) (at_v2 p i))
theorem at_v9 (p : Inp) (i : S1x8192x1024.Idx) : val_main_v9 (F := Ideal) (X0 p) i = ((((p.Z (i 2).val (i 1).val) * (p.Z (i 2).val (i 1).val)) * (p.Z (i 2).val (i 1).val) : ℝ) : EReal) :=
  (val_main_v9_apply (X0 p) i).trans (c_mul (at_v8 p i) (at_v2 p i))
theorem at_v10 (p : Inp) (i : S1x8192x1024.Idx) : val_main_v10 (F := Ideal) (X0 p) i = (((p.Z (i 2).val (i 1).val) * (p.Z (i 2).val (i 1).val) : ℝ) : EReal) :=
  (val_main_v10_apply (X0 p) i).trans (c_mul (at_v2 p i) (at_v2 p i))
theorem at_cst (p : Inp) (i : S_.Idx) : val_main_cst (F := Ideal) i = ((3 : ℝ) : EReal) := ofBits_three
theorem at_v11 (p : Inp) (i : S1x8192x1024.Idx) : val_main_v11 (F := Ideal) i = ((3 : ℝ) : EReal) :=
  (val_main_v11_apply i).trans (at_cst p _)
theorem at_v12 (p : Inp) (i : S1x8192x1024.Idx) : val_main_v12 (F := Ideal) (X0 p) i = ((3 * ((p.Z (i 2).val (i 1).val) * (p.Z (i 2).val (i 1).val)) : ℝ) : EReal) :=
  (val_main_v12_apply (X0 p) i).trans (c_mul (at_v11 p i) (at_v10 p i))
theorem at_cst_0 (p : Inp) (i : S_.Idx) : val_main_cst_0 (F := Ideal) i = ((44715 : ℝ) : EReal) := ofBits_44715
theorem at_v13 (p : Inp) (i : S1x8192x1024.Idx) : val_main_v13 (F := Ideal) i = ((44715 : ℝ) : EReal) :=
  (val_main_v13_apply i).trans (at_cst_0 p _)
theorem at_v14 (p : Inp) (i : S1x8192x1024.Idx) : val_main_v14 (F := Ideal) (X0 p) i = ((44715 * (((p.Z (i 2).val (i 1).val) * (p.Z (i 2).val (i 1).val)) * (p.Z (i 2).val (i 1).val)) : ℝ) : EReal) :=
  (val_main_v14_apply (X0 p) i).trans (c_mul (at_v13 p i) (at_v9 p i))
theorem at_cst_1 (p : Inp) (i : S_.Idx) : val_main_cst_1 (F := Ideal) i = ((1000000 : ℝ) : EReal) := ofBits_million
theorem at_v15 (p : Inp) (i : S1x8192x1024.Idx) : val_main_v15 (F := Ideal) i = ((1000000 : ℝ) : EReal) :=
  (val_main_v15_apply i).trans (at_cst_1 p _)
theorem at_v16 (p : Inp) (i : S1x8192x1024.Idx) : val_main_v16 (F := Ideal) (X0 p) i = (((44715 * (((p.Z (i 2).val (i 1).val) * (p.Z (i 2).val (i 1).val)) * (p.Z (i 2).val (i 1).val))) / 1000000 : ℝ) : EReal) :=
  (val_main_v16_apply (X0 p) i).trans (c_div (at_v14 p i) (at_v15 p i) (by norm_num))
theorem at_v17 (p : Inp) (i : S1x8192x1024.Idx) : val_main_v17 (F := Ideal) (X0 p) i = (((p.Z (i 2).val (i 1).val) + ((44715 * (((p.Z (i 2).val (i 1).val) * (p.Z (i 2).val (i 1).val)) * (p.Z (i 2).val (i 1).val))) / 1000000) : ℝ) : EReal) :=
  (val_main_v17_apply (X0 p) i).trans (c_add (at_v2 p i) (at_v16 p i))
theorem at_cst_2 (p : Inp) (i : S_.Idx) : val_main_cst_2 (F := Ideal) i = ((cg : ℝ) : EReal) := ofBits_cg
theorem at_v18 (p : Inp) (i : S1x8192x1024.Idx) : val_main_v18 (F := Ideal) i = ((cg : ℝ) : EReal) :=
  (val_main_v18_apply i).trans (at_cst_2 p _)
theorem at_v19 (p : Inp) (i : S1x8192x1024.Idx) : val_main_v19 (F := Ideal) (X0 p) i = ((cg * ((p.Z (i 2).val (i 1).val) + ((44715 * (((p.Z (i 2).val (i 1).val) * (p.Z (i 2).val (i 1).val)) * (p.Z (i 2).val (i 1).val))) / 1000000)) : ℝ) : EReal) :=
  (val_main_v19_apply (X0 p) i).trans (c_mul (at_v18 p i) (at_v17 p i))
theorem at_v20 (p : Inp) (i : S1x8192x1024.Idx) : val_main_v20 (F := Ideal) (X0 p) i = ((th (p.Z (i 2).val (i 1).val) : ℝ) : EReal) :=
  c_eq (φ := .f32) (u := Real.tanh (cg * ((p.Z (i 2).val (i 1).val) + ((44715 * (((p.Z (i 2).val (i 1).val) * (p.Z (i 2).val (i 1).val)) * (p.Z (i 2).val (i 1).val))) / 1000000)))) ((val_main_v20_apply (X0 p) i).trans (c_tanh (at_v19 p i))) (by unfold th ca; congr 1; ring)
theorem at_cst_3 (p : Inp) (i : S_.Idx) : val_main_cst_3 (F := Ideal) i = ((1 : ℝ) : EReal) := ofBits_one
theorem at_v21 (p : Inp) (i : S1x8192x1024.Idx) : val_main_v21 (F := Ideal) i = ((1 : ℝ) : EReal) :=
  (val_main_v21_apply i).trans (at_cst_3 p _)
theorem at_v22 (p : Inp) (i : S1x8192x1024.Idx) : val_main_v22 (F := Ideal) (X0 p) i = ((1 + (th (p.Z (i 2).val (i 1).val)) : ℝ) : EReal) :=
  (val_main_v22_apply (X0 p) i).trans (c_add (at_v21 p i) (at_v20 p i))
theorem at_cst_4 (p : Inp) (i : S_.Idx) : val_main_cst_4 (F := Ideal) i = ((1 : ℝ) : EReal) := ofBits_one
theorem at_v23 (p : Inp) (i : S1x8192x1024.Idx) : val_main_v23 (F := Ideal) i = ((1 : ℝ) : EReal) :=
  (val_main_v23_apply i).trans (at_cst_4 p _)
theorem at_v24 (p : Inp) (i : S1x8192x1024.Idx) : val_main_v24 (F := Ideal) (X0 p) i = ((1 - (th (p.Z (i 2).val (i 1).val)) : ℝ) : EReal) :=
  (val_main_v24_apply (X0 p) i).trans (c_sub (at_v23 p i) (at_v20 p i))
theorem at_v25 (p : Inp) (i : S1x8192x1024.Idx) : val_main_v25 (F := Ideal) (X0 p) i = (((1 + (th (p.Z (i 2).val (i 1).val))) * (1 - (th (p.Z (i 2).val (i 1).val))) : ℝ) : EReal) :=
  (val_main_v25_apply (X0 p) i).trans (c_mul (at_v22 p i) (at_v24 p i))
theorem at_cst_5 (p : Inp) (i : S_.Idx) : val_main_cst_5 (F := Ideal) i = ((1 : ℝ) : EReal) := ofBits_one
theorem at_v26 (p : Inp) (i : S1x8192x1024.Idx) : val_main_v26 (F := Ideal) i = ((1 : ℝ) : EReal) :=
  (val_main_v26_apply i).trans (at_cst_5 p _)
theorem at_v27 (p : Inp) (i : S1x8192x1024.Idx) : val_main_v27 (F := Ideal) (X0 p) i = ((1 + (th (p.Z (i 2).val (i 1).val)) : ℝ) : EReal) :=
  (val_main_v27_apply (X0 p) i).trans (c_add (at_v26 p i) (at_v20 p i))
theorem at_cst_6 (p : Inp) (i : S_.Idx) : val_main_cst_6 (F := Ideal) i = (((1 / 2) : ℝ) : EReal) := ofBits_half
theorem at_v28 (p : Inp) (i : S1x8192x1024.Idx) : val_main_v28 (F := Ideal) i = (((1 / 2) : ℝ) : EReal) :=
  (val_main_v28_apply i).trans (at_cst_6 p _)
theorem at_v29 (p : Inp) (i : S1x8192x1024.Idx) : val_main_v29 (F := Ideal) (X0 p) i = ((((1 / 2)) * (1 + (th (p.Z (i 2).val (i 1).val))) : ℝ) : EReal) :=
  (val_main_v29_apply (X0 p) i).trans (c_mul (at_v28 p i) (at_v27 p i))
theorem at_v30 (p : Inp) (i : S1x8192x1024.Idx) : val_main_v30 (F := Ideal) (X0 p) i = ((gel (p.Z (i 2).val (i 1).val) : ℝ) : EReal) :=
  c_eq (φ := .f32) (u := (p.Z (i 2).val (i 1).val) * (((1 / 2)) * (1 + (th (p.Z (i 2).val (i 1).val))))) ((val_main_v30_apply (X0 p) i).trans (c_mul (at_v2 p i) (at_v29 p i))) (by unfold gel th; ring)
theorem at_v31 (p : Inp) (i : S1x8192x512.Idx) : val_main_v31 (F := Ideal) (X0 p) i = ((gel (p.Z (i 2).val (i 1).val) : ℝ) : EReal) :=
  (val_main_v31_apply (X0 p) i).trans (at_v30 p _)
theorem at_v32 (p : Inp) (i : S1x8192x512.Idx) : val_main_v32 (F := Ideal) (X0 p) i = ((gel (p.Z (512 + (i 2).val) (i 1).val) : ℝ) : EReal) :=
  (val_main_v32_apply (X0 p) i).trans (at_v30 p _)
theorem at_cst_7 (p : Inp) (i : S_.Idx) : val_main_cst_7 (F := Ideal) i = ((0 : ℝ) : EReal) := ofBits_zero
theorem at_v33 (p : Inp) (i : S1x8192.Idx) : val_main_v33 (F := Ideal) (X0 p) i = ((∑ k33 ∈ range 512, (gel (p.Z (512 + k33) (i 1).val)) : ℝ) : EReal) :=
  (val_main_v33_apply (X0 p) i).trans (c_sum 512 (at_cst_7 p _) (fun k33 => (gel (p.Z (512 + k33) (i 1).val))) _ fun k => at_v32 p _)
theorem at_v34 (p : Inp) (i : S1x8192x1.Idx) : val_main_v34 (F := Ideal) (X0 p) i = ((∑ k33 ∈ range 512, (gel (p.Z (512 + k33) (i 1).val)) : ℝ) : EReal) :=
  (val_main_v34_apply (X0 p) i).trans (at_v33 p _)
theorem at_cst_8 (p : Inp) (i : S_.Idx) : val_main_cst_8 (F := Ideal) i = ((512 : ℝ) : EReal) := ofBits_512
theorem at_v35 (p : Inp) (i : S1x8192x1.Idx) : val_main_v35 (F := Ideal) i = ((512 : ℝ) : EReal) :=
  (val_main_v35_apply i).trans (at_cst_8 p _)
theorem at_v36 (p : Inp) (i : S1x8192x1.Idx) : val_main_v36 (F := Ideal) (X0 p) i = (((∑ k33 ∈ range 512, (gel (p.Z (512 + k33) (i 1).val))) / 512 : ℝ) : EReal) :=
  (val_main_v36_apply (X0 p) i).trans (c_div (at_v34 p i) (at_v35 p i) (by norm_num))
theorem at_v37 (p : Inp) (i : S1x8192x512.Idx) : val_main_v37 (F := Ideal) (X0 p) i = (((∑ k33 ∈ range 512, (gel (p.Z (512 + k33) (i 1).val))) / 512 : ℝ) : EReal) :=
  (val_main_v37_apply (X0 p) i).trans (at_v36 p _)
theorem at_v38 (p : Inp) (i : S1x8192x512.Idx) : val_main_v38 (F := Ideal) (X0 p) i = ((xc p (i 2).val (i 1).val : ℝ) : EReal) :=
  c_eq (φ := .f32) (u := (gel (p.Z (512 + (i 2).val) (i 1).val)) - ((∑ k33 ∈ range 512, (gel (p.Z (512 + k33) (i 1).val))) / 512)) ((val_main_v38_apply (X0 p) i).trans (c_sub (at_v32 p i) (at_v37 p i))) (rfl)
theorem at_v39 (p : Inp) (i : S1x8192x512.Idx) : val_main_v39 (F := Ideal) (X0 p) i = (((xc p (i 2).val (i 1).val) * (xc p (i 2).val (i 1).val) : ℝ) : EReal) :=
  (val_main_v39_apply (X0 p) i).trans (c_mul (at_v38 p i) (at_v38 p i))
theorem at_cst_9 (p : Inp) (i : S_.Idx) : val_main_cst_9 (F := Ideal) i = ((2 : ℝ) : EReal) := ofBits_two
theorem at_v40 (p : Inp) (i : S1x8192x512.Idx) : val_main_v40 (F := Ideal) i = ((2 : ℝ) : EReal) :=
  (val_main_v40_apply i).trans (at_cst_9 p _)
theorem at_v41 (p : Inp) (i : S1x8192x512.Idx) : val_main_v41 (F := Ideal) (X0 p) i = ((2 * (xc p (i 2).val (i 1).val) : ℝ) : EReal) :=
  (val_main_v41_apply (X0 p) i).trans (c_mul (at_v40 p i) (at_v38 p i))
theorem at_cst_10 (p : Inp) (i : S_.Idx) : val_main_cst_10 (F := Ideal) i = ((0 : ℝ) : EReal) := ofBits_zero
theorem at_v42 (p : Inp) (i : S1x8192.Idx) : val_main_v42 (F := Ideal) (X0 p) i = ((∑ k42 ∈ range 512, ((xc p k42 (i 1).val) * (xc p k42 (i 1).val)) : ℝ) : EReal) :=
  (val_main_v42_apply (X0 p) i).trans (c_sum 512 (at_cst_10 p _) (fun k42 => ((xc p k42 (i 1).val) * (xc p k42 (i 1).val))) _ fun k => at_v39 p _)
theorem at_v43 (p : Inp) (i : S1x8192x1.Idx) : val_main_v43 (F := Ideal) (X0 p) i = ((∑ k42 ∈ range 512, ((xc p k42 (i 1).val) * (xc p k42 (i 1).val)) : ℝ) : EReal) :=
  (val_main_v43_apply (X0 p) i).trans (at_v42 p _)
theorem at_cst_11 (p : Inp) (i : S_.Idx) : val_main_cst_11 (F := Ideal) i = ((512 : ℝ) : EReal) := ofBits_512
theorem at_v44 (p : Inp) (i : S1x8192x1.Idx) : val_main_v44 (F := Ideal) i = ((512 : ℝ) : EReal) :=
  (val_main_v44_apply i).trans (at_cst_11 p _)
theorem at_v45 (p : Inp) (i : S1x8192x1.Idx) : val_main_v45 (F := Ideal) (X0 p) i = ((var p (i 1).val : ℝ) : EReal) :=
  c_eq (φ := .f32) (u := (∑ k42 ∈ range 512, ((xc p k42 (i 1).val) * (xc p k42 (i 1).val))) / 512) ((val_main_v45_apply (X0 p) i).trans (c_div (at_v43 p i) (at_v44 p i) (by norm_num))) (rfl)
theorem at_v46 (p : Inp) (i : S1x8192x512.Idx) : val_main_v46 (F := Ideal) (X0 p) i = (((∑ k33 ∈ range 512, (gel (p.Z (512 + k33) (i 1).val))) / 512 : ℝ) : EReal) :=
  (val_main_v46_apply (X0 p) i).trans (at_v36 p _)
theorem at_v47 (p : Inp) (i : S1x8192x512.Idx) : val_main_v47 (F := Ideal) (X0 p) i = ((xc p (i 2).val (i 1).val : ℝ) : EReal) :=
  c_eq (φ := .f32) (u := (gel (p.Z (512 + (i 2).val) (i 1).val)) - ((∑ k33 ∈ range 512, (gel (p.Z (512 + k33) (i 1).val))) / 512)) ((val_main_v47_apply (X0 p) i).trans (c_sub (at_v32 p i) (at_v46 p i))) (rfl)
theorem at_cst_12 (p : Inp) (i : S_.Idx) : val_main_cst_12 (F := Ideal) i = ((eps : ℝ) : EReal) := ofBits_eps
theorem at_v48 (p : Inp) (i : S1x8192x1.Idx) : val_main_v48 (F := Ideal) i = ((eps : ℝ) : EReal) :=
  (val_main_v48_apply i).trans (at_cst_12 p _)
theorem at_v49 (p : Inp) (i : S1x8192x1.Idx) : val_main_v49 (F := Ideal) (X0 p) i = (((var p (i 1).val) + eps : ℝ) : EReal) :=
  (val_main_v49_apply (X0 p) i).trans (c_add (at_v45 p i) (at_v48 p i))
theorem at_v50 (p : Inp) (i : S1x8192x1.Idx) : val_main_v50 (F := Ideal) (X0 p) i = ((rs p (i 1).val : ℝ) : EReal) :=
  c_eq (φ := .f32) (u := (√((var p (i 1).val) + eps))⁻¹) ((val_main_v50_apply (X0 p) i).trans (c_rsqrt (at_v49 p i) (var_pos p _))) (rfl)
theorem at_v51 (p : Inp) (i : S1x8192x1.Idx) : val_main_v51 (F := Ideal) (X0 p) i = (((rs p (i 1).val) / ((var p (i 1).val) + eps) : ℝ) : EReal) :=
  (val_main_v51_apply (X0 p) i).trans (c_div (at_v50 p i) (at_v49 p i) (var_pos p _).ne')
theorem at_cst_13 (p : Inp) (i : S_.Idx) : val_main_cst_13 (F := Ideal) i = (((-(1 / 2)) : ℝ) : EReal) := ofBits_nhalf
theorem at_v52 (p : Inp) (i : S1x8192x1.Idx) : val_main_v52 (F := Ideal) i = (((-(1 / 2)) : ℝ) : EReal) :=
  (val_main_v52_apply i).trans (at_cst_13 p _)
theorem at_v53 (p : Inp) (i : S1x8192x1.Idx) : val_main_v53 (F := Ideal) (X0 p) i = ((((-(1 / 2))) * ((rs p (i 1).val) / ((var p (i 1).val) + eps)) : ℝ) : EReal) :=
  (val_main_v53_apply (X0 p) i).trans (c_mul (at_v52 p i) (at_v51 p i))
theorem at_v54 (p : Inp) (i : S1x8192x512.Idx) : val_main_v54 (F := Ideal) (X0 p) i = ((rs p (i 1).val : ℝ) : EReal) :=
  (val_main_v54_apply (X0 p) i).trans (at_v50 p _)
theorem at_v55 (p : Inp) (i : S1x8192x512.Idx) : val_main_v55 (F := Ideal) (X0 p) i = ((xh p (i 2).val (i 1).val : ℝ) : EReal) :=
  c_eq (φ := .f32) (u := (xc p (i 2).val (i 1).val) * (rs p (i 1).val)) ((val_main_v55_apply (X0 p) i).trans (c_mul (at_v47 p i) (at_v54 p i))) (rfl)
theorem at_v56 (p : Inp) (i : S1x1x512.Idx) : val_main_v56 (F := Ideal) (X2 p) i = ((p.LG (i 2).val : ℝ) : EReal) :=
  (val_main_v56_apply (X2 p) i).trans (at_v6 p _)
theorem at_v57 (p : Inp) (i : S1x8192x512.Idx) : val_main_v57 (F := Ideal) (X2 p) i = ((p.LG (i 2).val : ℝ) : EReal) :=
  (val_main_v57_apply (X2 p) i).trans (at_v56 p _)
theorem at_v58 (p : Inp) (i : S1x8192x512.Idx) : val_main_v58 (F := Ideal) (X0 p) (X2 p) i = (((xh p (i 2).val (i 1).val) * (p.LG (i 2).val) : ℝ) : EReal) :=
  (val_main_v58_apply (X0 p) (X2 p) i).trans (c_mul (at_v55 p i) (at_v57 p i))
theorem at_v59 (p : Inp) (i : S1x1x512.Idx) : val_main_v59 (F := Ideal) (X3 p) i = ((p.LB (i 2).val : ℝ) : EReal) :=
  (val_main_v59_apply (X3 p) i).trans (at_v7 p _)
theorem at_v60 (p : Inp) (i : S1x8192x512.Idx) : val_main_v60 (F := Ideal) (X3 p) i = ((p.LB (i 2).val : ℝ) : EReal) :=
  (val_main_v60_apply (X3 p) i).trans (at_v59 p _)
theorem at_v61 (p : Inp) (i : S1x8192x512.Idx) : val_main_v61 (F := Ideal) (X0 p) (X2 p) (X3 p) i = ((vn p (i 2).val (i 1).val : ℝ) : EReal) :=
  c_eq (φ := .f32) (u := ((xh p (i 2).val (i 1).val) * (p.LG (i 2).val)) + (p.LB (i 2).val)) ((val_main_v61_apply (X0 p) (X2 p) (X3 p) i).trans (c_add (at_v58 p i) (at_v60 p i))) (rfl)

end Cert.RefReal

end
-- ==== Proof.Gmlp.RefB.lean ====
/- The reference token mixing and its gradients at real arguments. -/
module

public import proofs.«01_k».proof.Proof.Gmlp.RefA

@[expose] public section

set_option maxRecDepth 16384

noncomputable section

namespace Cert.RefReal

open Cert.ReferenceIdeal Cert.ReferenceIdeal.Read Idealize.ShloMosaic Cert.Lift Cert.Model Finset

theorem at_v62 (p : Inp) (i : S1x64x128x8x64.Idx) : val_main_v62 (F := Ideal) (X0 p) (X2 p) (X3 p) i = ((vn p (64 * (i 3).val + (i 4).val) (128 * (i 1).val + (i 2).val) : ℝ) : EReal) :=
  c_eq (φ := .f32) (u := vn p ((((((i 0).val * 64 + (i 1).val) * 128 + (i 2).val) * 8 + (i 3).val) * 64 + (i 4).val) % 512) ((((((i 0).val * 64 + (i 1).val) * 128 + (i 2).val) * 8 + (i 3).val) * 64 + (i 4).val) / 512 % 8192)) ((val_main_v62_apply (X0 p) (X2 p) (X3 p) i).trans (at_v61 p _)) (by
    have h0 : (i 0).val < 1 := (i 0).isLt; have h1 : (i 1).val < 64 := (i 1).isLt; have h2 : (i 2).val < 128 := (i 2).isLt; have h3 : (i 3).val < 8 := (i 3).isLt; have h4 : (i 4).val < 64 := (i 4).isLt
    rw [show ((((((i 0).val * 64 + (i 1).val) * 128 + (i 2).val) * 8 + (i 3).val) * 64 + (i 4).val) / 512 % 8192) = 128 * (i 1).val + (i 2).val by omega, show ((((((i 0).val * 64 + (i 1).val) * 128 + (i 2).val) * 8 + (i 3).val) * 64 + (i 4).val) % 512) = 64 * (i 3).val + (i 4).val by omega])
/-- The lower triangle of a block. -/
theorem at_v64 (i : S128x128.Idx) : val_main_v64 (F := Ideal) i = if (i 1).val ≤ (i 0).val then 1#1 else 0#1 := by
  rw [val_main_v64_apply, val_main_v63_apply, val_main_call0_v5_apply, val_main_call0_v4_apply, val_main_call0_v2_apply, val_main_call0_v1_apply]
  exact tril_word ⟨(i 0).val, (i 0).isLt⟩ ⟨(i 1).val, (i 1).isLt⟩
theorem at_v66_1 (i : S8x128x128.Idx) : val_main_v66_1 (F := Ideal) i = if (i 2).val ≤ (i 1).val then 1#1 else 0#1 :=
  (val_main_v66_1_apply i).trans ((val_main_v65_apply _).trans (at_v64 _))
theorem at_call1_v2 (i : S8x128x128.Idx) : val_main_call1_v2 (F := Ideal) i = ((0 : ℝ) : EReal) := by
  rw [val_main_call1_v2_apply, val_main_call1_v0_apply, val_main_c_14_apply]
  show (((0#32).toInt : ℝ) : EReal) = _
  simp
theorem at_v66_0 (p : Inp) (i : S8x128x128.Idx) : val_main_v66_0 (F := Ideal) (X4 p) i = ((wm p (i 0).val (i 1).val (i 2).val : ℝ) : EReal) := by
  rw [val_main_v66_0_apply, at_v66_1, at_call1_v2]
  unfold wm
  by_cases h : (i 2).val ≤ (i 1).val
  · rw [if_pos h, if_pos h]; rfl
  · rw [if_neg h, if_neg h]; rfl
theorem at_v67 (p : Inp) (i : S8x1x64x64x128.Idx) : val_main_v67 (F := Ideal) (X0 p) (X2 p) (X3 p) (X4 p) i = ((∑ k67 ∈ range 128, (vn p (64 * (i 0).val + (i 3).val) (128 * (i 2).val + k67)) * (wm p (i 0).val (i 4).val k67) : ℝ) : EReal) :=
  (val_main_v67_apply (X0 p) (X2 p) (X3 p) (X4 p) i).trans (c_dot 128 (fun k67 => (vn p (64 * (i 0).val + (i 3).val) (128 * (i 2).val + k67))) (fun k67 => (wm p (i 0).val (i 4).val k67)) _ _ (fun k => at_v62 p _) fun k => at_v66_0 p _)
theorem at_v68 (p : Inp) (i : S1x64x128x8x64.Idx) : val_main_v68 (F := Ideal) (X0 p) (X2 p) (X3 p) (X4 p) i = ((∑ k67 ∈ range 128, (vn p (64 * (i 3).val + (i 4).val) (128 * (i 1).val + k67)) * (wm p (i 3).val (i 2).val k67) : ℝ) : EReal) :=
  (val_main_v68_apply (X0 p) (X2 p) (X3 p) (X4 p) i).trans (at_v67 p _)
theorem at_v69 (p : Inp) (i : S128x8.Idx) : val_main_v69 (F := Ideal) (X5 p) i = ((p.B (i 1).val (i 0).val : ℝ) : EReal) :=
  (val_main_v69_apply (X5 p) i)
theorem at_v70 (p : Inp) (i : S1x1x128x8x1.Idx) : val_main_v70 (F := Ideal) (X5 p) i = ((p.B (i 3).val (i 2).val : ℝ) : EReal) :=
  (val_main_v70_apply (X5 p) i).trans (at_v69 p _)
theorem at_v71 (p : Inp) (i : S1x64x128x8x64.Idx) : val_main_v71 (F := Ideal) (X5 p) i = ((p.B (i 3).val (i 2).val : ℝ) : EReal) :=
  (val_main_v71_apply (X5 p) i).trans (at_v70 p _)
theorem at_v72 (p : Inp) (i : S1x64x128x8x64.Idx) : val_main_v72 (F := Ideal) (X0 p) (X2 p) (X3 p) (X4 p) (X5 p) i = (((∑ k67 ∈ range 128, (vn p (64 * (i 3).val + (i 4).val) (128 * (i 1).val + k67)) * (wm p (i 3).val (i 2).val k67)) + (p.B (i 3).val (i 2).val) : ℝ) : EReal) :=
  (val_main_v72_apply (X0 p) (X2 p) (X3 p) (X4 p) (X5 p) i).trans (c_add (at_v68 p i) (at_v71 p i))
theorem at_v73 (p : Inp) (i : S1x8192x512.Idx) : val_main_v73 (F := Ideal) (X0 p) (X2 p) (X3 p) (X4 p) (X5 p) i = ((mix p (i 2).val (i 1).val : ℝ) : EReal) :=
  c_eq (φ := .f32) (u := (∑ k67 ∈ range 128, (vn p (64 * ((((i 0).val * 8192 + (i 1).val) * 512 + (i 2).val) / 64 % 8) + ((((i 0).val * 8192 + (i 1).val) * 512 + (i 2).val) % 64)) (128 * ((((i 0).val * 8192 + (i 1).val) * 512 + (i 2).val) / 65536 % 64) + k67)) * (wm p ((((i 0).val * 8192 + (i 1).val) * 512 + (i 2).val) / 64 % 8) ((((i 0).val * 8192 + (i 1).val) * 512 + (i 2).val) / 512 % 128) k67)) + (p.B ((((i 0).val * 8192 + (i 1).val) * 512 + (i 2).val) / 64 % 8) ((((i 0).val * 8192 + (i 1).val) * 512 + (i 2).val) / 512 % 128))) ((val_main_v73_apply (X0 p) (X2 p) (X3 p) (X4 p) (X5 p) i).trans (at_v72 p _)) (by
    have h0 : (i 0).val < 1 := (i 0).isLt; have h1 : (i 1).val < 8192 := (i 1).isLt; have h2 : (i 2).val < 512 := (i 2).isLt
    rw [show ((((i 0).val * 8192 + (i 1).val) * 512 + (i 2).val) / 65536 % 64) = (i 1).val / 128 by omega, show ((((i 0).val * 8192 + (i 1).val) * 512 + (i 2).val) / 512 % 128) = (i 1).val % 128 by omega, show ((((i 0).val * 8192 + (i 1).val) * 512 + (i 2).val) / 64 % 8) = (i 2).val / 64 by omega, show ((((i 0).val * 8192 + (i 1).val) * 512 + (i 2).val) % 64) = (i 2).val % 64 by omega, show 64 * ((i 2).val / 64) + (i 2).val % 64 = (i 2).val by omega]
    rfl)
theorem at_v75 (p : Inp) (i : S1x8192x512.Idx) : val_main_v75 (F := Ideal) (X0 p) (X1 p) i = (((gel (p.Z (i 2).val (i 1).val)) * (p.Y (i 2).val (i 1).val) : ℝ) : EReal) :=
  (val_main_v75_apply (X0 p) (X1 p) i).trans (c_mul (at_v31 p i) (at_v5 p i))
theorem at_v76 (p : Inp) (i : S1x8192x512.Idx) : val_main_v76 (F := Ideal) (X0 p) (X1 p) (X2 p) (X3 p) (X4 p) (X5 p) i = (((p.Y (i 2).val (i 1).val) * (mix p (i 2).val (i 1).val) : ℝ) : EReal) :=
  (val_main_v76_apply (X0 p) (X1 p) (X2 p) (X3 p) (X4 p) (X5 p) i).trans (c_mul (at_v5 p i) (at_v73 p i))
theorem at_v77 (p : Inp) (i : S1x64x128x8x64.Idx) : val_main_v77 (F := Ideal) (X0 p) (X1 p) i = ((dm p (64 * (i 3).val + (i 4).val) (128 * (i 1).val + (i 2).val) : ℝ) : EReal) :=
  c_eq (φ := .f32) (u := (gel (p.Z ((((((i 0).val * 64 + (i 1).val) * 128 + (i 2).val) * 8 + (i 3).val) * 64 + (i 4).val) % 512) ((((((i 0).val * 64 + (i 1).val) * 128 + (i 2).val) * 8 + (i 3).val) * 64 + (i 4).val) / 512 % 8192))) * (p.Y ((((((i 0).val * 64 + (i 1).val) * 128 + (i 2).val) * 8 + (i 3).val) * 64 + (i 4).val) % 512) ((((((i 0).val * 64 + (i 1).val) * 128 + (i 2).val) * 8 + (i 3).val) * 64 + (i 4).val) / 512 % 8192))) ((val_main_v77_apply (X0 p) (X1 p) i).trans (at_v75 p _)) (by
    have h0 : (i 0).val < 1 := (i 0).isLt; have h1 : (i 1).val < 64 := (i 1).isLt; have h2 : (i 2).val < 128 := (i 2).isLt; have h3 : (i 3).val < 8 := (i 3).isLt; have h4 : (i 4).val < 64 := (i 4).isLt
    rw [show ((((((i 0).val * 64 + (i 1).val) * 128 + (i 2).val) * 8 + (i 3).val) * 64 + (i 4).val) / 512 % 8192) = 128 * (i 1).val + (i 2).val by omega, show ((((((i 0).val * 64 + (i 1).val) * 128 + (i 2).val) * 8 + (i 3).val) * 64 + (i 4).val) % 512) = 64 * (i 3).val + (i 4).val by omega]
    exact mul_comm _ _)
theorem at_cst_15 (p : Inp) (i : S_.Idx) : val_main_cst_15 (F := Ideal) i = ((0 : ℝ) : EReal) := ofBits_zero
/-- The elements that the sum over chunks and channels takes. -/
def e78 (i : S1x128x8.Idx) (k : Fin 64 × Fin 64) : S1x64x128x8x64.Idx := fun a => match a with
  | ⟨0, _⟩ => ⟨0, Nat.one_pos⟩
  | ⟨1, _⟩ => ⟨k.1.val, k.1.isLt⟩
  | ⟨2, _⟩ => ⟨(i 1).val, (i 1).isLt⟩
  | ⟨3, _⟩ => ⟨(i 2).val, (i 2).isLt⟩
  | ⟨4, _⟩ => ⟨k.2.val, k.2.isLt⟩
theorem e78_inj (i : S1x128x8.Idx) : Function.Injective (e78 i) := fun k k' h =>
  Prod.ext (Fin.ext (congrArg Fin.val (congrFun h 1))) (Fin.ext (congrArg Fin.val (congrFun h 4)))
theorem e78_mem (i : S1x128x8.Idx) (w : S1x64x128x8x64.Idx) : Cert.ReferenceIdeal.Gen.reducesTo_S1x64x128x8x64_S1x128x8_d1_4.drop w = i ↔ ∃ k, e78 i k = w := by
  have d0 : (Cert.ReferenceIdeal.Gen.reducesTo_S1x64x128x8x64_S1x128x8_d1_4.drop w 0 : ℕ) = w 0 := Shape.ReducesTo.drop_apply_val _ w 0
  have d1 : (Cert.ReferenceIdeal.Gen.reducesTo_S1x64x128x8x64_S1x128x8_d1_4.drop w 1 : ℕ) = w 2 := Shape.ReducesTo.drop_apply_val _ w 1
  have d2 : (Cert.ReferenceIdeal.Gen.reducesTo_S1x64x128x8x64_S1x128x8_d1_4.drop w 2 : ℕ) = w 3 := Shape.ReducesTo.drop_apply_val _ w 2
  have w0 : (w 0).val < 1 := (w 0).isLt
  constructor
  · rintro rfl
    refine ⟨(⟨(w 1).val, (w 1).isLt⟩, ⟨(w 4).val, (w 4).isLt⟩), funext fun a => Fin.ext ?_⟩
    match a with
    | ⟨0, _⟩ => show 0 = (w 0).val; omega
    | ⟨1, _⟩ => rfl
    | ⟨2, _⟩ => exact d1
    | ⟨3, _⟩ => exact d2
    | ⟨4, _⟩ => rfl
  · rintro ⟨k, rfl⟩
    refine funext fun a => Fin.ext ?_
    match a with
    | ⟨0, _⟩ => have : (i 0).val < 1 := (i 0).isLt; exact d0.trans (show 0 = (i 0).val by omega)
    | ⟨1, _⟩ => exact d1
    | ⟨2, _⟩ => exact d2
theorem at_v78 (p : Inp) (i : S1x128x8.Idx) : val_main_v78 (F := Ideal) (X0 p) (X1 p) i = ((db p 64 (i 2).val (i 1).val : ℝ) : EReal) := by
  unfold val_main_v78
  generalize hy : val_main_v77 (F := Ideal) (X0 p) (X1 p) = y
  simp only [Host.reduceAdd, Ideal.hostReduceAdd_def]
  rw [reduce_list _ _ _ i (e78 i) (e78_inj i) (e78_mem i), Fintype.sum_prod_type, at_cst_15 p _]
  refine (c_sum 64 EReal.coe_zero (fun k => ∑ c ∈ range 64, dm p (64 * (i 2).val + c) (128 * k + (i 1).val)) _ fun k => ?_).trans rfl
  rw [← sum_fin_coe 64 fun c => dm p (64 * (i 2).val + c) (128 * k.val + (i 1).val)]
  subst hy
  exact Finset.sum_congr rfl fun c _ => at_v77 p _
theorem at_v79 (p : Inp) (i : S1x1x128x8x1.Idx) : val_main_v79 (F := Ideal) (X0 p) (X1 p) i = ((db p 64 (i 3).val (i 2).val : ℝ) : EReal) :=
  c_eq (φ := .f32) (u := db p 64 ((((((i 0).val * 1 + (i 1).val) * 128 + (i 2).val) * 8 + (i 3).val) * 1 + (i 4).val) % 8) ((((((i 0).val * 1 + (i 1).val) * 128 + (i 2).val) * 8 + (i 3).val) * 1 + (i 4).val) / 8 % 128)) ((val_main_v79_apply (X0 p) (X1 p) i).trans (at_v78 p _)) (by
    have h0 : (i 0).val < 1 := (i 0).isLt; have h1 : (i 1).val < 1 := (i 1).isLt; have h2 : (i 2).val < 128 := (i 2).isLt; have h3 : (i 3).val < 8 := (i 3).isLt; have h4 : (i 4).val < 1 := (i 4).isLt
    rw [show ((((((i 0).val * 1 + (i 1).val) * 128 + (i 2).val) * 8 + (i 3).val) * 1 + (i 4).val) / 8 % 128) = (i 2).val by omega, show ((((((i 0).val * 1 + (i 1).val) * 128 + (i 2).val) * 8 + (i 3).val) * 1 + (i 4).val) % 8) = (i 3).val by omega])
theorem at_cst_16 (p : Inp) (i : S_.Idx) : val_main_cst_16 (F := Ideal) i = ((0 : ℝ) : EReal) := ofBits_zero
def e80 (i : S128x8.Idx) (_ : Unit) : S1x1x128x8x1.Idx := fun a => match a with
  | ⟨0, _⟩ => ⟨0, Nat.one_pos⟩
  | ⟨1, _⟩ => ⟨0, Nat.one_pos⟩
  | ⟨2, _⟩ => ⟨(i 0).val, (i 0).isLt⟩
  | ⟨3, _⟩ => ⟨(i 1).val, (i 1).isLt⟩
  | ⟨4, _⟩ => ⟨0, Nat.one_pos⟩
theorem e80_mem (i : S128x8.Idx) (w : S1x1x128x8x1.Idx) : Cert.ReferenceIdeal.Gen.reducesTo_S1x1x128x8x1_S128x8_d0_1_4.drop w = i ↔ ∃ k, e80 i k = w := by
  have d0 : (Cert.ReferenceIdeal.Gen.reducesTo_S1x1x128x8x1_S128x8_d0_1_4.drop w 0 : ℕ) = w 2 := Shape.ReducesTo.drop_apply_val _ w 0
  have d1 : (Cert.ReferenceIdeal.Gen.reducesTo_S1x1x128x8x1_S128x8_d0_1_4.drop w 1 : ℕ) = w 3 := Shape.ReducesTo.drop_apply_val _ w 1
  have w0 : (w 0).val < 1 := (w 0).isLt
  have w1 : (w 1).val < 1 := (w 1).isLt
  have w4 : (w 4).val < 1 := (w 4).isLt
  constructor
  · rintro rfl
    refine ⟨(), funext fun a => Fin.ext ?_⟩
    match a with
    | ⟨0, _⟩ => show 0 = (w 0).val; omega
    | ⟨1, _⟩ => show 0 = (w 1).val; omega
    | ⟨2, _⟩ => exact d0
    | ⟨3, _⟩ => exact d1
    | ⟨4, _⟩ => show 0 = (w 4).val; omega
  · rintro ⟨k, rfl⟩
    refine funext fun a => Fin.ext ?_
    match a with
    | ⟨0, _⟩ => exact d0
    | ⟨1, _⟩ => exact d1
theorem at_v80 (p : Inp) (i : S128x8.Idx) : val_main_v80 (F := Ideal) (X0 p) (X1 p) i = ((db p 64 (i 1).val (i 0).val : ℝ) : EReal) := by
  unfold val_main_v80
  generalize hy : val_main_v79 (F := Ideal) (X0 p) (X1 p) = y
  simp only [Host.reduceAdd, Ideal.hostReduceAdd_def]
  rw [reduce_list _ _ _ i (e80 i) (fun _ _ _ => rfl) (e80_mem i), at_cst_16 p _]
  subst hy
  rw [show ((0 : ℝ) : EReal) = 0 from EReal.coe_zero, zero_add]
  exact (Finset.sum_eq_single () (fun _ _ h => (h rfl).elim) fun h => (h (Finset.mem_univ _)).elim).trans (at_v79 p _)
theorem at_v81 (p : Inp) (i : S8x128.Idx) : val_main_v81 (F := Ideal) (X0 p) (X1 p) i = ((db p 64 (i 0).val (i 1).val : ℝ) : EReal) :=
  (val_main_v81_apply (X0 p) (X1 p) i).trans (at_v80 p _)
theorem at_v82 (p : Inp) (i : S8x1x64x64x128.Idx) : val_main_v82 (F := Ideal) (X0 p) (X1 p) i = ((dm p (64 * (i 0).val + (i 3).val) (128 * (i 2).val + (i 4).val) : ℝ) : EReal) :=
  (val_main_v82_apply (X0 p) (X1 p) i).trans (at_v77 p _)
theorem l83_0 (i : S8x128x128.Idx) (q : dot_S8x1x64x64x128_S1x64x128x8x64_S8x128x128_123_014_4_2_0_3.contr.Idx) : (dot_S8x1x64x64x128_S1x64x128x8x64_S8x128x128_123_014_4_2_0_3.lhsIdx i q 0).val = (i 0).val := by
  unfold DotDims.lhsIdx
  rw [dif_pos (show (0 : Fin S8x1x64x64x128.rank) ∈ dot_S8x1x64x64x128_S1x64x128x8x64_S8x128x128_123_014_4_2_0_3.lhsBatch by decide)]
  rfl
theorem l83_2 (i : S8x128x128.Idx) (q : dot_S8x1x64x64x128_S1x64x128x8x64_S8x128x128_123_014_4_2_0_3.contr.Idx) : (dot_S8x1x64x64x128_S1x64x128x8x64_S8x128x128_123_014_4_2_0_3.lhsIdx i q 2).val = (q ⟨1, by decide⟩).val := by
  unfold DotDims.lhsIdx
  rw [dif_neg (show ¬(2 : Fin S8x1x64x64x128.rank) ∈ dot_S8x1x64x64x128_S1x64x128x8x64_S8x128x128_123_014_4_2_0_3.lhsBatch by decide), dif_neg (show ¬(2 : Fin S8x1x64x64x128.rank) ∈ dot_S8x1x64x64x128_S1x64x128x8x64_S8x128x128_123_014_4_2_0_3.lhsNonContracting by decide)]
  rfl
theorem l83_3 (i : S8x128x128.Idx) (q : dot_S8x1x64x64x128_S1x64x128x8x64_S8x128x128_123_014_4_2_0_3.contr.Idx) : (dot_S8x1x64x64x128_S1x64x128x8x64_S8x128x128_123_014_4_2_0_3.lhsIdx i q 3).val = (q ⟨2, by decide⟩).val := by
  unfold DotDims.lhsIdx
  rw [dif_neg (show ¬(3 : Fin S8x1x64x64x128.rank) ∈ dot_S8x1x64x64x128_S1x64x128x8x64_S8x128x128_123_014_4_2_0_3.lhsBatch by decide), dif_neg (show ¬(3 : Fin S8x1x64x64x128.rank) ∈ dot_S8x1x64x64x128_S1x64x128x8x64_S8x128x128_123_014_4_2_0_3.lhsNonContracting by decide)]
  rfl
theorem l83_4 (i : S8x128x128.Idx) (q : dot_S8x1x64x64x128_S1x64x128x8x64_S8x128x128_123_014_4_2_0_3.contr.Idx) : (dot_S8x1x64x64x128_S1x64x128x8x64_S8x128x128_123_014_4_2_0_3.lhsIdx i q 4).val = (i 1).val := by
  unfold DotDims.lhsIdx
  rw [dif_neg (show ¬(4 : Fin S8x1x64x64x128.rank) ∈ dot_S8x1x64x64x128_S1x64x128x8x64_S8x128x128_123_014_4_2_0_3.lhsBatch by decide), dif_pos (show (4 : Fin S8x1x64x64x128.rank) ∈ dot_S8x1x64x64x128_S1x64x128x8x64_S8x128x128_123_014_4_2_0_3.lhsNonContracting by decide)]
  rfl
theorem r83_1 (i : S8x128x128.Idx) (q : dot_S8x1x64x64x128_S1x64x128x8x64_S8x128x128_123_014_4_2_0_3.contr.Idx) : (dot_S8x1x64x64x128_S1x64x128x8x64_S8x128x128_123_014_4_2_0_3.rhsIdx i q 1).val = (q ⟨1, by decide⟩).val := by
  unfold DotDims.rhsIdx
  rw [dif_neg (show ¬(1 : Fin S1x64x128x8x64.rank) ∈ dot_S8x1x64x64x128_S1x64x128x8x64_S8x128x128_123_014_4_2_0_3.rhsBatch by decide), dif_neg (show ¬(1 : Fin S1x64x128x8x64.rank) ∈ dot_S8x1x64x64x128_S1x64x128x8x64_S8x128x128_123_014_4_2_0_3.rhsNonContracting by decide)]
  rfl
theorem r83_2 (i : S8x128x128.Idx) (q : dot_S8x1x64x64x128_S1x64x128x8x64_S8x128x128_123_014_4_2_0_3.contr.Idx) : (dot_S8x1x64x64x128_S1x64x128x8x64_S8x128x128_123_014_4_2_0_3.rhsIdx i q 2).val = (i 2).val := by
  unfold DotDims.rhsIdx
  rw [dif_neg (show ¬(2 : Fin S1x64x128x8x64.rank) ∈ dot_S8x1x64x64x128_S1x64x128x8x64_S8x128x128_123_014_4_2_0_3.rhsBatch by decide), dif_pos (show (2 : Fin S1x64x128x8x64.rank) ∈ dot_S8x1x64x64x128_S1x64x128x8x64_S8x128x128_123_014_4_2_0_3.rhsNonContracting by decide)]
  rfl
theorem r83_3 (i : S8x128x128.Idx) (q : dot_S8x1x64x64x128_S1x64x128x8x64_S8x128x128_123_014_4_2_0_3.contr.Idx) : (dot_S8x1x64x64x128_S1x64x128x8x64_S8x128x128_123_014_4_2_0_3.rhsIdx i q 3).val = (i 0).val := by
  unfold DotDims.rhsIdx
  rw [dif_pos (show (3 : Fin S1x64x128x8x64.rank) ∈ dot_S8x1x64x64x128_S1x64x128x8x64_S8x128x128_123_014_4_2_0_3.rhsBatch by decide)]
  rfl
theorem r83_4 (i : S8x128x128.Idx) (q : dot_S8x1x64x64x128_S1x64x128x8x64_S8x128x128_123_014_4_2_0_3.contr.Idx) : (dot_S8x1x64x64x128_S1x64x128x8x64_S8x128x128_123_014_4_2_0_3.rhsIdx i q 4).val = (q ⟨2, by decide⟩).val := by
  unfold DotDims.rhsIdx
  rw [dif_neg (show ¬(4 : Fin S1x64x128x8x64.rank) ∈ dot_S8x1x64x64x128_S1x64x128x8x64_S8x128x128_123_014_4_2_0_3.rhsBatch by decide), dif_neg (show ¬(4 : Fin S1x64x128x8x64.rank) ∈ dot_S8x1x64x64x128_S1x64x128x8x64_S8x128x128_123_014_4_2_0_3.rhsNonContracting by decide)]
  rfl
/-- A contraction index as its chunk and its channel. -/
def f83 (q : dot_S8x1x64x64x128_S1x64x128x8x64_S8x128x128_123_014_4_2_0_3.contr.Idx) : Fin 64 × Fin 64 := (⟨(q ⟨1, by decide⟩).val, (q ⟨1, by decide⟩).isLt⟩, ⟨(q ⟨2, by decide⟩).val, (q ⟨2, by decide⟩).isLt⟩)
theorem f83_bij : Function.Bijective f83 := by
  constructor
  · intro q q' h
    have h1 : (q ⟨1, by decide⟩).val = (q' ⟨1, by decide⟩).val := congrArg (fun z : Fin 64 × Fin 64 => z.1.val) h
    have h2 : (q ⟨2, by decide⟩).val = (q' ⟨2, by decide⟩).val := congrArg (fun z : Fin 64 × Fin 64 => z.2.val) h
    have b0 : (q ⟨0, by decide⟩).val < 1 := (q ⟨0, by decide⟩).isLt
    have b0' : (q' ⟨0, by decide⟩).val < 1 := (q' ⟨0, by decide⟩).isLt
    funext a
    obtain ⟨a, ha⟩ := a
    have ha3 : a < 3 := ha
    apply Fin.ext
    interval_cases a
    · omega
    · exact h1
    · exact h2
  · rintro ⟨k, c⟩
    refine ⟨fun a => ⟨if a.val = 0 then 0 else if a.val = 1 then k.val else c.val, ?_⟩, rfl⟩
    obtain ⟨a, ha⟩ := a
    have ha3 : a < 3 := ha
    interval_cases a
    · exact Nat.one_pos
    · exact k.isLt
    · exact c.isLt
theorem at_v83 (p : Inp) (i : S8x128x128.Idx) : val_main_v83 (F := Ideal) (X0 p) (X1 p) (X2 p) (X3 p) i = ((∑ k ∈ range 64, ∑ c ∈ range 64, dm p (64 * (i 0).val + c) (128 * k + (i 1).val) * vn p (64 * (i 0).val + c) (128 * k + (i 2).val) : ℝ) : EReal) := by
  have hl : ∀ q, val_main_v82 (F := Ideal) (X0 p) (X1 p) (dot_S8x1x64x64x128_S1x64x128x8x64_S8x128x128_123_014_4_2_0_3.lhsIdx i q) = ((dm p (64 * (i 0).val + (f83 q).2.val) (128 * (f83 q).1.val + (i 1).val) : ℝ) : EReal) := fun q => by
    rw [at_v82 p _, l83_0, l83_2, l83_3, l83_4]
    rfl
  have hr : ∀ q, val_main_v62 (F := Ideal) (X0 p) (X2 p) (X3 p) (dot_S8x1x64x64x128_S1x64x128x8x64_S8x128x128_123_014_4_2_0_3.rhsIdx i q) = ((vn p (64 * (i 0).val + (f83 q).2.val) (128 * (f83 q).1.val + (i 2).val) : ℝ) : EReal) := fun q => by
    rw [at_v62 p _, r83_1, r83_2, r83_3, r83_4]
    rfl
  unfold val_main_v83
  generalize val_main_v82 (F := Ideal) (X0 p) (X1 p) = y0 at hl ⊢
  generalize val_main_v62 (F := Ideal) (X0 p) (X2 p) (X3 p) = y1 at hr ⊢
  simp only [Host.dotGeneral]
  rw [Ideal.dotGeneral_apply, Fintype.sum_bijective f83 f83_bij _ (fun k => ((dm p (64 * (i 0).val + k.2.val) (128 * k.1.val + (i 1).val) * vn p (64 * (i 0).val + k.2.val) (128 * k.1.val + (i 2).val) : ℝ) : EReal))
    (fun q => by rw [hl q, hr q]; exact (EReal.coe_mul _ _).symm), Fintype.sum_prod_type]
  rw [← sum_fin_coe 64 fun k => ∑ c ∈ range 64, dm p (64 * (i 0).val + c) (128 * k + (i 1).val) * vn p (64 * (i 0).val + c) (128 * k + (i 2).val)]
  exact Finset.sum_congr rfl fun k _ => sum_fin_coe 64 fun c => dm p (64 * (i 0).val + c) (128 * k.val + (i 1).val) * vn p (64 * (i 0).val + c) (128 * k.val + (i 2).val)
theorem at_v84 (p : Inp) (i : S8x1x64x64x128.Idx) : val_main_v84 (F := Ideal) (X0 p) (X1 p) (X4 p) i = ((∑ k84 ∈ range 128, (dm p (64 * (i 0).val + (i 3).val) (128 * (i 2).val + k84)) * (wm p (i 0).val k84 (i 4).val) : ℝ) : EReal) :=
  (val_main_v84_apply (X0 p) (X1 p) (X4 p) i).trans (c_dot 128 (fun k84 => (dm p (64 * (i 0).val + (i 3).val) (128 * (i 2).val + k84))) (fun k84 => (wm p (i 0).val k84 (i 4).val)) _ _ (fun k => at_v82 p _) fun k => at_v66_0 p _)
theorem at_v85 (p : Inp) (i : S1x64x128x8x64.Idx) : val_main_v85 (F := Ideal) (X0 p) (X1 p) (X4 p) i = ((∑ k84 ∈ range 128, (dm p (64 * (i 3).val + (i 4).val) (128 * (i 1).val + k84)) * (wm p (i 3).val k84 (i 2).val) : ℝ) : EReal) :=
  (val_main_v85_apply (X0 p) (X1 p) (X4 p) i).trans (at_v84 p _)
theorem at_call2_cst (p : Inp) (i : S_.Idx) : val_main_call2_cst (F := Ideal) i = ((0 : ℝ) : EReal) := ofBits_zero
theorem at_call2_v0 (p : Inp) (i : S8x128x128.Idx) : val_main_call2_v0 (F := Ideal) i = ((0 : ℝ) : EReal) :=
  (val_main_call2_v0_apply i).trans (at_call2_cst p _)
theorem at_v86 (p : Inp) (i : S8x128x128.Idx) : val_main_v86 (F := Ideal) (X0 p) (X1 p) (X2 p) (X3 p) i = ((dw p 64 (i 0).val (i 1).val (i 2).val : ℝ) : EReal) := by
  have hz : val_main_call2_v0 (F := Ideal) i = ((0 : ℝ) : EReal) := at_call2_v0 p i
  rw [val_main_v86_apply, at_v66_1, at_v83 p, hz]
  unfold dw
  by_cases h : (i 2).val ≤ (i 1).val
  · rw [if_pos h, if_pos h]; rfl
  · rw [if_neg h, if_neg h]; rfl
theorem at_v87 (p : Inp) (i : S1x8192x512.Idx) : val_main_v87 (F := Ideal) (X0 p) (X1 p) (X4 p) i = ((dvn p (i 2).val (i 1).val : ℝ) : EReal) :=
  c_eq (φ := .f32) (u := ∑ k84 ∈ range 128, (dm p (64 * ((((i 0).val * 8192 + (i 1).val) * 512 + (i 2).val) / 64 % 8) + ((((i 0).val * 8192 + (i 1).val) * 512 + (i 2).val) % 64)) (128 * ((((i 0).val * 8192 + (i 1).val) * 512 + (i 2).val) / 65536 % 64) + k84)) * (wm p ((((i 0).val * 8192 + (i 1).val) * 512 + (i 2).val) / 64 % 8) k84 ((((i 0).val * 8192 + (i 1).val) * 512 + (i 2).val) / 512 % 128))) ((val_main_v87_apply (X0 p) (X1 p) (X4 p) i).trans (at_v85 p _)) (by
    have h0 : (i 0).val < 1 := (i 0).isLt; have h1 : (i 1).val < 8192 := (i 1).isLt; have h2 : (i 2).val < 512 := (i 2).isLt
    rw [show ((((i 0).val * 8192 + (i 1).val) * 512 + (i 2).val) / 65536 % 64) = (i 1).val / 128 by omega, show ((((i 0).val * 8192 + (i 1).val) * 512 + (i 2).val) / 512 % 128) = (i 1).val % 128 by omega, show ((((i 0).val * 8192 + (i 1).val) * 512 + (i 2).val) / 64 % 8) = (i 2).val / 64 by omega, show ((((i 0).val * 8192 + (i 1).val) * 512 + (i 2).val) % 64) = (i 2).val % 64 by omega, show 64 * ((i 2).val / 64) + (i 2).val % 64 = (i 2).val by omega]
    rfl)

end Cert.RefReal

end
-- ==== Proof.Gmlp.RefC.lean ====
/- The reference gradient of the normalisation at real arguments. -/
module

public import proofs.«01_k».proof.Proof.Gmlp.RefB

@[expose] public section

set_option maxRecDepth 16384

noncomputable section

namespace Cert.RefReal

open Cert.ReferenceIdeal Cert.ReferenceIdeal.Read Idealize.ShloMosaic Cert.Lift Cert.Model Finset

variable (p : Inp)

/-- What each centred element gets, up to a factor two, from the variance. -/
def nq (p : Inp) (t : ℕ) : ℝ := (∑ k ∈ range 512, xc p k t * dxh p k t) * (-(1 / 2) * (rs p t / (var p t + eps))) / 512

theorem xc_sum (t : ℕ) : ∑ k ∈ range 512, xc p k t = 0 := by
  unfold xc
  rw [Finset.sum_sub_distrib, Finset.sum_const, Finset.card_range, nsmul_eq_mul]
  push_cast
  ring

theorem rs_cube (t : ℕ) : rs p t / (var p t + eps) = rs p t * rs p t * rs p t := by
  have h := var_pos p t
  have hs : rs p t * rs p t = (var p t + eps)⁻¹ := by
    unfold rs
    rw [← mul_inv, Real.mul_self_sqrt h.le]
  rw [hs, div_eq_mul_inv, mul_comm]

/-- The two forms of the normalisation's gradient. -/
theorem norm_grad (j t : ℕ) : dxh p j t * rs p t + nq p t * (2 * xc p j t)
    + ((∑ k ∈ range 512, -(dxh p k t * rs p t)) + (∑ k ∈ range 512, -(nq p t * (2 * xc p k t)))) / 512 = dvv p j t := by
  have e1 : ∑ k ∈ range 512, -(dxh p k t * rs p t) = -((∑ k ∈ range 512, dxh p k t) * rs p t) := by
    rw [Finset.sum_neg_distrib, Finset.sum_mul]
  have e2 : ∑ k ∈ range 512, -(nq p t * (2 * xc p k t)) = 0 := by
    rw [Finset.sum_neg_distrib, ← Finset.mul_sum, ← Finset.mul_sum, xc_sum]
    ring
  have e3 : ∑ k ∈ range 512, dxh p k t * xh p k t = (∑ k ∈ range 512, xc p k t * dxh p k t) * rs p t := by
    rw [Finset.sum_mul]
    exact Finset.sum_congr rfl fun k _ => by unfold xh; ring
  unfold dvv
  rw [e1, e2, e3]
  unfold nq
  rw [rs_cube]
  unfold xh
  ring

theorem at_cst_17 (p : Inp) (i : S_.Idx) : val_main_cst_17 (F := Ideal) i = ((0 : ℝ) : EReal) := ofBits_zero
theorem at_v88 (p : Inp) (i : S1x512.Idx) : val_main_v88 (F := Ideal) (X0 p) (X1 p) (X4 p) i = ((∑ k88 ∈ range 8192, (dvn p (i 1).val k88) : ℝ) : EReal) :=
  (val_main_v88_apply (X0 p) (X1 p) (X4 p) i).trans (c_sum 8192 (at_cst_17 p _) (fun k88 => (dvn p (i 1).val k88)) _ fun k => at_v87 p _)
theorem at_v89 (p : Inp) (i : S1x1x512.Idx) : val_main_v89 (F := Ideal) (X0 p) (X1 p) (X4 p) i = ((∑ t ∈ range 8192, dvn p (i 2).val t : ℝ) : EReal) :=
  c_eq (φ := .f32) (u := ∑ k88 ∈ range 8192, (dvn p ((((i 0).val * 1 + (i 1).val) * 512 + (i 2).val) % 512) k88)) ((val_main_v89_apply (X0 p) (X1 p) (X4 p) i).trans (at_v88 p _)) (by
    have h0 : (i 0).val < 1 := (i 0).isLt; have h1 : (i 1).val < 1 := (i 1).isLt; have h2 : (i 2).val < 512 := (i 2).isLt
    rw [show ((((i 0).val * 1 + (i 1).val) * 512 + (i 2).val) % 512) = (i 2).val by omega])
theorem at_cst_18 (p : Inp) (i : S_.Idx) : val_main_cst_18 (F := Ideal) i = ((0 : ℝ) : EReal) := ofBits_zero
def e90 (i : S512.Idx) (_ : Unit) : S1x1x512.Idx := fun a => match a with
  | ⟨0, _⟩ => ⟨0, Nat.one_pos⟩
  | ⟨1, _⟩ => ⟨0, Nat.one_pos⟩
  | ⟨2, _⟩ => ⟨(i 0).val, (i 0).isLt⟩
theorem e90_mem (i : S512.Idx) (w : S1x1x512.Idx) : Cert.ReferenceIdeal.Gen.reducesTo_S1x1x512_S512_d0_1.drop w = i ↔ ∃ k, e90 i k = w := by
  have d0 : (Cert.ReferenceIdeal.Gen.reducesTo_S1x1x512_S512_d0_1.drop w 0 : ℕ) = w 2 := Shape.ReducesTo.drop_apply_val _ w 0
  have w0 : (w 0).val < 1 := (w 0).isLt
  have w1 : (w 1).val < 1 := (w 1).isLt
  constructor
  · rintro rfl
    refine ⟨(), funext fun a => Fin.ext ?_⟩
    match a with
    | ⟨0, _⟩ => show 0 = (w 0).val; omega
    | ⟨1, _⟩ => show 0 = (w 1).val; omega
    | ⟨2, _⟩ => exact d0
  · rintro ⟨k, rfl⟩
    refine funext fun a => Fin.ext ?_
    match a with
    | ⟨0, _⟩ => exact d0
theorem at_v90 (p : Inp) (i : S512.Idx) : val_main_v90 (F := Ideal) (X0 p) (X1 p) (X4 p) i = ((∑ t ∈ range 8192, dvn p (i 0).val t : ℝ) : EReal) := by
  unfold val_main_v90
  generalize hy : val_main_v89 (F := Ideal) (X0 p) (X1 p) (X4 p) = y
  simp only [Host.reduceAdd, Ideal.hostReduceAdd_def]
  rw [reduce_list _ _ _ i (e90 i) (fun _ _ _ => rfl) (e90_mem i), at_cst_18 p _]
  subst hy
  rw [show ((0 : ℝ) : EReal) = 0 from EReal.coe_zero, zero_add]
  exact (Finset.sum_eq_single () (fun _ _ h => (h rfl).elim) fun h => (h (Finset.mem_univ _)).elim).trans (at_v89 p _)
theorem at_v91 (p : Inp) (i : S1x8192x512.Idx) : val_main_v91 (F := Ideal) (X0 p) (X1 p) (X4 p) i = (((xh p (i 2).val (i 1).val) * (dvn p (i 2).val (i 1).val) : ℝ) : EReal) :=
  (val_main_v91_apply (X0 p) (X1 p) (X4 p) i).trans (c_mul (at_v55 p i) (at_v87 p i))
theorem at_cst_19 (p : Inp) (i : S_.Idx) : val_main_cst_19 (F := Ideal) i = ((0 : ℝ) : EReal) := ofBits_zero
theorem at_v92 (p : Inp) (i : S1x512.Idx) : val_main_v92 (F := Ideal) (X0 p) (X1 p) (X4 p) i = ((∑ k92 ∈ range 8192, ((xh p (i 1).val k92) * (dvn p (i 1).val k92)) : ℝ) : EReal) :=
  (val_main_v92_apply (X0 p) (X1 p) (X4 p) i).trans (c_sum 8192 (at_cst_19 p _) (fun k92 => ((xh p (i 1).val k92) * (dvn p (i 1).val k92))) _ fun k => at_v91 p _)
theorem at_v93 (p : Inp) (i : S1x1x512.Idx) : val_main_v93 (F := Ideal) (X0 p) (X1 p) (X4 p) i = ((∑ t ∈ range 8192, xh p (i 2).val t * dvn p (i 2).val t : ℝ) : EReal) :=
  c_eq (φ := .f32) (u := ∑ k92 ∈ range 8192, ((xh p ((((i 0).val * 1 + (i 1).val) * 512 + (i 2).val) % 512) k92) * (dvn p ((((i 0).val * 1 + (i 1).val) * 512 + (i 2).val) % 512) k92))) ((val_main_v93_apply (X0 p) (X1 p) (X4 p) i).trans (at_v92 p _)) (by
    have h0 : (i 0).val < 1 := (i 0).isLt; have h1 : (i 1).val < 1 := (i 1).isLt; have h2 : (i 2).val < 512 := (i 2).isLt
    rw [show ((((i 0).val * 1 + (i 1).val) * 512 + (i 2).val) % 512) = (i 2).val by omega])
theorem at_v94 (p : Inp) (i : S1x8192x512.Idx) : val_main_v94 (F := Ideal) (X2 p) i = ((p.LG (i 2).val : ℝ) : EReal) :=
  (val_main_v94_apply (X2 p) i).trans (at_v56 p _)
theorem at_v95 (p : Inp) (i : S1x8192x512.Idx) : val_main_v95 (F := Ideal) (X0 p) (X1 p) (X2 p) (X4 p) i = ((dxh p (i 2).val (i 1).val : ℝ) : EReal) :=
  c_eq (φ := .f32) (u := (dvn p (i 2).val (i 1).val) * (p.LG (i 2).val)) ((val_main_v95_apply (X0 p) (X1 p) (X2 p) (X4 p) i).trans (c_mul (at_v87 p i) (at_v94 p i))) (rfl)
theorem at_cst_20 (p : Inp) (i : S_.Idx) : val_main_cst_20 (F := Ideal) i = ((0 : ℝ) : EReal) := ofBits_zero
def e96 (i : S512.Idx) (_ : Unit) : S1x1x512.Idx := fun a => match a with
  | ⟨0, _⟩ => ⟨0, Nat.one_pos⟩
  | ⟨1, _⟩ => ⟨0, Nat.one_pos⟩
  | ⟨2, _⟩ => ⟨(i 0).val, (i 0).isLt⟩
theorem e96_mem (i : S512.Idx) (w : S1x1x512.Idx) : Cert.ReferenceIdeal.Gen.reducesTo_S1x1x512_S512_d0_1.drop w = i ↔ ∃ k, e96 i k = w := by
  have d0 : (Cert.ReferenceIdeal.Gen.reducesTo_S1x1x512_S512_d0_1.drop w 0 : ℕ) = w 2 := Shape.ReducesTo.drop_apply_val _ w 0
  have w0 : (w 0).val < 1 := (w 0).isLt
  have w1 : (w 1).val < 1 := (w 1).isLt
  constructor
  · rintro rfl
    refine ⟨(), funext fun a => Fin.ext ?_⟩
    match a with
    | ⟨0, _⟩ => show 0 = (w 0).val; omega
    | ⟨1, _⟩ => show 0 = (w 1).val; omega
    | ⟨2, _⟩ => exact d0
  · rintro ⟨k, rfl⟩
    refine funext fun a => Fin.ext ?_
    match a with
    | ⟨0, _⟩ => exact d0
theorem at_v96 (p : Inp) (i : S512.Idx) : val_main_v96 (F := Ideal) (X0 p) (X1 p) (X4 p) i = ((∑ t ∈ range 8192, xh p (i 0).val t * dvn p (i 0).val t : ℝ) : EReal) := by
  unfold val_main_v96
  generalize hy : val_main_v93 (F := Ideal) (X0 p) (X1 p) (X4 p) = y
  simp only [Host.reduceAdd, Ideal.hostReduceAdd_def]
  rw [reduce_list _ _ _ i (e96 i) (fun _ _ _ => rfl) (e96_mem i), at_cst_20 p _]
  subst hy
  rw [show ((0 : ℝ) : EReal) = 0 from EReal.coe_zero, zero_add]
  exact (Finset.sum_eq_single () (fun _ _ h => (h rfl).elim) fun h => (h (Finset.mem_univ _)).elim).trans (at_v93 p _)
theorem at_v97 (p : Inp) (i : S1x8192x512.Idx) : val_main_v97 (F := Ideal) (X0 p) (X1 p) (X2 p) (X4 p) i = (((xc p (i 2).val (i 1).val) * (dxh p (i 2).val (i 1).val) : ℝ) : EReal) :=
  (val_main_v97_apply (X0 p) (X1 p) (X2 p) (X4 p) i).trans (c_mul (at_v47 p i) (at_v95 p i))
theorem at_cst_21 (p : Inp) (i : S_.Idx) : val_main_cst_21 (F := Ideal) i = ((0 : ℝ) : EReal) := ofBits_zero
theorem at_v98 (p : Inp) (i : S1x8192.Idx) : val_main_v98 (F := Ideal) (X0 p) (X1 p) (X2 p) (X4 p) i = ((∑ k98 ∈ range 512, ((xc p k98 (i 1).val) * (dxh p k98 (i 1).val)) : ℝ) : EReal) :=
  (val_main_v98_apply (X0 p) (X1 p) (X2 p) (X4 p) i).trans (c_sum 512 (at_cst_21 p _) (fun k98 => ((xc p k98 (i 1).val) * (dxh p k98 (i 1).val))) _ fun k => at_v97 p _)
theorem at_v99 (p : Inp) (i : S1x8192x1.Idx) : val_main_v99 (F := Ideal) (X0 p) (X1 p) (X2 p) (X4 p) i = ((∑ k ∈ range 512, xc p k (i 1).val * dxh p k (i 1).val : ℝ) : EReal) :=
  c_eq (φ := .f32) (u := ∑ k98 ∈ range 512, ((xc p k98 ((((i 0).val * 8192 + (i 1).val) * 1 + (i 2).val) % 8192)) * (dxh p k98 ((((i 0).val * 8192 + (i 1).val) * 1 + (i 2).val) % 8192)))) ((val_main_v99_apply (X0 p) (X1 p) (X2 p) (X4 p) i).trans (at_v98 p _)) (by
    have h0 : (i 0).val < 1 := (i 0).isLt; have h1 : (i 1).val < 8192 := (i 1).isLt; have h2 : (i 2).val < 1 := (i 2).isLt
    rw [show ((((i 0).val * 8192 + (i 1).val) * 1 + (i 2).val) % 8192) = (i 1).val by omega])
theorem at_v100 (p : Inp) (i : S1x8192x512.Idx) : val_main_v100 (F := Ideal) (X0 p) i = ((rs p (i 1).val : ℝ) : EReal) :=
  (val_main_v100_apply (X0 p) i).trans (at_v50 p _)
theorem at_v101 (p : Inp) (i : S1x8192x512.Idx) : val_main_v101 (F := Ideal) (X0 p) (X1 p) (X2 p) (X4 p) i = (((dxh p (i 2).val (i 1).val) * (rs p (i 1).val) : ℝ) : EReal) :=
  (val_main_v101_apply (X0 p) (X1 p) (X2 p) (X4 p) i).trans (c_mul (at_v95 p i) (at_v100 p i))
theorem at_v102 (p : Inp) (i : S1x8192x1.Idx) : val_main_v102 (F := Ideal) (X0 p) (X1 p) (X2 p) (X4 p) i = (((∑ k ∈ range 512, xc p k (i 1).val * dxh p k (i 1).val) * (((-(1 / 2))) * ((rs p (i 1).val) / ((var p (i 1).val) + eps))) : ℝ) : EReal) :=
  (val_main_v102_apply (X0 p) (X1 p) (X2 p) (X4 p) i).trans (c_mul (at_v99 p i) (at_v53 p i))
theorem at_v103 (p : Inp) (i : S1x8192x512.Idx) : val_main_v103 (F := Ideal) (X0 p) (X1 p) (X2 p) (X4 p) i = ((-((dxh p (i 2).val (i 1).val) * (rs p (i 1).val)) : ℝ) : EReal) :=
  (val_main_v103_apply (X0 p) (X1 p) (X2 p) (X4 p) i).trans (c_neg (at_v101 p i))
theorem at_cst_22 (p : Inp) (i : S_.Idx) : val_main_cst_22 (F := Ideal) i = ((0 : ℝ) : EReal) := ofBits_zero
theorem at_v104 (p : Inp) (i : S1x8192.Idx) : val_main_v104 (F := Ideal) (X0 p) (X1 p) (X2 p) (X4 p) i = ((∑ k104 ∈ range 512, (-((dxh p k104 (i 1).val) * (rs p (i 1).val))) : ℝ) : EReal) :=
  (val_main_v104_apply (X0 p) (X1 p) (X2 p) (X4 p) i).trans (c_sum 512 (at_cst_22 p _) (fun k104 => (-((dxh p k104 (i 1).val) * (rs p (i 1).val)))) _ fun k => at_v103 p _)
theorem at_v105 (p : Inp) (i : S1x8192x1.Idx) : val_main_v105 (F := Ideal) (X0 p) (X1 p) (X2 p) (X4 p) i = ((∑ k ∈ range 512, -(dxh p k (i 1).val * rs p (i 1).val) : ℝ) : EReal) :=
  c_eq (φ := .f32) (u := ∑ k104 ∈ range 512, (-((dxh p k104 ((((i 0).val * 8192 + (i 1).val) * 1 + (i 2).val) % 8192)) * (rs p ((((i 0).val * 8192 + (i 1).val) * 1 + (i 2).val) % 8192))))) ((val_main_v105_apply (X0 p) (X1 p) (X2 p) (X4 p) i).trans (at_v104 p _)) (by
    have h0 : (i 0).val < 1 := (i 0).isLt; have h1 : (i 1).val < 8192 := (i 1).isLt; have h2 : (i 2).val < 1 := (i 2).isLt
    rw [show ((((i 0).val * 8192 + (i 1).val) * 1 + (i 2).val) % 8192) = (i 1).val by omega])
theorem at_cst_23 (p : Inp) (i : S_.Idx) : val_main_cst_23 (F := Ideal) i = ((512 : ℝ) : EReal) := ofBits_512
theorem at_v106 (p : Inp) (i : S1x8192x1.Idx) : val_main_v106 (F := Ideal) i = ((512 : ℝ) : EReal) :=
  (val_main_v106_apply i).trans (at_cst_23 p _)
theorem at_v107 (p : Inp) (i : S1x8192x1.Idx) : val_main_v107 (F := Ideal) (X0 p) (X1 p) (X2 p) (X4 p) i = ((nq p (i 1).val : ℝ) : EReal) :=
  c_eq (φ := .f32) (u := ((∑ k ∈ range 512, xc p k (i 1).val * dxh p k (i 1).val) * (((-(1 / 2))) * ((rs p (i 1).val) / ((var p (i 1).val) + eps)))) / 512) ((val_main_v107_apply (X0 p) (X1 p) (X2 p) (X4 p) i).trans (c_div (at_v102 p i) (at_v106 p i) (by norm_num))) (rfl)
theorem at_cst_24 (p : Inp) (i : S_.Idx) : val_main_cst_24 (F := Ideal) i = ((0 : ℝ) : EReal) := ofBits_zero
def e108 (i : S8192.Idx) (_ : Unit) : S1x8192x1.Idx := fun a => match a with
  | ⟨0, _⟩ => ⟨0, Nat.one_pos⟩
  | ⟨1, _⟩ => ⟨(i 0).val, (i 0).isLt⟩
  | ⟨2, _⟩ => ⟨0, Nat.one_pos⟩
theorem e108_mem (i : S8192.Idx) (w : S1x8192x1.Idx) : Cert.ReferenceIdeal.Gen.reducesTo_S1x8192x1_S8192_d0_2.drop w = i ↔ ∃ k, e108 i k = w := by
  have d0 : (Cert.ReferenceIdeal.Gen.reducesTo_S1x8192x1_S8192_d0_2.drop w 0 : ℕ) = w 1 := Shape.ReducesTo.drop_apply_val _ w 0
  have w0 : (w 0).val < 1 := (w 0).isLt
  have w2 : (w 2).val < 1 := (w 2).isLt
  constructor
  · rintro rfl
    refine ⟨(), funext fun a => Fin.ext ?_⟩
    match a with
    | ⟨0, _⟩ => show 0 = (w 0).val; omega
    | ⟨1, _⟩ => exact d0
    | ⟨2, _⟩ => show 0 = (w 2).val; omega
  · rintro ⟨k, rfl⟩
    refine funext fun a => Fin.ext ?_
    match a with
    | ⟨0, _⟩ => exact d0
theorem at_v108 (p : Inp) (i : S8192.Idx) : val_main_v108 (F := Ideal) (X0 p) (X1 p) (X2 p) (X4 p) i = ((nq p (i 0).val : ℝ) : EReal) := by
  unfold val_main_v108
  generalize hy : val_main_v107 (F := Ideal) (X0 p) (X1 p) (X2 p) (X4 p) = y
  simp only [Host.reduceAdd, Ideal.hostReduceAdd_def]
  rw [reduce_list _ _ _ i (e108 i) (fun _ _ _ => rfl) (e108_mem i), at_cst_24 p _]
  subst hy
  rw [show ((0 : ℝ) : EReal) = 0 from EReal.coe_zero, zero_add]
  exact (Finset.sum_eq_single () (fun _ _ h => (h rfl).elim) fun h => (h (Finset.mem_univ _)).elim).trans (at_v107 p _)
theorem at_v109 (p : Inp) (i : S1x8192.Idx) : val_main_v109 (F := Ideal) (X0 p) (X1 p) (X2 p) (X4 p) i = ((nq p (i 1).val : ℝ) : EReal) :=
  (val_main_v109_apply (X0 p) (X1 p) (X2 p) (X4 p) i).trans (at_v108 p _)
theorem at_v110 (p : Inp) (i : S1x8192x512.Idx) : val_main_v110 (F := Ideal) (X0 p) (X1 p) (X2 p) (X4 p) i = ((nq p (i 1).val : ℝ) : EReal) :=
  (val_main_v110_apply (X0 p) (X1 p) (X2 p) (X4 p) i).trans (at_v109 p _)
theorem at_v111 (p : Inp) (i : S1x8192x512.Idx) : val_main_v111 (F := Ideal) (X0 p) (X1 p) (X2 p) (X4 p) i = (((nq p (i 1).val) * (2 * (xc p (i 2).val (i 1).val)) : ℝ) : EReal) :=
  (val_main_v111_apply (X0 p) (X1 p) (X2 p) (X4 p) i).trans (c_mul (at_v110 p i) (at_v41 p i))
theorem at_v112 (p : Inp) (i : S1x8192x512.Idx) : val_main_v112 (F := Ideal) (X0 p) (X1 p) (X2 p) (X4 p) i = ((-((nq p (i 1).val) * (2 * (xc p (i 2).val (i 1).val))) : ℝ) : EReal) :=
  (val_main_v112_apply (X0 p) (X1 p) (X2 p) (X4 p) i).trans (c_neg (at_v111 p i))
theorem at_cst_25 (p : Inp) (i : S_.Idx) : val_main_cst_25 (F := Ideal) i = ((0 : ℝ) : EReal) := ofBits_zero
theorem at_v113 (p : Inp) (i : S1x8192.Idx) : val_main_v113 (F := Ideal) (X0 p) (X1 p) (X2 p) (X4 p) i = ((∑ k113 ∈ range 512, (-((nq p (i 1).val) * (2 * (xc p k113 (i 1).val)))) : ℝ) : EReal) :=
  (val_main_v113_apply (X0 p) (X1 p) (X2 p) (X4 p) i).trans (c_sum 512 (at_cst_25 p _) (fun k113 => (-((nq p (i 1).val) * (2 * (xc p k113 (i 1).val))))) _ fun k => at_v112 p _)
theorem at_v114 (p : Inp) (i : S1x8192x1.Idx) : val_main_v114 (F := Ideal) (X0 p) (X1 p) (X2 p) (X4 p) i = ((∑ k ∈ range 512, -(nq p (i 1).val * (2 * xc p k (i 1).val)) : ℝ) : EReal) :=
  c_eq (φ := .f32) (u := ∑ k113 ∈ range 512, (-((nq p ((((i 0).val * 8192 + (i 1).val) * 1 + (i 2).val) % 8192)) * (2 * (xc p k113 ((((i 0).val * 8192 + (i 1).val) * 1 + (i 2).val) % 8192)))))) ((val_main_v114_apply (X0 p) (X1 p) (X2 p) (X4 p) i).trans (at_v113 p _)) (by
    have h0 : (i 0).val < 1 := (i 0).isLt; have h1 : (i 1).val < 8192 := (i 1).isLt; have h2 : (i 2).val < 1 := (i 2).isLt
    rw [show ((((i 0).val * 8192 + (i 1).val) * 1 + (i 2).val) % 8192) = (i 1).val by omega])
theorem at_v115 (p : Inp) (i : S1x8192x512.Idx) : val_main_v115 (F := Ideal) (X0 p) (X1 p) (X2 p) (X4 p) i = ((((dxh p (i 2).val (i 1).val) * (rs p (i 1).val)) + ((nq p (i 1).val) * (2 * (xc p (i 2).val (i 1).val))) : ℝ) : EReal) :=
  (val_main_v115_apply (X0 p) (X1 p) (X2 p) (X4 p) i).trans (c_add (at_v101 p i) (at_v111 p i))
theorem at_v116 (p : Inp) (i : S1x8192x1.Idx) : val_main_v116 (F := Ideal) (X0 p) (X1 p) (X2 p) (X4 p) i = (((∑ k ∈ range 512, -(dxh p k (i 1).val * rs p (i 1).val)) + (∑ k ∈ range 512, -(nq p (i 1).val * (2 * xc p k (i 1).val))) : ℝ) : EReal) :=
  (val_main_v116_apply (X0 p) (X1 p) (X2 p) (X4 p) i).trans (c_add (at_v105 p i) (at_v114 p i))
theorem at_cst_26 (p : Inp) (i : S_.Idx) : val_main_cst_26 (F := Ideal) i = ((512 : ℝ) : EReal) := ofBits_512
theorem at_v117 (p : Inp) (i : S1x8192x1.Idx) : val_main_v117 (F := Ideal) i = ((512 : ℝ) : EReal) :=
  (val_main_v117_apply i).trans (at_cst_26 p _)
theorem at_v118 (p : Inp) (i : S1x8192x1.Idx) : val_main_v118 (F := Ideal) (X0 p) (X1 p) (X2 p) (X4 p) i = ((((∑ k ∈ range 512, -(dxh p k (i 1).val * rs p (i 1).val)) + (∑ k ∈ range 512, -(nq p (i 1).val * (2 * xc p k (i 1).val)))) / 512 : ℝ) : EReal) :=
  c_eq (φ := .f32) (u := ((∑ k ∈ range 512, -(dxh p k (i 1).val * rs p (i 1).val)) + (∑ k ∈ range 512, -(nq p (i 1).val * (2 * xc p k (i 1).val)))) / 512) ((val_main_v118_apply (X0 p) (X1 p) (X2 p) (X4 p) i).trans (c_div (at_v116 p i) (at_v117 p i) (by norm_num))) (rfl)
theorem at_cst_27 (p : Inp) (i : S_.Idx) : val_main_cst_27 (F := Ideal) i = ((0 : ℝ) : EReal) := ofBits_zero
def e119 (i : S8192.Idx) (_ : Unit) : S1x8192x1.Idx := fun a => match a with
  | ⟨0, _⟩ => ⟨0, Nat.one_pos⟩
  | ⟨1, _⟩ => ⟨(i 0).val, (i 0).isLt⟩
  | ⟨2, _⟩ => ⟨0, Nat.one_pos⟩
theorem e119_mem (i : S8192.Idx) (w : S1x8192x1.Idx) : Cert.ReferenceIdeal.Gen.reducesTo_S1x8192x1_S8192_d0_2.drop w = i ↔ ∃ k, e119 i k = w := by
  have d0 : (Cert.ReferenceIdeal.Gen.reducesTo_S1x8192x1_S8192_d0_2.drop w 0 : ℕ) = w 1 := Shape.ReducesTo.drop_apply_val _ w 0
  have w0 : (w 0).val < 1 := (w 0).isLt
  have w2 : (w 2).val < 1 := (w 2).isLt
  constructor
  · rintro rfl
    refine ⟨(), funext fun a => Fin.ext ?_⟩
    match a with
    | ⟨0, _⟩ => show 0 = (w 0).val; omega
    | ⟨1, _⟩ => exact d0
    | ⟨2, _⟩ => show 0 = (w 2).val; omega
  · rintro ⟨k, rfl⟩
    refine funext fun a => Fin.ext ?_
    match a with
    | ⟨0, _⟩ => exact d0
theorem at_v119 (p : Inp) (i : S8192.Idx) : val_main_v119 (F := Ideal) (X0 p) (X1 p) (X2 p) (X4 p) i = ((((∑ k ∈ range 512, -(dxh p k (i 0).val * rs p (i 0).val)) + (∑ k ∈ range 512, -(nq p (i 0).val * (2 * xc p k (i 0).val)))) / 512 : ℝ) : EReal) := by
  unfold val_main_v119
  generalize hy : val_main_v118 (F := Ideal) (X0 p) (X1 p) (X2 p) (X4 p) = y
  simp only [Host.reduceAdd, Ideal.hostReduceAdd_def]
  rw [reduce_list _ _ _ i (e119 i) (fun _ _ _ => rfl) (e119_mem i), at_cst_27 p _]
  subst hy
  rw [show ((0 : ℝ) : EReal) = 0 from EReal.coe_zero, zero_add]
  exact (Finset.sum_eq_single () (fun _ _ h => (h rfl).elim) fun h => (h (Finset.mem_univ _)).elim).trans (at_v118 p _)
theorem at_v120 (p : Inp) (i : S1x8192.Idx) : val_main_v120 (F := Ideal) (X0 p) (X1 p) (X2 p) (X4 p) i = ((((∑ k ∈ range 512, -(dxh p k (i 1).val * rs p (i 1).val)) + (∑ k ∈ range 512, -(nq p (i 1).val * (2 * xc p k (i 1).val)))) / 512 : ℝ) : EReal) :=
  (val_main_v120_apply (X0 p) (X1 p) (X2 p) (X4 p) i).trans (at_v119 p _)
theorem at_v121 (p : Inp) (i : S1x8192x512.Idx) : val_main_v121 (F := Ideal) (X0 p) (X1 p) (X2 p) (X4 p) i = ((((∑ k ∈ range 512, -(dxh p k (i 1).val * rs p (i 1).val)) + (∑ k ∈ range 512, -(nq p (i 1).val * (2 * xc p k (i 1).val)))) / 512 : ℝ) : EReal) :=
  (val_main_v121_apply (X0 p) (X1 p) (X2 p) (X4 p) i).trans (at_v120 p _)
theorem at_v122 (p : Inp) (i : S1x8192x512.Idx) : val_main_v122 (F := Ideal) (X0 p) (X1 p) (X2 p) (X4 p) i = ((dvv p (i 2).val (i 1).val : ℝ) : EReal) :=
  c_eq (φ := .f32) (u := (((dxh p (i 2).val (i 1).val) * (rs p (i 1).val)) + ((nq p (i 1).val) * (2 * (xc p (i 2).val (i 1).val)))) + (((∑ k ∈ range 512, -(dxh p k (i 1).val * rs p (i 1).val)) + (∑ k ∈ range 512, -(nq p (i 1).val * (2 * xc p k (i 1).val)))) / 512)) ((val_main_v122_apply (X0 p) (X1 p) (X2 p) (X4 p) i).trans (c_add (at_v115 p i) (at_v121 p i))) (norm_grad p _ _)

end Cert.RefReal

end
-- ==== Proof.Gmlp.RefD.lean ====
/- The reference gradients, each result at real arguments. -/
module

public import proofs.«01_k».proof.Proof.Gmlp.RefC

@[expose] public section

set_option maxRecDepth 16384

noncomputable section

namespace Cert.RefReal

open Cert.ReferenceIdeal Cert.ReferenceIdeal.Read Idealize.ShloMosaic Cert.Lift Cert.Model Finset

variable (p : Inp)

theorem sum_dh (j : ℕ) : ∑ t ∈ range 8192, dvn p j t = ∑ l ∈ range 128, dh p 64 j l := by
  unfold dh
  rw [Finset.sum_comm]
  exact sum_blocks 64 128 fun t => dvn p j t
theorem sum_dg (j : ℕ) : ∑ t ∈ range 8192, xh p j t * dvn p j t = ∑ l ∈ range 128, dg p 64 j l := by
  unfold dg
  rw [Finset.sum_comm, Finset.sum_congr rfl fun t _ => mul_comm (xh p j t) (dvn p j t)]
  exact sum_blocks 64 128 fun t => dvn p j t * xh p j t

/-- The gelu's gradient as the reference writes it. -/
theorem gel_grad (z d : ℝ) : d * (1 / 2 * (1 + th z)) + cg * (1 / 2 * (z * d) * ((1 + th z) * (1 - th z)))
    + 44715 * (cg * (1 / 2 * (z * d) * ((1 + th z) * (1 - th z))) / 1000000) * (3 * (z * z)) = d * dgel z := by
  unfold dgel th c3a
  ring
theorem dz_eq (j t : ℕ) : (if j < 512 then p.Y j t * mix p j t else dvv p (j - 512) t) * (1 / 2 * (1 + th (p.Z j t))) + cg * (1 / 2 * (p.Z j t * (if j < 512 then p.Y j t * mix p j t else dvv p (j - 512) t)) * ((1 + th (p.Z j t)) * (1 - th (p.Z j t))))
    + 44715 * (cg * (1 / 2 * (p.Z j t * (if j < 512 then p.Y j t * mix p j t else dvv p (j - 512) t)) * ((1 + th (p.Z j t)) * (1 - th (p.Z j t)))) / 1000000) * (3 * (p.Z j t * p.Z j t)) = dz p j t := by
  rw [gel_grad]
  unfold dz
  by_cases h : j < 512
  · rw [if_pos h, if_pos h]; rfl
  · rw [if_neg h, if_neg h]
    unfold dzl
    rw [show 512 + (j - 512) = j by omega]

theorem at_v123 (p : Inp) (i : S1x8192x1024.Idx) : val_main_v123 (F := Ideal) (X0 p) (X1 p) (X2 p) (X3 p) (X4 p) (X5 p) i = ((if (i 2).val < 512 then p.Y (i 2).val (i 1).val * mix p (i 2).val (i 1).val else dvv p ((i 2).val - 512) (i 1).val : ℝ) : EReal) := by
  have h0 : (i 0).val < 1 := (i 0).isLt
  have h2 : (i 2).val < 1024 := (i 2).isLt
  unfold val_main_v123
  by_cases h : (i 2).val < 512
  · rw [if_pos h]
    refine (concatenate_pair_apply_left (t := S1x8192x1024) (s₁ := S1x8192x512) (s₂ := S1x8192x512) 2 (val_main_v76 (F := Ideal) (X0 p) (X1 p) (X2 p) (X3 p) (X4 p) (X5 p)) (val_main_v122 (F := Ideal) (X0 p) (X1 p) (X2 p) (X4 p)) _ i rfl ((fun a => match a with
      | ⟨0, _⟩ => ⟨0, Nat.one_pos⟩
      | ⟨1, _⟩ => ⟨(i 1).val, (i 1).isLt⟩
      | ⟨2, _⟩ => ⟨(i 2).val, h⟩ : S1x8192x512.Idx)) (fun b => match b with
      | ⟨0, _⟩ => by show 0 = (i 0).val; omega
      | ⟨1, _⟩ => rfl
      | ⟨2, _⟩ => rfl)).trans (at_v76 p _)
  · rw [if_neg h]
    refine (concatenate_pair_apply_right (t := S1x8192x1024) (s₁ := S1x8192x512) (s₂ := S1x8192x512) 2 (val_main_v76 (F := Ideal) (X0 p) (X1 p) (X2 p) (X3 p) (X4 p) (X5 p)) (val_main_v122 (F := Ideal) (X0 p) (X1 p) (X2 p) (X4 p)) _ i rfl rfl ((fun a => match a with
      | ⟨0, _⟩ => ⟨0, Nat.one_pos⟩
      | ⟨1, _⟩ => ⟨(i 1).val, (i 1).isLt⟩
      | ⟨2, _⟩ => ⟨(i 2).val - 512, by show (i 2).val - 512 < 512; omega⟩ : S1x8192x512.Idx)) (fun b => match b with
      | ⟨0, _⟩ => fun _ => by show 0 = (i 0).val; omega
      | ⟨1, _⟩ => fun _ => rfl
      | ⟨2, _⟩ => fun hb => (hb rfl).elim) (by show (i 2).val - 512 + 512 = (i 2).val; omega)).trans (at_v122 p _)
theorem at_v124 (p : Inp) (i : S1x8192x1024.Idx) : val_main_v124 (F := Ideal) (X0 p) (X1 p) (X2 p) (X3 p) (X4 p) (X5 p) i = (((p.Z (i 2).val (i 1).val) * (if (i 2).val < 512 then p.Y (i 2).val (i 1).val * mix p (i 2).val (i 1).val else dvv p ((i 2).val - 512) (i 1).val) : ℝ) : EReal) :=
  (val_main_v124_apply (X0 p) (X1 p) (X2 p) (X3 p) (X4 p) (X5 p) i).trans (c_mul (at_v2 p i) (at_v123 p i))
theorem at_v125 (p : Inp) (i : S1x8192x1024.Idx) : val_main_v125 (F := Ideal) (X0 p) (X1 p) (X2 p) (X3 p) (X4 p) (X5 p) i = (((if (i 2).val < 512 then p.Y (i 2).val (i 1).val * mix p (i 2).val (i 1).val else dvv p ((i 2).val - 512) (i 1).val) * (((1 / 2)) * (1 + (th (p.Z (i 2).val (i 1).val)))) : ℝ) : EReal) :=
  (val_main_v125_apply (X0 p) (X1 p) (X2 p) (X3 p) (X4 p) (X5 p) i).trans (c_mul (at_v123 p i) (at_v29 p i))
theorem at_cst_28 (p : Inp) (i : S_.Idx) : val_main_cst_28 (F := Ideal) i = (((1 / 2) : ℝ) : EReal) := ofBits_half
theorem at_v126 (p : Inp) (i : S1x8192x1024.Idx) : val_main_v126 (F := Ideal) i = (((1 / 2) : ℝ) : EReal) :=
  (val_main_v126_apply i).trans (at_cst_28 p _)
theorem at_v127 (p : Inp) (i : S1x8192x1024.Idx) : val_main_v127 (F := Ideal) (X0 p) (X1 p) (X2 p) (X3 p) (X4 p) (X5 p) i = ((((1 / 2)) * ((p.Z (i 2).val (i 1).val) * (if (i 2).val < 512 then p.Y (i 2).val (i 1).val * mix p (i 2).val (i 1).val else dvv p ((i 2).val - 512) (i 1).val)) : ℝ) : EReal) :=
  (val_main_v127_apply (X0 p) (X1 p) (X2 p) (X3 p) (X4 p) (X5 p) i).trans (c_mul (at_v126 p i) (at_v124 p i))
theorem at_v128 (p : Inp) (i : S1x8192x1024.Idx) : val_main_v128 (F := Ideal) (X0 p) (X1 p) (X2 p) (X3 p) (X4 p) (X5 p) i = (((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))) : ℝ) : EReal) :=
  (val_main_v128_apply (X0 p) (X1 p) (X2 p) (X3 p) (X4 p) (X5 p) i).trans (c_mul (at_v127 p i) (at_v25 p i))
theorem at_cst_29 (p : Inp) (i : S_.Idx) : val_main_cst_29 (F := Ideal) i = ((cg : ℝ) : EReal) := ofBits_cg
theorem at_v129 (p : Inp) (i : S1x8192x1024.Idx) : val_main_v129 (F := Ideal) i = ((cg : ℝ) : EReal) :=
  (val_main_v129_apply i).trans (at_cst_29 p _)
theorem at_v130 (p : Inp) (i : S1x8192x1024.Idx) : val_main_v130 (F := Ideal) (X0 p) (X1 p) (X2 p) (X3 p) (X4 p) (X5 p) i = ((cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val))))) : ℝ) : EReal) :=
  (val_main_v130_apply (X0 p) (X1 p) (X2 p) (X3 p) (X4 p) (X5 p) i).trans (c_mul (at_v129 p i) (at_v128 p i))
theorem at_v131 (p : Inp) (i : S1x8192x1024.Idx) : val_main_v131 (F := Ideal) (X0 p) (X1 p) (X2 p) (X3 p) (X4 p) (X5 p) i = ((((if (i 2).val < 512 then p.Y (i 2).val (i 1).val * mix p (i 2).val (i 1).val else dvv p ((i 2).val - 512) (i 1).val) * (((1 / 2)) * (1 + (th (p.Z (i 2).val (i 1).val))))) + (cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))))) : ℝ) : EReal) :=
  (val_main_v131_apply (X0 p) (X1 p) (X2 p) (X3 p) (X4 p) (X5 p) i).trans (c_add (at_v125 p i) (at_v130 p i))
theorem at_cst_30 (p : Inp) (i : S_.Idx) : val_main_cst_30 (F := Ideal) i = ((1000000 : ℝ) : EReal) := ofBits_million
theorem at_v132 (p : Inp) (i : S1x8192x1024.Idx) : val_main_v132 (F := Ideal) i = ((1000000 : ℝ) : EReal) :=
  (val_main_v132_apply i).trans (at_cst_30 p _)
theorem at_v133 (p : Inp) (i : S1x8192x1024.Idx) : val_main_v133 (F := Ideal) (X0 p) (X1 p) (X2 p) (X3 p) (X4 p) (X5 p) i = (((cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))))) / 1000000 : ℝ) : EReal) :=
  (val_main_v133_apply (X0 p) (X1 p) (X2 p) (X3 p) (X4 p) (X5 p) i).trans (c_div (at_v130 p i) (at_v132 p i) (by norm_num))
theorem at_cst_31 (p : Inp) (i : S_.Idx) : val_main_cst_31 (F := Ideal) i = ((44715 : ℝ) : EReal) := ofBits_44715
theorem at_v134 (p : Inp) (i : S1x8192x1024.Idx) : val_main_v134 (F := Ideal) i = ((44715 : ℝ) : EReal) :=
  (val_main_v134_apply i).trans (at_cst_31 p _)
theorem at_v135 (p : Inp) (i : S1x8192x1024.Idx) : val_main_v135 (F := Ideal) (X0 p) (X1 p) (X2 p) (X3 p) (X4 p) (X5 p) i = ((44715 * ((cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))))) / 1000000) : ℝ) : EReal) :=
  (val_main_v135_apply (X0 p) (X1 p) (X2 p) (X3 p) (X4 p) (X5 p) i).trans (c_mul (at_v134 p i) (at_v133 p i))
theorem at_v136 (p : Inp) (i : S1x8192x1024.Idx) : val_main_v136 (F := Ideal) (X0 p) (X1 p) (X2 p) (X3 p) (X4 p) (X5 p) i = (((44715 * ((cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))))) / 1000000)) * (3 * ((p.Z (i 2).val (i 1).val) * (p.Z (i 2).val (i 1).val))) : ℝ) : EReal) :=
  (val_main_v136_apply (X0 p) (X1 p) (X2 p) (X3 p) (X4 p) (X5 p) i).trans (c_mul (at_v135 p i) (at_v12 p i))
theorem at_v137 (p : Inp) (i : S1x8192x1024.Idx) : val_main_v137 (F := Ideal) (X0 p) (X1 p) (X2 p) (X3 p) (X4 p) (X5 p) i = ((dz p (i 2).val (i 1).val : ℝ) : EReal) :=
  c_eq (φ := .f32) (u := (((if (i 2).val < 512 then p.Y (i 2).val (i 1).val * mix p (i 2).val (i 1).val else dvv p ((i 2).val - 512) (i 1).val) * (((1 / 2)) * (1 + (th (p.Z (i 2).val (i 1).val))))) + (cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val))))))) + ((44715 * ((cg * ((((1 / 2)) * ((p.Z (i 2).val (i 1).val) * (if (i 2).val < 512 then p.Y (i 2).val (i 1).val * mix p (i 2).val (i 1).val else dvv p ((i 2).val - 512) (i 1).val))) * ((1 + (th (p.Z (i 2).val (i 1).val))) * (1 - (th (p.Z (i 2).val (i 1).val)))))) / 1000000)) * (3 * ((p.Z (i 2).val (i 1).val) * (p.Z (i 2).val (i 1).val))))) ((val_main_v137_apply (X0 p) (X1 p) (X2 p) (X3 p) (X4 p) (X5 p) i).trans (c_add (at_v131 p i) (at_v136 p i))) (dz_eq p _ _)
theorem at_v138 (p : Inp) (i : S8192x1024.Idx) : val_main_v138 (F := Ideal) (X0 p) (X1 p) (X2 p) (X3 p) (X4 p) (X5 p) i = ((dz p (i 1).val (i 0).val : ℝ) : EReal) :=
  c_eq (φ := .f32) (u := dz p (((i 0).val * 1024 + (i 1).val) % 1024) (((i 0).val * 1024 + (i 1).val) / 1024 % 8192)) ((val_main_v138_apply (X0 p) (X1 p) (X2 p) (X3 p) (X4 p) (X5 p) i).trans (at_v137 p _)) (by
    have h0 : (i 0).val < 8192 := (i 0).isLt; have h1 : (i 1).val < 1024 := (i 1).isLt
    rw [show (((i 0).val * 1024 + (i 1).val) / 1024 % 8192) = (i 0).val by omega, show (((i 0).val * 1024 + (i 1).val) % 1024) = (i 1).val by omega])
theorem at_v139 (p : Inp) (i : S1024x8192.Idx) : val_main_v139 (F := Ideal) (X0 p) (X1 p) (X2 p) (X3 p) (X4 p) (X5 p) i = ((dz p (i 0).val (i 1).val : ℝ) : EReal) :=
  (val_main_v139_apply (X0 p) (X1 p) (X2 p) (X3 p) (X4 p) (X5 p) i).trans (at_v138 p _)
theorem at_v140 (p : Inp) (i : S1024x8192.Idx) : val_main_v140 (F := Ideal) (X0 p) (X1 p) (X2 p) (X3 p) (X4 p) (X5 p) i = ((dz p (i 0).val (i 1).val : ℝ) : EReal) :=
  at_v139 p i
theorem at_v141 (p : Inp) (i : S1x512.Idx) : val_main_v141 (F := Ideal) (X0 p) (X1 p) (X4 p) i = ((∑ l ∈ range 128, dg p 64 (i 1).val l : ℝ) : EReal) :=
  c_eq (φ := .f32) (u := ∑ t ∈ range 8192, xh p (i 1).val t * dvn p (i 1).val t) ((val_main_v141_apply (X0 p) (X1 p) (X4 p) i).trans (at_v96 p _)) (sum_dg p _)
theorem at_v142 (p : Inp) (i : S1x512.Idx) : val_main_v142 (F := Ideal) (X0 p) (X1 p) (X4 p) i = ((∑ l ∈ range 128, dh p 64 (i 1).val l : ℝ) : EReal) :=
  c_eq (φ := .f32) (u := ∑ t ∈ range 8192, dvn p (i 1).val t) ((val_main_v142_apply (X0 p) (X1 p) (X4 p) i).trans (at_v90 p _)) (sum_dh p _)

end Cert.RefReal

end
-- ==== Proof.Dw.Grad.lean ====
/- The transposed product of a weight gradient: the sum over the row blocks a grid step adds, and the array the launch leaves. -/
module

public import proofs.«01_k».proof.Proof.Gen.Kernel2Ideal.Value
public import proofs.«01_k».proof.Proof.Gen.Kernel2Ideal.Points
public import Idealize.ShloMosaic.Lib.Pipeline.Value
public import Idealize.ShloMosaic.Lib.Pipeline.ReadBack
public import Idealize.ShloMosaic.Lib.VecWindow
public import Idealize.ShloMosaic.Lib.ValueIdx
public import Idealize.ShloMosaic.PureOps.Ideal.Laws
public import Idealize.ShloMosaic.PureOps.IdealRules

@[expose] public section

set_option maxRecDepth 16384

noncomputable section

namespace Cert.Kernel2Ideal.Tile

open Cert.Kernel2Ideal Cert.Kernel2Ideal.Gen Idealize.ShloMosaic Finset

/-- A matrix of extended reals read from a function of its row and column. -/
def ev (a b : ℕ) (φ : FTy) (f : ℕ → ℕ → EReal) : FVec Ideal ⟨2, ![a, b]⟩ φ := fun i => f (i 0).val (i 1).val

theorem zero2 : (![0, 0] : Fin 2 → ℕ) = fun _ => 0 := funext fun a => by fin_cases a <;> rfl

/-- A load of a whole buffer. -/
theorem rd2 {sp : Space} {a b : ℕ} {φ : EltTy} (r : Memref sig .tc sp ⟨2, ![a, b]⟩ φ) (h : r.IsWhole) (x : Vec Ideal ⟨2, ![a, b]⟩ φ)
    (inb : ∀ k, (![0, 0] : Fin 2 → ℕ) k + (⟨2, ![a, b]⟩ : Shape).size k ≤ (⟨2, ![a, b]⟩ : Shape).size k) :
    View.readAt (Elt Ideal) r.view (Rect.unit ![0, 0] (⟨2, ![a, b]⟩ : Shape).size inb).toLoadRect (h.unread x) = x := by
  rw [View.readAt_eq_ld, h.read_unread, View.ld_unit_zero zero2]

/-- Columns against columns of two row blocks. -/
theorem dot_cc (x : FVec Ideal S2048x1408 .bf16) (y : FVec Ideal S2048x1024 .bf16) (f g : ℕ → ℕ → EReal) (hx : x = ev 2048 1408 .bf16 f) (hy : y = ev 2048 1024 .bf16 g) :
    (matmul dot_S2048x1408_S2048x1024_S1408x1024_0_0_1_1_n_n none x y (constant S1408x1024 .f32 0x00000000#32) : FVec Ideal S1408x1024 .f32)
      = ev 1408 1024 .f32 fun i j => ∑ k ∈ range 2048, f k i * g k j := by
  subst hx hy
  funext i
  refine (Ideal.matmul_constant_zero_apply dot_S2048x1408_S2048x1024_S1408x1024_0_0_1_1_n_n none (ev 2048 1408 .bf16 f) (ev 2048 1024 .bf16 g) i).trans ?_
  rw [← Equiv.sum_comp (ValueIdx.contrEquiv1 dot_S2048x1408_S2048x1024_S1408x1024_0_0_1_1_n_n 2048 rfl rfl).symm]
  refine (Finset.sum_congr rfl fun k _ => ?_).trans (Fin.sum_univ_eq_sum_range (fun k => f k (i 0).val * g k (i 1).val) 2048)
  have hk := ValueIdx.contrEquiv1_symm_val dot_S2048x1408_S2048x1024_S1408x1024_0_0_1_1_n_n 2048 rfl rfl k
  generalize (ValueIdx.contrEquiv1 dot_S2048x1408_S2048x1024_S1408x1024_0_0_1_1_n_n 2048 rfl rfl).symm k = q at hk ⊢
  have l1 : (dot_S2048x1408_S2048x1024_S1408x1024_0_0_1_1_n_n.lhsIdx i q 1).val = (i 0).val := by
    unfold DotDims.lhsIdx
    rw [dif_neg (show ¬(1 : Fin S2048x1408.rank) ∈ dot_S2048x1408_S2048x1024_S1408x1024_0_0_1_1_n_n.lhsBatch by decide), dif_pos (show (1 : Fin S2048x1408.rank) ∈ dot_S2048x1408_S2048x1024_S1408x1024_0_0_1_1_n_n.lhsNonContracting by decide)]
    rfl
  have l0 : (dot_S2048x1408_S2048x1024_S1408x1024_0_0_1_1_n_n.lhsIdx i q 0).val = k.val :=
    (dot_S2048x1408_S2048x1024_S1408x1024_0_0_1_1_n_n.lhsIdx_val_of_single rfl i q).trans hk
  have r1 : (dot_S2048x1408_S2048x1024_S1408x1024_0_0_1_1_n_n.rhsIdx i q 1).val = (i 1).val := by
    unfold DotDims.rhsIdx
    rw [dif_neg (show ¬(1 : Fin S2048x1024.rank) ∈ dot_S2048x1408_S2048x1024_S1408x1024_0_0_1_1_n_n.rhsBatch by decide), dif_pos (show (1 : Fin S2048x1024.rank) ∈ dot_S2048x1408_S2048x1024_S1408x1024_0_0_1_1_n_n.rhsNonContracting by decide)]
    rfl
  have r0 : (dot_S2048x1408_S2048x1024_S1408x1024_0_0_1_1_n_n.rhsIdx i q 0).val = k.val :=
    (dot_S2048x1408_S2048x1024_S1408x1024_0_0_1_1_n_n.rhsIdx_val_of_single rfl i q).trans hk
  unfold ev
  rw [l0, l1, r0, r1]

theorem one_f32 : Ideal.ofBits .f32 0x3F800000#32 = 1 := by
  rw [← EReal.coe_one]
  simp [Ideal.ofBits, Ideal.ieee, -EReal.coe_mul]
  norm_num

theorem pay1_ev : (k0_pay1 : FVec Ideal S1408x1024 .f32) = ev 1408 1024 .f32 fun _ _ => 0 := by
  funext i
  show Ideal.ofBits .f32 0x00000000#32 = 0
  simp [Ideal.ofBits, Ideal.ieee]

theorem pay2_ev (x : Vec Ideal S2048x1408 .bf16) (y : Vec Ideal S2048x1024 .bf16) (s : Vec Ideal S1408x1024 .f32) (f g u : ℕ → ℕ → EReal)
    (hs : s = ev 1408 1024 .f32 u) (hx : x = ev 2048 1408 .bf16 f) (hy : y = ev 2048 1024 .bf16 g) :
    (k0_pay2 s x y : FVec Ideal S1408x1024 .f32) = ev 1408 1024 .f32 fun i j => u i j + ∑ k ∈ range 2048, f k i * g k j := by
  subst hs
  unfold k0_pay2
  dsimp only
  rw [dot_cc x y f g hx hy, shapeCast_self]
  rfl

theorem pay3_ev (s : Vec Ideal S1408x1024 .f32) (u : ℕ → ℕ → EReal) (hs : s = ev 1408 1024 .f32 u) :
    (k0_pay3 s : FVec Ideal S1408x1024 .bf16) = ev 1408 1024 .bf16 u := by
  subst hs
  unfold k0_pay3
  funext i
  show Ideal.ofBits .f32 0x3F800000#32 * u (i 0).val (i 1).val = u (i 0).val (i 1).val
  rw [one_f32, one_mul]

/-! ## What the scratch and the output block hold after one step -/

theorem scr_A (c : Dev nD) (i : grid0.Coords) (a2 : Memref sig .tc .vmem S2048x1408 .bf16) (h2 : a2.IsWhole) (a3 : Memref sig .tc .vmem S2048x1024 .bf16) (h3 : a3.IsWhole) (a4 : Memref sig .tc .vmem S1408x1024 .bf16) (h4 : a4.IsWhole) (a5 : Memref sig .tc .vmem S1408x1024 .f32) (h5 : a5.IsWhole) (q0 : cond0_0 i) (q1 : ¬cond0_1 i) (x : Vec Ideal S2048x1408 .bf16) (y : Vec Ideal S2048x1024 .bf16)  (f g : ℕ → ℕ → EReal) (hx : x = ev 2048 1408 .bf16 f) (hy : y = ev 2048 1024 .bf16 g) :
    sout0_A_0 (F := Ideal) c i a2 h2 a3 h3 a4 h4 a5 h5 q0 q1 x y = ev 1408 1024 .f32 fun i j => 0 + ∑ k ∈ range 2048, f k i * g k j := by
  unfold sout0_A_0
  refine (View.read_writes_eq_canon _ _ _ (scover0_A_0 (F := Ideal) c i a2 h2 a3 h3 a4 h4 a5 h5 q0 q1 x y)).trans ?_
  unfold kernelRun0_A
  dsimp only
  refine (View.canon_cons_unit_lit inb_S1408x1024_S1408x1024_0_0 _ _ (fun a => by fin_cases a <;> rfl)).trans ?_
  exact pay2_ev _ _ _ _ _ _ ((View.readCov_full _ _ _ _ _).trans pay1_ev) ((rd2 (a := 2048) (b := 1408) a2 h2 x inb_S2048x1408_S2048x1408_0_0).trans hx) ((rd2 (a := 2048) (b := 1024) a3 h3 y inb_S2048x1024_S2048x1024_0_0).trans hy)

theorem scr_B (c : Dev nD) (i : grid0.Coords) (a2 : Memref sig .tc .vmem S2048x1408 .bf16) (h2 : a2.IsWhole) (a3 : Memref sig .tc .vmem S2048x1024 .bf16) (h3 : a3.IsWhole) (a4 : Memref sig .tc .vmem S1408x1024 .bf16) (h4 : a4.IsWhole) (a5 : Memref sig .tc .vmem S1408x1024 .f32) (h5 : a5.IsWhole) (q0 : ¬cond0_0 i) (q1 : ¬cond0_1 i) (x : Vec Ideal S2048x1408 .bf16) (y : Vec Ideal S2048x1024 .bf16) (s : Vec Ideal S1408x1024 .f32) (f g u : ℕ → ℕ → EReal) (hx : x = ev 2048 1408 .bf16 f) (hy : y = ev 2048 1024 .bf16 g) (hs : s = ev 1408 1024 .f32 u) :
    sout0_B_0 (F := Ideal) c i a2 h2 a3 h3 a4 h4 a5 h5 q0 q1 x y s = ev 1408 1024 .f32 fun i j => u i j + ∑ k ∈ range 2048, f k i * g k j := by
  unfold sout0_B_0
  refine (View.read_writes_eq_canon _ _ _ (scover0_B_0 (F := Ideal) c i a2 h2 a3 h3 a4 h4 a5 h5 q0 q1 x y s)).trans ?_
  unfold kernelRun0_B
  dsimp only
  refine (View.canon_cons_unit_lit inb_S1408x1024_S1408x1024_0_0 _ _ (fun a => by fin_cases a <;> rfl)).trans ?_
  exact pay2_ev _ _ _ _ _ _ ((rd2 (a := 1408) (b := 1024) a5 h5 s inb_S1408x1024_S1408x1024_0_0).trans hs) ((rd2 (a := 2048) (b := 1408) a2 h2 x inb_S2048x1408_S2048x1408_0_0).trans hx) ((rd2 (a := 2048) (b := 1024) a3 h3 y inb_S2048x1024_S2048x1024_0_0).trans hy)

theorem scr_C (c : Dev nD) (i : grid0.Coords) (a2 : Memref sig .tc .vmem S2048x1408 .bf16) (h2 : a2.IsWhole) (a3 : Memref sig .tc .vmem S2048x1024 .bf16) (h3 : a3.IsWhole) (a4 : Memref sig .tc .vmem S1408x1024 .bf16) (h4 : a4.IsWhole) (a5 : Memref sig .tc .vmem S1408x1024 .f32) (h5 : a5.IsWhole) (q0 : ¬cond0_0 i) (q1 : cond0_1 i) (x : Vec Ideal S2048x1408 .bf16) (y : Vec Ideal S2048x1024 .bf16) (s : Vec Ideal S1408x1024 .f32) (f g u : ℕ → ℕ → EReal) (hx : x = ev 2048 1408 .bf16 f) (hy : y = ev 2048 1024 .bf16 g) (hs : s = ev 1408 1024 .f32 u) :
    sout0_C_0 (F := Ideal) c i a2 h2 a3 h3 a4 h4 a5 h5 q0 q1 x y s = ev 1408 1024 .f32 fun i j => u i j + ∑ k ∈ range 2048, f k i * g k j := by
  unfold sout0_C_0
  refine (View.read_writes_eq_canon _ _ _ (scover0_C_0 (F := Ideal) c i a2 h2 a3 h3 a4 h4 a5 h5 q0 q1 x y s)).trans ?_
  unfold kernelRun0_C
  dsimp only
  refine (View.canon_cons_unit_lit inb_S1408x1024_S1408x1024_0_0 _ _ (fun a => by fin_cases a <;> rfl)).trans ?_
  exact pay2_ev _ _ _ _ _ _ ((rd2 (a := 1408) (b := 1024) a5 h5 s inb_S1408x1024_S1408x1024_0_0).trans hs) ((rd2 (a := 2048) (b := 1408) a2 h2 x inb_S2048x1408_S2048x1408_0_0).trans hx) ((rd2 (a := 2048) (b := 1024) a3 h3 y inb_S2048x1024_S2048x1024_0_0).trans hy)

theorem out_C (c : Dev nD) (i : grid0.Coords) (a2 : Memref sig .tc .vmem S2048x1408 .bf16) (h2 : a2.IsWhole) (a3 : Memref sig .tc .vmem S2048x1024 .bf16) (h3 : a3.IsWhole) (a4 : Memref sig .tc .vmem S1408x1024 .bf16) (h4 : a4.IsWhole) (a5 : Memref sig .tc .vmem S1408x1024 .f32) (h5 : a5.IsWhole) (q0 : ¬cond0_0 i) (q1 : cond0_1 i) (x : Vec Ideal S2048x1408 .bf16) (y : Vec Ideal S2048x1024 .bf16) (s : Vec Ideal S1408x1024 .f32) (f g u : ℕ → ℕ → EReal) (hx : x = ev 2048 1408 .bf16 f) (hy : y = ev 2048 1024 .bf16 g) (hs : s = ev 1408 1024 .f32 u) :
    out0_C_2 (F := Ideal) c i a2 h2 a3 h3 a4 h4 a5 h5 q0 q1 x y s = ev 1408 1024 .bf16 fun i j => u i j + ∑ k ∈ range 2048, f k i * g k j := by
  unfold out0_C_2
  refine (View.read_writes_eq_canon _ _ _ (cover0_C_2 (F := Ideal) c i a2 h2 a3 h3 a4 h4 a5 h5 q0 q1 x y s)).trans ?_
  unfold kernelRun0_C
  dsimp only
  refine (View.canon_cons_unit_lit inb_S1408x1024_S1408x1024_0_0 _ _ (fun a => by fin_cases a <;> rfl)).trans ?_
  exact pay3_ev _ _ ((View.readCov_full _ _ _ _ _).trans (pay2_ev _ _ _ _ _ _ ((rd2 (a := 1408) (b := 1024) a5 h5 s inb_S1408x1024_S1408x1024_0_0).trans hs) ((rd2 (a := 2048) (b := 1408) a2 h2 x inb_S2048x1408_S2048x1408_0_0).trans hx) ((rd2 (a := 2048) (b := 1024) a3 h3 y inb_S2048x1024_S2048x1024_0_0).trans hy)))

/-! ## The blocks of the operands -/

variable (m : (ℓ : Loc nD τ sig) → Buf (Elt Ideal) ℓ) (c : Dev nD) (f g : ℕ → ℕ → EReal)

theorem col0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem col1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)

theorem blk0 (h : m ((c.tc : Thread nD τ).loc main_arg0) = ev 8192 2816 .bf16 f) (t : Fin cfg0.N) :
    iblk (F := Ideal) m c 0 t = ev 2048 1408 .bf16 fun r i => f (t.val % 4 * 2048 + r) (t.val / 4 * 1408 + i) := by
  obtain ⟨e0, e1⟩ := col0 t
  funext y
  show m ((c.tc : Thread nD τ).loc main_arg0) (((cfg0.win 0).blk t).view.emb y) = _
  rw [h]
  have a0 : (((cfg0.win 0).blk t).view.emb y 0).val = win0_0.index t (0 : Fin 2) * 2048 + 1 * (y 0).val := rfl
  have a1 : (((cfg0.win 0).blk t).view.emb y 1).val = win0_0.index t (1 : Fin 2) * 1408 + 1 * (y 1).val := rfl
  show f (((cfg0.win 0).blk t).view.emb y 0).val (((cfg0.win 0).blk t).view.emb y 1).val = f (t.val % 4 * 2048 + (y 0).val) (t.val / 4 * 1408 + (y 1).val)
  rw [a0, a1, e0, e1, one_mul, one_mul]

theorem blk1 (h : m ((c.tc : Thread nD τ).loc main_arg1) = ev 8192 1024 .bf16 g) (t : Fin cfg0.N) :
    iblk (F := Ideal) m c 1 t = ev 2048 1024 .bf16 fun r i => g (t.val % 4 * 2048 + r) i := by
  obtain ⟨e0, e1⟩ := col1 t
  funext y
  show m ((c.tc : Thread nD τ).loc main_arg1) (((cfg0.win 1).blk t).view.emb y) = _
  rw [h]
  have a0 : (((cfg0.win 1).blk t).view.emb y 0).val = win0_1.index t (0 : Fin 2) * 2048 + 1 * (y 0).val := rfl
  have a1 : (((cfg0.win 1).blk t).view.emb y 1).val = win0_1.index t (1 : Fin 2) * 1024 + 1 * (y 1).val := rfl
  show g (((cfg0.win 1).blk t).view.emb y 0).val (((cfg0.win 1).blk t).view.emb y 1).val = g (t.val % 4 * 2048 + (y 0).val) (y 1).val
  rw [a0, a1, e0, e1, one_mul, one_mul, zero_mul, zero_add]

/-! ## The running sum -/

/-- The sum over the first `n` rows. -/
def part (n b i j : ℕ) : EReal := ∑ k ∈ range n, f k (b * 1408 + i) * g k j

theorem part_step (k b i j : ℕ) :
    part f g (k * 2048) b i j + ∑ r ∈ range 2048, f (k * 2048 + r) (b * 1408 + i) * g (k * 2048 + r) j = part f g ((k + 1) * 2048) b i j := by
  unfold part
  rw [Nat.succ_mul, Finset.sum_range_add]

variable {m c f g}

theorem scr_at (h0 : m ((c.tc : Thread nD τ).loc main_arg0) = ev 8192 2816 .bf16 f) (h1 : m ((c.tc : Thread nD τ).loc main_arg1) = ev 8192 1024 .bf16 g) :
    ∀ (n : ℕ) (hn : n < cfg0.N), (outsAt0 (F := Ideal) m c n hn).2 = ev 1408 1024 .f32 fun i j => part f g ((n % 4 + 1) * 2048) (n / 4) i j
  | 0, hn => by
    rw [Value.outsAt0_zero, Value.stAt0_A m c ⟨0, hn⟩ _ (Nat.zero_mod _) (fun h => by (try dsimp only at h); omega)]
    dsimp only
    rw [scr_A _ _ _ _ _ _ _ _ _ _ _ _ _ _ _ _ (blk0 m c f h0 ⟨0, hn⟩) (blk1 m c g h1 ⟨0, hn⟩)]
    refine congrArg (ev 1408 1024 .f32) (funext fun i => funext fun j => ?_)
    rw [← part_step]
    refine congrArg (· + _) ?_
    unfold part
    rw [Nat.zero_mod, Nat.zero_mul, Finset.sum_range_zero]
  | n + 1, hn => by
    have hN : n + 1 < 8 := lt_of_lt_of_eq hn (show cfg0.N = 8 from N_0)
    rw [Value.outsAt0_succ]
    by_cases q0 : (n + 1) % 4 = 0
    · rw [Value.stAt0_A m c ⟨n + 1, hn⟩ _ q0 (by show ¬ (n + 1) % 4 = 3; omega)]
      dsimp only
      rw [scr_A _ _ _ _ _ _ _ _ _ _ _ _ _ _ _ _ (blk0 m c f h0 ⟨n + 1, hn⟩) (blk1 m c g h1 ⟨n + 1, hn⟩)]
      refine congrArg (ev 1408 1024 .f32) (funext fun i => funext fun j => ?_)
      rw [← part_step]
      refine congrArg (· + _) ?_
      unfold part
      rw [q0, Nat.zero_mul, Finset.sum_range_zero]
    · have e1 : n % 4 + 1 = (n + 1) % 4 := by omega
      have e2 : n / 4 = (n + 1) / 4 := by omega
      have H := scr_at h0 h1 n (Nat.lt_of_succ_lt hn)
      rw [e1, e2] at H
      by_cases q1 : (n + 1) % 4 = 3
      · rw [Value.stAt0_C m c ⟨n + 1, hn⟩ _ q0 q1]
        dsimp only
        rw [scr_C _ _ _ _ _ _ _ _ _ _ _ _ _ _ _ _ _ _ (blk0 m c f h0 ⟨n + 1, hn⟩) (blk1 m c g h1 ⟨n + 1, hn⟩) H]
        exact congrArg (ev 1408 1024 .f32) (funext fun i => funext fun j => part_step f g _ _ i j)
      · rw [Value.stAt0_B m c ⟨n + 1, hn⟩ _ q0 q1]
        dsimp only
        rw [scr_B _ _ _ _ _ _ _ _ _ _ _ _ _ _ _ _ _ _ (blk0 m c f h0 ⟨n + 1, hn⟩) (blk1 m c g h1 ⟨n + 1, hn⟩) H]
        exact congrArg (ev 1408 1024 .f32) (funext fun i => funext fun j => part_step f g _ _ i j)

theorem out_at (h0 : m ((c.tc : Thread nD τ).loc main_arg0) = ev 8192 2816 .bf16 f) (h1 : m ((c.tc : Thread nD τ).loc main_arg1) = ev 8192 1024 .bf16 g)
    (n : ℕ) (hn : n + 1 < cfg0.N) (q1 : (n + 1) % 4 = 3) : (outsAt0 (F := Ideal) m c (n + 1) hn).1 = ev 1408 1024 .bf16 fun i j => part f g 8192 ((n + 1) / 4) i j := by
  have e1 : n % 4 + 1 = (n + 1) % 4 := by omega
  have e2 : n / 4 = (n + 1) / 4 := by omega
  have H := scr_at h0 h1 n (Nat.lt_of_succ_lt hn)
  rw [e1, e2] at H
  rw [Value.outsAt0_succ, Value.stAt0_C m c ⟨n + 1, hn⟩ _ (by show ¬ (n + 1) % 4 = 0; omega) q1]
  dsimp only
  rw [out_C _ _ _ _ _ _ _ _ _ _ _ _ _ _ _ _ _ _ (blk0 m c f h0 ⟨n + 1, hn⟩) (blk1 m c g h1 ⟨n + 1, hn⟩) H]
  refine congrArg (ev 1408 1024 .bf16) (funext fun i => funext fun j => (part_step f g _ _ i j).trans ?_)
  show part f g (((n + 1) % 4 + 1) * 2048) ((n + 1) / 4) i j = part f g 8192 ((n + 1) / 4) i j
  rw [q1]

/-- The array of weight gradients. -/
theorem out2 (h0 : m ((c.tc : Thread nD τ).loc main_arg0) = ev 8192 2816 .bf16 f) (h1 : m ((c.tc : Thread nD τ).loc main_arg1) = ev 8192 1024 .bf16 g) :
    Value.G2 (F := Ideal) m c = ev 2816 1024 .bf16 fun i j => ∑ k ∈ range 8192, f k i * g k j := by
  funext i
  have i0 : (i 0).val < 2816 := (i 0).isLt
  have i1 : (i 1).val < 1024 := (i 1).isLt
  have hp : Value.pt2Of i = 4 * ((i 0).val / 1408) + 2 + 1 := by
    show 4 * (1 * ((i 0).val / 1408 - 0) + 1 * ((i 1).val / 1024 - 0)) + 3 = _
    omega
  have hlt : Value.pt2Of i < cfg0.N := by rw [hp]; exact lt_of_lt_of_eq (by omega) (show cfg0.N = 8 from N_0).symm
  have hlt' : 4 * ((i 0).val / 1408) + 2 + 1 < cfg0.N := hp ▸ hlt
  unfold Value.G2
  rw [dif_pos hlt, ← Value.outsAt0_sweep m c _ hlt]
  have e : (outsAt0 (F := Ideal) m c (Value.pt2Of i) hlt).1 = (outsAt0 (F := Ideal) m c (4 * ((i 0).val / 1408) + 2 + 1) hlt').1 := by
    congr 1
    congr 1
  rw [e, out_at h0 h1 _ hlt' (by omega)]
  show part f g 8192 ((4 * ((i 0).val / 1408) + 2 + 1) / 4) ((i 0).val % 1408) ((i 1).val % 1024) = ∑ k ∈ range 8192, f k (i 0).val * g k (i 1).val
  rw [show (4 * ((i 0).val / 1408) + 2 + 1) / 4 = (i 0).val / 1408 by omega, Nat.mod_eq_of_lt i1]
  unfold part
  rw [show (i 0).val / 1408 * 1408 + (i 0).val % 1408 = (i 0).val by omega]

end Cert.Kernel2Ideal.Tile

end
-- ==== Proof.Dw.Ref.lean ====
/- The reference of a weight gradient, read at one place. -/
module

public import proofs.«01_k».proof.Proof.Gen.Reference2Ideal.Read
public import proofs.«01_k».proof.Proof.Dw.Grad

@[expose] public section

set_option maxRecDepth 16384

noncomputable section

namespace Cert.Reference2Ideal.Meets

open Cert.Reference2Ideal Cert.Reference2Ideal.Gen Idealize.ShloMosaic Finset
open Cert.Kernel2Ideal.Tile (ev)

theorem meets (f g : ℕ → ℕ → EReal) :
    Read.val_main_v6 (F := Ideal) (ev 8192 2816 .bf16 f) (ev 8192 1024 .bf16 g) = ev 2816 1024 .bf16 fun i j => ∑ k ∈ range 8192, f k i * g k j := by
  funext i
  show Read.val_main_v5 (F := Ideal) (ev 8192 2816 .bf16 f) (ev 8192 1024 .bf16 g) i = _
  rw [Read.val_main_v5_apply, Read.val_main_v4_apply]
  refine (Finset.sum_congr rfl fun k _ => ?_).trans (Fin.sum_univ_eq_sum_range (fun k => f k (i 0).val * g k (i 1).val) 8192)
  exact mul_comm (g k.val (i 1).val) (f k.val (i 0).val)

/-- The position of row `i` and column `j`. -/
def at2 {a b : ℕ} (i j : ℕ) (hi : i < a) (hj : j < b) : (⟨2, ![a, b]⟩ : Shape).Idx :=
  fun k => match k with
    | ⟨0, _⟩ => ⟨i, hi⟩
    | ⟨1, _⟩ => ⟨j, hj⟩

/-- Every matrix is read from some function of its row and column. -/
theorem eq_ev {a b : ℕ} {φ : FTy} (x : FVec Ideal ⟨2, ![a, b]⟩ φ) : ∃ f, x = ev a b φ f := by
  refine ⟨fun r s => if h : r < a ∧ s < b then x (at2 r s h.1 h.2) else 0, funext fun i => ?_⟩
  have h0 : (i 0).val < a := (i 0).isLt
  have h1 : (i 1).val < b := (i 1).isLt
  have hi : at2 (i 0).val (i 1).val h0 h1 = i := funext fun d => match d with | ⟨0, _⟩ => rfl | ⟨1, _⟩ => rfl
  exact ((dif_pos (show (i 0).val < a ∧ (i 1).val < b from ⟨h0, h1⟩)).trans (congrArg x hi)).symm

end Cert.Reference2Ideal.Meets

end
-- ==== Proof.Ffn.Slot.lean ====
module

public import proofs.«01_k».proof.Proof.Gen.Kernel3Ideal.Frame
public import proofs.«01_k».proof.Proof.Gen.Kernel3Ideal.Skeleton
public import Idealize.ShloMosaic.Lib.Exec.Geometry

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The slot of the scratch that a point reads, the one the point before it wrote, -/
theorem off1_eq : ∀ i : grid0.Coords, k0_off1 i = ![((i 0).val + 1) % 2, 0, 0] := by decide +kernel
/-- and the slot it writes. -/
theorem off2_eq : ∀ i : grid0.Coords, k0_off2 i = ![(i 0).val % 2, 0, 0] := by decide +kernel

instance closed1 (i : grid0.Coords) : ClosedOff (k0_off1 i) := ⟨![((i 0).val + 1) % 2, 0, 0], off1_eq i⟩
instance closed2 (i : grid0.Coords) : ClosedOff (k0_off2 i) := ⟨![(i 0).val % 2, 0, 0], off2_eq i⟩

end Cert.Kernel3Ideal.Rows

end
-- ==== Proof.Ffn.RunA.lean ====
module

public import proofs.«01_k».proof.Proof.Gen.Kernel3Ideal.Frame
public import proofs.«01_k».proof.Proof.Gen.Kernel3Ideal.Skeleton
public import proofs.«01_k».proof.Proof.Ffn.Slot

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 4000000 in
/-- The body at the first point: the pieces that its stores leave in the five outputs and in the scratch, with the proof that it runs. -/
def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (h1 : k0_cond1 i = 1#1) (h2 : k0_cond2 i = 1#1) (h3 : ¬k0_cond3 i = 1#1) (x0 : Vec F S256x1024 .f32) (x1 : Vec F S256x1024 .f32) (x2 : Vec F S256x1024 .f32) (x3 : Vec F S1x1024 .f32) (x4 : Vec F S256x2816 .bf16) (x5 : Vec F S256x2816 .bf16) (x6 : Vec F S2816x1024 .bf16) (x7 : Vec F S2816x1024 .bf16) (x8 : Vec F S2816x1024 .bf16) :
    Σ' (L9 : List (View.Piece (Elt F) S256x1024 .f32)), Σ' (L10 : List (View.Piece (Elt F) S256x2816 .bf16)), Σ' (L11 : List (View.Piece (Elt F) S256x2816 .bf16)), Σ' (L12 : List (View.Piece (Elt F) S256x1024 .bf16)), Σ' (L13 : List (View.Piece (Elt F) S1x1024 .f32)), { L14 : List (View.Piece (Elt F) S2x256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_ffn1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact H14

end Cert.Kernel3Ideal.Rows

end
-- ==== Proof.Ffn.RunC.lean ====
module

public import proofs.«01_k».proof.Proof.Gen.Kernel3Ideal.Frame
public import proofs.«01_k».proof.Proof.Gen.Kernel3Ideal.Skeleton

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 4000000 in
/-- The body at the last point, which finishes the last block of rows and stores neither `da`, `db`, `df` nor the scratch. -/
def runC (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (h1 : ¬k0_cond1 i = 1#1) (h2 : ¬k0_cond2 i = 1#1) (h3 : k0_cond3 i = 1#1) (x0 : Vec F S256x1024 .f32) (x1 : Vec F S256x1024 .f32) (x2 : Vec F S256x1024 .f32) (x3 : Vec F S1x1024 .f32) (x4 : Vec F S256x2816 .bf16) (x5 : Vec F S256x2816 .bf16) (x6 : Vec F S2816x1024 .bf16) (x7 : Vec F S2816x1024 .bf16) (x8 : Vec F S2816x1024 .bf16) (xd : Vec F S1x1024 .f32) (xs : Vec F S2x256x1024 .f32) :
    Σ' (L9 : List (View.Piece (Elt F) S256x1024 .f32)), { L13 : List (View.Piece (Elt F) S1x1024 .f32) //
      ∀ (y10 : Vec F S256x2816 .bf16) (y11 : Vec F S256x2816 .bf16) (y12 : Vec F S256x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y10 ∗ owns (c : Thread nD τ) arg12 fullShare y11 ∗ owns (c : Thread nD τ) arg13 fullShare y12 ∗ owns (c : Thread nD τ) arg14 fullShare xd ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare y10 ∗ owns (c : Thread nD τ) arg12 fullShare y11 ∗ owns (c : Thread nD τ) arg13 fullShare y12 ∗ (∃ f, arg14.view.loc (c : Thread nD τ) ↦[arg14.view.set]{fullShare} arg14.view.writes (Elt F) f L13) ∗ owns (c : Thread nD τ) arg15 fullShare xs) -∗ K ⟨⟩))
          ⊢ wp frame (wpE (defs₀ (F := F)) Variants.none c none) E (cc0_ffn1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun y10 y11 y12 E K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg11.eq_unread hf10; obtain rfl := harg12.eq_unread hf11; obtain rfl := harg13.eq_unread hf12; obtain rfl := harg14.eq_unread hf13; obtain rfl := harg15.eq_unread hf14
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    iexists _; isplitr; · ipureintro; exact harg15.read_unread _
    iexact H14

end Cert.Kernel3Ideal.Rows

end
-- ==== Proof.Ffn.RunB.lean ====
module

public import proofs.«01_k».proof.Proof.Gen.Kernel3Ideal.Frame
public import proofs.«01_k».proof.Proof.Gen.Kernel3Ideal.Skeleton
public import proofs.«01_k».proof.Proof.Ffn.RunC

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 4000000 in
/-- The body at an inner point, over the gain row `xd` and the scratch `xs` that the point before left. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (h1 : ¬k0_cond1 i = 1#1) (h2 : k0_cond2 i = 1#1) (h3 : ¬k0_cond3 i = 1#1) (x0 : Vec F S256x1024 .f32) (x1 : Vec F S256x1024 .f32) (x2 : Vec F S256x1024 .f32) (x3 : Vec F S1x1024 .f32) (x4 : Vec F S256x2816 .bf16) (x5 : Vec F S256x2816 .bf16) (x6 : Vec F S2816x1024 .bf16) (x7 : Vec F S2816x1024 .bf16) (x8 : Vec F S2816x1024 .bf16) (xd : Vec F S1x1024 .f32) (xs : Vec F S2x256x1024 .f32) :
    Σ' (L9 : List (View.Piece (Elt F) S256x1024 .f32)), Σ' (L10 : List (View.Piece (Elt F) S256x2816 .bf16)), Σ' (L11 : List (View.Piece (Elt F) S256x2816 .bf16)), Σ' (L12 : List (View.Piece (Elt F) S256x1024 .bf16)), Σ' (L13 : List (View.Piece (Elt F) S1x1024 .f32)), { L14 : List (View.Piece (Elt F) S2x256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xd ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ arg15.view.loc (c : Thread nD τ) ↦[arg15.view.set]{fullShare} arg15.view.writes (Elt F) (harg15.unread xs) L14) -∗ K ⟨⟩))
          ⊢ wp frame (wpE (defs₀ (F := F)) Variants.none c none) E (cc0_ffn1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg14.eq_unread hf13; obtain rfl := harg15.eq_unread hf14
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    iexact H14

end Cert.Kernel3Ideal.Rows

end
-- ==== Proof.Ffn.State.lean ====
module

public import proofs.«01_k».proof.Proof.Gen.Kernel3Ideal.Frame
public import proofs.«01_k».proof.Proof.Gen.Kernel3Ideal.Skeleton
public import proofs.«01_k».proof.Proof.Ffn.RunA
public import proofs.«01_k».proof.Proof.Ffn.RunB
public import proofs.«01_k».proof.Proof.Ffn.RunC
public import Idealize.ShloMosaic.Lib.VecWindow

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is in which case -/

/-- The first condition holds at the first point alone, -/
theorem first_iff : ∀ t : Fin cfg0.N, k0_cond1 (grid0.coords t) = 1#1 ↔ t.val = 0 := by decide +kernel
/-- the second at every point but the last, -/
theorem inner_iff : ∀ t : Fin cfg0.N, k0_cond2 (grid0.coords t) = 1#1 ↔ t.val ≠ 32 := by decide +kernel
/-- the third at the last. -/
theorem last_iff : ∀ t : Fin cfg0.N, k0_cond3 (grid0.coords t) = 1#1 ↔ t.val = 32 := by decide +kernel

/-- The outputs `dx` and `dgain` are stored into at every point. -/
theorem live9 : ∀ t : Fin cfg0.N, cfg0.idle 9 (grid0.coords t) = false := by decide +kernel
theorem live13 : ∀ t : Fin cfg0.N, cfg0.idle 13 (grid0.coords t) = false := by decide +kernel
/-- The outputs `da`, `db` and `df` are stored into at every point but the last, -/
theorem live10 : ∀ t : Fin cfg0.N, t.val ≠ 32 → cfg0.idle 10 (grid0.coords t) = false := by decide +kernel
theorem live11 : ∀ t : Fin cfg0.N, t.val ≠ 32 → cfg0.idle 11 (grid0.coords t) = false := by decide +kernel
theorem live12 : ∀ t : Fin cfg0.N, t.val ≠ 32 → cfg0.idle 12 (grid0.coords t) = false := by decide +kernel
/-- are written back at the last point, -/
theorem back10 : ∀ t : Fin cfg0.N, t.val = 32 → (cfg0.win 10).flush t = true := by decide +kernel
theorem back11 : ∀ t : Fin cfg0.N, t.val = 32 → (cfg0.win 11).flush t = true := by decide +kernel
theorem back12 : ∀ t : Fin cfg0.N, t.val = 32 → (cfg0.win 12).flush t = true := by decide +kernel
/-- and not at the point before it; -/
theorem stay10 : ∀ t : Fin cfg0.N, t.val = 31 → (cfg0.win 10).flush t = false := by decide +kernel
theorem stay11 : ∀ t : Fin cfg0.N, t.val = 31 → (cfg0.win 11).flush t = false := by decide +kernel
theorem stay12 : ∀ t : Fin cfg0.N, t.val = 31 → (cfg0.win 12).flush t = false := by decide +kernel
/-- `dgain` is written back at the last point alone. -/
theorem stay13 : ∀ t : Fin cfg0.N, t.val ≠ 32 → (cfg0.win 13).flush t = false := by decide +kernel

/-! ## What the buffers hold after each point -/

/-- The scratch, two blocks of rows of `dh`. -/
abbrev scr : Memref sig .tc .vmem S2x256x1024 .f32 := Memref.whole cc0_scratch0
/-- One buffer of each output, through which its contents are stated. -/
abbrev O9 : View sig .tc .vmem S256x1024 .f32 := (Memref.whole cc0_stg9_0 : Memref sig .tc .vmem S256x1024 .f32).view
abbrev O10 : View sig .tc .vmem S256x2816 .bf16 := (Memref.whole cc0_stg10_0 : Memref sig .tc .vmem S256x2816 .bf16).view
abbrev O11 : View sig .tc .vmem S256x2816 .bf16 := (Memref.whole cc0_stg11_0 : Memref sig .tc .vmem S256x2816 .bf16).view
abbrev O12 : View sig .tc .vmem S256x1024 .bf16 := (Memref.whole cc0_stg12_0 : Memref sig .tc .vmem S256x1024 .bf16).view
abbrev O13 : View sig .tc .vmem S1x1024 .f32 := (Memref.whole cc0_stg13_0 : Memref sig .tc .vmem S1x1024 .f32).view

/-- The run of case A at point `t`, on the point's buffers and blocks. -/
abbrev atA (c : Dev nD) (t : Fin cfg0.N) (h : t.val = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scr (Memref.isWhole_whole _)
    ((first_iff t).mpr h) ((inner_iff t).mpr (by omega)) (fun x => by have := (last_iff t).mp x; omega)
    (iblk m c 0 t) (iblk m c 1 t) (iblk m c 2 t) (iblk m c 3 t) (iblk m c 4 t) (iblk m c 5 t) (iblk m c 6 t) (iblk m c 7 t) (iblk m c 8 t)

/-- The run of case B at point `t`, on the point's buffers and blocks. -/
abbrev atB (c : Dev nD) (t : Fin cfg0.N) (h : t.val ≠ 0 ∧ t.val ≠ 32) (xd : Vec F S1x1024 .f32) (xs : Vec F S2x256x1024 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scr (Memref.isWhole_whole _)
    (fun x => h.1 ((first_iff t).mp x)) ((inner_iff t).mpr h.2) (fun x => h.2 ((last_iff t).mp x))
    (iblk m c 0 t) (iblk m c 1 t) (iblk m c 2 t) (iblk m c 3 t) (iblk m c 4 t) (iblk m c 5 t) (iblk m c 6 t) (iblk m c 7 t) (iblk m c 8 t) xd xs

/-- The run of case C at point `t`, on the point's buffers and blocks. -/
abbrev atC (c : Dev nD) (t : Fin cfg0.N) (h : t.val = 32) (xd : Vec F S1x1024 .f32) (xs : Vec F S2x256x1024 .f32) :=
  runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scr (Memref.isWhole_whole _)
    (fun x => by have := (first_iff t).mp x; omega) (fun x => (inner_iff t).mp x h) ((last_iff t).mpr h)
    (iblk m c 0 t) (iblk m c 1 t) (iblk m c 2 t) (iblk m c 3 t) (iblk m c 4 t) (iblk m c 5 t) (iblk m c 6 t) (iblk m c 7 t) (iblk m c 8 t) xd xs

/-- Case A's pieces cover output 9. -/
theorem coverA9 (c : Dev nD) (t : Fin cfg0.N) (h : t.val = 0) (y : S256x1024.Idx) :
    ∃ p ∈ (atA m c t h).1, y ∈ p.1.set :=
  View.cover_of_wholeMem (atA m c t h).1 (View.Piece.wholeMem_here (by rfl)) y

/-- Case A's pieces cover output 10. -/
theorem coverA10 (c : Dev nD) (t : Fin cfg0.N) (h : t.val = 0) (y : S256x2816.Idx) :
    ∃ p ∈ (atA m c t h).2.1, y ∈ p.1.set :=
  View.cover_of_tiledL (atA m c t h).2.1 S256x256.size (by sl_kernel_rfl) y

/-- Case A's pieces cover output 11. -/
theorem coverA11 (c : Dev nD) (t : Fin cfg0.N) (h : t.val = 0) (y : S256x2816.Idx) :
    ∃ p ∈ (atA m c t h).2.2.1, y ∈ p.1.set :=
  View.cover_of_tiledL (atA m c t h).2.2.1 S256x256.size (by sl_kernel_rfl) y

/-- Case A's pieces cover output 12. -/
theorem coverA12 (c : Dev nD) (t : Fin cfg0.N) (h : t.val = 0) (y : S256x1024.Idx) :
    ∃ p ∈ (atA m c t h).2.2.2.1, y ∈ p.1.set :=
  View.cover_of_wholeMem (atA m c t h).2.2.2.1 (View.Piece.wholeMem_here (by rfl)) y

/-- Case A's pieces cover output 13. -/
theorem coverA13 (c : Dev nD) (t : Fin cfg0.N) (h : t.val = 0) (y : S1x1024.Idx) :
    ∃ p ∈ (atA m c t h).2.2.2.2.1, y ∈ p.1.set :=
  View.cover_of_wholeMem (atA m c t h).2.2.2.2.1 (View.Piece.wholeMem_here (by rfl)) y

/-- Case B's pieces cover output 9. -/
theorem coverB9 (c : Dev nD) (t : Fin cfg0.N) (h : t.val ≠ 0 ∧ t.val ≠ 32) (xd : Vec F S1x1024 .f32) (xs : Vec F S2x256x1024 .f32) (y : S256x1024.Idx) :
    ∃ p ∈ (atB m c t h xd xs).1, y ∈ p.1.set :=
  View.cover_of_wholeMem (atB m c t h xd xs).1 (View.Piece.wholeMem_here (by rfl)) y

/-- Case B's pieces cover output 10. -/
theorem coverB10 (c : Dev nD) (t : Fin cfg0.N) (h : t.val ≠ 0 ∧ t.val ≠ 32) (xd : Vec F S1x1024 .f32) (xs : Vec F S2x256x1024 .f32) (y : S256x2816.Idx) :
    ∃ p ∈ (atB m c t h xd xs).2.1, y ∈ p.1.set :=
  View.cover_of_tiledL (atB m c t h xd xs).2.1 S256x256.size (by sl_kernel_rfl) y

/-- Case B's pieces cover output 11. -/
theorem coverB11 (c : Dev nD) (t : Fin cfg0.N) (h : t.val ≠ 0 ∧ t.val ≠ 32) (xd : Vec F S1x1024 .f32) (xs : Vec F S2x256x1024 .f32) (y : S256x2816.Idx) :
    ∃ p ∈ (atB m c t h xd xs).2.2.1, y ∈ p.1.set :=
  View.cover_of_tiledL (atB m c t h xd xs).2.2.1 S256x256.size (by sl_kernel_rfl) y

/-- Case B's pieces cover output 12. -/
theorem coverB12 (c : Dev nD) (t : Fin cfg0.N) (h : t.val ≠ 0 ∧ t.val ≠ 32) (xd : Vec F S1x1024 .f32) (xs : Vec F S2x256x1024 .f32) (y : S256x1024.Idx) :
    ∃ p ∈ (atB m c t h xd xs).2.2.2.1, y ∈ p.1.set :=
  View.cover_of_wholeMem (atB m c t h xd xs).2.2.2.1 (View.Piece.wholeMem_here (by rfl)) y

/-- Case B's pieces cover output 13. -/
theorem coverB13 (c : Dev nD) (t : Fin cfg0.N) (h : t.val ≠ 0 ∧ t.val ≠ 32) (xd : Vec F S1x1024 .f32) (xs : Vec F S2x256x1024 .f32) (y : S1x1024.Idx) :
    ∃ p ∈ (atB m c t h xd xs).2.2.2.2.1, y ∈ p.1.set :=
  View.cover_of_wholeMem (atB m c t h xd xs).2.2.2.2.1 (View.Piece.wholeMem_here (by rfl)) y

/-- Case C's pieces cover output 9. -/
theorem coverC9 (c : Dev nD) (t : Fin cfg0.N) (h : t.val = 32) (xd : Vec F S1x1024 .f32) (xs : Vec F S2x256x1024 .f32) (y : S256x1024.Idx) :
    ∃ p ∈ (atC m c t h xd xs).1, y ∈ p.1.set :=
  View.cover_of_wholeMem (atC m c t h xd xs).1 (View.Piece.wholeMem_here (by rfl)) y

/-- Case C's pieces cover output 13. -/
theorem coverC13 (c : Dev nD) (t : Fin cfg0.N) (h : t.val = 32) (xd : Vec F S1x1024 .f32) (xs : Vec F S2x256x1024 .f32) (y : S1x1024.Idx) :
    ∃ p ∈ (atC m c t h xd xs).2.1, y ∈ p.1.set :=
  View.cover_of_wholeMem (atC m c t h xd xs).2.1 (View.Piece.wholeMem_here (by rfl)) y

/-- Dx as case A leaves it. -/
def outA9 (c : Dev nD) (t : Fin cfg0.N) (h : t.val = 0) : Vec F S256x1024 .f32 :=
  O9.read (Elt F) (O9.writes (Elt F) O9.junk (atA m c t h).1)

/-- Da as case A leaves it. -/
def outA10 (c : Dev nD) (t : Fin cfg0.N) (h : t.val = 0) : Vec F S256x2816 .bf16 :=
  O10.read (Elt F) (O10.writes (Elt F) O10.junk (atA m c t h).2.1)

/-- Db as case A leaves it. -/
def outA11 (c : Dev nD) (t : Fin cfg0.N) (h : t.val = 0) : Vec F S256x2816 .bf16 :=
  O11.read (Elt F) (O11.writes (Elt F) O11.junk (atA m c t h).2.2.1)

/-- Df as case A leaves it. -/
def outA12 (c : Dev nD) (t : Fin cfg0.N) (h : t.val = 0) : Vec F S256x1024 .bf16 :=
  O12.read (Elt F) (O12.writes (Elt F) O12.junk (atA m c t h).2.2.2.1)

/-- Dgain as case A leaves it. -/
def outA13 (c : Dev nD) (t : Fin cfg0.N) (h : t.val = 0) : Vec F S1x1024 .f32 :=
  O13.read (Elt F) (O13.writes (Elt F) O13.junk (atA m c t h).2.2.2.2.1)

/-- The scratch as case A leaves it. -/
def outA14 (c : Dev nD) (t : Fin cfg0.N) (h : t.val = 0) : Vec F S2x256x1024 .f32 :=
  scr.view.read (Elt F) (scr.view.writes (Elt F) scr.view.junk (atA m c t h).2.2.2.2.2.1)

/-- Dx as case B leaves it. -/
def outB9 (c : Dev nD) (t : Fin cfg0.N) (h : t.val ≠ 0 ∧ t.val ≠ 32) (xd : Vec F S1x1024 .f32) (xs : Vec F S2x256x1024 .f32) : Vec F S256x1024 .f32 :=
  O9.read (Elt F) (O9.writes (Elt F) O9.junk (atB m c t h xd xs).1)

/-- Da as case B leaves it. -/
def outB10 (c : Dev nD) (t : Fin cfg0.N) (h : t.val ≠ 0 ∧ t.val ≠ 32) (xd : Vec F S1x1024 .f32) (xs : Vec F S2x256x1024 .f32) : Vec F S256x2816 .bf16 :=
  O10.read (Elt F) (O10.writes (Elt F) O10.junk (atB m c t h xd xs).2.1)

/-- Db as case B leaves it. -/
def outB11 (c : Dev nD) (t : Fin cfg0.N) (h : t.val ≠ 0 ∧ t.val ≠ 32) (xd : Vec F S1x1024 .f32) (xs : Vec F S2x256x1024 .f32) : Vec F S256x2816 .bf16 :=
  O11.read (Elt F) (O11.writes (Elt F) O11.junk (atB m c t h xd xs).2.2.1)

/-- Df as case B leaves it. -/
def outB12 (c : Dev nD) (t : Fin cfg0.N) (h : t.val ≠ 0 ∧ t.val ≠ 32) (xd : Vec F S1x1024 .f32) (xs : Vec F S2x256x1024 .f32) : Vec F S256x1024 .bf16 :=
  O12.read (Elt F) (O12.writes (Elt F) O12.junk (atB m c t h xd xs).2.2.2.1)

/-- Dgain as case B leaves it. -/
def outB13 (c : Dev nD) (t : Fin cfg0.N) (h : t.val ≠ 0 ∧ t.val ≠ 32) (xd : Vec F S1x1024 .f32) (xs : Vec F S2x256x1024 .f32) : Vec F S1x1024 .f32 :=
  O13.read (Elt F) (O13.writes (Elt F) O13.junk (atB m c t h xd xs).2.2.2.2.1)

/-- The scratch as case B leaves it. -/
def outB14 (c : Dev nD) (t : Fin cfg0.N) (h : t.val ≠ 0 ∧ t.val ≠ 32) (xd : Vec F S1x1024 .f32) (xs : Vec F S2x256x1024 .f32) : Vec F S2x256x1024 .f32 :=
  scr.view.read (Elt F) (scr.view.writes (Elt F) ((Memref.isWhole_whole cc0_scratch0).unread xs) (atB m c t h xd xs).2.2.2.2.2.1)

/-- Dx as case C leaves it. -/
def outC9 (c : Dev nD) (t : Fin cfg0.N) (h : t.val = 32) (xd : Vec F S1x1024 .f32) (xs : Vec F S2x256x1024 .f32) : Vec F S256x1024 .f32 :=
  O9.read (Elt F) (O9.writes (Elt F) O9.junk (atC m c t h xd xs).1)

/-- Dgain as case C leaves it. -/
def outC13 (c : Dev nD) (t : Fin cfg0.N) (h : t.val = 32) (xd : Vec F S1x1024 .f32) (xs : Vec F S2x256x1024 .f32) : Vec F S1x1024 .f32 :=
  O13.read (Elt F) (O13.writes (Elt F) O13.junk (atC m c t h xd xs).2.1)

/-- The point before the last. -/
abbrev near : Fin cfg0.N := ⟨31, by decide +kernel⟩
theorem near_inner : near.val ≠ 0 ∧ near.val ≠ 32 := by decide +kernel

/-- Case A's pieces cover the scratch. -/
theorem coverA14 (c : Dev nD) (t : Fin cfg0.N) (h : t.val = 0) (y : S2x256x1024.Idx) :
    ∃ p ∈ (atA m c t h).2.2.2.2.2.1, y ∈ p.1.set :=
  View.cover_of_wholeMem (atA m c t h).2.2.2.2.2.1 (View.Piece.wholeMem_cons (View.Piece.wholeMem_here (by rfl))) y

/-- The gain row and the scratch after point `n`. -/
def kept (c : Dev nD) : (n : ℕ) → n < cfg0.N → Vec F S1x1024 .f32 × Vec F S2x256x1024 .f32
  | 0, hn => (outA13 m c ⟨0, hn⟩ rfl,
      outA14 m c ⟨0, hn⟩ rfl)
  | n + 1, hn =>
    if h : n + 1 = 32 then
      (outC13 m c ⟨n + 1, hn⟩ h (kept c n (Nat.lt_of_succ_lt hn)).1 (kept c n (Nat.lt_of_succ_lt hn)).2,
        (kept c n (Nat.lt_of_succ_lt hn)).2)
    else
      (outB13 m c ⟨n + 1, hn⟩ ⟨Nat.succ_ne_zero n, h⟩ (kept c n (Nat.lt_of_succ_lt hn)).1 (kept c n (Nat.lt_of_succ_lt hn)).2,
        outB14 m c ⟨n + 1, hn⟩ ⟨Nat.succ_ne_zero n, h⟩ (kept c n (Nat.lt_of_succ_lt hn)).1 (kept c n (Nat.lt_of_succ_lt hn)).2)

/-- What the point before `t` left. -/
abbrev prev (c : Dev nD) (t : Fin cfg0.N) := kept m c (t.val - 1) (Nat.lt_of_le_of_lt (Nat.sub_le _ _) t.isLt)

theorem kept_A (c : Dev nD) (t : Fin cfg0.N) (h : t.val = 0) :
    kept m c t.val t.isLt = (outA13 m c t h,
      outA14 m c t h) := by
  obtain ⟨n, hn⟩ := t
  cases n with
  | zero => rfl
  | succ n => exact absurd h (Nat.succ_ne_zero n)

theorem kept_B (c : Dev nD) (t : Fin cfg0.N) (h : t.val ≠ 0 ∧ t.val ≠ 32) :
    kept m c t.val t.isLt = (outB13 m c t h (prev m c t).1 (prev m c t).2,
      outB14 m c t h (prev m c t).1 (prev m c t).2) := by
  obtain ⟨n, hn⟩ := t
  cases n with
  | zero => exact absurd rfl h.1
  | succ n => exact dif_neg h.2

theorem kept_C (c : Dev nD) (t : Fin cfg0.N) (h : t.val = 32) :
    kept m c t.val t.isLt = (outC13 m c t h (prev m c t).1 (prev m c t).2, (prev m c t).2) := by
  obtain ⟨n, hn⟩ := t
  cases n with
  | zero => exact absurd h (Nat.succ_ne_zero 31).symm
  | succ n => exact dif_pos h

/-- The block of `dx` that point `t` leaves in its buffer. -/
def left9 (c : Dev nD) (t : Fin cfg0.N) : Vec F S256x1024 .f32 :=
  if h : t.val = 0 then outA9 m c t h
  else if h' : t.val = 32 then outC9 m c t h' (prev m c t).1 (prev m c t).2
  else outB9 m c t ⟨h, h'⟩ (prev m c t).1 (prev m c t).2

/-- The block of `da` that point `t` leaves in its buffer; the last point leaves there what the one before it did. -/
def left10 (c : Dev nD) (t : Fin cfg0.N) : Vec F S256x2816 .bf16 :=
  if h : t.val = 0 then outA10 m c t h
  else if h' : t.val = 32 then outB10 m c near near_inner (prev m c near).1 (prev m c near).2
  else outB10 m c t ⟨h, h'⟩ (prev m c t).1 (prev m c t).2

/-- The block of `db` that point `t` leaves in its buffer; the last point leaves there what the one before it did. -/
def left11 (c : Dev nD) (t : Fin cfg0.N) : Vec F S256x2816 .bf16 :=
  if h : t.val = 0 then outA11 m c t h
  else if h' : t.val = 32 then outB11 m c near near_inner (prev m c near).1 (prev m c near).2
  else outB11 m c t ⟨h, h'⟩ (prev m c t).1 (prev m c t).2

/-- The block of `df` that point `t` leaves in its buffer; the last point leaves there what the one before it did. -/
def left12 (c : Dev nD) (t : Fin cfg0.N) : Vec F S256x1024 .bf16 :=
  if h : t.val = 0 then outA12 m c t h
  else if h' : t.val = 32 then outB12 m c near near_inner (prev m c near).1 (prev m c near).2
  else outB12 m c t ⟨h, h'⟩ (prev m c t).1 (prev m c t).2

/-- The scratch and the generator register as the region hands them over. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What holds before position `n`: at first the scratch at anything, afterwards at what the point before left. -/
def Inv (c : Dev nD) : (n : ℕ) → n ≤ cfg0.N → sProp 𝕄
  | 0, _ => Pipeline.ΦA spec0 c
  | n + 1, hn => iprop(iprop(owns (c : Thread nD τ) scr fullShare ((kept m c n hn).2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scr fullShare ((kept m c n hn).2)) ∗ (∃ r, prngReg c r)) := rfl

theorem Inv_pos (c : Dev nD) (n : ℕ) (h : n ≤ cfg0.N) (hz : n ≠ 0) :
    Inv m c n h = iprop(iprop(owns (c : Thread nD τ) scr fullShare ((kept m c (n - 1) (by omega)).2)) ∗ (∃ r, prngReg c r)) := by
  cases n with
  | zero => exact absurd rfl hz
  | succ n => rfl

/-- The proof data: the arrays as the region finds them, each input's buffer at its block, each output's at what the
    points leave, an array that two windows read shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left9 m c t
    | ⟨10, _⟩ => left10 m c t
    | ⟨11, _⟩ => left11 m c t
    | ⟨12, _⟩ => left12 m c t
    | ⟨13, _⟩ => (kept m c t.val t.isLt).1
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = left9 m c t := by dsimp only [dats]
theorem after10 (c : Dev nD) (t : Fin cfg0.N) : (dats m 0 c).after 10 t = left10 m c t := by dsimp only [dats]
theorem after11 (c : Dev nD) (t : Fin cfg0.N) : (dats m 0 c).after 11 t = left11 m c t := by dsimp only [dats]
theorem after12 (c : Dev nD) (t : Fin cfg0.N) : (dats m 0 c).after 12 t = left12 m c t := by dsimp only [dats]
theorem after13 (c : Dev nD) (t : Fin cfg0.N) : (dats m 0 c).after 13 t = (kept m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- A buffer that the point before stored into and did not write back holds what it left. -/
theorem found {c : Dev nD} (dat : Dat τ (Elt F) Unit ℕ (UR sig nD τ) ℕ cfg0 c) (w : Fin cfg0.W) (hw : (cfg0.win w).isOut = true)
    (t u : Fin cfg0.N) (hu : u.val + 1 = t.val) (hf : (cfg0.win w).flush u = false) (hl : cfg0.idle w (grid0.coords u) = false)
    (hclip : ∀ (i : cfg0.grid.Coords) a, (cfg0.win w).clip i a = none) (d) : dat.before w t d = dat.after w u := by
  have e : (⟨t.val - 1, Nat.lt_of_le_of_lt (Nat.sub_le _ _) t.isLt⟩ : Fin cfg0.N) = u := Fin.ext (by dsimp only; omega)
  rw [dat.before_of_pos w t (by omega) ((cfg0.win w).fetch_out hw t), e, hf, if_neg Bool.false_ne_true]
  unfold Dat.left; rw [hl]
  show dat.kept w u d = _
  unfold Dat.kept
  rw [Pipeline.fill_of_clip_none w _ (hclip _) d (dat.after w _), Window.fill_cut]

/-- The body's post of a window that the point stores into, or writes back. -/
theorem leaves_after {c : Dev nD} (dat : Dat τ (Elt F) Unit ℕ (UR sig nD τ) ℕ cfg0 c) (w : Fin cfg0.W) (t : Fin cfg0.N)
    (h : cfg0.idle w (cfg0.grid.coords t) = false ∨ (cfg0.win w).flush t = true) :
    dat.leavesExact w t = owns (c : Thread nD τ) ((cfg0.win w).stage (cfg0.slots t w)) fullShare (dat.after w t) := by
  unfold Dat.leavesExact
  rcases h with h | h
  · rw [h]
  · rw [h]; cases cfg0.idle w (cfg0.grid.coords t) <;> rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.Kernel3Ideal.Rows

end
-- ==== Proof.Ffn.Pay.lean ====
module

public import proofs.«01_k».proof.Proof.Gen.Kernel3Ideal.Skeleton
public import proofs.«01_k».proof.Proof.Gmlp.Lift
public import proofs.«01_k».proof.Proof.Gmlp.Host
public import Idealize.ShloMosaic.PureOps.IdealRules

@[expose] public section

set_option maxRecDepth 16384

noncomputable section

namespace Cert.Kernel3Ideal.Rows

open Cert.Kernel3Ideal Cert.Kernel3Ideal.Gen Idealize.ShloMosaic Idealize.ShloMosaic.TcCoe Finset Cert.Lift

/-- Rows against rows. -/
theorem dot_rr (f g : ℕ → ℕ → ℝ) :
    matmul dot_S256x1024_S256x1024_S256x256_1_1_0_0_n_n none (rv 256 1024 .bf16 f) (rv 256 1024 .bf16 g) (constant S256x256 .f32 0x00000000#32)
      = rv 256 256 .f32 fun i j => ∑ k ∈ range 1024, f i k * g j k := by
  funext i
  refine (Ideal.matmul_constant_zero_apply dot_S256x1024_S256x1024_S256x256_1_1_0_0_n_n none (rv 256 1024 .bf16 f) (rv 256 1024 .bf16 g) i).trans ?_
  rw [← Equiv.sum_comp (ValueIdx.contrEquiv1 dot_S256x1024_S256x1024_S256x256_1_1_0_0_n_n 1024 rfl rfl).symm]
  refine (Finset.sum_congr rfl fun k _ => ?_).trans (sum_fin_coe 1024 fun k => f (i 0).val k * g (i 1).val k)
  have hk := ValueIdx.contrEquiv1_symm_val dot_S256x1024_S256x1024_S256x256_1_1_0_0_n_n 1024 rfl rfl k
  generalize (ValueIdx.contrEquiv1 dot_S256x1024_S256x1024_S256x256_1_1_0_0_n_n 1024 rfl rfl).symm k = q at hk ⊢
  have l0 : (dot_S256x1024_S256x1024_S256x256_1_1_0_0_n_n.lhsIdx i q 0).val = (i 0).val := by
    unfold DotDims.lhsIdx
    rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
    rfl
  have l1 : (dot_S256x1024_S256x1024_S256x256_1_1_0_0_n_n.lhsIdx i q 1).val = k.val :=
    (dot_S256x1024_S256x1024_S256x256_1_1_0_0_n_n.lhsIdx_val_of_single rfl i q).trans hk
  have r0 : (dot_S256x1024_S256x1024_S256x256_1_1_0_0_n_n.rhsIdx i q 0).val = (i 1).val := by
    unfold DotDims.rhsIdx
    rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
    rfl
  have r1 : (dot_S256x1024_S256x1024_S256x256_1_1_0_0_n_n.rhsIdx i q 1).val = k.val :=
    (dot_S256x1024_S256x1024_S256x256_1_1_0_0_n_n.rhsIdx_val_of_single rfl i q).trans hk
  unfold rv
  rw [l0, l1, r0, r1, ← EReal.coe_mul]

/-- Rows against columns. -/
theorem dot_rc (f g : ℕ → ℕ → ℝ) :
    matmul dot_S256x2816_S2816x1024_S256x1024_1_0_0_1_n_n none (rv 256 2816 .bf16 f) (rv 2816 1024 .bf16 g) (constant S256x1024 .f32 0x00000000#32)
      = rv 256 1024 .f32 fun i j => ∑ k ∈ range 2816, f i k * g k j := by
  funext i
  refine (Ideal.matmul_constant_zero_apply dot_S256x2816_S2816x1024_S256x1024_1_0_0_1_n_n none (rv 256 2816 .bf16 f) (rv 2816 1024 .bf16 g) i).trans ?_
  rw [← Equiv.sum_comp (ValueIdx.contrEquiv1 dot_S256x2816_S2816x1024_S256x1024_1_0_0_1_n_n 2816 rfl rfl).symm]
  refine (Finset.sum_congr rfl fun k _ => ?_).trans (sum_fin_coe 2816 fun k => f (i 0).val k * g k (i 1).val)
  have hk := ValueIdx.contrEquiv1_symm_val dot_S256x2816_S2816x1024_S256x1024_1_0_0_1_n_n 2816 rfl rfl k
  generalize (ValueIdx.contrEquiv1 dot_S256x2816_S2816x1024_S256x1024_1_0_0_1_n_n 2816 rfl rfl).symm k = q at hk ⊢
  have l0 : (dot_S256x2816_S2816x1024_S256x1024_1_0_0_1_n_n.lhsIdx i q 0).val = (i 0).val := by
    unfold DotDims.lhsIdx
    rw [dif_neg (show ¬(0 : Fin S256x2816.rank) ∈ dot_S256x2816_S2816x1024_S256x1024_1_0_0_1_n_n.lhsBatch by decide), dif_pos (show (0 : Fin S256x2816.rank) ∈ dot_S256x2816_S2816x1024_S256x1024_1_0_0_1_n_n.lhsNonContracting by decide)]
    rfl
  have l1 : (dot_S256x2816_S2816x1024_S256x1024_1_0_0_1_n_n.lhsIdx i q 1).val = k.val :=
    (dot_S256x2816_S2816x1024_S256x1024_1_0_0_1_n_n.lhsIdx_val_of_single rfl i q).trans hk
  have r0 : (dot_S256x2816_S2816x1024_S256x1024_1_0_0_1_n_n.rhsIdx i q 1).val = (i 1).val := by
    unfold DotDims.rhsIdx
    rw [dif_neg (show ¬(1 : Fin S2816x1024.rank) ∈ dot_S256x2816_S2816x1024_S256x1024_1_0_0_1_n_n.rhsBatch by decide), dif_pos (show (1 : Fin S2816x1024.rank) ∈ dot_S256x2816_S2816x1024_S256x1024_1_0_0_1_n_n.rhsNonContracting by decide)]
    rfl
  have r1 : (dot_S256x2816_S2816x1024_S256x1024_1_0_0_1_n_n.rhsIdx i q 0).val = k.val :=
    (dot_S256x2816_S2816x1024_S256x1024_1_0_0_1_n_n.rhsIdx_val_of_single rfl i q).trans hk
  unfold rv
  rw [l0, l1, r0, r1, ← EReal.coe_mul]

/-- The sums along the rows, as a column. -/
theorem rv_rowsum {a b : ℕ} {φ : FTy} (f : ℕ → ℕ → ℝ) (acc : BitVec φ.bits) (h : (⟨2, ![a, b]⟩ : Shape).Reduces [1] ⟨1, ![a]⟩) (hφ : FKind.Formats φ)
    (hacc : acc = FKind.add.neutral φ hφ) (hc : (⟨1, ![a]⟩ : Shape).ShapeCasts ⟨2, ![a, 1]⟩) :
    shapeCast ⟨2, ![a, 1]⟩ (multiReduction .add [1] ⟨1, ![a]⟩ (rv a b φ f) acc h hφ hacc) hc
      = rv a 1 φ fun i _ => ∑ k ∈ range b, f i k := by
  funext i
  have i1 : (i 1).val < 1 := (i 1).isLt
  refine (shapeCast_apply _ hc i (fun z => match z with | ⟨0, _⟩ => i 0) (by rw [Shape.rowMajor_val_one, Shape.rowMajor_val_two]; show (i 0).val = (i 0).val * 1 + (i 1).val; omega)).trans ?_
  refine (Ideal.multiReduction_add_single _ acc h hφ hacc _).trans ?_
  exact sum_fin_coe b (fun k => f (i 0).val k)

theorem rowsum (f : ℕ → ℕ → ℝ) :
    shapeCast S256x1 (multiReduction .add [1] S256 (rv 256 1024 .f32 f : FVec Ideal S256x1024 .f32) 0x00000000#32 reduces_S256x1024_S256 (.inl rfl) rfl) shapeCasts_S256_S256x1
      = rv 256 1 .f32 fun i _ => ∑ k ∈ range 1024, f i k := rv_rowsum f _ _ _ _ _

theorem colsum (f : ℕ → ℕ → ℝ) :
    shapeCast S1x1024 (multiReduction .add [0] S1024 (rv 256 1024 .f32 f : FVec Ideal S256x1024 .f32) 0x00000000#32 reduces_S256x1024_S1024 (.inl rfl) rfl) shapeCasts_S1024_S1x1024
      = rv 1 1024 .f32 fun _ j => ∑ k ∈ range 256, f k j := rv_colsum f _ _ _ _ _

theorem ofBits_1024 : (FloatOps.ofBits .f32 0x44800000#32 : Ideal .f32) = ((1024 : ℝ) : EReal) := by
  show Ideal.ofBits .f32 0x44800000#32 = _
  simp [Ideal.ofBits, Ideal.ieee, -EReal.coe_mul]; norm_num

/-- The number added under the root. -/
abbrev eps : ℝ := 8796093 / 8796093022208

/-- One over the root mean square of row `i`. -/
def rs (x : ℕ → ℕ → ℝ) (i : ℕ) : ℝ := (√((∑ k ∈ range 1024, x i k * x i k) / 1024 + eps))⁻¹

theorem ms_pos (x : ℕ → ℕ → ℝ) (i : ℕ) : 0 < (∑ k ∈ range 1024, x i k * x i k) / 1024 + eps := by
  have h : 0 ≤ ∑ k ∈ range 1024, x i k * x i k := Finset.sum_nonneg fun k _ => mul_self_nonneg _
  have : (0 : ℝ) < eps := by norm_num
  positivity

theorem pay45_rv (x : ℕ → ℕ → ℝ) : k0_pay45 (F := Ideal) (rv 256 1024 .f32 x) = rv 256 1 .f32 fun i _ => rs x i := by
  unfold k0_pay45; dsimp only
  rw [rv_mul, rowsum, rv_const ofBits_1024, rv_div _ _ (fun _ _ => by norm_num), rv_const ofBits_eps, rv_add]
  exact rv_rsqrt _ fun i _ => ms_pos x i

/-- A row block of `dx`: what the norm's gradient adds to the gradient that passes by. -/
def dxf (g x : ℕ → ℕ → ℝ) (r : ℕ → ℝ) (h d : ℕ → ℕ → ℝ) (i j : ℕ) : ℝ :=
  d i j + r i * (h i j * g 0 j - x i j * r i * ((∑ k ∈ range 1024, h i k * g 0 k * (x i k * r i)) / 1024))

theorem pay48_rv (g x : ℕ → ℕ → ℝ) (r : ℕ → ℝ) (h : ℕ → ℕ → ℕ → ℝ) (d : ℕ → ℕ → ℝ) :
    k0_pay48 (F := Ideal) (rv 1 1024 .f32 g) (rv 256 1024 .f32 x) (rv 256 1 .f32 fun i _ => r i) (rv3 1 256 1024 .f32 h) (rv 256 1024 .f32 d)
      = rv 256 1024 .f32 (dxf g x r (h 0) d) := by
  unfold k0_pay48 k0_pay47 k0_pay46; dsimp only
  simp only [rv3_drop, rv_bcast_row, rv_bcast_col, rv_mul]
  rw [rowsum, rv_const ofBits_1024, rv_div _ _ (fun _ _ => by norm_num)]
  simp only [rv_bcast_row, rv_bcast_col, rv_mul, rv_sub, rv_add]
  rfl

theorem pay49_rv (x : ℕ → ℕ → ℝ) (r : ℕ → ℝ) (h : ℕ → ℕ → ℕ → ℝ) (u : ℕ → ℕ → ℝ) :
    k0_pay49 (F := Ideal) (rv 256 1024 .f32 x) (rv 256 1 .f32 fun i _ => r i) (rv3 1 256 1024 .f32 h) (rv 1 1024 .f32 u)
      = rv 1 1024 .f32 fun i j => u i j + ∑ k ∈ range 256, h 0 k j * (x k j * r k) := by
  unfold k0_pay49 k0_pay47 k0_pay46; dsimp only
  simp only [rv3_drop, rv_bcast_col, rv_mul]
  rw [colsum, shapeCast_self, rv_add]

theorem pay7_rv (g x : ℕ → ℕ → ℝ) (h : ℕ → ℕ → ℕ → ℝ) (d : ℕ → ℕ → ℝ) :
    k0_pay7 (F := Ideal) (rv 1 1024 .f32 g) (rv 256 1024 .f32 x) (rv3 1 256 1024 .f32 h) (rv 256 1024 .f32 d)
      = rv 256 1024 .f32 (dxf g x (rs x) (h 0) d) := by
  rw [← pay48_rv, ← pay45_rv]; rfl

theorem pay8_rv (x : ℕ → ℕ → ℝ) (h : ℕ → ℕ → ℕ → ℝ) (u : ℕ → ℕ → ℝ) :
    k0_pay8 (F := Ideal) (rv 256 1024 .f32 x) (rv3 1 256 1024 .f32 h) (rv 1 1024 .f32 u)
      = rv 1 1024 .f32 fun i j => u i j + ∑ k ∈ range 256, h 0 k j * (x k j * rs x k) := by
  rw [← pay49_rv, ← pay45_rv]; rfl

theorem pay9_rv (d : ℕ → ℕ → ℝ) : k0_pay9 (F := Ideal) (rv 256 1024 .f32 d) = rv 256 1024 .bf16 fun i j => 1 / 2 * d i j := by
  unfold k0_pay9; dsimp only
  rw [rv_const ofBits_half, rv_mul, rv_trunc]

/-- A column block of `da` or `db`: the gradient of the product's left factor, times what the forward pass saved. -/
theorem pay11_rv (d w s : ℕ → ℕ → ℝ) : k0_pay11 (F := Ideal) (rv 256 1024 .f32 d) (rv 256 1024 .bf16 w) (rv 256 256 .bf16 s)
    = rv 256 256 .bf16 fun i j => (∑ k ∈ range 1024, 1 / 2 * d i k * w j k) * s i j := by
  unfold k0_pay11 k0_pay10; dsimp only
  rw [pay9_rv, dot_rr, shapeCast_self, rv_ext, rv_mul, rv_trunc]

theorem pay44_rv (a g b u : ℕ → ℕ → ℝ) : k0_pay44 (F := Ideal) (rv 256 2816 .bf16 a) (rv 2816 1024 .bf16 g) (rv 256 2816 .bf16 b) (rv 2816 1024 .bf16 u)
    = rv 256 1024 .f32 fun i j => (∑ k ∈ range 2816, a i k * g k j) + ∑ k ∈ range 2816, b i k * u k j := by
  unfold k0_pay44; dsimp only
  rw [shapeCast_self, shapeCast_self, dot_rc, dot_rc, rv_add]

theorem pay3_rv (h : ℕ → ℕ → ℝ) : k0_pay3 (F := Ideal) (rv 256 1024 .f32 h) = rv3 1 256 1024 .f32 fun _ => h := by
  unfold k0_pay3; dsimp only
  exact rv_addUnit h _

theorem pay1_rv : k0_pay1 (F := Ideal) = rv3 2 256 1024 .f32 fun _ _ _ => 0 := by
  unfold k0_pay1; dsimp only
  rw [shapeCast_self]
  funext i
  exact ofBits_zero

theorem pay2_rv : k0_pay2 (F := Ideal) = rv 1 1024 .f32 fun _ _ => 0 := rv_const ofBits_zero

end Cert.Kernel3Ideal.Rows

end
-- ==== Proof.Ffn.Tile.lean ====
module

public import proofs.«01_k».proof.Proof.Ffn.State
public import proofs.«01_k».proof.Proof.Ffn.Pay
public import Idealize.ShloMosaic.Lib.Pipeline.Value
public import Idealize.ShloMosaic.Lib.Pipeline.ReadBack
public import Idealize.ShloMosaic.Lib.VecWindow

@[expose] public section

set_option maxRecDepth 16384

noncomputable section

namespace Cert.Kernel3Ideal.Rows

open Cert.Kernel3Ideal Cert.Kernel3Ideal.Gen Idealize.ShloMosaic Idealize.ShloMosaic.TcCoe Finset Cert.Lift

/-! ## Loads -/

theorem zero2 : (![0, 0] : Fin 2 → ℕ) = fun _ => 0 := funext fun a => by fin_cases a <;> rfl

/-- A load of a whole buffer. -/
theorem rd2 {sp : Space} {a b : ℕ} {φ : EltTy} (r : Memref sig .tc sp ⟨2, ![a, b]⟩ φ) (h : r.IsWhole) (x : Vec Ideal ⟨2, ![a, b]⟩ φ)
    (inb : ∀ k, (![0, 0] : Fin 2 → ℕ) k + (⟨2, ![a, b]⟩ : Shape).size k ≤ (⟨2, ![a, b]⟩ : Shape).size k) :
    View.readAt (Elt Ideal) r.view (Rect.unit ![0, 0] (⟨2, ![a, b]⟩ : Shape).size inb).toLoadRect (h.unread x) = x := by
  rw [View.readAt_eq_ld, h.read_unread, View.ld_unit_zero zero2]

/-- A load of a rectangle of a buffer of reals. -/
theorem rdAt {sp : Space} {a b c d o p : ℕ} (r : Memref sig .tc sp ⟨2, ![a, b]⟩ .bf16) (h : r.IsWhole) (f : ℕ → ℕ → ℝ)
    (inb : ∀ k, (![o, p] : Fin 2 → ℕ) k + (⟨2, ![c, d]⟩ : Shape).size k ≤ (⟨2, ![a, b]⟩ : Shape).size k) :
    View.readAt (Elt Ideal) r.view (Rect.unit (s := ⟨2, ![a, b]⟩) ![o, p] (⟨2, ![c, d]⟩ : Shape).size inb).toLoadRect (h.unread (rv a b .bf16 f))
      = rv c d .bf16 fun i j => f (o + i) (p + j) := by
  rw [View.readAt_eq_ld, h.read_unread, View.ld_unit]
  rfl

/-- What a slot of the scratch holds. -/
def Holds (v : Vec Ideal S2x256x1024 .f32) (q : ℕ) (h : ℕ → ℕ → ℝ) : Prop :=
  ∀ y : S2x256x1024.Idx, (y 0).val = q → v y = ((h (y 1).val (y 2).val : ℝ) : EReal)

/-- A load of a slot. -/
theorem rdSlot (i : grid0.Coords) (r : Memref sig .tc .vmem S2x256x1024 .f32) (hr : r.IsWhole) (v : Vec Ideal S2x256x1024 .f32) (h : ℕ → ℕ → ℝ)
    (hv : Holds v (((i 0).val + 1) % 2) h) (inb : ∀ a, k0_off1 i a + S1x256x1024.size a ≤ S2x256x1024.size a) :
    View.readAt (Elt Ideal) r.view (Rect.unit (s := S2x256x1024) (k0_off1 i) S1x256x1024.size inb).toLoadRect (hr.unread v) = rv3 1 256 1024 .f32 fun _ => h := by
  rw [View.readAt_eq_ld, hr.read_unread, View.ld_unit]
  funext y
  have h0 : (y 0).val < 1 := (y 0).isLt
  have e0 : k0_off1 i 0 = ((i 0).val + 1) % 2 := congrFun (off1_eq i) 0
  have e1 : k0_off1 i 1 = 0 := congrFun (off1_eq i) 1
  have e2 : k0_off1 i 2 = 0 := congrFun (off1_eq i) 2
  refine (hv _ ?_).trans ?_
  · show k0_off1 i 0 + (y 0).val = _
    omega
  · show ((h (k0_off1 i 1 + (y 1).val) (k0_off1 i 2 + (y 2).val) : ℝ) : EReal) = ((h (y 1).val (y 2).val : ℝ) : EReal)
    rw [e1, e2, Nat.zero_add, Nat.zero_add]

/-- A load of the second slot. -/
theorem rdOne (r : Memref sig .tc .vmem S2x256x1024 .f32) (hr : r.IsWhole) (v : Vec Ideal S2x256x1024 .f32) (h : ℕ → ℕ → ℝ)
    (hv : Holds v 1 h) (inb : ∀ a, (![1, 0, 0] : Fin 3 → ℕ) a + S1x256x1024.size a ≤ S2x256x1024.size a) :
    View.readAt (Elt Ideal) r.view (Rect.unit (s := S2x256x1024) ![1, 0, 0] S1x256x1024.size inb).toLoadRect (hr.unread v) = rv3 1 256 1024 .f32 fun _ => h := by
  rw [View.readAt_eq_ld, hr.read_unread, View.ld_unit]
  funext y
  have h0 : (y 0).val < 1 := (y 0).isLt
  refine (hv _ ?_).trans ?_
  · show 1 + (y 0).val = _
    omega
  · show ((h (0 + (y 1).val) (0 + (y 2).val) : ℝ) : EReal) = ((h (y 1).val (y 2).val : ℝ) : EReal)
    rw [Nat.zero_add, Nat.zero_add]

/-- A load of a slot after a store of zeros into the whole scratch. -/
theorem rdZero (i : grid0.Coords) (r : Memref sig .tc .vmem S2x256x1024 .f32) (inb : ∀ a, k0_off1 i a + S1x256x1024.size a ≤ S2x256x1024.size a)
    (inb' : ∀ a, (![0, 0, 0] : Fin 3 → ℕ) a + S2x256x1024.size a ≤ S2x256x1024.size a) :
    r.view.readCov [(⟨Rect.unit ![0, 0, 0] S2x256x1024.size inb', k0_pay1 (F := Ideal)⟩ : View.Piece (Elt Ideal) S2x256x1024 .f32)] (Rect.unit (s := S2x256x1024) (k0_off1 i) S1x256x1024.size inb).toLoadRect
      = rv3 1 256 1024 .f32 fun _ _ _ => 0 := by
  rw [View.readCov_eq_canon', View.canon_cons_unit_lit _ _ _ (fun a => by fin_cases a <;> rfl), pay1_rv]
  rfl

/-- A store into a slot. -/
theorem putSlot (i : grid0.Coords) (v : View sig .tc .vmem S2x256x1024 .f32) (f : v.ty.Contents (Elt Ideal)) (h : ℕ → ℕ → ℝ) (w : Vec Ideal S1x256x1024 .f32)
    (hw : w = rv3 1 256 1024 .f32 fun _ => h) (inb : ∀ a, k0_off2 i a + S1x256x1024.size a ≤ S2x256x1024.size a) (L : List (View.Piece (Elt Ideal) S2x256x1024 .f32)) :
    Holds (v.read (Elt Ideal) (v.writes (Elt Ideal) f ((⟨Rect.unit (k0_off2 i) S1x256x1024.size inb, w⟩ : View.Piece (Elt Ideal) S2x256x1024 .f32) :: L))) ((i 0).val % 2) h := by
  subst hw
  intro y hy
  refine (View.read_writes_cons_unit_of_mem (off' := ![(i 0).val % 2, 0, 0]) v f inb (rv3 1 256 1024 .f32 fun _ => h) L y
    (fun a => match a with | ⟨0, _⟩ => (⟨0, Nat.one_pos⟩ : Fin 1) | ⟨1, _⟩ => (y 1 : Fin 256) | ⟨2, _⟩ => (y 2 : Fin 1024)) (off2_eq i) ?_).trans ?_
  · intro a
    fin_cases a
    · exact hy
    · exact (Nat.zero_add _).symm
    · exact (Nat.zero_add _).symm
  · rfl

/-! ## The column blocks of `da` and `db` -/

/-- The gradient of a left factor, times what the forward pass saved. -/
def daf (d w s : ℕ → ℕ → ℝ) (i j : ℕ) : ℝ := (∑ k ∈ range 1024, 1 / 2 * d i k * w j k) * s i j
/-- The gradient of the norm's output. -/
def dhf (d w p s g u : ℕ → ℕ → ℝ) (i j : ℕ) : ℝ := (∑ k ∈ range 2816, daf d w p i k * g k j) + ∑ k ∈ range 2816, daf d w s i k * u k j

theorem colPiece (q : ℕ) (a3 : Memref sig .tc .vmem S256x1024 .f32) (h3 : a3.IsWhole) (a6 : Memref sig .tc .vmem S256x2816 .bf16) (h6 : a6.IsWhole) (a9 : Memref sig .tc .vmem S2816x1024 .bf16) (h9 : a9.IsWhole)
    (d w s : ℕ → ℕ → ℝ) (i3 : ∀ k, (![0, 0] : Fin 2 → ℕ) k + S256x1024.size k ≤ S256x1024.size k) (i6 : ∀ k, (![0, q] : Fin 2 → ℕ) k + S256x256.size k ≤ S256x2816.size k)
    (i9 : ∀ k, (![q, 0] : Fin 2 → ℕ) k + S256x1024.size k ≤ S2816x1024.size k) (y : S256x256.Idx) :
    k0_pay11 (F := Ideal) (View.readAt (Elt Ideal) a3.view (Rect.unit ![0, 0] S256x1024.size i3).toLoadRect (h3.unread (rv 256 1024 .f32 d)))
        (View.readAt (Elt Ideal) a9.view (Rect.unit (s := S2816x1024) ![q, 0] S256x1024.size i9).toLoadRect (h9.unread (rv 2816 1024 .bf16 w)))
        (View.readAt (Elt Ideal) a6.view (Rect.unit (s := S256x2816) ![0, q] S256x256.size i6).toLoadRect (h6.unread (rv 256 2816 .bf16 s))) y
      = rv 256 2816 .bf16 (daf d w s) ((Rect.unit (s := S256x2816) ![0, q] S256x256.size i6).emb y) := by
  rw [rd2 (a := 256) (b := 1024) a3 h3, rdAt (a := 2816) (b := 1024) (c := 256) (d := 1024) a9 h9, rdAt (a := 256) (b := 2816) (c := 256) (d := 256) a6 h6, pay11_rv]
  have e0 : ((Rect.unit (s := S256x2816) ![0, q] S256x256.size i6).emb y 0).val = 0 + 1 * (y 0).val := rfl
  have e1 : ((Rect.unit (s := S256x2816) ![0, q] S256x256.size i6).emb y 1).val = q + 1 * (y 1).val := rfl
  unfold rv daf
  rw [e0, e1]
  simp only [Nat.zero_add, Nat.one_mul]

set_option maxHeartbeats 2000000 in
theorem cols10 (c : Dev nD) (arg3 : Memref sig .tc .vmem S256x1024 .f32) (harg3 : arg3.IsWhole) (arg5 : Memref sig .tc .vmem S256x2816 .bf16) (harg5 : arg5.IsWhole) (arg6 : Memref sig .tc .vmem S256x2816 .bf16) (harg6 : arg6.IsWhole) (arg9 : Memref sig .tc .vmem S2816x1024 .bf16) (harg9 : arg9.IsWhole) (d w p s : ℕ → ℕ → ℝ) :
    View.canon (runB.sl.H10_11 (F := Ideal) c arg3 harg3 arg5 harg5 arg6 harg6 arg9 harg9 (rv 256 1024 .f32 d) (rv 256 2816 .bf16 s) (rv 256 2816 .bf16 p) (rv 2816 1024 .bf16 w)) = rv 256 2816 .bf16 (daf d w p) := by
  funext y
  refine View.canon_apply_of_pieces _ _ ?_ y (View.cover_of_tiledL (s := S256x2816) _ S256x256.size (by sl_kernel_rfl) y)
  clear y
  unfold runB.sl.H10_11
  intro q hq y
  simp only [List.mem_cons, List.not_mem_nil, or_false] at hq
  rcases hq with rfl | rfl | rfl | rfl | rfl | rfl | rfl | rfl | rfl | rfl | rfl
  · exact colPiece 2560 arg3 harg3 arg6 harg6 arg9 harg9 d w p _ _ _ y
  · exact colPiece 2304 arg3 harg3 arg6 harg6 arg9 harg9 d w p _ _ _ y
  · exact colPiece 2048 arg3 harg3 arg6 harg6 arg9 harg9 d w p _ _ _ y
  · exact colPiece 1792 arg3 harg3 arg6 harg6 arg9 harg9 d w p _ _ _ y
  · exact colPiece 1536 arg3 harg3 arg6 harg6 arg9 harg9 d w p _ _ _ y
  · exact colPiece 1280 arg3 harg3 arg6 harg6 arg9 harg9 d w p _ _ _ y
  · exact colPiece 1024 arg3 harg3 arg6 harg6 arg9 harg9 d w p _ _ _ y
  · exact colPiece 768 arg3 harg3 arg6 harg6 arg9 harg9 d w p _ _ _ y
  · exact colPiece 512 arg3 harg3 arg6 harg6 arg9 harg9 d w p _ _ _ y
  · exact colPiece 256 arg3 harg3 arg6 harg6 arg9 harg9 d w p _ _ _ y
  · exact colPiece 0 arg3 harg3 arg6 harg6 arg9 harg9 d w p _ _ _ y

set_option maxHeartbeats 2000000 in
theorem cols11 (c : Dev nD) (arg3 : Memref sig .tc .vmem S256x1024 .f32) (harg3 : arg3.IsWhole) (arg5 : Memref sig .tc .vmem S256x2816 .bf16) (harg5 : arg5.IsWhole) (arg6 : Memref sig .tc .vmem S256x2816 .bf16) (harg6 : arg6.IsWhole) (arg9 : Memref sig .tc .vmem S2816x1024 .bf16) (harg9 : arg9.IsWhole) (d w p s : ℕ → ℕ → ℝ) :
    View.canon (runB.sl.H11_11 (F := Ideal) c arg3 harg3 arg5 harg5 arg6 harg6 arg9 harg9 (rv 256 1024 .f32 d) (rv 256 2816 .bf16 s) (rv 256 2816 .bf16 p) (rv 2816 1024 .bf16 w)) = rv 256 2816 .bf16 (daf d w s) := by
  funext y
  refine View.canon_apply_of_pieces _ _ ?_ y (View.cover_of_tiledL (s := S256x2816) _ S256x256.size (by sl_kernel_rfl) y)
  clear y
  unfold runB.sl.H11_11
  intro q hq y
  simp only [List.mem_cons, List.not_mem_nil, or_false] at hq
  rcases hq with rfl | rfl | rfl | rfl | rfl | rfl | rfl | rfl | rfl | rfl | rfl
  · exact colPiece 2560 arg3 harg3 arg5 harg5 arg9 harg9 d w s _ _ _ y
  · exact colPiece 2304 arg3 harg3 arg5 harg5 arg9 harg9 d w s _ _ _ y
  · exact colPiece 2048 arg3 harg3 arg5 harg5 arg9 harg9 d w s _ _ _ y
  · exact colPiece 1792 arg3 harg3 arg5 harg5 arg9 harg9 d w s _ _ _ y
  · exact colPiece 1536 arg3 harg3 arg5 harg5 arg9 harg9 d w s _ _ _ y
  · exact colPiece 1280 arg3 harg3 arg5 harg5 arg9 harg9 d w s _ _ _ y
  · exact colPiece 1024 arg3 harg3 arg5 harg5 arg9 harg9 d w s _ _ _ y
  · exact colPiece 768 arg3 harg3 arg5 harg5 arg9 harg9 d w s _ _ _ y
  · exact colPiece 512 arg3 harg3 arg5 harg5 arg9 harg9 d w s _ _ _ y
  · exact colPiece 256 arg3 harg3 arg5 harg5 arg9 harg9 d w s _ _ _ y
  · exact colPiece 0 arg3 harg3 arg5 harg5 arg9 harg9 d w s _ _ _ y

end Cert.Kernel3Ideal.Rows

end
-- ==== Proof.Ffn.Outs.lean ====
module

public import proofs.«01_k».proof.Proof.Ffn.Tile
public import proofs.«01_k».proof.Proof.Ffn.Pay
public import Idealize.ShloMosaic.Lib.Pipeline.Value
public import Idealize.ShloMosaic.Lib.Pipeline.ReadBack
public import Idealize.ShloMosaic.Lib.VecWindow

@[expose] public section

set_option maxRecDepth 16384

noncomputable section

namespace Cert.Kernel3Ideal.Rows

open Cert.Kernel3Ideal Cert.Kernel3Ideal.Gen Idealize.ShloMosaic Idealize.ShloMosaic.TcCoe Finset Cert.Lift

/-! A step in the middle of the grid. -/

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (q1 : ¬k0_cond1 i = 1#1) (q2 : k0_cond2 i = 1#1) (q3 : ¬k0_cond3 i = 1#1) (x0 : Vec Ideal S256x1024 .f32) (x1 : Vec Ideal S256x1024 .f32) (x2 : Vec Ideal S256x1024 .f32) (x3 : Vec Ideal S1x1024 .f32) (x4 : Vec Ideal S256x2816 .bf16) (x5 : Vec Ideal S256x2816 .bf16) (x6 : Vec Ideal S2816x1024 .bf16) (x7 : Vec Ideal S2816x1024 .bf16) (x8 : Vec Ideal S2816x1024 .bf16) (xd : Vec Ideal S1x1024 .f32) (xs : Vec Ideal S2x256x1024 .f32) (x e d g s p wg wu w : ℕ → ℕ → ℝ)
    (hx0 : x0 = rv 256 1024 .f32 x) (hx1 : x1 = rv 256 1024 .f32 e) (hx2 : x2 = rv 256 1024 .f32 d) (hx3 : x3 = rv 1 1024 .f32 g) (hx4 : x4 = rv 256 2816 .bf16 s) (hx5 : x5 = rv 256 2816 .bf16 p) (hx6 : x6 = rv 2816 1024 .bf16 wg) (hx7 : x7 = rv 2816 1024 .bf16 wu) (hx8 : x8 = rv 2816 1024 .bf16 w) (u h : ℕ → ℕ → ℝ) (hxd : xd = rv 1 1024 .f32 u) (hxs : Holds xs (((i 0).val + 1) % 2) h)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs x e d g s p wg wu w hx0 hx1 hx2 hx3 hx4 hx5 hx6 hx7 hx8 u h hxd hxs

set_option maxHeartbeats 2000000 in
theorem valB9 :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).1 = rv 256 1024 .f32 (dxf g x (rs x) h e) := by
  subst hx0 hx1 hx2 hx3 hx4 hx5 hx6 hx7 hx8 hxd
  unfold runB
  dsimp only
  refine (View.canon_cons_unit_lit inb_S256x1024_S256x1024_0_0 _ _ (fun a => by fin_cases a <;> rfl)).trans ?_
  refine Eq.trans ?_ (pay48_rv g x (rs x) (fun _ => h) e)
  rw [rd2 (a := 1) (b := 1024) arg4 harg4, rd2 (a := 256) (b := 1024) arg1 harg1, rd2 (a := 256) (b := 1024) arg2 harg2, rdSlot i arg15 harg15 xs h hxs, pay45_rv]

set_option maxHeartbeats 2000000 in
theorem valB13 :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.2.2.2.1 = rv 1 1024 .f32 fun a j => u a j + ∑ k ∈ range 256, h k j * (x k j * rs x k) := by
  subst hx0 hx1 hx2 hx3 hx4 hx5 hx6 hx7 hx8 hxd
  unfold runB
  dsimp only
  refine (View.canon_cons_unit_lit inb_S1x1024_S1x1024_0_0 _ _ (fun a => by fin_cases a <;> rfl)).trans ?_
  refine Eq.trans ?_ (pay49_rv x (rs x) (fun _ => h) u)
  rw [rd2 (a := 256) (b := 1024) arg1 harg1, rdSlot i arg15 harg15 xs h hxs, pay45_rv, rd2 (a := 1) (b := 1024) arg14 harg14]

set_option maxHeartbeats 2000000 in
theorem valB12 :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.2.2.1 = rv 256 1024 .bf16 fun i j => 1 / 2 * d i j := by
  subst hx0 hx1 hx2 hx3 hx4 hx5 hx6 hx7 hx8 hxd
  unfold runB
  dsimp only
  refine (View.canon_cons_unit_lit inb_S256x1024_S256x1024_0_0 _ _ (fun a => by fin_cases a <;> rfl)).trans ?_
  refine Eq.trans ?_ (pay9_rv d)
  rw [rd2 (a := 256) (b := 1024) arg3 harg3]

set_option maxHeartbeats 2000000 in
theorem valB10 :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.1 = rv 256 2816 .bf16 (daf d w p) := by
  subst hx0 hx1 hx2 hx3 hx4 hx5 hx6 hx7 hx8 hxd
  exact cols10 c arg3 harg3 arg5 harg5 arg6 harg6 arg9 harg9 d w p s

set_option maxHeartbeats 2000000 in
theorem valB11 :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.2.1 = rv 256 2816 .bf16 (daf d w s) := by
  subst hx0 hx1 hx2 hx3 hx4 hx5 hx6 hx7 hx8 hxd
  exact cols11 c arg3 harg3 arg5 harg5 arg6 harg6 arg9 harg9 d w p s

set_option maxHeartbeats 2000000 in
theorem valB14 (f : scr.view.ty.Contents (Elt Ideal)) (n : ℕ) (hn : (i 0).val % 2 = n) :
    Holds (scr.view.read (Elt Ideal) (scr.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.2.2.2.2.1)) n (dhf d w p s wg wu) := by
  subst hn hx0 hx1 hx2 hx3 hx4 hx5 hx6 hx7 hx8 hxd
  unfold runB
  dsimp only
  refine putSlot i scr.view f _ _ ?_ _ _
  refine Eq.trans ?_ (pay3_rv _)
  refine congrArg (k0_pay3 (F := Ideal)) ?_
  refine Eq.trans ?_ (pay44_rv (daf d w p) wg (daf d w s) wu)
  have e10 : arg11.view.readCov (runB.sl.H10_11 (F := Ideal) c arg3 harg3 arg5 harg5 arg6 harg6 arg9 harg9 (rv 256 1024 .f32 d) (rv 256 2816 .bf16 s) (rv 256 2816 .bf16 p) (rv 2816 1024 .bf16 w)) (Rect.unit (s := S256x2816) ![0, 0] S256x2816.size inb_S256x2816_S256x2816_0_0).toLoadRect = rv 256 2816 .bf16 (daf d w p) := by
    rw [View.readCov_eq_canon', cols10]
    funext j
    show ((daf d w p (0 + 1 * (j 0).val) (0 + 1 * (j 1).val) : ℝ) : EReal) = ((daf d w p (j 0).val (j 1).val : ℝ) : EReal)
    rw [Nat.zero_add, Nat.one_mul, Nat.zero_add, Nat.one_mul]
  have e11 : arg12.view.readCov (runB.sl.H11_11 (F := Ideal) c arg3 harg3 arg5 harg5 arg6 harg6 arg9 harg9 (rv 256 1024 .f32 d) (rv 256 2816 .bf16 s) (rv 256 2816 .bf16 p) (rv 2816 1024 .bf16 w)) (Rect.unit (s := S256x2816) ![0, 0] S256x2816.size inb_S256x2816_S256x2816_0_0).toLoadRect = rv 256 2816 .bf16 (daf d w s) := by
    rw [View.readCov_eq_canon', cols11]
    funext j
    show ((daf d w s (0 + 1 * (j 0).val) (0 + 1 * (j 1).val) : ℝ) : EReal) = ((daf d w s (j 0).val (j 1).val : ℝ) : EReal)
    rw [Nat.zero_add, Nat.one_mul, Nat.zero_add, Nat.one_mul]
  rw [rd2 (a := 2816) (b := 1024) arg7 harg7, rd2 (a := 2816) (b := 1024) arg8 harg8]
  exact congrArg₂ (fun a b => k0_pay44 (F := Ideal) a (rv 2816 1024 .bf16 wg) b (rv 2816 1024 .bf16 wu)) e10 e11

end

/-! The first step of the grid. -/

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (q1 : k0_cond1 i = 1#1) (q2 : k0_cond2 i = 1#1) (q3 : ¬k0_cond3 i = 1#1) (x0 : Vec Ideal S256x1024 .f32) (x1 : Vec Ideal S256x1024 .f32) (x2 : Vec Ideal S256x1024 .f32) (x3 : Vec Ideal S1x1024 .f32) (x4 : Vec Ideal S256x2816 .bf16) (x5 : Vec Ideal S256x2816 .bf16) (x6 : Vec Ideal S2816x1024 .bf16) (x7 : Vec Ideal S2816x1024 .bf16) (x8 : Vec Ideal S2816x1024 .bf16) (x e d g s p wg wu w : ℕ → ℕ → ℝ)
    (hx0 : x0 = rv 256 1024 .f32 x) (hx1 : x1 = rv 256 1024 .f32 e) (hx2 : x2 = rv 256 1024 .f32 d) (hx3 : x3 = rv 1 1024 .f32 g) (hx4 : x4 = rv 256 2816 .bf16 s) (hx5 : x5 = rv 256 2816 .bf16 p) (hx6 : x6 = rv 2816 1024 .bf16 wg) (hx7 : x7 = rv 2816 1024 .bf16 wu) (hx8 : x8 = rv 2816 1024 .bf16 w)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 x e d g s p wg wu w hx0 hx1 hx2 hx3 hx4 hx5 hx6 hx7 hx8

set_option maxHeartbeats 2000000 in
theorem valA14 (f : scr.view.ty.Contents (Elt Ideal)) (n : ℕ) (hn : (i 0).val % 2 = n) :
    Holds (scr.view.read (Elt Ideal) (scr.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8).2.2.2.2.2.1)) n (dhf d w p s wg wu) := by
  subst hn hx0 hx1 hx2 hx3 hx4 hx5 hx6 hx7 hx8
  unfold runA
  dsimp only
  refine putSlot i scr.view f _ _ ?_ _ _
  refine Eq.trans ?_ (pay3_rv _)
  refine congrArg (k0_pay3 (F := Ideal)) ?_
  refine Eq.trans ?_ (pay44_rv (daf d w p) wg (daf d w s) wu)
  have e10 : arg11.view.readCov (runB.sl.H10_11 (F := Ideal) c arg3 harg3 arg5 harg5 arg6 harg6 arg9 harg9 (rv 256 1024 .f32 d) (rv 256 2816 .bf16 s) (rv 256 2816 .bf16 p) (rv 2816 1024 .bf16 w)) (Rect.unit (s := S256x2816) ![0, 0] S256x2816.size inb_S256x2816_S256x2816_0_0).toLoadRect = rv 256 2816 .bf16 (daf d w p) := by
    rw [View.readCov_eq_canon', cols10]
    funext j
    show ((daf d w p (0 + 1 * (j 0).val) (0 + 1 * (j 1).val) : ℝ) : EReal) = ((daf d w p (j 0).val (j 1).val : ℝ) : EReal)
    rw [Nat.zero_add, Nat.one_mul, Nat.zero_add, Nat.one_mul]
  have e11 : arg12.view.readCov (runB.sl.H11_11 (F := Ideal) c arg3 harg3 arg5 harg5 arg6 harg6 arg9 harg9 (rv 256 1024 .f32 d) (rv 256 2816 .bf16 s) (rv 256 2816 .bf16 p) (rv 2816 1024 .bf16 w)) (Rect.unit (s := S256x2816) ![0, 0] S256x2816.size inb_S256x2816_S256x2816_0_0).toLoadRect = rv 256 2816 .bf16 (daf d w s) := by
    rw [View.readCov_eq_canon', cols11]
    funext j
    show ((daf d w s (0 + 1 * (j 0).val) (0 + 1 * (j 1).val) : ℝ) : EReal) = ((daf d w s (j 0).val (j 1).val : ℝ) : EReal)
    rw [Nat.zero_add, Nat.one_mul, Nat.zero_add, Nat.one_mul]
  rw [rd2 (a := 2816) (b := 1024) arg7 harg7, rd2 (a := 2816) (b := 1024) arg8 harg8]
  exact congrArg₂ (fun a b => k0_pay44 (F := Ideal) a (rv 2816 1024 .bf16 wg) b (rv 2816 1024 .bf16 wu)) e10 e11

set_option maxHeartbeats 2000000 in
theorem valA13 :
    View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8).2.2.2.2.1 = rv 1 1024 .f32 fun a j => 0 := by
  subst hx0 hx1 hx2 hx3 hx4 hx5 hx6 hx7 hx8
  unfold runA
  dsimp only
  refine (View.canon_cons_unit_lit inb_S1x1024_S1x1024_0_0 _ _ (fun a => by fin_cases a <;> rfl)).trans ?_
  refine Eq.trans ?_ ((pay49_rv x (rs x) (fun _ _ _ => 0) (fun _ _ => 0)).trans (rv_congr fun a j _ _ => by simp))
  refine congr (congr (congr (congrArg (k0_pay49 (F := Ideal)) (rd2 (a := 256) (b := 1024) arg1 harg1 _ _)) ?_) (rdZero i arg15 _ _)) ((View.readCov_full _ _ _ _ _).trans pay2_rv)
  rw [rd2 (a := 256) (b := 1024) arg1 harg1, pay45_rv]

set_option maxHeartbeats 2000000 in
theorem valA12 :
    View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8).2.2.2.1 = rv 256 1024 .bf16 fun i j => 1 / 2 * d i j := by
  subst hx0 hx1 hx2 hx3 hx4 hx5 hx6 hx7 hx8
  unfold runA
  dsimp only
  refine (View.canon_cons_unit_lit inb_S256x1024_S256x1024_0_0 _ _ (fun a => by fin_cases a <;> rfl)).trans ?_
  refine Eq.trans ?_ (pay9_rv d)
  rw [rd2 (a := 256) (b := 1024) arg3 harg3]

set_option maxHeartbeats 2000000 in
theorem valA10 :
    View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8).2.1 = rv 256 2816 .bf16 (daf d w p) := by
  subst hx0 hx1 hx2 hx3 hx4 hx5 hx6 hx7 hx8
  exact cols10 c arg3 harg3 arg5 harg5 arg6 harg6 arg9 harg9 d w p s

set_option maxHeartbeats 2000000 in
theorem valA11 :
    View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8).2.2.1 = rv 256 2816 .bf16 (daf d w s) := by
  subst hx0 hx1 hx2 hx3 hx4 hx5 hx6 hx7 hx8
  exact cols11 c arg3 harg3 arg5 harg5 arg6 harg6 arg9 harg9 d w p s

end

/-! The last step of the grid. -/

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S256x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S2x256x1024 .f32) (harg15 : arg15.IsWhole)
    (q1 : ¬k0_cond1 i = 1#1) (q2 : ¬k0_cond2 i = 1#1) (q3 : k0_cond3 i = 1#1) (x0 : Vec Ideal S256x1024 .f32) (x1 : Vec Ideal S256x1024 .f32) (x2 : Vec Ideal S256x1024 .f32) (x3 : Vec Ideal S1x1024 .f32) (x4 : Vec Ideal S256x2816 .bf16) (x5 : Vec Ideal S256x2816 .bf16) (x6 : Vec Ideal S2816x1024 .bf16) (x7 : Vec Ideal S2816x1024 .bf16) (x8 : Vec Ideal S2816x1024 .bf16) (xd : Vec Ideal S1x1024 .f32) (xs : Vec Ideal S2x256x1024 .f32) (x e d g s p wg wu w : ℕ → ℕ → ℝ)
    (hx0 : x0 = rv 256 1024 .f32 x) (hx1 : x1 = rv 256 1024 .f32 e) (hx2 : x2 = rv 256 1024 .f32 d) (hx3 : x3 = rv 1 1024 .f32 g) (hx4 : x4 = rv 256 2816 .bf16 s) (hx5 : x5 = rv 256 2816 .bf16 p) (hx6 : x6 = rv 2816 1024 .bf16 wg) (hx7 : x7 = rv 2816 1024 .bf16 wu) (hx8 : x8 = rv 2816 1024 .bf16 w) (u h : ℕ → ℕ → ℝ) (hxd : xd = rv 1 1024 .f32 u) (hxs : Holds xs 1 h)
include c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs x e d g s p wg wu w hx0 hx1 hx2 hx3 hx4 hx5 hx6 hx7 hx8 u h hxd hxs

set_option maxHeartbeats 2000000 in
theorem valC9 :
    View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).1 = rv 256 1024 .f32 (dxf g x (rs x) h e) := by
  subst hx0 hx1 hx2 hx3 hx4 hx5 hx6 hx7 hx8 hxd
  unfold runC
  dsimp only
  refine (View.canon_cons_unit_lit inb_S256x1024_S256x1024_0_0 _ _ (fun a => by fin_cases a <;> rfl)).trans ?_
  refine Eq.trans ?_ (pay7_rv g x (fun _ => h) e)
  rw [rd2 (a := 1) (b := 1024) arg4 harg4, rd2 (a := 256) (b := 1024) arg1 harg1, rd2 (a := 256) (b := 1024) arg2 harg2, rdOne arg15 harg15 xs h hxs]

set_option maxHeartbeats 2000000 in
theorem valC13 :
    View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 q1 q2 q3 x0 x1 x2 x3 x4 x5 x6 x7 x8 xd xs).2.1 = rv 1 1024 .f32 fun a j => u a j + ∑ k ∈ range 256, h k j * (x k j * rs x k) := by
  subst hx0 hx1 hx2 hx3 hx4 hx5 hx6 hx7 hx8 hxd
  unfold runC
  dsimp only
  refine (View.canon_cons_unit_lit inb_S1x1024_S1x1024_0_0 _ _ (fun a => by fin_cases a <;> rfl)).trans ?_
  refine Eq.trans ?_ (pay8_rv x (fun _ => h) u)
  rw [rd2 (a := 256) (b := 1024) arg1 harg1, rdOne arg15 harg15 xs h hxs, rd2 (a := 1) (b := 1024) arg14 harg14]

end

end Cert.Kernel3Ideal.Rows

end
-- ==== Proof.Ffn.Frame.lean ====
module

public import proofs.«01_k».proof.Proof.Gen.Kernel3Ideal.Frame
public import proofs.«01_k».proof.Proof.Gen.Kernel3Ideal.Skeleton
public import proofs.«01_k».proof.Proof.Ffn.State
public import Idealize.ShloMosaic.Lib.Claim

@[expose] public section

set_option maxRecDepth 16384

noncomputable section

namespace Cert.Kernel3Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body's triple at a point of case A. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = Inv m c (t.val + 1) t.isLt from rfl, Inv_succ, Inv_castSucc m c t]
  rw [Inv_zero m c _ _ h, rest_eq]
  rw [leaves_after (dats m 0 c) 0 t (.inl rfl), after0]
  rw [leaves_after (dats m 0 c) 1 t (.inl rfl), after1]
  rw [leaves_after (dats m 0 c) 2 t (.inl rfl), after2]
  rw [leaves_after (dats m 0 c) 3 t (.inl rfl), after3]
  rw [leaves_after (dats m 0 c) 4 t (.inl rfl), after4]
  rw [leaves_after (dats m 0 c) 5 t (.inl rfl), after5]
  rw [leaves_after (dats m 0 c) 6 t (.inl rfl), after6]
  rw [leaves_after (dats m 0 c) 7 t (.inl rfl), after7]
  rw [leaves_after (dats m 0 c) 8 t (.inl rfl), after8]
  rw [leaves_after (dats m 0 c) 9 t (.inl (live9 t)), after9]
  rw [leaves_after (dats m 0 c) 10 t (.inl (live10 t (by omega))), after10]
  rw [leaves_after (dats m 0 c) 11 t (.inl (live11 t (by omega))), after11]
  rw [leaves_after (dats m 0 c) 12 t (.inl (live12 t (by omega))), after12]
  rw [leaves_after (dats m 0 c) 13 t (.inl (live13 t)), after13]
  rw [kept_A m c t h]
  rw [show left9 m c t = outA9 m c t h from dif_pos h]
  rw [show left10 m c t = outA10 m c t h from dif_pos h]
  rw [show left11 m c t = outA11 m c t h from dif_pos h]
  rw [show left12 m c t = outA12 m c t h from dif_pos h]
  (try dsimp only)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atA m c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS]; · iexact HS
  iintro ⟨H0, H1, H2, H3, H4, H5, H6, H7, H8, ⟨%e9, H9⟩, ⟨%e10, H10⟩, ⟨%e11, H11⟩, ⟨%e12, H12⟩, ⟨%e13, H13⟩, ⟨%es, HS⟩⟩
  isplitl [HS Hg]
  · isplitl [HS]
    · unfold owns; iexists _; isplitr
      swap; · iexact HS
      ipureintro; exact View.read_writes_of_cover _ _ _ _ _ (coverA14 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverA9 m c t h)
  isplitl [H10]
  · unfold owns; iexists _; isplitr
    swap; · iexact H10
    ipureintro; exact View.read_writes_of_cover _ _ _ _ _ (coverA10 m c t h)
  isplitl [H11]
  · unfold owns; iexists _; isplitr
    swap; · iexact H11
    ipureintro; exact View.read_writes_of_cover _ _ _ _ _ (coverA11 m c t h)
  isplitl [H12]
  · unfold owns; iexists _; isplitr
    swap; · iexact H12
    ipureintro; exact View.read_writes_of_cover _ _ _ _ _ (coverA12 m c t h)
  unfold owns; iexists _; isplitr
  swap; · iexact H13
  ipureintro; exact View.read_writes_of_cover _ _ _ _ _ (coverA13 m c t h)

set_option maxHeartbeats 4800000 in
/-- The body's triple at a point of case B. -/
theorem soundB (c : Dev nD) (t : Fin cfg0.N) (h : t.val ≠ 0 ∧ t.val ≠ 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = Inv m c (t.val + 1) t.isLt from rfl, Inv_succ, Inv_castSucc m c t]
  rw [Inv_pos m c _ _ (by omega)]
  rw [leaves_after (dats m 0 c) 0 t (.inl rfl), after0]
  rw [leaves_after (dats m 0 c) 1 t (.inl rfl), after1]
  rw [leaves_after (dats m 0 c) 2 t (.inl rfl), after2]
  rw [leaves_after (dats m 0 c) 3 t (.inl rfl), after3]
  rw [leaves_after (dats m 0 c) 4 t (.inl rfl), after4]
  rw [leaves_after (dats m 0 c) 5 t (.inl rfl), after5]
  rw [leaves_after (dats m 0 c) 6 t (.inl rfl), after6]
  rw [leaves_after (dats m 0 c) 7 t (.inl rfl), after7]
  rw [leaves_after (dats m 0 c) 8 t (.inl rfl), after8]
  rw [leaves_after (dats m 0 c) 9 t (.inl (live9 t)), after9]
  rw [leaves_after (dats m 0 c) 10 t (.inl (live10 t (by omega))), after10]
  rw [leaves_after (dats m 0 c) 11 t (.inl (live11 t (by omega))), after11]
  rw [leaves_after (dats m 0 c) 12 t (.inl (live12 t (by omega))), after12]
  rw [leaves_after (dats m 0 c) 13 t (.inl (live13 t)), after13]
  simp only [show ∀ d, (dats m 0 c).before 13 t d = (prev m c t).1 from fun d => (found (dats m 0 c) 13 rfl t ⟨t.val - 1, Nat.lt_of_le_of_lt (Nat.sub_le _ _) t.isLt⟩ (by dsimp only; omega) (stay13 _ (by have := t.isLt; have : cfg0.N = 33 := N_0; dsimp only; omega)) (live13 _) (fun _ _ => rfl) d).trans (after13 m c _)]
  rw [kept_B m c t h]
  rw [show left9 m c t = outB9 m c t h (prev m c t).1 (prev m c t).2 from (dif_neg h.1).trans (dif_neg h.2)]
  rw [show left10 m c t = outB10 m c t h (prev m c t).1 (prev m c t).2 from (dif_neg h.1).trans (dif_neg h.2)]
  rw [show left11 m c t = outB11 m c t h (prev m c t).1 (prev m c t).2 from (dif_neg h.1).trans (dif_neg h.2)]
  rw [show left12 m c t = outB12 m c t h (prev m c t).1 (prev m c t).2 from (dif_neg h.1).trans (dif_neg h.2)]
  (try dsimp only)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atB m c t h (prev m c t).1 (prev m c t).2).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [HS]; · iexact HS
  iintro ⟨H0, H1, H2, H3, H4, H5, H6, H7, H8, ⟨%e9, H9⟩, ⟨%e10, H10⟩, ⟨%e11, H11⟩, ⟨%e12, H12⟩, ⟨%e13, H13⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverB9 m c t h (prev m c t).1 (prev m c t).2)
  isplitl [H10]
  · unfold owns; iexists _; isplitr
    swap; · iexact H10
    ipureintro; exact View.read_writes_of_cover _ _ _ _ _ (coverB10 m c t h (prev m c t).1 (prev m c t).2)
  isplitl [H11]
  · unfold owns; iexists _; isplitr
    swap; · iexact H11
    ipureintro; exact View.read_writes_of_cover _ _ _ _ _ (coverB11 m c t h (prev m c t).1 (prev m c t).2)
  isplitl [H12]
  · unfold owns; iexists _; isplitr
    swap; · iexact H12
    ipureintro; exact View.read_writes_of_cover _ _ _ _ _ (coverB12 m c t h (prev m c t).1 (prev m c t).2)
  unfold owns; iexists _; isplitr
  swap; · iexact H13
  ipureintro; exact View.read_writes_of_cover _ _ _ _ _ (coverB13 m c t h (prev m c t).1 (prev m c t).2)

set_option maxHeartbeats 4800000 in
/-- The body's triple at a point of case C. -/
theorem soundC (c : Dev nD) (t : Fin cfg0.N) (h : t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = Inv m c (t.val + 1) t.isLt from rfl, Inv_succ, Inv_castSucc m c t]
  rw [Inv_pos m c _ _ (by omega)]
  rw [leaves_after (dats m 0 c) 0 t (.inl rfl), after0]
  rw [leaves_after (dats m 0 c) 1 t (.inl rfl), after1]
  rw [leaves_after (dats m 0 c) 2 t (.inl rfl), after2]
  rw [leaves_after (dats m 0 c) 3 t (.inl rfl), after3]
  rw [leaves_after (dats m 0 c) 4 t (.inl rfl), after4]
  rw [leaves_after (dats m 0 c) 5 t (.inl rfl), after5]
  rw [leaves_after (dats m 0 c) 6 t (.inl rfl), after6]
  rw [leaves_after (dats m 0 c) 7 t (.inl rfl), after7]
  rw [leaves_after (dats m 0 c) 8 t (.inl rfl), after8]
  rw [leaves_after (dats m 0 c) 9 t (.inl (live9 t)), after9]
  rw [leaves_after (dats m 0 c) 10 t (.inr (back10 t h)), after10]
  rw [leaves_after (dats m 0 c) 11 t (.inr (back11 t h)), after11]
  rw [leaves_after (dats m 0 c) 12 t (.inr (back12 t h)), after12]
  rw [leaves_after (dats m 0 c) 13 t (.inl (live13 t)), after13]
  simp only [show ∀ d, (dats m 0 c).before 13 t d = (prev m c t).1 from fun d => (found (dats m 0 c) 13 rfl t ⟨t.val - 1, Nat.lt_of_le_of_lt (Nat.sub_le _ _) t.isLt⟩ (by dsimp only; omega) (stay13 _ (by have := t.isLt; have : cfg0.N = 33 := N_0; dsimp only; omega)) (live13 _) (fun _ _ => rfl) d).trans (after13 m c _)]
  simp only [show ∀ d, (dats m 0 c).before 10 t d = left10 m c near from fun d => (found (dats m 0 c) 10 rfl t near (by rw [h]) (stay10 _ rfl) (live10 _ near_inner.2) (fun _ _ => rfl) d).trans (after10 m c _)]
  rw [show left10 m c t = left10 m c near from (dif_neg (by omega)).trans ((dif_pos h).trans ((dif_neg near_inner.1).trans (dif_neg near_inner.2)).symm)]
  simp only [show ∀ d, (dats m 0 c).before 11 t d = left11 m c near from fun d => (found (dats m 0 c) 11 rfl t near (by rw [h]) (stay11 _ rfl) (live11 _ near_inner.2) (fun _ _ => rfl) d).trans (after11 m c _)]
  rw [show left11 m c t = left11 m c near from (dif_neg (by omega)).trans ((dif_pos h).trans ((dif_neg near_inner.1).trans (dif_neg near_inner.2)).symm)]
  simp only [show ∀ d, (dats m 0 c).before 12 t d = left12 m c near from fun d => (found (dats m 0 c) 12 rfl t near (by rw [h]) (stay12 _ rfl) (live12 _ near_inner.2) (fun _ _ => rfl) d).trans (after12 m c _)]
  rw [show left12 m c t = left12 m c near from (dif_neg (by omega)).trans ((dif_pos h).trans ((dif_neg near_inner.1).trans (dif_neg near_inner.2)).symm)]
  rw [kept_C m c t h]
  rw [show left9 m c t = outC9 m c t h (prev m c t).1 (prev m c t).2 from (dif_neg (by omega)).trans (dif_pos h)]
  (try dsimp only)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atC m c t h (prev m c t).1 (prev m c t).2).2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [HS]; · iexact HS
  iintro ⟨H0, H1, H2, H3, H4, H5, H6, H7, H8, ⟨%e9, H9⟩, H10, H11, H12, ⟨%e13, H13⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverC9 m c t h (prev m c t).1 (prev m c t).2)
  isplitl [H10]; · iexact H10
  isplitl [H11]; · iexact H11
  isplitl [H12]; · iexact H12
  unfold owns; iexists _; isplitr
  swap; · iexact H13
  ipureintro; exact View.read_writes_of_cover _ _ _ _ _ (coverC13 m c t h (prev m c t).1 (prev m c t).2)

/-- The body's triple at every point. -/
theorem sound (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · by_cases h' : t.val = 32
    · exact soundC m c t h'
    · exact soundB m c t ⟨h, h'⟩

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem enter (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = Inv m c cfg0.N (le_refl _) from rfl, Inv_pos m c _ _ (by rw [show cfg0.N = 33 from N_0]; decide), rest_eq]
  iintro ⟨HS, Hg⟩
  isplitl [HS]
  · iexists _; iexact HS
  iexact Hg

set_option backward.isDefEq.respectTransparency.types false in
/-- Every run of the program ends with the arrays at what the proof data gives and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The arrays alone. -/
theorem run_main : θ_run defs (onTc (τ := τ) (main (F := F))) (s₀ m ρ) (Pipeline.FramePost cfgs (dats m) 0 (V m)) :=
  (θ_run defs _ _).mono (fun _ h => h.1) (run_all m ρ)

/-- The program runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_all m ρ))

end Cert.Kernel3Ideal.Rows

end
-- ==== Proof.Ffn.Vals.lean ====
module

public import proofs.«01_k».proof.Proof.Ffn.Outs
public import proofs.«01_k».proof.Proof.Ffn.Frame
public import Idealize.ShloMosaic.Lib.Pipeline.Value
public import Idealize.ShloMosaic.Lib.Pipeline.ReadBack
public import Idealize.ShloMosaic.Lib.VecWindow

@[expose] public section

set_option maxRecDepth 16384

noncomputable section

namespace Cert.Kernel3Ideal.Rows

open Cert.Kernel3Ideal Cert.Kernel3Ideal.Gen Idealize.ShloMosaic Idealize.ShloMosaic.TcCoe Finset Cert.Lift

variable (m : (ℓ : Loc nD τ sig) → Buf (Elt Ideal) ℓ) (c : Dev nD) (X D G S P Wg Wu Wd : ℕ → ℕ → ℝ)

/-- The arrays that the windows stage, as reals. -/
structure In : Prop where
  x : V m c main_arg0 = rv 8192 1024 .f32 X
  d : V m c main_arg1 = rv 8192 1024 .f32 D
  g : V m c main_arg2 = rv 1 1024 .f32 G
  s : V m c main_v22 = rv 8192 2816 .bf16 S
  p : V m c main_v23 = rv 8192 2816 .bf16 P
  wg : V m c main_arg3 = rv 2816 1024 .bf16 Wg
  wu : V m c main_arg4 = rv 2816 1024 .bf16 Wu
  wd : V m c main_arg5 = rv 2816 1024 .bf16 Wd

/-- The rows of one block. -/
def rows (q : ℕ) (f : ℕ → ℕ → ℝ) : ℕ → ℕ → ℝ := fun r j => f (q * 256 + r) j

/-- The gradient of the norm's output, over all rows. -/
abbrev Dh : ℕ → ℕ → ℝ := dhf D Wd P S Wg Wu
/-- The gradient of the norm's gain, from the first `n` blocks of rows. -/
def Dg (n : ℕ) (j : ℕ) : ℝ := ∑ k ∈ range (n * 256), Dh D S P Wg Wu Wd k j * (X k j * rs X k)
/-- The gradient of the layer's input. -/
abbrev Dx : ℕ → ℕ → ℝ := dxf G X (rs X) (Dh D S P Wg Wu Wd) D

theorem Dg_step (n j : ℕ) : Dg X D S P Wg Wu Wd n j + ∑ k ∈ range 256, rows n (Dh D S P Wg Wu Wd) k j * (rows n X k j * rs (rows n X) k) = Dg X D S P Wg Wu Wd (n + 1) j := by
  unfold Dg
  rw [Nat.succ_mul, Finset.sum_range_add]
  rfl

theorem coord : ∀ t : Fin cfg0.N, (grid0.coords t 0).val = t.val := by decide +kernel

/-! ## The blocks the windows stage -/

variable {m c X D G S P Wg Wu Wd}

theorem col0 : ∀ t : Fin cfg0.N, win0_0.index t (0 : Fin 2) = t.val - 1 ∧ win0_0.index t (1 : Fin 2) = 0 :=
  (by decide +kernel : ∀ t : Fin grid0.N, win0_0.index t (0 : Fin 2) = t.val - 1 ∧ win0_0.index t (1 : Fin 2) = 0)

theorem blk0 (H : In m c X D G S P Wg Wu Wd) (t : Fin cfg0.N) : iblk (F := Ideal) m c 0 t = rv 256 1024 .f32 (rows (t.val - 1) X) := by
  obtain ⟨e0, e1⟩ := col0 t
  funext y
  show V m c main_arg0 (((cfg0.win 0).blk t).view.emb y) = _
  rw [H.x]
  have a0 : (((cfg0.win 0).blk t).view.emb y 0).val = win0_0.index t (0 : Fin 2) * 256 + 1 * (y 0).val := rfl
  have a1 : (((cfg0.win 0).blk t).view.emb y 1).val = win0_0.index t (1 : Fin 2) * 1024 + 1 * (y 1).val := rfl
  show ((X (((cfg0.win 0).blk t).view.emb y 0).val (((cfg0.win 0).blk t).view.emb y 1).val : ℝ) : EReal) = ((X ((t.val - 1) * 256 + (y 0).val) (y 1).val : ℝ) : EReal)
  rw [a0, a1, e0, e1, one_mul, one_mul, zero_mul, zero_add]

theorem col1 : ∀ t : Fin cfg0.N, win0_1.index t (0 : Fin 2) = t.val - 1 ∧ win0_1.index t (1 : Fin 2) = 0 :=
  (by decide +kernel : ∀ t : Fin grid0.N, win0_1.index t (0 : Fin 2) = t.val - 1 ∧ win0_1.index t (1 : Fin 2) = 0)

theorem blk1 (H : In m c X D G S P Wg Wu Wd) (t : Fin cfg0.N) : iblk (F := Ideal) m c 1 t = rv 256 1024 .f32 (rows (t.val - 1) D) := by
  obtain ⟨e0, e1⟩ := col1 t
  funext y
  show V m c main_arg1 (((cfg0.win 1).blk t).view.emb y) = _
  rw [H.d]
  have a0 : (((cfg0.win 1).blk t).view.emb y 0).val = win0_1.index t (0 : Fin 2) * 256 + 1 * (y 0).val := rfl
  have a1 : (((cfg0.win 1).blk t).view.emb y 1).val = win0_1.index t (1 : Fin 2) * 1024 + 1 * (y 1).val := rfl
  show ((D (((cfg0.win 1).blk t).view.emb y 0).val (((cfg0.win 1).blk t).view.emb y 1).val : ℝ) : EReal) = ((D ((t.val - 1) * 256 + (y 0).val) (y 1).val : ℝ) : EReal)
  rw [a0, a1, e0, e1, one_mul, one_mul, zero_mul, zero_add]

theorem col2 : ∀ t : Fin cfg0.N, win0_2.index t (0 : Fin 2) = min t.val 31 ∧ win0_2.index t (1 : Fin 2) = 0 :=
  (by decide +kernel : ∀ t : Fin grid0.N, win0_2.index t (0 : Fin 2) = min t.val 31 ∧ win0_2.index t (1 : Fin 2) = 0)

theorem blk2 (H : In m c X D G S P Wg Wu Wd) (t : Fin cfg0.N) : iblk (F := Ideal) m c 2 t = rv 256 1024 .f32 (rows (min t.val 31) D) := by
  obtain ⟨e0, e1⟩ := col2 t
  funext y
  show V m c main_arg1 (((cfg0.win 2).blk t).view.emb y) = _
  rw [H.d]
  have a0 : (((cfg0.win 2).blk t).view.emb y 0).val = win0_2.index t (0 : Fin 2) * 256 + 1 * (y 0).val := rfl
  have a1 : (((cfg0.win 2).blk t).view.emb y 1).val = win0_2.index t (1 : Fin 2) * 1024 + 1 * (y 1).val := rfl
  show ((D (((cfg0.win 2).blk t).view.emb y 0).val (((cfg0.win 2).blk t).view.emb y 1).val : ℝ) : EReal) = ((D ((min t.val 31) * 256 + (y 0).val) (y 1).val : ℝ) : EReal)
  rw [a0, a1, e0, e1, one_mul, one_mul, zero_mul, zero_add]

theorem col3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem blk3 (H : In m c X D G S P Wg Wu Wd) (t : Fin cfg0.N) : iblk (F := Ideal) m c 3 t = rv 1 1024 .f32 G := by
  obtain ⟨e0, e1⟩ := col3 t
  funext y
  show V m c main_arg2 (((cfg0.win 3).blk t).view.emb y) = _
  rw [H.g]
  have a0 : (((cfg0.win 3).blk t).view.emb y 0).val = win0_3.index t (0 : Fin 2) * 1 + 1 * (y 0).val := rfl
  have a1 : (((cfg0.win 3).blk t).view.emb y 1).val = win0_3.index t (1 : Fin 2) * 1024 + 1 * (y 1).val := rfl
  show ((G (((cfg0.win 3).blk t).view.emb y 0).val (((cfg0.win 3).blk t).view.emb y 1).val : ℝ) : EReal) = ((G (y 0).val (y 1).val : ℝ) : EReal)
  rw [a0, a1, e0, e1, one_mul, one_mul, zero_mul, zero_add, zero_mul, zero_add]

theorem col4 : ∀ t : Fin cfg0.N, win0_4.index t (0 : Fin 2) = min t.val 31 ∧ win0_4.index t (1 : Fin 2) = 0 :=
  (by decide +kernel : ∀ t : Fin grid0.N, win0_4.index t (0 : Fin 2) = min t.val 31 ∧ win0_4.index t (1 : Fin 2) = 0)

theorem blk4 (H : In m c X D G S P Wg Wu Wd) (t : Fin cfg0.N) : iblk (F := Ideal) m c 4 t = rv 256 2816 .bf16 (rows (min t.val 31) S) := by
  obtain ⟨e0, e1⟩ := col4 t
  funext y
  show V m c main_v22 (((cfg0.win 4).blk t).view.emb y) = _
  rw [H.s]
  have a0 : (((cfg0.win 4).blk t).view.emb y 0).val = win0_4.index t (0 : Fin 2) * 256 + 1 * (y 0).val := rfl
  have a1 : (((cfg0.win 4).blk t).view.emb y 1).val = win0_4.index t (1 : Fin 2) * 2816 + 1 * (y 1).val := rfl
  show ((S (((cfg0.win 4).blk t).view.emb y 0).val (((cfg0.win 4).blk t).view.emb y 1).val : ℝ) : EReal) = ((S ((min t.val 31) * 256 + (y 0).val) (y 1).val : ℝ) : EReal)
  rw [a0, a1, e0, e1, one_mul, one_mul, zero_mul, zero_add]

theorem col5 : ∀ t : Fin cfg0.N, win0_5.index t (0 : Fin 2) = min t.val 31 ∧ win0_5.index t (1 : Fin 2) = 0 :=
  (by decide +kernel : ∀ t : Fin grid0.N, win0_5.index t (0 : Fin 2) = min t.val 31 ∧ win0_5.index t (1 : Fin 2) = 0)

theorem blk5 (H : In m c X D G S P Wg Wu Wd) (t : Fin cfg0.N) : iblk (F := Ideal) m c 5 t = rv 256 2816 .bf16 (rows (min t.val 31) P) := by
  obtain ⟨e0, e1⟩ := col5 t
  funext y
  show V m c main_v23 (((cfg0.win 5).blk t).view.emb y) = _
  rw [H.p]
  have a0 : (((cfg0.win 5).blk t).view.emb y 0).val = win0_5.index t (0 : Fin 2) * 256 + 1 * (y 0).val := rfl
  have a1 : (((cfg0.win 5).blk t).view.emb y 1).val = win0_5.index t (1 : Fin 2) * 2816 + 1 * (y 1).val := rfl
  show ((P (((cfg0.win 5).blk t).view.emb y 0).val (((cfg0.win 5).blk t).view.emb y 1).val : ℝ) : EReal) = ((P ((min t.val 31) * 256 + (y 0).val) (y 1).val : ℝ) : EReal)
  rw [a0, a1, e0, e1, one_mul, one_mul, zero_mul, zero_add]

theorem col6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem blk6 (H : In m c X D G S P Wg Wu Wd) (t : Fin cfg0.N) : iblk (F := Ideal) m c 6 t = rv 2816 1024 .bf16 Wg := by
  obtain ⟨e0, e1⟩ := col6 t
  funext y
  show V m c main_arg3 (((cfg0.win 6).blk t).view.emb y) = _
  rw [H.wg]
  have a0 : (((cfg0.win 6).blk t).view.emb y 0).val = win0_6.index t (0 : Fin 2) * 2816 + 1 * (y 0).val := rfl
  have a1 : (((cfg0.win 6).blk t).view.emb y 1).val = win0_6.index t (1 : Fin 2) * 1024 + 1 * (y 1).val := rfl
  show ((Wg (((cfg0.win 6).blk t).view.emb y 0).val (((cfg0.win 6).blk t).view.emb y 1).val : ℝ) : EReal) = ((Wg (y 0).val (y 1).val : ℝ) : EReal)
  rw [a0, a1, e0, e1, one_mul, one_mul, zero_mul, zero_add, zero_mul, zero_add]

theorem col7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem blk7 (H : In m c X D G S P Wg Wu Wd) (t : Fin cfg0.N) : iblk (F := Ideal) m c 7 t = rv 2816 1024 .bf16 Wu := by
  obtain ⟨e0, e1⟩ := col7 t
  funext y
  show V m c main_arg4 (((cfg0.win 7).blk t).view.emb y) = _
  rw [H.wu]
  have a0 : (((cfg0.win 7).blk t).view.emb y 0).val = win0_7.index t (0 : Fin 2) * 2816 + 1 * (y 0).val := rfl
  have a1 : (((cfg0.win 7).blk t).view.emb y 1).val = win0_7.index t (1 : Fin 2) * 1024 + 1 * (y 1).val := rfl
  show ((Wu (((cfg0.win 7).blk t).view.emb y 0).val (((cfg0.win 7).blk t).view.emb y 1).val : ℝ) : EReal) = ((Wu (y 0).val (y 1).val : ℝ) : EReal)
  rw [a0, a1, e0, e1, one_mul, one_mul, zero_mul, zero_add, zero_mul, zero_add]

theorem col8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem blk8 (H : In m c X D G S P Wg Wu Wd) (t : Fin cfg0.N) : iblk (F := Ideal) m c 8 t = rv 2816 1024 .bf16 Wd := by
  obtain ⟨e0, e1⟩ := col8 t
  funext y
  show V m c main_arg5 (((cfg0.win 8).blk t).view.emb y) = _
  rw [H.wd]
  have a0 : (((cfg0.win 8).blk t).view.emb y 0).val = win0_8.index t (0 : Fin 2) * 2816 + 1 * (y 0).val := rfl
  have a1 : (((cfg0.win 8).blk t).view.emb y 1).val = win0_8.index t (1 : Fin 2) * 1024 + 1 * (y 1).val := rfl
  show ((Wd (((cfg0.win 8).blk t).view.emb y 0).val (((cfg0.win 8).blk t).view.emb y 1).val : ℝ) : EReal) = ((Wd (y 0).val (y 1).val : ℝ) : EReal)
  rw [a0, a1, e0, e1, one_mul, one_mul, zero_mul, zero_add, zero_mul, zero_add]

/-! ## What the points leave -/

theorem outA10_rv (H : In m c X D G S P Wg Wu Wd) (t : Fin cfg0.N) (h : t.val = 0) :
    outA10 m c t h = rv 256 2816 .bf16 (daf (rows (min t.val 31) D) Wd (rows (min t.val 31) P)) := by
  unfold outA10
  exact (View.read_writes_junk_eq_canon _ _).trans (valA10 _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t))

theorem outA11_rv (H : In m c X D G S P Wg Wu Wd) (t : Fin cfg0.N) (h : t.val = 0) :
    outA11 m c t h = rv 256 2816 .bf16 (daf (rows (min t.val 31) D) Wd (rows (min t.val 31) S)) := by
  unfold outA11
  exact (View.read_writes_junk_eq_canon _ _).trans (valA11 _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t))

theorem outA12_rv (H : In m c X D G S P Wg Wu Wd) (t : Fin cfg0.N) (h : t.val = 0) :
    outA12 m c t h = rv 256 1024 .bf16 (fun i j => 1 / 2 * rows (min t.val 31) D i j) := by
  unfold outA12
  exact (View.read_writes_junk_eq_canon _ _).trans (valA12 _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t))

theorem outA14_rv (H : In m c X D G S P Wg Wu Wd) (t : Fin cfg0.N) (h : t.val = 0) :
    Holds (outA14 m c t h) (t.val % 2) (dhf (rows (min t.val 31) D) Wd (rows (min t.val 31) P) (rows (min t.val 31) S) Wg Wu) := by
  unfold outA14
  exact valA14 _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) (scr.view.junk) (t.val % 2) (by rw [coord])

theorem outB10_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    outB10 m c t h xd xs = rv 256 2816 .bf16 (daf (rows (min t.val 31) D) Wd (rows (min t.val 31) P)) := by
  unfold outB10
  exact (View.read_writes_junk_eq_canon _ _).trans (valB10 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs))

theorem outB11_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    outB11 m c t h xd xs = rv 256 2816 .bf16 (daf (rows (min t.val 31) D) Wd (rows (min t.val 31) S)) := by
  unfold outB11
  exact (View.read_writes_junk_eq_canon _ _).trans (valB11 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs))

theorem outB12_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    outB12 m c t h xd xs = rv 256 1024 .bf16 (fun i j => 1 / 2 * rows (min t.val 31) D i j) := by
  unfold outB12
  exact (View.read_writes_junk_eq_canon _ _).trans (valB12 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs))

theorem outB14_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    Holds (outB14 m c t h xd xs) (t.val % 2) (dhf (rows (min t.val 31) D) Wd (rows (min t.val 31) P) (rows (min t.val 31) S) Wg Wu) := by
  unfold outB14
  exact valB14 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs) (((Memref.isWhole_whole cc0_scratch0).unread xs)) (t.val % 2) (by rw [coord])

theorem outA13_rv (H : In m c X D G S P Wg Wu Wd) (t : Fin cfg0.N) (h : t.val = 0) :
    outA13 m c t h = rv 1 1024 .f32 (fun _ _ => 0) := by
  unfold outA13
  exact (View.read_writes_junk_eq_canon _ _).trans (valA13 _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t))

theorem outB13_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    outB13 m c t h xd xs = rv 1 1024 .f32 (fun a j => u a j + ∑ k ∈ range 256, h' k j * (rows (t.val - 1) X k j * rs (rows (t.val - 1) X) k)) := by
  unfold outB13
  exact (View.read_writes_junk_eq_canon _ _).trans (valB13 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs))

theorem outB9_rv (H : In m c X D G S P Wg Wu Wd) (t : Fin cfg0.N) (h : t.val ≠ 0 ∧ t.val ≠ 32) (xd : Vec Ideal S1x1024 .f32) (xs : Vec Ideal S2x256x1024 .f32) (u h' : ℕ → ℕ → ℝ) (hxd : xd = rv 1 1024 .f32 u) (hxs : Holds xs ((t.val + 1) % 2) h') :
    outB9 m c t h xd xs = rv 256 1024 .f32 (dxf G (rows (t.val - 1) X) (rs (rows (t.val - 1) X)) h' (rows (t.val - 1) D)) := by
  unfold outB9
  exact (View.read_writes_junk_eq_canon _ _).trans (valB9 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd (by rw [coord]; exact hxs))

theorem outC13_rv (H : In m c X D G S P Wg Wu Wd) (t : Fin cfg0.N) (h : t.val = 32) (xd : Vec Ideal S1x1024 .f32) (xs : Vec Ideal S2x256x1024 .f32) (u h' : ℕ → ℕ → ℝ) (hxd : xd = rv 1 1024 .f32 u) (hxs : Holds xs 1 h') :
    outC13 m c t h xd xs = rv 1 1024 .f32 (fun a j => u a j + ∑ k ∈ range 256, h' k j * (rows (t.val - 1) X k j * rs (rows (t.val - 1) X) k)) := by
  unfold outC13
  exact (View.read_writes_junk_eq_canon _ _).trans (valC13 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd hxs)

theorem outC9_rv (H : In m c X D G S P Wg Wu Wd) (t : Fin cfg0.N) (h : t.val = 32) (xd : Vec Ideal S1x1024 .f32) (xs : Vec Ideal S2x256x1024 .f32) (u h' : ℕ → ℕ → ℝ) (hxd : xd = rv 1 1024 .f32 u) (hxs : Holds xs 1 h') :
    outC9 m c t h xd xs = rv 256 1024 .f32 (dxf G (rows (t.val - 1) X) (rs (rows (t.val - 1) X)) h' (rows (t.val - 1) D)) := by
  unfold outC9
  exact (View.read_writes_junk_eq_canon _ _).trans (valC9 _ _ _ _ _ _ _ _ _ _ _ _ _ _ _ _ _ _ _ _ _ _ _ _ _ _ _ _ _ _ _ _ _ _ _ _ _ _ _ _ _ _ _ _ _ _ _ _ _ _ _ _ _ _ _ (blk0 H t) (blk1 H t) (blk2 H t) (blk3 H t) (blk4 H t) (blk5 H t) (blk6 H t) (blk7 H t) (blk8 H t) u h' hxd hxs)

/-! ## The gain row and the scratch -/

theorem kept_zero (hn : 0 < cfg0.N) : kept m c 0 hn = (outA13 m c ⟨0, hn⟩ rfl, outA14 m c ⟨0, hn⟩ rfl) := kept_A m c ⟨0, hn⟩ rfl
theorem kept_mid (n : ℕ) (hn : n + 1 < cfg0.N) (h : n + 1 ≠ 32) : kept m c (n + 1) hn
    = (outB13 m c ⟨n + 1, hn⟩ ⟨Nat.succ_ne_zero n, h⟩ (kept m c n (Nat.lt_of_succ_lt hn)).1 (kept m c n (Nat.lt_of_succ_lt hn)).2,
      outB14 m c ⟨n + 1, hn⟩ ⟨Nat.succ_ne_zero n, h⟩ (kept m c n (Nat.lt_of_succ_lt hn)).1 (kept m c n (Nat.lt_of_succ_lt hn)).2) := dif_neg h
theorem kept_last (n : ℕ) (hn : n + 1 < cfg0.N) (h : n + 1 = 32) : kept m c (n + 1) hn
    = (outC13 m c ⟨n + 1, hn⟩ h (kept m c n (Nat.lt_of_succ_lt hn)).1 (kept m c n (Nat.lt_of_succ_lt hn)).2, (kept m c n (Nat.lt_of_succ_lt hn)).2) := dif_pos h

theorem kept_at (H : In m c X D G S P Wg Wu Wd) : ∀ (n : ℕ) (hn : n < cfg0.N),
    (kept m c n hn).1 = rv 1 1024 .f32 (fun _ j => Dg X D S P Wg Wu Wd n j)
      ∧ (n < 32 → Holds (kept m c n hn).2 (n % 2) (rows n (Dh D S P Wg Wu Wd)))
  | 0, hn => by
    rw [kept_zero]
    dsimp only
    refine ⟨(outA13_rv H ⟨0, hn⟩ rfl).trans (rv_congr fun _ j _ _ => ?_), fun _ => outA14_rv H ⟨0, hn⟩ rfl⟩
    unfold Dg
    rw [Nat.zero_mul, Finset.sum_range_zero]
  | n + 1, hn => by
    have hN : n + 1 < 33 := lt_of_lt_of_eq hn (show cfg0.N = 33 from N_0)
    obtain ⟨I1, I2⟩ := kept_at H n (Nat.lt_of_succ_lt hn)
    have I2 := I2 (by omega)
    by_cases h : n + 1 = 32
    · rw [kept_last n hn h]
      dsimp only
      have e2 : n % 2 = 1 := by omega
      rw [e2] at I2
      refine ⟨?_, fun h' => absurd h (Nat.ne_of_lt h')⟩
      exact (outC13_rv H ⟨n + 1, hn⟩ h _ _ _ _ I1 I2).trans (rv_congr fun _ j _ _ => Dg_step X D S P Wg Wu Wd n j)
    · rw [kept_mid n hn h]
      dsimp only
      have e3 : n % 2 = (n + 1 + 1) % 2 := by omega
      rw [e3] at I2
      refine ⟨(outB13_rv H ⟨n + 1, hn⟩ ⟨Nat.succ_ne_zero n, h⟩ _ _ _ _ I1 I2).trans (rv_congr fun _ j _ _ => Dg_step X D S P Wg Wu Wd n j), fun _ => ?_⟩
      have q := outB14_rv H ⟨n + 1, hn⟩ ⟨Nat.succ_ne_zero n, h⟩ _ _ _ _ I1 I2
      rw [show min (⟨n + 1, hn⟩ : Fin cfg0.N).val 31 = n + 1 from Nat.min_eq_left (show n + 1 ≤ 31 by omega)] at q
      exact q

theorem left9_rv (H : In m c X D G S P Wg Wu Wd) (t : Fin cfg0.N) (h : t.val ≠ 0) : left9 m c t = rv 256 1024 .f32 (rows (t.val - 1) (Dx X D G S P Wg Wu Wd)) := by
  have hN : t.val < 33 := lt_of_lt_of_eq t.isLt (show cfg0.N = 33 from N_0)
  obtain ⟨I1, I2⟩ := kept_at H (t.val - 1) (Nat.lt_of_le_of_lt (Nat.sub_le _ _) t.isLt)
  have I2 := I2 (by omega)
  unfold left9
  rw [dif_neg h]
  by_cases h' : t.val = 32
  · rw [dif_pos h']
    rw [show (t.val - 1) % 2 = 1 by omega] at I2
    exact outC9_rv H t h' _ _ _ _ I1 I2
  · rw [dif_neg h']
    rw [show (t.val - 1) % 2 = (t.val + 1) % 2 by omega] at I2
    exact outB9_rv H t ⟨h, h'⟩ _ _ _ _ I1 I2

theorem prev_at (H : In m c X D G S P Wg Wu Wd) (t : Fin cfg0.N) (h : t.val ≠ 0) :
    (prev m c t).1 = rv 1 1024 .f32 (fun _ j => Dg X D S P Wg Wu Wd (t.val - 1) j) ∧ Holds (prev m c t).2 ((t.val + 1) % 2) (rows (t.val - 1) (Dh D S P Wg Wu Wd)) := by
  have hN : t.val < 33 := lt_of_lt_of_eq t.isLt (show cfg0.N = 33 from N_0)
  obtain ⟨I1, I2⟩ := kept_at H (t.val - 1) (Nat.lt_of_le_of_lt (Nat.sub_le _ _) t.isLt)
  have I2 := I2 (by omega)
  rw [show (t.val - 1) % 2 = (t.val + 1) % 2 by omega] at I2
  exact ⟨I1, I2⟩

theorem left10_rv (H : In m c X D G S P Wg Wu Wd) (t : Fin cfg0.N) : left10 m c t = rv 256 2816 .bf16 (rows (min t.val 31) (daf D Wd P)) := by
  unfold left10
  by_cases h : t.val = 0
  · rw [dif_pos h]
    exact outA10_rv H t h
  · rw [dif_neg h]
    by_cases h' : t.val = 32
    · rw [dif_pos h']
      obtain ⟨I1, I2⟩ := prev_at H near near_inner.1
      rw [show min t.val 31 = min near.val 31 by rw [h']; rfl]
      exact outB10_rv H near near_inner _ _ _ _ I1 I2
    · rw [dif_neg h']
      obtain ⟨I1, I2⟩ := prev_at H t h
      exact outB10_rv H t ⟨h, h'⟩ _ _ _ _ I1 I2

theorem left11_rv (H : In m c X D G S P Wg Wu Wd) (t : Fin cfg0.N) : left11 m c t = rv 256 2816 .bf16 (rows (min t.val 31) (daf D Wd S)) := by
  unfold left11
  by_cases h : t.val = 0
  · rw [dif_pos h]
    exact outA11_rv H t h
  · rw [dif_neg h]
    by_cases h' : t.val = 32
    · rw [dif_pos h']
      obtain ⟨I1, I2⟩ := prev_at H near near_inner.1
      rw [show min t.val 31 = min near.val 31 by rw [h']; rfl]
      exact outB11_rv H near near_inner _ _ _ _ I1 I2
    · rw [dif_neg h']
      obtain ⟨I1, I2⟩ := prev_at H t h
      exact outB11_rv H t ⟨h, h'⟩ _ _ _ _ I1 I2

theorem left12_rv (H : In m c X D G S P Wg Wu Wd) (t : Fin cfg0.N) : left12 m c t = rv 256 1024 .bf16 (rows (min t.val 31) (fun i j => 1 / 2 * D i j)) := by
  unfold left12
  by_cases h : t.val = 0
  · rw [dif_pos h]
    exact outA12_rv H t h
  · rw [dif_neg h]
    by_cases h' : t.val = 32
    · rw [dif_pos h']
      obtain ⟨I1, I2⟩ := prev_at H near near_inner.1
      rw [show min t.val 31 = min near.val 31 by rw [h']; rfl]
      exact outB12_rv H near near_inner _ _ _ _ I1 I2
    · rw [dif_neg h']
      obtain ⟨I1, I2⟩ := prev_at H t h
      exact outB12_rv H t ⟨h, h'⟩ _ _ _ _ I1 I2

/-! ## The arrays -/

theorem from9 : ∀ t : Fin cfg0.N, (cfg0.win 9).flush t = true → t.val ≠ 0 := by decide +kernel
theorem col9 : ∀ t : Fin cfg0.N, win0_9.index t (0 : Fin 2) = t.val - 1 ∧ win0_9.index t (1 : Fin 2) = 0 :=
  (by decide +kernel : ∀ t : Fin grid0.N, win0_9.index t (0 : Fin 2) = t.val - 1 ∧ win0_9.index t (1 : Fin 2) = 0)
theorem onto9 : ∀ q : Fin 32, ∃ t : Fin cfg0.N, (cfg0.win 9).flush t = true ∧ win0_9.index t (0 : Fin 2) = q.val :=
  (by decide +kernel : ∀ q : Fin 32, ∃ t : Fin grid0.N, win0_9.flush t = true ∧ win0_9.index t (0 : Fin 2) = q.val)

theorem flushed9 (H : In m c X D G S P Wg Wu Wd) (t : Fin cfg0.N) (hf : (cfg0.win 9).flush t = true) :
    (dats m 0 c).flushed 9 t = ((cfg0.win 9).blk t).view.read (Elt Ideal) (rv 8192 1024 .f32 (Dx X D G S P Wg Wu Wd)) := by
  show (cfg0.win 9).cut (grid0.coords t) ((dats m 0 c).after 9 t) = _
  rw [after9, left9_rv H t (from9 t hf)]
  obtain ⟨e0, e1⟩ := col9 t
  funext y
  have hb0 : (((cfg0.win 9).blk t).view.emb y 0).val = win0_9.index t (0 : Fin 2) * 256 + 1 * (y 0).val := rfl
  have hb1 : (((cfg0.win 9).blk t).view.emb y 1).val = win0_9.index t (1 : Fin 2) * 1024 + 1 * (y 1).val := rfl
  show (((Dx X D G S P Wg Wu Wd) ((t.val - 1) * 256 + (y 0).val) (y 1).val : ℝ) : EReal) = (((Dx X D G S P Wg Wu Wd) (((cfg0.win 9).blk t).view.emb y 0).val (((cfg0.win 9).blk t).view.emb y 1).val : ℝ) : EReal)
  rw [hb0, hb1, e0, e1, one_mul, one_mul, zero_mul, zero_add]

theorem mem9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v24_0).slice (win0_9.rect t)).set ↔ _
  rw [View.set_slice_whole, Rect.mem_set_unit]
  exact Iff.rfl

theorem final9 (H : In m c X D G S P Wg Wu Wd) : (dats m 0 c).arrAt 9 cfg0.N = rv 8192 1024 .f32 (Dx X D G S P Wg Wu Wd) :=
  (dats m 0 c).arrAt_eq_of_cover 9 _ (fun t hf => flushed9 H t hf) (fun i => by
    have h0 : (i 0).val < 8192 := (i 0).isLt
    have h1 : (i 1).val < 1024 := (i 1).isLt
    obtain ⟨t, hf, q0⟩ := onto9 ⟨(i 0).val / 256, by omega⟩
    obtain ⟨-, q1⟩ := col9 t
    have q0 : win0_9.index t (0 : Fin 2) = (i 0).val / 256 := q0
    refine ⟨t, hf, (mem9 t i).mpr fun a => ?_⟩
    match a with
    | ⟨0, _⟩ => show win0_9.index t (0 : Fin 2) * 256 ≤ (i 0).val ∧ (i 0).val < win0_9.index t (0 : Fin 2) * 256 + 256; omega
    | ⟨1, _⟩ => show win0_9.index t (1 : Fin 2) * 1024 ≤ (i 1).val ∧ (i 1).val < win0_9.index t (1 : Fin 2) * 1024 + 1024; omega)

theorem col10 : ∀ t : Fin cfg0.N, win0_10.index t (0 : Fin 2) = min t.val 31 ∧ win0_10.index t (1 : Fin 2) = 0 :=
  (by decide +kernel : ∀ t : Fin grid0.N, win0_10.index t (0 : Fin 2) = min t.val 31 ∧ win0_10.index t (1 : Fin 2) = 0)
theorem onto10 : ∀ q : Fin 32, ∃ t : Fin cfg0.N, (cfg0.win 10).flush t = true ∧ win0_10.index t (0 : Fin 2) = q.val :=
  (by decide +kernel : ∀ q : Fin 32, ∃ t : Fin grid0.N, win0_10.flush t = true ∧ win0_10.index t (0 : Fin 2) = q.val)

theorem flushed10 (H : In m c X D G S P Wg Wu Wd) (t : Fin cfg0.N) (hf : (cfg0.win 10).flush t = true) :
    (dats m 0 c).flushed 10 t = ((cfg0.win 10).blk t).view.read (Elt Ideal) (rv 8192 2816 .bf16 (daf D Wd P)) := by
  show (cfg0.win 10).cut (grid0.coords t) ((dats m 0 c).after 10 t) = _
  rw [after10, left10_rv H t]
  obtain ⟨e0, e1⟩ := col10 t
  funext y
  have hb0 : (((cfg0.win 10).blk t).view.emb y 0).val = win0_10.index t (0 : Fin 2) * 256 + 1 * (y 0).val := rfl
  have hb1 : (((cfg0.win 10).blk t).view.emb y 1).val = win0_10.index t (1 : Fin 2) * 2816 + 1 * (y 1).val := rfl
  show (((daf D Wd P) ((min t.val 31) * 256 + (y 0).val) (y 1).val : ℝ) : EReal) = (((daf D Wd P) (((cfg0.win 10).blk t).view.emb y 0).val (((cfg0.win 10).blk t).view.emb y 1).val : ℝ) : EReal)
  rw [hb0, hb1, e0, e1, one_mul, one_mul, zero_mul, zero_add]

theorem mem10 (t : Fin cfg0.N) (i : S8192x2816.Idx) :
    i ∈ ((cfg0.win 10).blk t).view.set ↔ ∀ a : Fin 2, win0_10.index t a * S256x2816.size a ≤ (i a).val ∧ (i a).val < win0_10.index t a * S256x2816.size a + S256x2816.size a := by
  show i ∈ ((View.whole main_v24_1).slice (win0_10.rect t)).set ↔ _
  rw [View.set_slice_whole, Rect.mem_set_unit]
  exact Iff.rfl

theorem final10 (H : In m c X D G S P Wg Wu Wd) : (dats m 0 c).arrAt 10 cfg0.N = rv 8192 2816 .bf16 (daf D Wd P) :=
  (dats m 0 c).arrAt_eq_of_cover 10 _ (fun t hf => flushed10 H t hf) (fun i => by
    have h0 : (i 0).val < 8192 := (i 0).isLt
    have h1 : (i 1).val < 2816 := (i 1).isLt
    obtain ⟨t, hf, q0⟩ := onto10 ⟨(i 0).val / 256, by omega⟩
    obtain ⟨-, q1⟩ := col10 t
    have q0 : win0_10.index t (0 : Fin 2) = (i 0).val / 256 := q0
    refine ⟨t, hf, (mem10 t i).mpr fun a => ?_⟩
    match a with
    | ⟨0, _⟩ => show win0_10.index t (0 : Fin 2) * 256 ≤ (i 0).val ∧ (i 0).val < win0_10.index t (0 : Fin 2) * 256 + 256; omega
    | ⟨1, _⟩ => show win0_10.index t (1 : Fin 2) * 2816 ≤ (i 1).val ∧ (i 1).val < win0_10.index t (1 : Fin 2) * 2816 + 2816; omega)

theorem col11 : ∀ t : Fin cfg0.N, win0_11.index t (0 : Fin 2) = min t.val 31 ∧ win0_11.index t (1 : Fin 2) = 0 :=
  (by decide +kernel : ∀ t : Fin grid0.N, win0_11.index t (0 : Fin 2) = min t.val 31 ∧ win0_11.index t (1 : Fin 2) = 0)
theorem onto11 : ∀ q : Fin 32, ∃ t : Fin cfg0.N, (cfg0.win 11).flush t = true ∧ win0_11.index t (0 : Fin 2) = q.val :=
  (by decide +kernel : ∀ q : Fin 32, ∃ t : Fin grid0.N, win0_11.flush t = true ∧ win0_11.index t (0 : Fin 2) = q.val)

theorem flushed11 (H : In m c X D G S P Wg Wu Wd) (t : Fin cfg0.N) (hf : (cfg0.win 11).flush t = true) :
    (dats m 0 c).flushed 11 t = ((cfg0.win 11).blk t).view.read (Elt Ideal) (rv 8192 2816 .bf16 (daf D Wd S)) := by
  show (cfg0.win 11).cut (grid0.coords t) ((dats m 0 c).after 11 t) = _
  rw [after11, left11_rv H t]
  obtain ⟨e0, e1⟩ := col11 t
  funext y
  have hb0 : (((cfg0.win 11).blk t).view.emb y 0).val = win0_11.index t (0 : Fin 2) * 256 + 1 * (y 0).val := rfl
  have hb1 : (((cfg0.win 11).blk t).view.emb y 1).val = win0_11.index t (1 : Fin 2) * 2816 + 1 * (y 1).val := rfl
  show (((daf D Wd S) ((min t.val 31) * 256 + (y 0).val) (y 1).val : ℝ) : EReal) = (((daf D Wd S) (((cfg0.win 11).blk t).view.emb y 0).val (((cfg0.win 11).blk t).view.emb y 1).val : ℝ) : EReal)
  rw [hb0, hb1, e0, e1, one_mul, one_mul, zero_mul, zero_add]

theorem mem11 (t : Fin cfg0.N) (i : S8192x2816.Idx) :
    i ∈ ((cfg0.win 11).blk t).view.set ↔ ∀ a : Fin 2, win0_11.index t a * S256x2816.size a ≤ (i a).val ∧ (i a).val < win0_11.index t a * S256x2816.size a + S256x2816.size a := by
  show i ∈ ((View.whole main_v24_2).slice (win0_11.rect t)).set ↔ _
  rw [View.set_slice_whole, Rect.mem_set_unit]
  exact Iff.rfl

theorem final11 (H : In m c X D G S P Wg Wu Wd) : (dats m 0 c).arrAt 11 cfg0.N = rv 8192 2816 .bf16 (daf D Wd S) :=
  (dats m 0 c).arrAt_eq_of_cover 11 _ (fun t hf => flushed11 H t hf) (fun i => by
    have h0 : (i 0).val < 8192 := (i 0).isLt
    have h1 : (i 1).val < 2816 := (i 1).isLt
    obtain ⟨t, hf, q0⟩ := onto11 ⟨(i 0).val / 256, by omega⟩
    obtain ⟨-, q1⟩ := col11 t
    have q0 : win0_11.index t (0 : Fin 2) = (i 0).val / 256 := q0
    refine ⟨t, hf, (mem11 t i).mpr fun a => ?_⟩
    match a with
    | ⟨0, _⟩ => show win0_11.index t (0 : Fin 2) * 256 ≤ (i 0).val ∧ (i 0).val < win0_11.index t (0 : Fin 2) * 256 + 256; omega
    | ⟨1, _⟩ => show win0_11.index t (1 : Fin 2) * 2816 ≤ (i 1).val ∧ (i 1).val < win0_11.index t (1 : Fin 2) * 2816 + 2816; omega)

theorem col12 : ∀ t : Fin cfg0.N, win0_12.index t (0 : Fin 2) = min t.val 31 ∧ win0_12.index t (1 : Fin 2) = 0 :=
  (by decide +kernel : ∀ t : Fin grid0.N, win0_12.index t (0 : Fin 2) = min t.val 31 ∧ win0_12.index t (1 : Fin 2) = 0)
theorem onto12 : ∀ q : Fin 32, ∃ t : Fin cfg0.N, (cfg0.win 12).flush t = true ∧ win0_12.index t (0 : Fin 2) = q.val :=
  (by decide +kernel : ∀ q : Fin 32, ∃ t : Fin grid0.N, win0_12.flush t = true ∧ win0_12.index t (0 : Fin 2) = q.val)

theorem flushed12 (H : In m c X D G S P Wg Wu Wd) (t : Fin cfg0.N) (hf : (cfg0.win 12).flush t = true) :
    (dats m 0 c).flushed 12 t = ((cfg0.win 12).blk t).view.read (Elt Ideal) (rv 8192 1024 .bf16 (fun i j => 1 / 2 * D i j)) := by
  show (cfg0.win 12).cut (grid0.coords t) ((dats m 0 c).after 12 t) = _
  rw [after12, left12_rv H t]
  obtain ⟨e0, e1⟩ := col12 t
  funext y
  have hb0 : (((cfg0.win 12).blk t).view.emb y 0).val = win0_12.index t (0 : Fin 2) * 256 + 1 * (y 0).val := rfl
  have hb1 : (((cfg0.win 12).blk t).view.emb y 1).val = win0_12.index t (1 : Fin 2) * 1024 + 1 * (y 1).val := rfl
  show (((fun i j => 1 / 2 * D i j) ((min t.val 31) * 256 + (y 0).val) (y 1).val : ℝ) : EReal) = (((fun i j => 1 / 2 * D i j) (((cfg0.win 12).blk t).view.emb y 0).val (((cfg0.win 12).blk t).view.emb y 1).val : ℝ) : EReal)
  rw [hb0, hb1, e0, e1, one_mul, one_mul, zero_mul, zero_add]

theorem mem12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v24_3).slice (win0_12.rect t)).set ↔ _
  rw [View.set_slice_whole, Rect.mem_set_unit]
  exact Iff.rfl

theorem final12 (H : In m c X D G S P Wg Wu Wd) : (dats m 0 c).arrAt 12 cfg0.N = rv 8192 1024 .bf16 (fun i j => 1 / 2 * D i j) :=
  (dats m 0 c).arrAt_eq_of_cover 12 _ (fun t hf => flushed12 H t hf) (fun i => by
    have h0 : (i 0).val < 8192 := (i 0).isLt
    have h1 : (i 1).val < 1024 := (i 1).isLt
    obtain ⟨t, hf, q0⟩ := onto12 ⟨(i 0).val / 256, by omega⟩
    obtain ⟨-, q1⟩ := col12 t
    have q0 : win0_12.index t (0 : Fin 2) = (i 0).val / 256 := q0
    refine ⟨t, hf, (mem12 t i).mpr fun a => ?_⟩
    match a with
    | ⟨0, _⟩ => show win0_12.index t (0 : Fin 2) * 256 ≤ (i 0).val ∧ (i 0).val < win0_12.index t (0 : Fin 2) * 256 + 256; omega
    | ⟨1, _⟩ => show win0_12.index t (1 : Fin 2) * 1024 ≤ (i 1).val ∧ (i 1).val < win0_12.index t (1 : Fin 2) * 1024 + 1024; omega)

theorem last13 : ∀ t : Fin cfg0.N, (cfg0.win 13).flush t = true → t.val = 32 := by decide +kernel
theorem col13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem onto13 : ∃ t : Fin cfg0.N, (cfg0.win 13).flush t = true :=
  (by decide +kernel : ∃ t : Fin grid0.N, win0_13.flush t = true)

theorem flushed13 (H : In m c X D G S P Wg Wu Wd) (t : Fin cfg0.N) (hf : (cfg0.win 13).flush t = true) :
    (dats m 0 c).flushed 13 t = ((cfg0.win 13).blk t).view.read (Elt Ideal) (rv 1 1024 .f32 fun _ j => Dg X D S P Wg Wu Wd 32 j) := by
  show (cfg0.win 13).cut (grid0.coords t) ((dats m 0 c).after 13 t) = _
  rw [after13, (kept_at H t.val t.isLt).1, last13 t hf]
  obtain ⟨e0, e1⟩ := col13 t
  funext y
  have hb1 : (((cfg0.win 13).blk t).view.emb y 1).val = win0_13.index t (1 : Fin 2) * 1024 + 1 * (y 1).val := rfl
  show ((Dg X D S P Wg Wu Wd 32 (y 1).val : ℝ) : EReal) = ((Dg X D S P Wg Wu Wd 32 (((cfg0.win 13).blk t).view.emb y 1).val : ℝ) : EReal)
  rw [hb1, e1, one_mul, zero_mul, zero_add]

theorem mem13 (t : Fin cfg0.N) (i : S1x1024.Idx) :
    i ∈ ((cfg0.win 13).blk t).view.set ↔ ∀ a : Fin 2, win0_13.index t a * S1x1024.size a ≤ (i a).val ∧ (i a).val < win0_13.index t a * S1x1024.size a + S1x1024.size a := by
  show i ∈ ((View.whole main_v24_4).slice (win0_13.rect t)).set ↔ _
  rw [View.set_slice_whole, Rect.mem_set_unit]
  exact Iff.rfl

theorem final13 (H : In m c X D G S P Wg Wu Wd) : (dats m 0 c).arrAt 13 cfg0.N = rv 1 1024 .f32 fun _ j => Dg X D S P Wg Wu Wd 32 j :=
  (dats m 0 c).arrAt_eq_of_cover 13 _ (fun t hf => flushed13 H t hf) (fun i => by
    have h0 : (i 0).val < 1 := (i 0).isLt
    have h1 : (i 1).val < 1024 := (i 1).isLt
    obtain ⟨t, hf⟩ := onto13
    obtain ⟨q0, q1⟩ := col13 t
    refine ⟨t, hf, (mem13 t i).mpr fun a => ?_⟩
    match a with
    | ⟨0, _⟩ => show win0_13.index t (0 : Fin 2) * 1 ≤ (i 0).val ∧ (i 0).val < win0_13.index t (0 : Fin 2) * 1 + 1; omega
    | ⟨1, _⟩ => show win0_13.index t (1 : Fin 2) * 1024 ≤ (i 1).val ∧ (i 1).val < win0_13.index t (1 : Fin 2) * 1024 + 1024; omega)

end Cert.Kernel3Ideal.Rows

end
-- ==== Proof.Ffn.RefA.lean ====
/- The reference forward half at real arguments, one operation at a time. -/
module

public import proofs.«01_k».proof.Proof.Gmlp.Host
public import proofs.«01_k».proof.Proof.Ffn.Vals
public import proofs.«01_k».proof.Proof.Gen.Reference3Ideal.Read

@[expose] public section

set_option maxRecDepth 16384

noncomputable section

namespace Cert.FfnReal

open Cert.Reference3Ideal Cert.Reference3Ideal.Read Idealize.ShloMosaic Cert.Lift Cert.Kernel3Ideal.Rows Finset

/-- Six arrays of reals: the arguments. -/
structure Arg where
  X : ℕ → ℕ → ℝ
  D : ℕ → ℕ → ℝ
  G : ℕ → ℕ → ℝ
  Wg : ℕ → ℕ → ℝ
  Wu : ℕ → ℕ → ℝ
  Wd : ℕ → ℕ → ℝ

namespace Arg

variable (p : Arg)

/-- The gate before its activation. -/
def a (i k : ℕ) : ℝ := ∑ j ∈ range 1024, p.X i j * rs p.X i * p.G 0 j * p.Wg k j
/-- The linear branch. -/
def b (i k : ℕ) : ℝ := ∑ j ∈ range 1024, p.X i j * rs p.X i * p.G 0 j * p.Wu k j
/-- The logistic function of the gate. -/
def sg (i k : ℕ) : ℝ := 1 / (1 + Real.exp (-p.a i k))
/-- The activated gate. -/
def S (i k : ℕ) : ℝ := p.a i k * p.sg i k
/-- The linear branch times the activation's slope. -/
def P (i k : ℕ) : ℝ := p.b i k * p.sg i k + p.a i k * p.b i k * (p.sg i k * (1 - p.sg i k))
/-- The gradient of the norm's output. -/
abbrev h : ℕ → ℕ → ℝ := Dh p.D p.S p.P p.Wg p.Wu p.Wd
/-- What each element of a row gets, up to a factor two, from the mean square. -/
def q (i : ℕ) : ℝ := (∑ k ∈ range 1024, p.X i k * (p.h i k * p.G 0 k)) * (-(1 / 2) * (rs p.X i / ((∑ k ∈ range 1024, p.X i k * p.X i k) / 1024 + 8796093 / 8796093022208))) / 1024

end Arg

theorem sgd_pos (p : Arg) (i k : ℕ) : 0 < 1 + Real.exp (-p.a i k) := by positivity

theorem c_exp {φ : FTy} {a : Ideal φ} {x : ℝ} (ha : a = ((x : ℝ) : EReal)) : FloatOps.hostUnary .exp a = ((Real.exp x : ℝ) : EReal) := by
  subst ha; exact Ideal.exp_coe _
theorem ofBits_1024 : (FloatOps.ofBits .f32 0x44800000#32 : Ideal .f32) = ((1024 : ℝ) : EReal) := by
  show Ideal.ofBits .f32 0x44800000#32 = _
  simp [Ideal.ofBits, Ideal.ieee, -EReal.coe_mul]; norm_num

variable (p : Arg)
/-- The arguments, as arrays of reals. -/
abbrev X0 : (⟨S8192x1024, .f32⟩ : BufTy).Contents (Elt Ideal) := rv 8192 1024 .f32 p.X
abbrev X1 : (⟨S8192x1024, .f32⟩ : BufTy).Contents (Elt Ideal) := rv 8192 1024 .f32 p.D
abbrev X2 : (⟨S1x1024, .f32⟩ : BufTy).Contents (Elt Ideal) := rv 1 1024 .f32 p.G
abbrev X3 : (⟨S2816x1024, .bf16⟩ : BufTy).Contents (Elt Ideal) := rv 2816 1024 .bf16 p.Wg
abbrev X4 : (⟨S2816x1024, .bf16⟩ : BufTy).Contents (Elt Ideal) := rv 2816 1024 .bf16 p.Wu
abbrev X5 : (⟨S2816x1024, .bf16⟩ : BufTy).Contents (Elt Ideal) := rv 2816 1024 .bf16 p.Wd

theorem at_v0 (p : Arg) (i : S1024.Idx) : val_main_v0 (F := Ideal) (X2 p) i = ((p.G 0 (i 0).val : ℝ) : EReal) :=
  c_eq (φ := .f32) (u := p.G 0 (((i 0).val) % 1024)) ((val_main_v0_apply (X2 p) i)) (by have h : (i 0).val < 1024 := (i 0).isLt; rw [Nat.mod_eq_of_lt h])
theorem at_v1 (p : Arg) (i : S8192x1024.Idx) : val_main_v1 (F := Ideal) (X0 p) i = (((p.X (i 0).val (i 1).val) * (p.X (i 0).val (i 1).val) : ℝ) : EReal) :=
  (val_main_v1_apply (X0 p) i).trans (c_mul rfl rfl)
theorem at_cst (p : Arg) (i : S_.Idx) : val_main_cst (F := Ideal) i = ((0 : ℝ) : EReal) := ofBits_zero
theorem at_v2 (p : Arg) (i : S8192.Idx) : val_main_v2 (F := Ideal) (X0 p) i = ((∑ k2 ∈ range 1024, ((p.X (i 0).val k2) * (p.X (i 0).val k2)) : ℝ) : EReal) :=
  (val_main_v2_apply (X0 p) i).trans (c_sum 1024 (at_cst p _) (fun k2 => ((p.X (i 0).val k2) * (p.X (i 0).val k2))) _ fun k => at_v1 p _)
theorem at_v3 (p : Arg) (i : S8192x1.Idx) : val_main_v3 (F := Ideal) (X0 p) i = ((∑ k2 ∈ range 1024, ((p.X (i 0).val k2) * (p.X (i 0).val k2)) : ℝ) : EReal) :=
  (val_main_v3_apply (X0 p) i).trans (at_v2 p _)
theorem at_cst_0 (p : Arg) (i : S_.Idx) : val_main_cst_0 (F := Ideal) i = ((1024 : ℝ) : EReal) := ofBits_1024
theorem at_v4 (p : Arg) (i : S8192x1.Idx) : val_main_v4 (F := Ideal) i = ((1024 : ℝ) : EReal) :=
  (val_main_v4_apply i).trans (at_cst_0 p _)
theorem at_v5 (p : Arg) (i : S8192x1.Idx) : val_main_v5 (F := Ideal) (X0 p) i = (((∑ k2 ∈ range 1024, ((p.X (i 0).val k2) * (p.X (i 0).val k2))) / 1024 : ℝ) : EReal) :=
  (val_main_v5_apply (X0 p) i).trans (c_div (at_v3 p i) (at_v4 p i) (by norm_num))
theorem at_cst_1 (p : Arg) (i : S_.Idx) : val_main_cst_1 (F := Ideal) i = (((8796093 / 8796093022208) : ℝ) : EReal) := ofBits_eps
theorem at_v6 (p : Arg) (i : S8192x1.Idx) : val_main_v6 (F := Ideal) i = (((8796093 / 8796093022208) : ℝ) : EReal) :=
  (val_main_v6_apply i).trans (at_cst_1 p _)
theorem at_v7 (p : Arg) (i : S8192x1.Idx) : val_main_v7 (F := Ideal) (X0 p) i = ((((∑ k2 ∈ range 1024, ((p.X (i 0).val k2) * (p.X (i 0).val k2))) / 1024) + ((8796093 / 8796093022208)) : ℝ) : EReal) :=
  (val_main_v7_apply (X0 p) i).trans (c_add (at_v5 p i) (at_v6 p i))
theorem at_v8 (p : Arg) (i : S8192x1.Idx) : val_main_v8 (F := Ideal) (X0 p) i = ((rs p.X (i 0).val : ℝ) : EReal) :=
  c_eq (φ := .f32) (u := (√(((∑ k2 ∈ range 1024, ((p.X (i 0).val k2) * (p.X (i 0).val k2))) / 1024) + ((8796093 / 8796093022208))))⁻¹) ((val_main_v8_apply (X0 p) i).trans (c_rsqrt (at_v7 p i) (ms_pos p.X _))) (rfl)
theorem at_v9 (p : Arg) (i : S8192x1.Idx) : val_main_v9 (F := Ideal) (X0 p) i = (((rs p.X (i 0).val) / (((∑ k2 ∈ range 1024, ((p.X (i 0).val k2) * (p.X (i 0).val k2))) / 1024) + ((8796093 / 8796093022208))) : ℝ) : EReal) :=
  (val_main_v9_apply (X0 p) i).trans (c_div (at_v8 p i) (at_v7 p i) ((ms_pos p.X _).ne'))
theorem at_cst_2 (p : Arg) (i : S_.Idx) : val_main_cst_2 (F := Ideal) i = (((-(1 / 2)) : ℝ) : EReal) := ofBits_nhalf
theorem at_v10 (p : Arg) (i : S8192x1.Idx) : val_main_v10 (F := Ideal) i = (((-(1 / 2)) : ℝ) : EReal) :=
  (val_main_v10_apply i).trans (at_cst_2 p _)
theorem at_v11 (p : Arg) (i : S8192x1.Idx) : val_main_v11 (F := Ideal) (X0 p) i = ((((-(1 / 2))) * ((rs p.X (i 0).val) / (((∑ k2 ∈ range 1024, ((p.X (i 0).val k2) * (p.X (i 0).val k2))) / 1024) + ((8796093 / 8796093022208)))) : ℝ) : EReal) :=
  (val_main_v11_apply (X0 p) i).trans (c_mul (at_v10 p i) (at_v9 p i))
theorem at_v12 (p : Arg) (i : S8192x1024.Idx) : val_main_v12 (F := Ideal) (X0 p) i = ((rs p.X (i 0).val : ℝ) : EReal) :=
  (val_main_v12_apply (X0 p) i).trans (at_v8 p _)
theorem at_v13 (p : Arg) (i : S8192x1024.Idx) : val_main_v13 (F := Ideal) (X0 p) i = (((p.X (i 0).val (i 1).val) * (rs p.X (i 0).val) : ℝ) : EReal) :=
  (val_main_v13_apply (X0 p) i).trans (c_mul rfl (at_v12 p i))
theorem at_v14 (p : Arg) (i : S1x1024.Idx) : val_main_v14 (F := Ideal) (X2 p) i = ((p.G 0 (i 1).val : ℝ) : EReal) :=
  (val_main_v14_apply (X2 p) i).trans (at_v0 p _)
theorem at_v15 (p : Arg) (i : S8192x1024.Idx) : val_main_v15 (F := Ideal) (X2 p) i = ((p.G 0 (i 1).val : ℝ) : EReal) :=
  (val_main_v15_apply (X2 p) i).trans (at_v14 p _)
theorem at_v16 (p : Arg) (i : S8192x1024.Idx) : val_main_v16 (F := Ideal) (X0 p) (X2 p) i = ((((p.X (i 0).val (i 1).val) * (rs p.X (i 0).val)) * (p.G 0 (i 1).val) : ℝ) : EReal) :=
  (val_main_v16_apply (X0 p) (X2 p) i).trans (c_mul (at_v13 p i) (at_v15 p i))
theorem at_v17 (p : Arg) (i : S2816x1024.Idx) : val_main_v17 (F := Ideal) (X3 p) i = ((p.Wg (i 0).val (i 1).val : ℝ) : EReal) :=
  rfl
theorem at_v18 (p : Arg) (i : S1024x2816.Idx) : val_main_v18 (F := Ideal) (X3 p) i = ((p.Wg (i 1).val (i 0).val : ℝ) : EReal) :=
  (val_main_v18_apply (X3 p) i).trans (at_v17 p _)
theorem at_v19 (p : Arg) (i : S8192x2816.Idx) : val_main_v19 (F := Ideal) (X0 p) (X2 p) (X3 p) i = ((p.a (i 0).val (i 1).val : ℝ) : EReal) :=
  c_eq (φ := .f32) (u := ∑ k19 ∈ range 1024, (((p.X (i 0).val k19) * (rs p.X (i 0).val)) * (p.G 0 k19)) * (p.Wg (i 1).val k19)) ((val_main_v19_apply (X0 p) (X2 p) (X3 p) i).trans (c_dot 1024 (fun k19 => (((p.X (i 0).val k19) * (rs p.X (i 0).val)) * (p.G 0 k19))) (fun k19 => (p.Wg (i 1).val k19)) _ _ (fun k => at_v16 p _) fun k => at_v18 p _)) (rfl)
theorem at_v20 (p : Arg) (i : S2816x1024.Idx) : val_main_v20 (F := Ideal) (X4 p) i = ((p.Wu (i 0).val (i 1).val : ℝ) : EReal) :=
  rfl
theorem at_v21 (p : Arg) (i : S1024x2816.Idx) : val_main_v21 (F := Ideal) (X4 p) i = ((p.Wu (i 1).val (i 0).val : ℝ) : EReal) :=
  (val_main_v21_apply (X4 p) i).trans (at_v20 p _)
theorem at_v22 (p : Arg) (i : S8192x2816.Idx) : val_main_v22 (F := Ideal) (X0 p) (X2 p) (X4 p) i = ((p.b (i 0).val (i 1).val : ℝ) : EReal) :=
  c_eq (φ := .f32) (u := ∑ k22 ∈ range 1024, (((p.X (i 0).val k22) * (rs p.X (i 0).val)) * (p.G 0 k22)) * (p.Wu (i 1).val k22)) ((val_main_v22_apply (X0 p) (X2 p) (X4 p) i).trans (c_dot 1024 (fun k22 => (((p.X (i 0).val k22) * (rs p.X (i 0).val)) * (p.G 0 k22))) (fun k22 => (p.Wu (i 1).val k22)) _ _ (fun k => at_v16 p _) fun k => at_v21 p _)) (rfl)
theorem at_call0_v0 (p : Arg) (i : S8192x2816.Idx) : val_main_call0_v0 (F := Ideal) (X0 p) (X2 p) (X3 p) i = ((-(p.a (i 0).val (i 1).val) : ℝ) : EReal) :=
  (val_main_call0_v0_apply (X0 p) (X2 p) (X3 p) i).trans (c_neg (at_v19 p i))
theorem at_call0_v1 (p : Arg) (i : S8192x2816.Idx) : val_main_call0_v1 (F := Ideal) (X0 p) (X2 p) (X3 p) i = ((Real.exp (-(p.a (i 0).val (i 1).val)) : ℝ) : EReal) :=
  (val_main_call0_v1_apply (X0 p) (X2 p) (X3 p) i).trans (c_exp (at_call0_v0 p i))
theorem at_call0_cst (p : Arg) (i : S_.Idx) : val_main_call0_cst (F := Ideal) i = ((1 : ℝ) : EReal) := ofBits_one
theorem at_call0_v2 (p : Arg) (i : S8192x2816.Idx) : val_main_call0_v2 (F := Ideal) i = ((1 : ℝ) : EReal) :=
  (val_main_call0_v2_apply i).trans (at_call0_cst p _)
theorem at_call0_v3 (p : Arg) (i : S8192x2816.Idx) : val_main_call0_v3 (F := Ideal) (X0 p) (X2 p) (X3 p) i = ((1 + (Real.exp (-(p.a (i 0).val (i 1).val))) : ℝ) : EReal) :=
  (val_main_call0_v3_apply (X0 p) (X2 p) (X3 p) i).trans (c_add (at_call0_v2 p i) (at_call0_v1 p i))
theorem at_call0_cst_0 (p : Arg) (i : S_.Idx) : val_main_call0_cst_0 (F := Ideal) i = ((1 : ℝ) : EReal) := ofBits_one
theorem at_call0_v4 (p : Arg) (i : S8192x2816.Idx) : val_main_call0_v4 (F := Ideal) i = ((1 : ℝ) : EReal) :=
  (val_main_call0_v4_apply i).trans (at_call0_cst_0 p _)
theorem at_v23_2 (p : Arg) (i : S8192x2816.Idx) : val_main_v23_2 (F := Ideal) (X0 p) (X2 p) (X3 p) i = ((p.sg (i 0).val (i 1).val : ℝ) : EReal) :=
  c_eq (φ := .f32) (u := 1 / (1 + (Real.exp (-(p.a (i 0).val (i 1).val))))) ((val_main_v23_2_apply (X0 p) (X2 p) (X3 p) i).trans (c_div (at_call0_v4 p i) (at_call0_v3 p i) ((sgd_pos p _ _).ne'))) (rfl)
theorem at_call0_cst_1 (p : Arg) (i : S_.Idx) : val_main_call0_cst_1 (F := Ideal) i = ((1 : ℝ) : EReal) := ofBits_one
theorem at_call0_v6 (p : Arg) (i : S8192x2816.Idx) : val_main_call0_v6 (F := Ideal) i = ((1 : ℝ) : EReal) :=
  (val_main_call0_v6_apply i).trans (at_call0_cst_1 p _)
theorem at_call0_v7 (p : Arg) (i : S8192x2816.Idx) : val_main_call0_v7 (F := Ideal) (X0 p) (X2 p) (X3 p) i = ((1 - (p.sg (i 0).val (i 1).val) : ℝ) : EReal) :=
  (val_main_call0_v7_apply (X0 p) (X2 p) (X3 p) i).trans (c_sub (at_call0_v6 p i) (at_v23_2 p i))
theorem at_v23_1 (p : Arg) (i : S8192x2816.Idx) : val_main_v23_1 (F := Ideal) (X0 p) (X2 p) (X3 p) i = (((p.sg (i 0).val (i 1).val) * (1 - (p.sg (i 0).val (i 1).val)) : ℝ) : EReal) :=
  (val_main_v23_1_apply (X0 p) (X2 p) (X3 p) i).trans (c_mul (at_v23_2 p i) (at_call0_v7 p i))
theorem at_v23_0 (p : Arg) (i : S8192x2816.Idx) : val_main_v23_0 (F := Ideal) (X0 p) (X2 p) (X3 p) i = ((p.S (i 0).val (i 1).val : ℝ) : EReal) :=
  c_eq (φ := .f32) (u := (p.a (i 0).val (i 1).val) * (p.sg (i 0).val (i 1).val)) ((val_main_v23_0_apply (X0 p) (X2 p) (X3 p) i).trans (c_mul (at_v19 p i) (at_v23_2 p i))) (rfl)

end Cert.FfnReal

end
-- ==== Proof.Ffn.Prefix.lean ====
/- What the host lines before the launch leave: the activated gate and its companion, at real arguments. -/
module

public import proofs.«01_k».proof.Proof.Ffn.RefA
public import Idealize.ShloMosaic.Lib.StableHlo.Run

@[expose] public section

set_option maxRecDepth 16384

noncomputable section

namespace Cert.Kernel3Ideal.Rows

open Cert.Kernel3Ideal Cert.Kernel3Ideal.Gen Idealize.ShloMosaic Idealize.ShloMosaic.TcCoe Idealize.ShloMosaic.StableHlo Finset Cert.Lift
open Cert.Reference3Ideal.Read (val_main_v19 val_main_v22 val_main_v23_0 val_main_v23_1 val_main_v23_2)

variable (m : (ℓ : Loc nD τ sig) → Buf (Elt Ideal) ℓ) (c : Dev nD)

/-- The activated gate is the reference's. -/
theorem V_gate : (V m c main_v22 : FVec Ideal S8192x2816 .bf16) = truncf (F := Ideal) (s := S8192x2816) (φ := .f32) .bf16 (val_main_v23_0 (F := Ideal) (m ((c : Thread nD τ).loc main_arg0)) (m ((c : Thread nD τ).loc main_arg2)) (m ((c : Thread nD τ).loc main_arg3))) bitsLt_bf16_f32 := by
  show StableHlo.after (List.flatten [hostOps0, hostOps0_1, hostOps0_2, hostOps0_3]) (fun b => m (c, b)) (Proc.devRef .tc main_v22) = _
  simp only [hostOps0, hostOps0_1, hostOps0_2, hostOps0_3, List.flatten_cons, List.flatten_nil, List.append_nil, List.cons_append, List.nil_append,
    TRef.binary, TRef.nullary, TRef.unary, TRef.toBuf, TRef.ofBuf, cast_eq]
  after_results_simp <;> rfl

/-- Its companion is the linear branch pulled back through the activation. -/
theorem V_slope : (V m c main_v23 : FVec Ideal S8192x2816 .bf16) = truncf (F := Ideal) (s := S8192x2816) (φ := .f32) .bf16 (addf (F := Ideal) (s := S8192x2816) (φ := .f32)
      (mulf (val_main_v22 (F := Ideal) (m ((c : Thread nD τ).loc main_arg0)) (m ((c : Thread nD τ).loc main_arg2)) (m ((c : Thread nD τ).loc main_arg4)))
        (val_main_v23_2 (F := Ideal) (m ((c : Thread nD τ).loc main_arg0)) (m ((c : Thread nD τ).loc main_arg2)) (m ((c : Thread nD τ).loc main_arg3))))
      (mulf (mulf (val_main_v19 (F := Ideal) (m ((c : Thread nD τ).loc main_arg0)) (m ((c : Thread nD τ).loc main_arg2)) (m ((c : Thread nD τ).loc main_arg3)))
          (val_main_v22 (F := Ideal) (m ((c : Thread nD τ).loc main_arg0)) (m ((c : Thread nD τ).loc main_arg2)) (m ((c : Thread nD τ).loc main_arg4))))
        (val_main_v23_1 (F := Ideal) (m ((c : Thread nD τ).loc main_arg0)) (m ((c : Thread nD τ).loc main_arg2)) (m ((c : Thread nD τ).loc main_arg3))))) bitsLt_bf16_f32 := by
  show StableHlo.after (List.flatten [hostOps0, hostOps0_1, hostOps0_2, hostOps0_3]) (fun b => m (c, b)) (Proc.devRef .tc main_v23) = _
  simp only [hostOps0, hostOps0_1, hostOps0_2, hostOps0_3, List.flatten_cons, List.flatten_nil, List.append_nil, List.cons_append, List.nil_append,
    TRef.binary, TRef.nullary, TRef.unary, TRef.toBuf, TRef.ofBuf, cast_eq]
  after_results_simp <;> rfl

open Cert.FfnReal

/-- At real arguments every array that the launch stages is real. -/
theorem staged (p : Arg) (h0 : m ((c : Thread nD τ).loc main_arg0) = rv 8192 1024 .f32 p.X) (h1 : m ((c : Thread nD τ).loc main_arg1) = rv 8192 1024 .f32 p.D)
    (h2 : m ((c : Thread nD τ).loc main_arg2) = rv 1 1024 .f32 p.G) (h3 : m ((c : Thread nD τ).loc main_arg3) = rv 2816 1024 .bf16 p.Wg)
    (h4 : m ((c : Thread nD τ).loc main_arg4) = rv 2816 1024 .bf16 p.Wu) (h5 : m ((c : Thread nD τ).loc main_arg5) = rv 2816 1024 .bf16 p.Wd) :
    In m c p.X p.D p.G p.S p.P p.Wg p.Wu p.Wd where
  x := (V_main_arg0 m c).trans h0
  d := (V_main_arg1 m c).trans h1
  g := (V_main_arg2 m c).trans h2
  s := by
    rw [V_gate, h0, h2, h3]
    funext i
    exact at_v23_0 p i
  p := by
    rw [V_slope, h0, h2, h3, h4]
    funext i
    exact c_add (φ := .f32) (c_mul (at_v22 p i) (at_v23_2 p i)) (c_mul (c_mul (at_v19 p i) (at_v22 p i)) (at_v23_1 p i))
  wg := (V_main_arg3 m c).trans h3
  wu := (V_main_arg4 m c).trans h4
  wd := (V_main_arg5 m c).trans h5

end Cert.Kernel3Ideal.Rows

end
-- ==== Proof.Ffn.RefB.lean ====
/- The reference gradients, each result at real arguments. -/
module

public import proofs.«01_k».proof.Proof.Ffn.RefA

@[expose] public section

set_option maxRecDepth 16384

noncomputable section

namespace Cert.FfnReal

open Cert.Reference3Ideal Cert.Reference3Ideal.Read Idealize.ShloMosaic Cert.Lift Cert.Kernel3Ideal.Rows Finset

theorem rs_cube (x : ℕ → ℕ → ℝ) (i : ℕ) : rs x i / ((∑ k ∈ range 1024, x i k * x i k) / 1024 + 8796093 / 8796093022208) = rs x i * rs x i * rs x i := by
  have h := ms_pos x i
  have hs : rs x i * rs x i = ((∑ k ∈ range 1024, x i k * x i k) / 1024 + 8796093 / 8796093022208)⁻¹ := by
    unfold rs
    rw [← mul_inv, Real.mul_self_sqrt h.le]
  rw [hs, div_eq_mul_inv, mul_comm]

/-- The two forms of the norm's gradient. -/
theorem norm_grad (p : Arg) (i j : ℕ) : p.D i j + (p.h i j * p.G 0 j * rs p.X i + p.X i j * p.q i + p.q i * p.X i j) = Dx p.X p.D p.G p.S p.P p.Wg p.Wu p.Wd i j := by
  have e : ∑ k ∈ range 1024, p.h i k * p.G 0 k * (p.X i k * rs p.X i) = (∑ k ∈ range 1024, p.X i k * (p.h i k * p.G 0 k)) * rs p.X i := by
    rw [Finset.sum_mul]
    exact Finset.sum_congr rfl fun k _ => by ring
  show _ = p.D i j + rs p.X i * (p.h i j * p.G 0 j - p.X i j * rs p.X i * ((∑ k ∈ range 1024, p.h i k * p.G 0 k * (p.X i k * rs p.X i)) / 1024))
  rw [e]
  unfold Arg.q
  rw [rs_cube]
  ring

theorem at_v25 (p : Arg) (i : S2816x1024.Idx) : val_main_v25 (F := Ideal) (X5 p) i = ((p.Wd (i 0).val (i 1).val : ℝ) : EReal) :=
  rfl
theorem at_cst_3 (p : Arg) (i : S_.Idx) : val_main_cst_3 (F := Ideal) i = (((1 / 2) : ℝ) : EReal) := ofBits_half
theorem at_v27 (p : Arg) (i : S8192x1024.Idx) : val_main_v27 (F := Ideal) i = (((1 / 2) : ℝ) : EReal) :=
  (val_main_v27_apply i).trans (at_cst_3 p _)
theorem at_v28 (p : Arg) (i : S8192x1024.Idx) : val_main_v28 (F := Ideal) (X1 p) i = ((((1 / 2)) * (p.D (i 0).val (i 1).val) : ℝ) : EReal) :=
  (val_main_v28_apply (X1 p) i).trans (c_mul (at_v27 p i) rfl)
theorem at_v29 (p : Arg) (i : S8192x2816.Idx) : val_main_v29 (F := Ideal) (X1 p) (X5 p) i = ((∑ k29 ∈ range 1024, (((1 / 2)) * (p.D (i 0).val k29)) * (p.Wd (i 1).val k29) : ℝ) : EReal) :=
  (val_main_v29_apply (X1 p) (X5 p) i).trans (c_dot 1024 (fun k29 => (((1 / 2)) * (p.D (i 0).val k29))) (fun k29 => (p.Wd (i 1).val k29)) _ _ (fun k => at_v28 p _) fun k => at_v25 p _)
theorem at_v30 (p : Arg) (i : S8192x2816.Idx) : val_main_v30 (F := Ideal) (X0 p) (X1 p) (X2 p) (X3 p) (X5 p) i = ((daf p.D p.Wd p.S (i 0).val (i 1).val : ℝ) : EReal) :=
  c_eq (φ := .f32) (u := (p.S (i 0).val (i 1).val) * (∑ k29 ∈ range 1024, (((1 / 2)) * (p.D (i 0).val k29)) * (p.Wd (i 1).val k29))) ((val_main_v30_apply (X0 p) (X1 p) (X2 p) (X3 p) (X5 p) i).trans (c_mul (at_v23_0 p i) (at_v29 p i))) (by unfold daf; ring)
theorem at_v31 (p : Arg) (i : S8192x2816.Idx) : val_main_v31 (F := Ideal) (X0 p) (X1 p) (X2 p) (X4 p) (X5 p) i = (((∑ k29 ∈ range 1024, (((1 / 2)) * (p.D (i 0).val k29)) * (p.Wd (i 1).val k29)) * (p.b (i 0).val (i 1).val) : ℝ) : EReal) :=
  (val_main_v31_apply (X0 p) (X1 p) (X2 p) (X4 p) (X5 p) i).trans (c_mul (at_v29 p i) (at_v22 p i))
theorem at_call1_v0 (p : Arg) (i : S8192x2816.Idx) : val_main_call1_v0 (F := Ideal) (X0 p) (X1 p) (X2 p) (X3 p) (X4 p) (X5 p) i = (((p.a (i 0).val (i 1).val) * ((∑ k29 ∈ range 1024, (((1 / 2)) * (p.D (i 0).val k29)) * (p.Wd (i 1).val k29)) * (p.b (i 0).val (i 1).val)) : ℝ) : EReal) :=
  (val_main_call1_v0_apply (X0 p) (X1 p) (X2 p) (X3 p) (X4 p) (X5 p) i).trans (c_mul (at_v19 p i) (at_v31 p i))
theorem at_call1_v1 (p : Arg) (i : S8192x2816.Idx) : val_main_call1_v1 (F := Ideal) (X0 p) (X1 p) (X2 p) (X3 p) (X4 p) (X5 p) i = ((((∑ k29 ∈ range 1024, (((1 / 2)) * (p.D (i 0).val k29)) * (p.Wd (i 1).val k29)) * (p.b (i 0).val (i 1).val)) * (p.sg (i 0).val (i 1).val) : ℝ) : EReal) :=
  (val_main_call1_v1_apply (X0 p) (X1 p) (X2 p) (X3 p) (X4 p) (X5 p) i).trans (c_mul (at_v31 p i) (at_v23_2 p i))
theorem at_call1_v2 (p : Arg) (i : S8192x2816.Idx) : val_main_call1_v2 (F := Ideal) (X0 p) (X1 p) (X2 p) (X3 p) (X4 p) (X5 p) i = ((((p.a (i 0).val (i 1).val) * ((∑ k29 ∈ range 1024, (((1 / 2)) * (p.D (i 0).val k29)) * (p.Wd (i 1).val k29)) * (p.b (i 0).val (i 1).val))) * ((p.sg (i 0).val (i 1).val) * (1 - (p.sg (i 0).val (i 1).val))) : ℝ) : EReal) :=
  (val_main_call1_v2_apply (X0 p) (X1 p) (X2 p) (X3 p) (X4 p) (X5 p) i).trans (c_mul (at_call1_v0 p i) (at_v23_1 p i))
theorem at_v32 (p : Arg) (i : S8192x2816.Idx) : val_main_v32 (F := Ideal) (X0 p) (X1 p) (X2 p) (X3 p) (X4 p) (X5 p) i = ((daf p.D p.Wd p.P (i 0).val (i 1).val : ℝ) : EReal) :=
  c_eq (φ := .f32) (u := (((∑ k29 ∈ range 1024, (((1 / 2)) * (p.D (i 0).val k29)) * (p.Wd (i 1).val k29)) * (p.b (i 0).val (i 1).val)) * (p.sg (i 0).val (i 1).val)) + (((p.a (i 0).val (i 1).val) * ((∑ k29 ∈ range 1024, (((1 / 2)) * (p.D (i 0).val k29)) * (p.Wd (i 1).val k29)) * (p.b (i 0).val (i 1).val))) * ((p.sg (i 0).val (i 1).val) * (1 - (p.sg (i 0).val (i 1).val))))) ((val_main_v32_apply (X0 p) (X1 p) (X2 p) (X3 p) (X4 p) (X5 p) i).trans (c_add (at_call1_v1 p i) (at_call1_v2 p i))) (by unfold daf Arg.P; ring)
theorem at_v33 (p : Arg) (i : S8192x1024.Idx) : val_main_v33 (F := Ideal) (X0 p) (X1 p) (X2 p) (X3 p) (X4 p) (X5 p) i = ((∑ k33 ∈ range 2816, (daf p.D p.Wd p.S (i 0).val k33) * (p.Wu k33 (i 1).val) : ℝ) : EReal) :=
  (val_main_v33_apply (X0 p) (X1 p) (X2 p) (X3 p) (X4 p) (X5 p) i).trans (c_dot 2816 (fun k33 => (daf p.D p.Wd p.S (i 0).val k33)) (fun k33 => (p.Wu k33 (i 1).val)) _ _ (fun k => at_v30 p _) fun k => at_v21 p _)
theorem at_v34 (p : Arg) (i : S8192x1024.Idx) : val_main_v34 (F := Ideal) (X0 p) (X1 p) (X2 p) (X3 p) (X4 p) (X5 p) i = ((∑ k34 ∈ range 2816, (daf p.D p.Wd p.P (i 0).val k34) * (p.Wg k34 (i 1).val) : ℝ) : EReal) :=
  (val_main_v34_apply (X0 p) (X1 p) (X2 p) (X3 p) (X4 p) (X5 p) i).trans (c_dot 2816 (fun k34 => (daf p.D p.Wd p.P (i 0).val k34)) (fun k34 => (p.Wg k34 (i 1).val)) _ _ (fun k => at_v32 p _) fun k => at_v18 p _)
theorem at_v35 (p : Arg) (i : S8192x1024.Idx) : val_main_v35 (F := Ideal) (X0 p) (X1 p) (X2 p) (X3 p) (X4 p) (X5 p) i = ((p.h (i 0).val (i 1).val : ℝ) : EReal) :=
  c_eq (φ := .f32) (u := (∑ k33 ∈ range 2816, (daf p.D p.Wd p.S (i 0).val k33) * (p.Wu k33 (i 1).val)) + (∑ k34 ∈ range 2816, (daf p.D p.Wd p.P (i 0).val k34) * (p.Wg k34 (i 1).val))) ((val_main_v35_apply (X0 p) (X1 p) (X2 p) (X3 p) (X4 p) (X5 p) i).trans (c_add (at_v33 p i) (at_v34 p i))) (add_comm _ _)
theorem at_v36 (p : Arg) (i : S8192x1024.Idx) : val_main_v36 (F := Ideal) (X0 p) (X1 p) (X2 p) (X3 p) (X4 p) (X5 p) i = ((((p.X (i 0).val (i 1).val) * (rs p.X (i 0).val)) * (p.h (i 0).val (i 1).val) : ℝ) : EReal) :=
  (val_main_v36_apply (X0 p) (X1 p) (X2 p) (X3 p) (X4 p) (X5 p) i).trans (c_mul (at_v13 p i) (at_v35 p i))
theorem at_cst_4 (p : Arg) (i : S_.Idx) : val_main_cst_4 (F := Ideal) i = ((0 : ℝ) : EReal) := ofBits_zero
theorem at_v37 (p : Arg) (i : S1024.Idx) : val_main_v37 (F := Ideal) (X0 p) (X1 p) (X2 p) (X3 p) (X4 p) (X5 p) i = ((Dg p.X p.D p.S p.P p.Wg p.Wu p.Wd 32 (i 0).val : ℝ) : EReal) :=
  c_eq (φ := .f32) (u := ∑ k37 ∈ range 8192, (((p.X k37 (i 0).val) * (rs p.X k37)) * (p.h k37 (i 0).val))) ((val_main_v37_apply (X0 p) (X1 p) (X2 p) (X3 p) (X4 p) (X5 p) i).trans (c_sum 8192 (at_cst_4 p _) (fun k37 => (((p.X k37 (i 0).val) * (rs p.X k37)) * (p.h k37 (i 0).val))) _ fun k => at_v36 p _)) (Finset.sum_congr rfl fun _ _ => mul_comm _ _)
theorem at_v38 (p : Arg) (i : S1x1024.Idx) : val_main_v38 (F := Ideal) (X0 p) (X1 p) (X2 p) (X3 p) (X4 p) (X5 p) i = ((Dg p.X p.D p.S p.P p.Wg p.Wu p.Wd 32 (i 1).val : ℝ) : EReal) :=
  c_eq (φ := .f32) (u := Dg p.X p.D p.S p.P p.Wg p.Wu p.Wd 32 ((i 0).val * 1024 + (i 1).val)) ((val_main_v38_apply (X0 p) (X1 p) (X2 p) (X3 p) (X4 p) (X5 p) i).trans (at_v37 p _)) (by have h : (i 0).val < 1 := (i 0).isLt; rw [show (i 0).val * 1024 + (i 1).val = (i 1).val by omega])
theorem at_v39 (p : Arg) (i : S8192x1024.Idx) : val_main_v39 (F := Ideal) (X2 p) i = ((p.G 0 (i 1).val : ℝ) : EReal) :=
  (val_main_v39_apply (X2 p) i).trans (at_v14 p _)
theorem at_v40 (p : Arg) (i : S8192x1024.Idx) : val_main_v40 (F := Ideal) (X0 p) (X1 p) (X2 p) (X3 p) (X4 p) (X5 p) i = (((p.h (i 0).val (i 1).val) * (p.G 0 (i 1).val) : ℝ) : EReal) :=
  (val_main_v40_apply (X0 p) (X1 p) (X2 p) (X3 p) (X4 p) (X5 p) i).trans (c_mul (at_v35 p i) (at_v39 p i))
theorem at_cst_5 (p : Arg) (i : S_.Idx) : val_main_cst_5 (F := Ideal) i = ((0 : ℝ) : EReal) := ofBits_zero
theorem at_v41 (p : Arg) (i : S1024.Idx) : val_main_v41 (F := Ideal) (X0 p) (X1 p) (X2 p) (X3 p) (X4 p) (X5 p) i = ((Dg p.X p.D p.S p.P p.Wg p.Wu p.Wd 32 (i 0).val : ℝ) : EReal) :=
  c_eq (φ := .f32) (u := ∑ k41 ∈ range 1, (Dg p.X p.D p.S p.P p.Wg p.Wu p.Wd 32 (i 0).val)) ((val_main_v41_apply (X0 p) (X1 p) (X2 p) (X3 p) (X4 p) (X5 p) i).trans (c_sum 1 (at_cst_5 p _) (fun k41 => (Dg p.X p.D p.S p.P p.Wg p.Wu p.Wd 32 (i 0).val)) _ fun k => at_v38 p _)) (Finset.sum_range_one _)
theorem at_v42 (p : Arg) (i : S8192x1024.Idx) : val_main_v42 (F := Ideal) (X0 p) (X1 p) (X2 p) (X3 p) (X4 p) (X5 p) i = (((p.X (i 0).val (i 1).val) * ((p.h (i 0).val (i 1).val) * (p.G 0 (i 1).val)) : ℝ) : EReal) :=
  (val_main_v42_apply (X0 p) (X1 p) (X2 p) (X3 p) (X4 p) (X5 p) i).trans (c_mul rfl (at_v40 p i))
theorem at_cst_6 (p : Arg) (i : S_.Idx) : val_main_cst_6 (F := Ideal) i = ((0 : ℝ) : EReal) := ofBits_zero
theorem at_v43 (p : Arg) (i : S8192.Idx) : val_main_v43 (F := Ideal) (X0 p) (X1 p) (X2 p) (X3 p) (X4 p) (X5 p) i = ((∑ k43 ∈ range 1024, ((p.X (i 0).val k43) * ((p.h (i 0).val k43) * (p.G 0 k43))) : ℝ) : EReal) :=
  (val_main_v43_apply (X0 p) (X1 p) (X2 p) (X3 p) (X4 p) (X5 p) i).trans (c_sum 1024 (at_cst_6 p _) (fun k43 => ((p.X (i 0).val k43) * ((p.h (i 0).val k43) * (p.G 0 k43)))) _ fun k => at_v42 p _)
theorem at_v44 (p : Arg) (i : S8192x1.Idx) : val_main_v44 (F := Ideal) (X0 p) (X1 p) (X2 p) (X3 p) (X4 p) (X5 p) i = ((∑ k ∈ range 1024, p.X (i 0).val k * (p.h (i 0).val k * p.G 0 k) : ℝ) : EReal) :=
  c_eq (φ := .f32) (u := ∑ k43 ∈ range 1024, ((p.X ((i 0).val * 1 + (i 1).val) k43) * ((p.h ((i 0).val * 1 + (i 1).val) k43) * (p.G 0 k43)))) ((val_main_v44_apply (X0 p) (X1 p) (X2 p) (X3 p) (X4 p) (X5 p) i).trans (at_v43 p _)) (by have h : (i 1).val < 1 := (i 1).isLt; rw [show (i 0).val * 1 + (i 1).val = (i 0).val by omega])
theorem at_v45 (p : Arg) (i : S8192x1024.Idx) : val_main_v45 (F := Ideal) (X0 p) i = ((rs p.X (i 0).val : ℝ) : EReal) :=
  (val_main_v45_apply (X0 p) i).trans (at_v8 p _)
theorem at_v46 (p : Arg) (i : S8192x1024.Idx) : val_main_v46 (F := Ideal) (X0 p) (X1 p) (X2 p) (X3 p) (X4 p) (X5 p) i = ((((p.h (i 0).val (i 1).val) * (p.G 0 (i 1).val)) * (rs p.X (i 0).val) : ℝ) : EReal) :=
  (val_main_v46_apply (X0 p) (X1 p) (X2 p) (X3 p) (X4 p) (X5 p) i).trans (c_mul (at_v40 p i) (at_v45 p i))
theorem at_v47 (p : Arg) (i : S8192x1.Idx) : val_main_v47 (F := Ideal) (X0 p) (X1 p) (X2 p) (X3 p) (X4 p) (X5 p) i = (((∑ k ∈ range 1024, p.X (i 0).val k * (p.h (i 0).val k * p.G 0 k)) * (((-(1 / 2))) * ((rs p.X (i 0).val) / (((∑ k2 ∈ range 1024, ((p.X (i 0).val k2) * (p.X (i 0).val k2))) / 1024) + ((8796093 / 8796093022208))))) : ℝ) : EReal) :=
  (val_main_v47_apply (X0 p) (X1 p) (X2 p) (X3 p) (X4 p) (X5 p) i).trans (c_mul (at_v44 p i) (at_v11 p i))
theorem at_cst_7 (p : Arg) (i : S_.Idx) : val_main_cst_7 (F := Ideal) i = ((1024 : ℝ) : EReal) := ofBits_1024
theorem at_v48 (p : Arg) (i : S8192x1.Idx) : val_main_v48 (F := Ideal) i = ((1024 : ℝ) : EReal) :=
  (val_main_v48_apply i).trans (at_cst_7 p _)
theorem at_v49 (p : Arg) (i : S8192x1.Idx) : val_main_v49 (F := Ideal) (X0 p) (X1 p) (X2 p) (X3 p) (X4 p) (X5 p) i = ((p.q (i 0).val : ℝ) : EReal) :=
  c_eq (φ := .f32) (u := ((∑ k ∈ range 1024, p.X (i 0).val k * (p.h (i 0).val k * p.G 0 k)) * (((-(1 / 2))) * ((rs p.X (i 0).val) / (((∑ k2 ∈ range 1024, ((p.X (i 0).val k2) * (p.X (i 0).val k2))) / 1024) + ((8796093 / 8796093022208)))))) / 1024) ((val_main_v49_apply (X0 p) (X1 p) (X2 p) (X3 p) (X4 p) (X5 p) i).trans (c_div (at_v47 p i) (at_v48 p i) (by norm_num))) (rfl)
theorem at_cst_8 (p : Arg) (i : S_.Idx) : val_main_cst_8 (F := Ideal) i = ((0 : ℝ) : EReal) := ofBits_zero
theorem at_v50 (p : Arg) (i : S8192.Idx) : val_main_v50 (F := Ideal) (X0 p) (X1 p) (X2 p) (X3 p) (X4 p) (X5 p) i = ((p.q (i 0).val : ℝ) : EReal) :=
  c_eq (φ := .f32) (u := ∑ k50 ∈ range 1, (p.q (i 0).val)) ((val_main_v50_apply (X0 p) (X1 p) (X2 p) (X3 p) (X4 p) (X5 p) i).trans (c_sum 1 (at_cst_8 p _) (fun k50 => (p.q (i 0).val)) _ fun k => at_v49 p _)) (Finset.sum_range_one _)
theorem at_v51 (p : Arg) (i : S8192x1024.Idx) : val_main_v51 (F := Ideal) (X0 p) (X1 p) (X2 p) (X3 p) (X4 p) (X5 p) i = ((p.q (i 0).val : ℝ) : EReal) :=
  (val_main_v51_apply (X0 p) (X1 p) (X2 p) (X3 p) (X4 p) (X5 p) i).trans (at_v50 p _)
theorem at_v52 (p : Arg) (i : S8192x1024.Idx) : val_main_v52 (F := Ideal) (X0 p) (X1 p) (X2 p) (X3 p) (X4 p) (X5 p) i = (((p.X (i 0).val (i 1).val) * (p.q (i 0).val) : ℝ) : EReal) :=
  (val_main_v52_apply (X0 p) (X1 p) (X2 p) (X3 p) (X4 p) (X5 p) i).trans (c_mul rfl (at_v51 p i))
theorem at_v53 (p : Arg) (i : S8192x1024.Idx) : val_main_v53 (F := Ideal) (X0 p) (X1 p) (X2 p) (X3 p) (X4 p) (X5 p) i = (((((p.h (i 0).val (i 1).val) * (p.G 0 (i 1).val)) * (rs p.X (i 0).val)) + ((p.X (i 0).val (i 1).val) * (p.q (i 0).val)) : ℝ) : EReal) :=
  (val_main_v53_apply (X0 p) (X1 p) (X2 p) (X3 p) (X4 p) (X5 p) i).trans (c_add (at_v46 p i) (at_v52 p i))
theorem at_v54 (p : Arg) (i : S8192x1024.Idx) : val_main_v54 (F := Ideal) (X0 p) (X1 p) (X2 p) (X3 p) (X4 p) (X5 p) i = (((p.q (i 0).val) * (p.X (i 0).val (i 1).val) : ℝ) : EReal) :=
  (val_main_v54_apply (X0 p) (X1 p) (X2 p) (X3 p) (X4 p) (X5 p) i).trans (c_mul (at_v51 p i) rfl)
theorem at_v55 (p : Arg) (i : S8192x1024.Idx) : val_main_v55 (F := Ideal) (X0 p) (X1 p) (X2 p) (X3 p) (X4 p) (X5 p) i = ((((((p.h (i 0).val (i 1).val) * (p.G 0 (i 1).val)) * (rs p.X (i 0).val)) + ((p.X (i 0).val (i 1).val) * (p.q (i 0).val))) + ((p.q (i 0).val) * (p.X (i 0).val (i 1).val)) : ℝ) : EReal) :=
  (val_main_v55_apply (X0 p) (X1 p) (X2 p) (X3 p) (X4 p) (X5 p) i).trans (c_add (at_v53 p i) (at_v54 p i))
theorem at_v56 (p : Arg) (i : S8192x1024.Idx) : val_main_v56 (F := Ideal) (X0 p) (X1 p) (X2 p) (X3 p) (X4 p) (X5 p) i = ((Dx p.X p.D p.G p.S p.P p.Wg p.Wu p.Wd (i 0).val (i 1).val : ℝ) : EReal) :=
  c_eq (φ := .f32) (u := (p.D (i 0).val (i 1).val) + (((((p.h (i 0).val (i 1).val) * (p.G 0 (i 1).val)) * (rs p.X (i 0).val)) + ((p.X (i 0).val (i 1).val) * (p.q (i 0).val))) + ((p.q (i 0).val) * (p.X (i 0).val (i 1).val)))) ((val_main_v56_apply (X0 p) (X1 p) (X2 p) (X3 p) (X4 p) (X5 p) i).trans (c_add rfl (at_v55 p i))) (norm_grad p _ _)
theorem at_v57 (p : Arg) (i : S8192x2816.Idx) : val_main_v57 (F := Ideal) (X0 p) (X1 p) (X2 p) (X3 p) (X4 p) (X5 p) i = ((daf p.D p.Wd p.P (i 0).val (i 1).val : ℝ) : EReal) :=
  at_v32 p i
theorem at_v58 (p : Arg) (i : S8192x2816.Idx) : val_main_v58 (F := Ideal) (X0 p) (X1 p) (X2 p) (X3 p) (X5 p) i = ((daf p.D p.Wd p.S (i 0).val (i 1).val : ℝ) : EReal) :=
  at_v30 p i
theorem at_v59 (p : Arg) (i : S8192x1024.Idx) : val_main_v59 (F := Ideal) (X1 p) i = ((((1 / 2)) * (p.D (i 0).val (i 1).val) : ℝ) : EReal) :=
  at_v28 p i
theorem at_v60 (p : Arg) (i : S1x1024.Idx) : val_main_v60 (F := Ideal) (X0 p) (X1 p) (X2 p) (X3 p) (X4 p) (X5 p) i = ((Dg p.X p.D p.S p.P p.Wg p.Wu p.Wd 32 (i 1).val : ℝ) : EReal) :=
  (val_main_v60_apply (X0 p) (X1 p) (X2 p) (X3 p) (X4 p) (X5 p) i).trans (at_v41 p _)

end Cert.FfnReal

end
-- ==== Proof.Ffn.Meets.lean ====
/- The launch and the reference meet: at finite arguments both leave the same five arrays. -/
module

public import proofs.«01_k».proof.Proof.Ffn.Prefix
public import proofs.«01_k».proof.Proof.Ffn.RefB
public import proofs.«01_k».proof.Proof.Gmlp.Finite

@[expose] public section

set_option maxRecDepth 16384

noncomputable section

namespace Cert.Kernel3Ideal.Rows

open Cert.Kernel3Ideal Cert.Kernel3Ideal.Gen Idealize.ShloMosaic Idealize.ShloMosaic.TcCoe Idealize.SL.Sem Finset Cert.Lift Cert.Finite Cert.FfnReal

instance : Cert.Pre_finite3.Facts := ⟨by decide, by decide, by decide⟩

variable (m : (ℓ : Loc nD τ sig) → Buf (Elt Ideal) ℓ) (ρ : Dev nD → PrngReg) (c : Dev nD)

/-- The arguments of the device `c`, as reals. -/
def arg : Arg where
  X := re2 (a := 8192) (b := 1024) (φ := .f32) (m ((c.tc : Thread nD τ).loc main_arg0))
  D := re2 (a := 8192) (b := 1024) (φ := .f32) (m ((c.tc : Thread nD τ).loc main_arg1))
  G := re2 (a := 1) (b := 1024) (φ := .f32) (m ((c.tc : Thread nD τ).loc main_arg2))
  Wg := re2 (a := 2816) (b := 1024) (φ := .bf16) (m ((c.tc : Thread nD τ).loc main_arg3))
  Wu := re2 (a := 2816) (b := 1024) (φ := .bf16) (m ((c.tc : Thread nD τ).loc main_arg4))
  Wd := re2 (a := 2816) (b := 1024) (φ := .bf16) (m ((c.tc : Thread nD τ).loc main_arg5))

/-- Finite arguments are arrays of reals. -/
theorem args_real (h : Cert.Pre_Kernel3Ideal_finite3 m) :
    m ((c.tc : Thread nD τ).loc main_arg0) = rv 8192 1024 .f32 (arg m c).X ∧ m ((c.tc : Thread nD τ).loc main_arg1) = rv 8192 1024 .f32 (arg m c).D
    ∧ m ((c.tc : Thread nD τ).loc main_arg2) = rv 1 1024 .f32 (arg m c).G ∧ m ((c.tc : Thread nD τ).loc main_arg3) = rv 2816 1024 .bf16 (arg m c).Wg
    ∧ m ((c.tc : Thread nD τ).loc main_arg4) = rv 2816 1024 .bf16 (arg m c).Wu ∧ m ((c.tc : Thread nD τ).loc main_arg5) = rv 2816 1024 .bf16 (arg m c).Wd := by
  obtain ⟨e0, e1, e2, e3, e4, e5⟩ := h c
  refine ⟨eq_re2 _ fun i => real_of_abs ?_, eq_re2 _ fun i => real_of_abs ?_, eq_re2 _ fun i => real_of_abs ?_,
    eq_re2 _ fun i => real_of_abs ?_, eq_re2 _ fun i => real_of_abs ?_, eq_re2 _ fun i => real_of_abs ?_⟩
  · rw [← inf_f32]; exact congrFun e0 i
  · rw [← inf_f32]; exact congrFun e1 i
  · rw [← inf_f32]; exact congrFun e2 i
  · rw [← inf_bf16]; exact congrFun e3 i
  · rw [← inf_bf16]; exact congrFun e4 i
  · rw [← inf_bf16]; exact congrFun e5 i

theorem staged_real (h : Cert.Pre_Kernel3Ideal_finite3 m) :
    In m c (arg m c).X (arg m c).D (arg m c).G (arg m c).S (arg m c).P (arg m c).Wg (arg m c).Wu (arg m c).Wd := by
  obtain ⟨e0, e1, e2, e3, e4, e5⟩ := args_real m c h
  exact staged m c (arg m c) e0 e1 e2 e3 e4 e5

/-- From finite arguments the program ends with the five gradients and its arguments unchanged. -/
theorem values (hp : Cert.Pre_Kernel3Ideal_finite3 m) : θ_run defs (onTc (τ := τ) (main (F := Ideal))) ⟨m, fun _ => 0, ρ⟩ (fun r => ∀ c : Dev nD,
      r.2.mem ((c.tc : Thread nD τ).loc main_v24_0) = rv 8192 1024 .f32 (Dx (arg m c).X (arg m c).D (arg m c).G (arg m c).S (arg m c).P (arg m c).Wg (arg m c).Wu (arg m c).Wd)
      ∧ r.2.mem ((c.tc : Thread nD τ).loc main_v24_1) = rv 8192 2816 .bf16 (daf (arg m c).D (arg m c).Wd (arg m c).P)
      ∧ r.2.mem ((c.tc : Thread nD τ).loc main_v24_2) = rv 8192 2816 .bf16 (daf (arg m c).D (arg m c).Wd (arg m c).S)
      ∧ r.2.mem ((c.tc : Thread nD τ).loc main_v24_3) = rv 8192 1024 .bf16 (fun i j => 1 / 2 * (arg m c).D i j)
      ∧ r.2.mem ((c.tc : Thread nD τ).loc main_v24_4) = rv 1 1024 .f32 (fun _ j => Dg (arg m c).X (arg m c).D (arg m c).S (arg m c).P (arg m c).Wg (arg m c).Wu (arg m c).Wd 32 j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 9).trans (final9 (staged_real m c hp)), ((h.1 c).1 10).trans (final10 (staged_real m c hp)), ((h.1 c).1 11).trans (final11 (staged_real m c hp)),
      ((h.1 c).1 12).trans (final12 (staged_real m c hp)), ((h.1 c).1 13).trans (final13 (staged_real m c hp)), h.2.1 c⟩)
    (θ_run_and (run_main m ρ) (frame m ρ))

end Cert.Kernel3Ideal.Rows

namespace Cert.FfnReal

open Cert.Reference3Ideal Cert.Reference3Ideal.Read Idealize.ShloMosaic Cert.Lift Cert.Kernel3Ideal.Rows Finset

variable (p : Arg)

theorem ref56 : val_main_v56 (F := Ideal) (X0 p) (X1 p) (X2 p) (X3 p) (X4 p) (X5 p) = rv 8192 1024 .f32 (Dx p.X p.D p.G p.S p.P p.Wg p.Wu p.Wd) :=
  funext fun i => at_v56 p i
theorem ref57 : val_main_v57 (F := Ideal) (X0 p) (X1 p) (X2 p) (X3 p) (X4 p) (X5 p) = rv 8192 2816 .bf16 (daf p.D p.Wd p.P) :=
  funext fun i => at_v57 p i
theorem ref58 : val_main_v58 (F := Ideal) (X0 p) (X1 p) (X2 p) (X3 p) (X5 p) = rv 8192 2816 .bf16 (daf p.D p.Wd p.S) :=
  funext fun i => at_v58 p i
theorem ref59 : val_main_v59 (F := Ideal) (X1 p) = rv 8192 1024 .bf16 (fun i j => 1 / 2 * p.D i j) :=
  funext fun i => at_v59 p i
theorem ref60 : val_main_v60 (F := Ideal) (X0 p) (X1 p) (X2 p) (X3 p) (X4 p) (X5 p) = rv 1 1024 .f32 (fun _ j => Dg p.X p.D p.S p.P p.Wg p.Wu p.Wd 32 j) :=
  funext fun i => at_v60 p i

end Cert.FfnReal

end
-- ==== Proof.Fwd.Tile.lean ====
/- The forward launch of a feed-forward layer at real arguments: what a grid step leaves in its four output blocks, and the arrays. -/
module

public import proofs.«01_k».proof.Proof.Gen.Kernel4Ideal.Value
public import proofs.«01_k».proof.Proof.Gen.Kernel4Ideal.Points
public import proofs.«01_k».proof.Proof.Ffn.RefA

@[expose] public section

set_option maxRecDepth 16384

noncomputable section

namespace Cert.Kernel4Ideal.Fwd

open Cert.Kernel4Ideal Cert.Kernel4Ideal.Gen Idealize.ShloMosaic Idealize.ShloMosaic.TcCoe Idealize.SL.Sem Finset Cert.Lift
open Cert.Kernel3Ideal.Rows (rs ms_pos eps ofBits_1024 rv_rowsum)
open Cert.FfnReal (Arg)

/-! ## One block of columns -/

/-- A block of hidden rows against a block of weight rows. -/
theorem dot_hw (f g : ℕ → ℕ → ℝ) :
    matmul dot_S512x1024_S256x1024_S512x256_1_1_0_0_n_n none (rv 512 1024 .bf16 f) (rv 256 1024 .bf16 g) (constant S512x256 .f32 0x00000000#32)
      = rv 512 256 .f32 fun i j => ∑ k ∈ range 1024, f i k * g j k := by
  funext i
  refine (Ideal.matmul_constant_zero_apply dot_S512x1024_S256x1024_S512x256_1_1_0_0_n_n none (rv 512 1024 .bf16 f) (rv 256 1024 .bf16 g) i).trans ?_
  rw [← Equiv.sum_comp (ValueIdx.contrEquiv1 dot_S512x1024_S256x1024_S512x256_1_1_0_0_n_n 1024 rfl rfl).symm]
  refine (Finset.sum_congr rfl fun k _ => ?_).trans (sum_fin_coe 1024 fun k => f (i 0).val k * g (i 1).val k)
  have hk := ValueIdx.contrEquiv1_symm_val dot_S512x1024_S256x1024_S512x256_1_1_0_0_n_n 1024 rfl rfl k
  generalize (ValueIdx.contrEquiv1 dot_S512x1024_S256x1024_S512x256_1_1_0_0_n_n 1024 rfl rfl).symm k = q at hk ⊢
  have l0 : (dot_S512x1024_S256x1024_S512x256_1_1_0_0_n_n.lhsIdx i q 0).val = (i 0).val := by
    unfold DotDims.lhsIdx
    rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
    rfl
  have l1 : (dot_S512x1024_S256x1024_S512x256_1_1_0_0_n_n.lhsIdx i q 1).val = k.val :=
    (dot_S512x1024_S256x1024_S512x256_1_1_0_0_n_n.lhsIdx_val_of_single rfl i q).trans hk
  have r0 : (dot_S512x1024_S256x1024_S512x256_1_1_0_0_n_n.rhsIdx i q 0).val = (i 1).val := by
    unfold DotDims.rhsIdx
    rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
    rfl
  have r1 : (dot_S512x1024_S256x1024_S512x256_1_1_0_0_n_n.rhsIdx i q 1).val = k.val :=
    (dot_S512x1024_S256x1024_S512x256_1_1_0_0_n_n.rhsIdx_val_of_single rfl i q).trans hk
  unfold rv
  rw [l0, l1, r0, r1, ← EReal.coe_mul]

theorem rv_logistic {a b : ℕ} {φ : FTy} (f : ℕ → ℕ → ℝ) : logistic (rv a b φ f) = rv a b φ fun i j => 1 / (1 + Real.exp (-f i j)) := by
  funext i
  rw [show (fun i j => 1 / (1 + Real.exp (-f i j))) = fun i j => (1 + Real.exp (-f i j))⁻¹ from funext fun i => funext fun j => one_div _]
  exact Ideal.logistic_coe _

/-- The normalised rows, scaled. -/
def hf (x g : ℕ → ℕ → ℝ) (i j : ℕ) : ℝ := x i j * rs x i * g 0 j
/-- Rows against weight rows. -/
def gf (h w : ℕ → ℕ → ℝ) (i j : ℕ) : ℝ := ∑ k ∈ range 1024, h i k * w j k
/-- The logistic function of a gate. -/
def lf (h w : ℕ → ℕ → ℝ) (i j : ℕ) : ℝ := 1 / (1 + Real.exp (-gf h w i j))
/-- The activated gate. -/
def sf (h w : ℕ → ℕ → ℝ) (i j : ℕ) : ℝ := gf h w i j * lf h w i j
/-- The linear branch times the slope of the activation. -/
def pf (h w u : ℕ → ℕ → ℝ) (i j : ℕ) : ℝ := gf h u i j * (lf h w i j + sf h w i j - sf h w i j * lf h w i j)
/-- The activated gate times the linear branch. -/
def mf (h w u : ℕ → ℕ → ℝ) (i j : ℕ) : ℝ := sf h w i j * gf h u i j

theorem rowsum (f : ℕ → ℕ → ℝ) :
    shapeCast S512x1 (multiReduction .add [1] S512 (rv 512 1024 .f32 f : FVec Ideal S512x1024 .f32) 0x00000000#32 reduces_S512x1024_S512 (.inl rfl) rfl) shapeCasts_S512_S512x1
      = rv 512 1 .f32 fun i _ => ∑ k ∈ range 1024, f i k := rv_rowsum f _ _ _ _ _

theorem hid_rv (x g : ℕ → ℕ → ℝ) : k0_pay3 (F := Ideal) (rv 512 1024 .f32 x) (rv 1 1024 .f32 g) = rv 512 1024 .bf16 (hf x g) := by
  unfold k0_pay3; dsimp only
  rw [rv_mul, rowsum, rv_const ofBits_1024, rv_div _ _ (fun _ _ => by norm_num), rv_const ofBits_eps, rv_add, rv_rsqrt _ fun i _ => ms_pos x i]
  simp only [rv_bcast_row, rv_bcast_col, rv_mul]
  rw [rv_trunc]
  rfl

theorem gate_rv (h w : ℕ → ℕ → ℝ) : k0_pay11 (F := Ideal) (rv 512 1024 .bf16 h) (rv 256 1024 .bf16 w) = rv 512 256 .f32 (gf h w) := dot_hw h w
theorem lin_rv (h w : ℕ → ℕ → ℝ) : k0_pay12 (F := Ideal) (rv 512 1024 .bf16 h) (rv 256 1024 .bf16 w) = rv 512 256 .f32 (gf h w) := dot_hw h w
theorem sig_rv (h w : ℕ → ℕ → ℝ) : k0_pay13 (F := Ideal) (rv 512 1024 .bf16 h) (rv 256 1024 .bf16 w) = rv 512 256 .f32 (lf h w) := by
  unfold k0_pay13; dsimp only
  rw [gate_rv, rv_logistic]
  rfl
theorem act_rv (h w : ℕ → ℕ → ℝ) : k0_pay14 (F := Ideal) (rv 512 1024 .bf16 h) (rv 256 1024 .bf16 w) = rv 512 256 .f32 (sf h w) := by
  unfold k0_pay14; dsimp only
  rw [gate_rv, sig_rv, rv_mul]
  rfl
theorem sil_rv (h w : ℕ → ℕ → ℝ) : k0_pay15 (F := Ideal) (rv 512 1024 .bf16 h) (rv 256 1024 .bf16 w) = rv 512 256 .bf16 (sf h w) := by
  unfold k0_pay15; dsimp only
  rw [act_rv, rv_trunc]
theorem slope_rv (h w u : ℕ → ℕ → ℝ) : k0_pay16 (F := Ideal) (rv 512 1024 .bf16 h) (rv 256 1024 .bf16 w) (rv 256 1024 .bf16 u) = rv 512 256 .bf16 (pf h w u) := by
  unfold k0_pay16; dsimp only
  rw [act_rv, sig_rv, lin_rv, rv_add, rv_mul, rv_sub, rv_mul, rv_trunc]
  rfl
theorem prod_rv (h w u : ℕ → ℕ → ℝ) : k0_pay17 (F := Ideal) (rv 512 1024 .bf16 h) (rv 256 1024 .bf16 w) (rv 256 1024 .bf16 u) = rv 512 256 .bf16 (mf h w u) := by
  unfold k0_pay17; dsimp only
  rw [act_rv, lin_rv, rv_mul, rv_trunc]
  rfl

/-! ## The blocks a step leaves -/

/-- The weight rows from `q` on. -/
theorem rows (q : ℕ) (w : ℕ → ℕ → ℝ) (inb : ∀ k, (![q, 0] : Fin 2 → ℕ) k + S256x1024.size k ≤ S2816x1024.size k) :
    View.ld (Val := Elt Ideal) (e' := .bf16) (rv 2816 1024 .bf16 w) (Rect.unit (s := S2816x1024) ![q, 0] S256x1024.size inb) = rv 256 1024 .bf16 fun i j => w (q + i) j := by
  funext y
  have e0 : ((Rect.unit (s := S2816x1024) ![q, 0] S256x1024.size inb).emb y 0).val = q + 1 * (y 0).val := rfl
  have e1 : ((Rect.unit (s := S2816x1024) ![q, 0] S256x1024.size inb).emb y 1).val = 0 + 1 * (y 1).val := rfl
  show ((w ((Rect.unit (s := S2816x1024) ![q, 0] S256x1024.size inb).emb y 0).val ((Rect.unit (s := S2816x1024) ![q, 0] S256x1024.size inb).emb y 1).val : ℝ) : EReal) = ((w (q + (y 0).val) (y 1).val : ℝ) : EReal)
  rw [e0, e1, one_mul, one_mul, zero_add]

theorem hid (x g : ℕ → ℕ → ℝ) : k0_pay3 (F := Ideal) (View.ld (rv 512 1024 .f32 x) r0_0) (View.ld (rv 1 1024 .f32 g) r0_1) = rv 512 1024 .bf16 (hf x g) := by
  rw [View.ld_unit_lit (S := S512x1024) (Val := Elt Ideal) (e := .f32) _ _ (by decide), View.ld_unit_lit (S := S1x1024) (Val := Elt Ideal) (e := .f32) _ _ (by decide), hid_rv]

variable (x g w u : ℕ → ℕ → ℝ)

theorem silPiece (q : ℕ) (h : Vec Ideal S512x1024 .bf16) (hh : h = rv 512 1024 .bf16 (hf x g)) (inw : ∀ k, (![q, 0] : Fin 2 → ℕ) k + S256x1024.size k ≤ S2816x1024.size k) (inb : ∀ k, (![0, q] : Fin 2 → ℕ) k + S512x256.size k ≤ S512x2816.size k) (y : S512x256.Idx) :
    k0_pay15 (F := Ideal) h (View.ld (Val := Elt Ideal) (e' := .bf16) (rv 2816 1024 .bf16 w) (Rect.unit (s := S2816x1024) ![q, 0] S256x1024.size inw)) y
      = rv 512 2816 .bf16 (sf (hf x g) w) ((Rect.unit (s := S512x2816) ![0, q] S512x256.size inb).emb y) := by
  have e0 : ((Rect.unit (s := S512x2816) ![0, q] S512x256.size inb).emb y 0).val = 0 + 1 * (y 0).val := rfl
  have e1 : ((Rect.unit (s := S512x2816) ![0, q] S512x256.size inb).emb y 1).val = q + 1 * (y 1).val := rfl
  rw [hh, rows q w, sil_rv]
  show _ = ((sf (hf x g) w ((Rect.unit (s := S512x2816) ![0, q] S512x256.size inb).emb y 0).val ((Rect.unit (s := S512x2816) ![0, q] S512x256.size inb).emb y 1).val : ℝ) : EReal)
  rw [e0, e1, one_mul, one_mul, zero_add]
  rfl

theorem slopePiece (q : ℕ) (h : Vec Ideal S512x1024 .bf16) (hh : h = rv 512 1024 .bf16 (hf x g)) (inw : ∀ k, (![q, 0] : Fin 2 → ℕ) k + S256x1024.size k ≤ S2816x1024.size k) (inb : ∀ k, (![0, q] : Fin 2 → ℕ) k + S512x256.size k ≤ S512x2816.size k) (y : S512x256.Idx) :
    k0_pay16 (F := Ideal) h (View.ld (Val := Elt Ideal) (e' := .bf16) (rv 2816 1024 .bf16 w) (Rect.unit (s := S2816x1024) ![q, 0] S256x1024.size inw)) (View.ld (Val := Elt Ideal) (e' := .bf16) (rv 2816 1024 .bf16 u) (Rect.unit (s := S2816x1024) ![q, 0] S256x1024.size inw)) y
      = rv 512 2816 .bf16 (pf (hf x g) w u) ((Rect.unit (s := S512x2816) ![0, q] S512x256.size inb).emb y) := by
  have e0 : ((Rect.unit (s := S512x2816) ![0, q] S512x256.size inb).emb y 0).val = 0 + 1 * (y 0).val := rfl
  have e1 : ((Rect.unit (s := S512x2816) ![0, q] S512x256.size inb).emb y 1).val = q + 1 * (y 1).val := rfl
  rw [hh, rows q w, rows q u, slope_rv]
  show _ = ((pf (hf x g) w u ((Rect.unit (s := S512x2816) ![0, q] S512x256.size inb).emb y 0).val ((Rect.unit (s := S512x2816) ![0, q] S512x256.size inb).emb y 1).val : ℝ) : EReal)
  rw [e0, e1, one_mul, one_mul, zero_add]
  rfl

theorem prodPiece (q : ℕ) (h : Vec Ideal S512x1024 .bf16) (hh : h = rv 512 1024 .bf16 (hf x g)) (inw : ∀ k, (![q, 0] : Fin 2 → ℕ) k + S256x1024.size k ≤ S2816x1024.size k) (inb : ∀ k, (![0, q] : Fin 2 → ℕ) k + S512x256.size k ≤ S512x2816.size k) (y : S512x256.Idx) :
    k0_pay17 (F := Ideal) h (View.ld (Val := Elt Ideal) (e' := .bf16) (rv 2816 1024 .bf16 w) (Rect.unit (s := S2816x1024) ![q, 0] S256x1024.size inw)) (View.ld (Val := Elt Ideal) (e' := .bf16) (rv 2816 1024 .bf16 u) (Rect.unit (s := S2816x1024) ![q, 0] S256x1024.size inw)) y
      = rv 512 2816 .bf16 (mf (hf x g) w u) ((Rect.unit (s := S512x2816) ![0, q] S512x256.size inb).emb y) := by
  have e0 : ((Rect.unit (s := S512x2816) ![0, q] S512x256.size inb).emb y 0).val = 0 + 1 * (y 0).val := rfl
  have e1 : ((Rect.unit (s := S512x2816) ![0, q] S512x256.size inb).emb y 1).val = q + 1 * (y 1).val := rfl
  rw [hh, rows q w, rows q u, prod_rv]
  show _ = ((mf (hf x g) w u ((Rect.unit (s := S512x2816) ![0, q] S512x256.size inb).emb y 0).val ((Rect.unit (s := S512x2816) ![0, q] S512x256.size inb).emb y 1).val : ℝ) : EReal)
  rw [e0, e1, one_mul, one_mul, zero_add]
  rfl

set_option maxHeartbeats 2000000 in
theorem out4_rv : out0_4 (F := Ideal) (rv 512 1024 .f32 x) (rv 1 1024 .f32 g) (rv 2816 1024 .bf16 w) (rv 2816 1024 .bf16 u) = rv 512 2816 .bf16 (sf (hf x g) w) := by
  funext y
  unfold out0_4
  refine View.canon_apply_of_pieces _ _ ?_ y (cover0_4 _ _ _ _ _ _ _ _ _ _ _ y)
  clear y
  intro q hq y
  simp only [List.mem_cons, List.not_mem_nil, or_false] at hq
  rcases hq with rfl | rfl | rfl | rfl | rfl | rfl | rfl | rfl | rfl | rfl | rfl <;> exact silPiece x g w _ _ (hid x g) _ (by intro k; fin_cases k <;> decide) y

set_option maxHeartbeats 2000000 in
theorem out5_rv : out0_5 (F := Ideal) (rv 512 1024 .f32 x) (rv 1 1024 .f32 g) (rv 2816 1024 .bf16 w) (rv 2816 1024 .bf16 u) = rv 512 2816 .bf16 (pf (hf x g) w u) := by
  funext y
  unfold out0_5
  refine View.canon_apply_of_pieces _ _ ?_ y (cover0_5 _ _ _ _ _ _ _ _ _ _ _ y)
  clear y
  intro q hq y
  simp only [List.mem_cons, List.not_mem_nil, or_false] at hq
  rcases hq with rfl | rfl | rfl | rfl | rfl | rfl | rfl | rfl | rfl | rfl | rfl <;> exact slopePiece x g w u _ _ (hid x g) _ (by intro k; fin_cases k <;> decide) y

set_option maxHeartbeats 2000000 in
theorem out6_rv : out0_6 (F := Ideal) (rv 512 1024 .f32 x) (rv 1 1024 .f32 g) (rv 2816 1024 .bf16 w) (rv 2816 1024 .bf16 u) = rv 512 2816 .bf16 (mf (hf x g) w u) := by
  funext y
  unfold out0_6
  refine View.canon_apply_of_pieces _ _ ?_ y (cover0_6 _ _ _ _ _ _ _ _ _ _ _ y)
  clear y
  intro q hq y
  simp only [List.mem_cons, List.not_mem_nil, or_false] at hq
  rcases hq with rfl | rfl | rfl | rfl | rfl | rfl | rfl | rfl | rfl | rfl | rfl <;> exact prodPiece x g w u _ _ (hid x g) _ (by intro k; fin_cases k <;> decide) y

theorem out7_rv : out0_7 (F := Ideal) (rv 512 1024 .f32 x) (rv 1 1024 .f32 g) (rv 2816 1024 .bf16 w) (rv 2816 1024 .bf16 u) = rv 512 1024 .bf16 (hf x g) := by
  unfold out0_7
  rw [View.canon_cons_unit_lit (S := S512x1024) (Val := Elt Ideal) (e := .bf16) _ _ _ (by decide), hid]

/-! ## The blocks a step reads -/

variable {m : (ℓ : Loc nD τ sig) → Buf (Elt Ideal) ℓ} {c : Dev nD} {p : Arg}

/-- The launch's arguments are the reals of `p`. -/
structure In (m : (ℓ : Loc nD τ sig) → Buf (Elt Ideal) ℓ) (c : Dev nD) (p : Arg) : Prop where
  x : m ((c.tc : Thread nD τ).loc main_arg0) = rv 8192 1024 .f32 p.X
  g : m ((c.tc : Thread nD τ).loc main_arg1) = rv 1 1024 .f32 p.G
  w : m ((c.tc : Thread nD τ).loc main_arg2) = rv 2816 1024 .bf16 p.Wg
  u : m ((c.tc : Thread nD τ).loc main_arg3) = rv 2816 1024 .bf16 p.Wu

/-- A block of whole rows of an array, from row `n` on. -/
theorem take {a b A : ℕ} {φ : FTy} (f : ℕ → ℕ → ℝ) (v : (⟨2, ![a, b]⟩ : Shape).Idx → (⟨2, ![A, b]⟩ : Shape).Idx) (n : ℕ)
    (h0 : ∀ y, (v y 0).val = n * a + 1 * (y 0).val) (h1 : ∀ y, (v y 1).val = 0 * b + 1 * (y 1).val) :
    (fun y => rv A b φ f (v y)) = rv a b φ fun r j => f (n * a + r) j := by
  funext y
  show ((f (v y 0).val (v y 1).val : ℝ) : EReal) = ((f (n * a + (y 0).val) (y 1).val : ℝ) : EReal)
  rw [h0, h1, one_mul, one_mul, zero_mul, zero_add]

/-- The whole of an array. -/
theorem whole {a b : ℕ} {φ : FTy} (f : ℕ → ℕ → ℝ) (v : (⟨2, ![a, b]⟩ : Shape).Idx → (⟨2, ![a, b]⟩ : Shape).Idx)
    (h0 : ∀ y, (v y 0).val = 0 * a + 1 * (y 0).val) (h1 : ∀ y, (v y 1).val = 0 * b + 1 * (y 1).val) :
    (fun y => rv a b φ f (v y)) = rv a b φ f := by
  refine (take f v 0 h0 h1).trans ?_
  simp only [zero_mul, zero_add]

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk0 (H : In m c p) (t : Fin cfg0.N) : iblk (F := Ideal) m c 0 t = rv 512 1024 .f32 (fun r j => p.X (t.val * 512 + r) j) :=
  (congrArg (fun z => ((cfg0.win 0).blk t).view.read (Elt Ideal) z) H.x).trans
    (take p.X _ t.val (fun y => congrArg (fun k => k * 512 + 1 * (y 0).val) (at0 t).1) (fun y => congrArg (fun k => k * 1024 + 1 * (y 1).val) (at0 t).2))

theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem blk1 (H : In m c p) (t : Fin cfg0.N) : iblk (F := Ideal) m c 1 t = rv 1 1024 .f32 (p.G) :=
  (congrArg (fun z => ((cfg0.win 1).blk t).view.read (Elt Ideal) z) H.g).trans
    (whole p.G _ (fun y => congrArg (fun k => k * 1 + 1 * (y 0).val) (at1 t).1) (fun y => congrArg (fun k => k * 1024 + 1 * (y 1).val) (at1 t).2))

theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blk2 (H : In m c p) (t : Fin cfg0.N) : iblk (F := Ideal) m c 2 t = rv 2816 1024 .bf16 (p.Wg) :=
  (congrArg (fun z => ((cfg0.win 2).blk t).view.read (Elt Ideal) z) H.w).trans
    (whole p.Wg _ (fun y => congrArg (fun k => k * 2816 + 1 * (y 0).val) (at2 t).1) (fun y => congrArg (fun k => k * 1024 + 1 * (y 1).val) (at2 t).2))

theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk3 (H : In m c p) (t : Fin cfg0.N) : iblk (F := Ideal) m c 3 t = rv 2816 1024 .bf16 (p.Wu) :=
  (congrArg (fun z => ((cfg0.win 3).blk t).view.read (Elt Ideal) z) H.u).trans
    (whole p.Wu _ (fun y => congrArg (fun k => k * 2816 + 1 * (y 0).val) (at3 t).1) (fun y => congrArg (fun k => k * 1024 + 1 * (y 1).val) (at3 t).2))

/-! ## The arrays -/

/-- A row lies in the tile of 512 rows that its number names. -/
theorem inside {A b : ℕ} (v : Fin 2 → ℕ) (i : (⟨2, ![A, b]⟩ : Shape).Idx) (h0 : v 0 = (i 0).val / 512) (h1 : v 1 = 0) :
    ∀ a : Fin 2, v a * (⟨2, ![512, b]⟩ : Shape).size a ≤ (i a).val ∧ (i a).val < v a * (⟨2, ![512, b]⟩ : Shape).size a + (⟨2, ![512, b]⟩ : Shape).size a := by
  have i1 : (i 1).val < b := (i 1).isLt
  intro a
  match a with
  | ⟨0, _⟩ => show v 0 * 512 ≤ (i 0).val ∧ (i 0).val < v 0 * 512 + 512; omega
  | ⟨1, _⟩ => show v 1 * b ≤ (i 1).val ∧ (i 1).val < v 1 * b + b; rw [h1]; omega

/-- The scaled rows of the whole array. -/
def H8 (p : Arg) (i j : ℕ) : ℝ := p.X i j * rs p.X i * p.G 0 j

theorem gp_eq (p : Arg) (i j : ℕ) : p.b i j * (p.sg i j + p.S i j - p.S i j * p.sg i j) = p.P i j := by
  unfold Arg.P Arg.S
  ring

theorem left4 (H : In m c p) (t : Fin cfg0.N) : out0_4 (F := Ideal) (iblk m c 0 t) (iblk m c 1 t) (iblk m c 2 t) (iblk m c 3 t) = rv 512 2816 .bf16 (fun r j => p.S (t.val * 512 + r) (j)) := by
  rw [blk0 H t, blk1 H t, blk2 H t, blk3 H t, out4_rv]
  rfl

theorem at4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem all4 (H : In m c p) : (dats m 0 c).arrAt 4 cfg0.N = rv 8192 2816 .bf16 (p.S) :=
  (dats m 0 c).arrAt_eq_of_cover 4 _ (fun t hf => (Value.flushed4 m c t).trans ((left4 H t).trans
    (take p.S (fun y => ((cfg0.win 4).blk t).view.emb y) t.val (fun y => congrArg (fun k => k * 512 + 1 * (y 0).val) (at4 t).1) (fun y => congrArg (fun k => k * 2816 + 1 * (y 1).val) (at4 t).2)).symm)) (fun i => by
    have h0 : (i 0).val < 8192 := (i 0).isLt
    have hN : (i 0).val / 512 < cfg0.N := by rw [show cfg0.N = 16 from N_0]; omega
    refine ⟨⟨(i 0).val / 512, hN⟩, flush0_4 _, ?_⟩
    show i ∈ ((View.whole main_v0_0).slice (win0_4.rect ⟨(i 0).val / 512, hN⟩)).set
    rw [View.set_slice_whole, Rect.mem_set_unit]
    exact inside (win0_4.index ⟨(i 0).val / 512, hN⟩) i (at4 _).1 (at4 _).2)

theorem left5 (H : In m c p) (t : Fin cfg0.N) : out0_5 (F := Ideal) (iblk m c 0 t) (iblk m c 1 t) (iblk m c 2 t) (iblk m c 3 t) = rv 512 2816 .bf16 (fun r j => p.P (t.val * 512 + r) (j)) := by
  rw [blk0 H t, blk1 H t, blk2 H t, blk3 H t, out5_rv]
  exact congrArg (rv 512 2816 .bf16) (funext fun r => funext fun j => gp_eq p _ _)

theorem at5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem all5 (H : In m c p) : (dats m 0 c).arrAt 5 cfg0.N = rv 8192 2816 .bf16 (p.P) :=
  (dats m 0 c).arrAt_eq_of_cover 5 _ (fun t hf => (Value.flushed5 m c t).trans ((left5 H t).trans
    (take p.P (fun y => ((cfg0.win 5).blk t).view.emb y) t.val (fun y => congrArg (fun k => k * 512 + 1 * (y 0).val) (at5 t).1) (fun y => congrArg (fun k => k * 2816 + 1 * (y 1).val) (at5 t).2)).symm)) (fun i => by
    have h0 : (i 0).val < 8192 := (i 0).isLt
    have hN : (i 0).val / 512 < cfg0.N := by rw [show cfg0.N = 16 from N_0]; omega
    refine ⟨⟨(i 0).val / 512, hN⟩, flush0_5 _, ?_⟩
    show i ∈ ((View.whole main_v0_1).slice (win0_5.rect ⟨(i 0).val / 512, hN⟩)).set
    rw [View.set_slice_whole, Rect.mem_set_unit]
    exact inside (win0_5.index ⟨(i 0).val / 512, hN⟩) i (at5 _).1 (at5 _).2)

theorem left6 (H : In m c p) (t : Fin cfg0.N) : out0_6 (F := Ideal) (iblk m c 0 t) (iblk m c 1 t) (iblk m c 2 t) (iblk m c 3 t) = rv 512 2816 .bf16 (fun r j => p.S (t.val * 512 + r) (j) * p.b (t.val * 512 + r) (j)) := by
  rw [blk0 H t, blk1 H t, blk2 H t, blk3 H t, out6_rv]
  rfl

theorem at6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem all6 (H : In m c p) : (dats m 0 c).arrAt 6 cfg0.N = rv 8192 2816 .bf16 (fun i j => p.S i j * p.b i j) :=
  (dats m 0 c).arrAt_eq_of_cover 6 _ (fun t hf => (Value.flushed6 m c t).trans ((left6 H t).trans
    (take (fun i j => p.S i j * p.b i j) (fun y => ((cfg0.win 6).blk t).view.emb y) t.val (fun y => congrArg (fun k => k * 512 + 1 * (y 0).val) (at6 t).1) (fun y => congrArg (fun k => k * 2816 + 1 * (y 1).val) (at6 t).2)).symm)) (fun i => by
    have h0 : (i 0).val < 8192 := (i 0).isLt
    have hN : (i 0).val / 512 < cfg0.N := by rw [show cfg0.N = 16 from N_0]; omega
    refine ⟨⟨(i 0).val / 512, hN⟩, flush0_6 _, ?_⟩
    show i ∈ ((View.whole main_v0_2).slice (win0_6.rect ⟨(i 0).val / 512, hN⟩)).set
    rw [View.set_slice_whole, Rect.mem_set_unit]
    exact inside (win0_6.index ⟨(i 0).val / 512, hN⟩) i (at6 _).1 (at6 _).2)

theorem left7 (H : In m c p) (t : Fin cfg0.N) : out0_7 (F := Ideal) (iblk m c 0 t) (iblk m c 1 t) (iblk m c 2 t) (iblk m c 3 t) = rv 512 1024 .bf16 (fun r j => H8 p (t.val * 512 + r) (j)) := by
  rw [blk0 H t, blk1 H t, blk2 H t, blk3 H t, out7_rv]
  rfl

theorem at7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem all7 (H : In m c p) : (dats m 0 c).arrAt 7 cfg0.N = rv 8192 1024 .bf16 (H8 p) :=
  (dats m 0 c).arrAt_eq_of_cover 7 _ (fun t hf => (Value.flushed7 m c t).trans ((left7 H t).trans
    (take (H8 p) (fun y => ((cfg0.win 7).blk t).view.emb y) t.val (fun y => congrArg (fun k => k * 512 + 1 * (y 0).val) (at7 t).1) (fun y => congrArg (fun k => k * 1024 + 1 * (y 1).val) (at7 t).2)).symm)) (fun i => by
    have h0 : (i 0).val < 8192 := (i 0).isLt
    have hN : (i 0).val / 512 < cfg0.N := by rw [show cfg0.N = 16 from N_0]; omega
    refine ⟨⟨(i 0).val / 512, hN⟩, flush0_7 _, ?_⟩
    show i ∈ ((View.whole main_v0_3).slice (win0_7.rect ⟨(i 0).val / 512, hN⟩)).set
    rw [View.set_slice_whole, Rect.mem_set_unit]
    exact inside (win0_7.index ⟨(i 0).val / 512, hN⟩) i (at7 _).1 (at7 _).2)

end Cert.Kernel4Ideal.Fwd

end
-- ==== Proof.Fwd.Ref.lean ====
/- The reference forward pass of a feed-forward layer at real arguments, one operation at a time. -/
module

public import proofs.«01_k».proof.Proof.Gmlp.Host
public import proofs.«01_k».proof.Proof.Ffn.RefA
public import proofs.«01_k».proof.Proof.Gen.Reference4Ideal.Read

@[expose] public section

set_option maxRecDepth 16384

noncomputable section

namespace Cert.FwdReal

open Cert.FfnReal Cert.Reference4Ideal Cert.Reference4Ideal.Read Idealize.ShloMosaic Cert.Lift Finset
open Cert.Kernel3Ideal.Rows (rs ms_pos)

variable (p : Arg)
/-- The arguments, as arrays of reals. -/
abbrev X0 : (⟨S8192x1024, .f32⟩ : BufTy).Contents (Elt Ideal) := rv 8192 1024 .f32 p.X
abbrev X1 : (⟨S1x1024, .f32⟩ : BufTy).Contents (Elt Ideal) := rv 1 1024 .f32 p.G
abbrev X2 : (⟨S2816x1024, .bf16⟩ : BufTy).Contents (Elt Ideal) := rv 2816 1024 .bf16 p.Wg
abbrev X3 : (⟨S2816x1024, .bf16⟩ : BufTy).Contents (Elt Ideal) := rv 2816 1024 .bf16 p.Wu

theorem at_v0 (p : Arg) (i : S1024.Idx) : val_main_v0 (F := Ideal) (X1 p) i = ((p.G 0 (i 0).val : ℝ) : EReal) :=
  c_eq (φ := .f32) (u := p.G 0 (((i 0).val) % 1024)) ((val_main_v0_apply (X1 p) i)) (by have h : (i 0).val < 1024 := (i 0).isLt; rw [Nat.mod_eq_of_lt h])
theorem at_v1 (p : Arg) (i : S8192x1024.Idx) : val_main_v1 (F := Ideal) (X0 p) i = (((p.X (i 0).val (i 1).val) * (p.X (i 0).val (i 1).val) : ℝ) : EReal) :=
  (val_main_v1_apply (X0 p) i).trans (c_mul rfl rfl)
theorem at_cst (p : Arg) (i : S_.Idx) : val_main_cst (F := Ideal) i = ((0 : ℝ) : EReal) := ofBits_zero
theorem at_v2 (p : Arg) (i : S8192.Idx) : val_main_v2 (F := Ideal) (X0 p) i = ((∑ k2 ∈ range 1024, ((p.X (i 0).val k2) * (p.X (i 0).val k2)) : ℝ) : EReal) :=
  (val_main_v2_apply (X0 p) i).trans (c_sum 1024 (at_cst p _) (fun k2 => ((p.X (i 0).val k2) * (p.X (i 0).val k2))) _ fun k => at_v1 p _)
theorem at_v3 (p : Arg) (i : S8192x1.Idx) : val_main_v3 (F := Ideal) (X0 p) i = ((∑ k2 ∈ range 1024, ((p.X (i 0).val k2) * (p.X (i 0).val k2)) : ℝ) : EReal) :=
  (val_main_v3_apply (X0 p) i).trans (at_v2 p _)
theorem at_cst_0 (p : Arg) (i : S_.Idx) : val_main_cst_0 (F := Ideal) i = ((1024 : ℝ) : EReal) := ofBits_1024
theorem at_v4 (p : Arg) (i : S8192x1.Idx) : val_main_v4 (F := Ideal) i = ((1024 : ℝ) : EReal) :=
  (val_main_v4_apply i).trans (at_cst_0 p _)
theorem at_v5 (p : Arg) (i : S8192x1.Idx) : val_main_v5 (F := Ideal) (X0 p) i = (((∑ k2 ∈ range 1024, ((p.X (i 0).val k2) * (p.X (i 0).val k2))) / 1024 : ℝ) : EReal) :=
  (val_main_v5_apply (X0 p) i).trans (c_div (at_v3 p i) (at_v4 p i) (by norm_num))
theorem at_cst_1 (p : Arg) (i : S_.Idx) : val_main_cst_1 (F := Ideal) i = (((8796093 / 8796093022208) : ℝ) : EReal) := ofBits_eps
theorem at_v6 (p : Arg) (i : S8192x1.Idx) : val_main_v6 (F := Ideal) i = (((8796093 / 8796093022208) : ℝ) : EReal) :=
  (val_main_v6_apply i).trans (at_cst_1 p _)
theorem at_v7 (p : Arg) (i : S8192x1.Idx) : val_main_v7 (F := Ideal) (X0 p) i = ((((∑ k2 ∈ range 1024, ((p.X (i 0).val k2) * (p.X (i 0).val k2))) / 1024) + ((8796093 / 8796093022208)) : ℝ) : EReal) :=
  (val_main_v7_apply (X0 p) i).trans (c_add (at_v5 p i) (at_v6 p i))
theorem at_v8 (p : Arg) (i : S8192x1.Idx) : val_main_v8 (F := Ideal) (X0 p) i = ((rs p.X (i 0).val : ℝ) : EReal) :=
  c_eq (φ := .f32) (u := (√(((∑ k2 ∈ range 1024, ((p.X (i 0).val k2) * (p.X (i 0).val k2))) / 1024) + ((8796093 / 8796093022208))))⁻¹) ((val_main_v8_apply (X0 p) i).trans (c_rsqrt (at_v7 p i) (ms_pos p.X _))) (rfl)
theorem at_v9 (p : Arg) (i : S8192x1024.Idx) : val_main_v9 (F := Ideal) (X0 p) i = ((rs p.X (i 0).val : ℝ) : EReal) :=
  (val_main_v9_apply (X0 p) i).trans (at_v8 p _)
theorem at_v10 (p : Arg) (i : S8192x1024.Idx) : val_main_v10 (F := Ideal) (X0 p) i = (((p.X (i 0).val (i 1).val) * (rs p.X (i 0).val) : ℝ) : EReal) :=
  (val_main_v10_apply (X0 p) i).trans (c_mul rfl (at_v9 p i))
theorem at_v11 (p : Arg) (i : S1x1024.Idx) : val_main_v11 (F := Ideal) (X1 p) i = ((p.G 0 (i 1).val : ℝ) : EReal) :=
  (val_main_v11_apply (X1 p) i).trans (at_v0 p _)
theorem at_v12 (p : Arg) (i : S8192x1024.Idx) : val_main_v12 (F := Ideal) (X1 p) i = ((p.G 0 (i 1).val : ℝ) : EReal) :=
  (val_main_v12_apply (X1 p) i).trans (at_v11 p _)
theorem at_v13 (p : Arg) (i : S8192x1024.Idx) : val_main_v13 (F := Ideal) (X0 p) (X1 p) i = ((((p.X (i 0).val (i 1).val) * (rs p.X (i 0).val)) * (p.G 0 (i 1).val) : ℝ) : EReal) :=
  (val_main_v13_apply (X0 p) (X1 p) i).trans (c_mul (at_v10 p i) (at_v12 p i))
theorem at_v14 (p : Arg) (i : S2816x1024.Idx) : val_main_v14 (F := Ideal) (X2 p) i = ((p.Wg (i 0).val (i 1).val : ℝ) : EReal) :=
  rfl
theorem at_v15 (p : Arg) (i : S1024x2816.Idx) : val_main_v15 (F := Ideal) (X2 p) i = ((p.Wg (i 1).val (i 0).val : ℝ) : EReal) :=
  (val_main_v15_apply (X2 p) i).trans (at_v14 p _)
theorem at_v16 (p : Arg) (i : S8192x2816.Idx) : val_main_v16 (F := Ideal) (X0 p) (X1 p) (X2 p) i = ((p.a (i 0).val (i 1).val : ℝ) : EReal) :=
  c_eq (φ := .f32) (u := ∑ k16 ∈ range 1024, (((p.X (i 0).val k16) * (rs p.X (i 0).val)) * (p.G 0 k16)) * (p.Wg (i 1).val k16)) ((val_main_v16_apply (X0 p) (X1 p) (X2 p) i).trans (c_dot 1024 (fun k16 => (((p.X (i 0).val k16) * (rs p.X (i 0).val)) * (p.G 0 k16))) (fun k16 => (p.Wg (i 1).val k16)) _ _ (fun k => at_v13 p _) fun k => at_v15 p _)) (rfl)
theorem at_v17 (p : Arg) (i : S2816x1024.Idx) : val_main_v17 (F := Ideal) (X3 p) i = ((p.Wu (i 0).val (i 1).val : ℝ) : EReal) :=
  rfl
theorem at_v18 (p : Arg) (i : S1024x2816.Idx) : val_main_v18 (F := Ideal) (X3 p) i = ((p.Wu (i 1).val (i 0).val : ℝ) : EReal) :=
  (val_main_v18_apply (X3 p) i).trans (at_v17 p _)
theorem at_v19 (p : Arg) (i : S8192x2816.Idx) : val_main_v19 (F := Ideal) (X0 p) (X1 p) (X3 p) i = ((p.b (i 0).val (i 1).val : ℝ) : EReal) :=
  c_eq (φ := .f32) (u := ∑ k19 ∈ range 1024, (((p.X (i 0).val k19) * (rs p.X (i 0).val)) * (p.G 0 k19)) * (p.Wu (i 1).val k19)) ((val_main_v19_apply (X0 p) (X1 p) (X3 p) i).trans (c_dot 1024 (fun k19 => (((p.X (i 0).val k19) * (rs p.X (i 0).val)) * (p.G 0 k19))) (fun k19 => (p.Wu (i 1).val k19)) _ _ (fun k => at_v13 p _) fun k => at_v18 p _)) (rfl)
theorem at_call0_v0 (p : Arg) (i : S8192x2816.Idx) : val_main_call0_v0 (F := Ideal) (X0 p) (X1 p) (X2 p) i = ((-(p.a (i 0).val (i 1).val) : ℝ) : EReal) :=
  (val_main_call0_v0_apply (X0 p) (X1 p) (X2 p) i).trans (c_neg (at_v16 p i))
theorem at_call0_v1 (p : Arg) (i : S8192x2816.Idx) : val_main_call0_v1 (F := Ideal) (X0 p) (X1 p) (X2 p) i = ((Real.exp (-(p.a (i 0).val (i 1).val)) : ℝ) : EReal) :=
  (val_main_call0_v1_apply (X0 p) (X1 p) (X2 p) i).trans (c_exp (at_call0_v0 p i))
theorem at_call0_cst (p : Arg) (i : S_.Idx) : val_main_call0_cst (F := Ideal) i = ((1 : ℝ) : EReal) := ofBits_one
theorem at_call0_v2 (p : Arg) (i : S8192x2816.Idx) : val_main_call0_v2 (F := Ideal) i = ((1 : ℝ) : EReal) :=
  (val_main_call0_v2_apply i).trans (at_call0_cst p _)
theorem at_call0_v3 (p : Arg) (i : S8192x2816.Idx) : val_main_call0_v3 (F := Ideal) (X0 p) (X1 p) (X2 p) i = ((1 + (Real.exp (-(p.a (i 0).val (i 1).val))) : ℝ) : EReal) :=
  (val_main_call0_v3_apply (X0 p) (X1 p) (X2 p) i).trans (c_add (at_call0_v2 p i) (at_call0_v1 p i))
theorem at_call0_cst_0 (p : Arg) (i : S_.Idx) : val_main_call0_cst_0 (F := Ideal) i = ((1 : ℝ) : EReal) := ofBits_one
theorem at_call0_v4 (p : Arg) (i : S8192x2816.Idx) : val_main_call0_v4 (F := Ideal) i = ((1 : ℝ) : EReal) :=
  (val_main_call0_v4_apply i).trans (at_call0_cst_0 p _)
theorem at_v20_2 (p : Arg) (i : S8192x2816.Idx) : val_main_v20_2 (F := Ideal) (X0 p) (X1 p) (X2 p) i = ((p.sg (i 0).val (i 1).val : ℝ) : EReal) :=
  c_eq (φ := .f32) (u := 1 / (1 + (Real.exp (-(p.a (i 0).val (i 1).val))))) ((val_main_v20_2_apply (X0 p) (X1 p) (X2 p) i).trans (c_div (at_call0_v4 p i) (at_call0_v3 p i) ((sgd_pos p _ _).ne'))) (rfl)
theorem at_call0_cst_1 (p : Arg) (i : S_.Idx) : val_main_call0_cst_1 (F := Ideal) i = ((1 : ℝ) : EReal) := ofBits_one
theorem at_call0_v6 (p : Arg) (i : S8192x2816.Idx) : val_main_call0_v6 (F := Ideal) i = ((1 : ℝ) : EReal) :=
  (val_main_call0_v6_apply i).trans (at_call0_cst_1 p _)
theorem at_call0_v7 (p : Arg) (i : S8192x2816.Idx) : val_main_call0_v7 (F := Ideal) (X0 p) (X1 p) (X2 p) i = ((1 - (p.sg (i 0).val (i 1).val) : ℝ) : EReal) :=
  (val_main_call0_v7_apply (X0 p) (X1 p) (X2 p) i).trans (c_sub (at_call0_v6 p i) (at_v20_2 p i))
theorem at_v20_1 (p : Arg) (i : S8192x2816.Idx) : val_main_v20_1 (F := Ideal) (X0 p) (X1 p) (X2 p) i = (((p.sg (i 0).val (i 1).val) * (1 - (p.sg (i 0).val (i 1).val)) : ℝ) : EReal) :=
  (val_main_v20_1_apply (X0 p) (X1 p) (X2 p) i).trans (c_mul (at_v20_2 p i) (at_call0_v7 p i))
theorem at_v20_0 (p : Arg) (i : S8192x2816.Idx) : val_main_v20_0 (F := Ideal) (X0 p) (X1 p) (X2 p) i = ((p.S (i 0).val (i 1).val : ℝ) : EReal) :=
  c_eq (φ := .f32) (u := (p.a (i 0).val (i 1).val) * (p.sg (i 0).val (i 1).val)) ((val_main_v20_0_apply (X0 p) (X1 p) (X2 p) i).trans (c_mul (at_v16 p i) (at_v20_2 p i))) (rfl)
theorem at_call1_v0 (p : Arg) (i : S8192x2816.Idx) : val_main_call1_v0 (F := Ideal) (X0 p) (X1 p) (X2 p) (X3 p) i = (((p.a (i 0).val (i 1).val) * (p.b (i 0).val (i 1).val) : ℝ) : EReal) :=
  (val_main_call1_v0_apply (X0 p) (X1 p) (X2 p) (X3 p) i).trans (c_mul (at_v16 p i) (at_v19 p i))
theorem at_call1_v1 (p : Arg) (i : S8192x2816.Idx) : val_main_call1_v1 (F := Ideal) (X0 p) (X1 p) (X2 p) (X3 p) i = (((p.b (i 0).val (i 1).val) * (p.sg (i 0).val (i 1).val) : ℝ) : EReal) :=
  (val_main_call1_v1_apply (X0 p) (X1 p) (X2 p) (X3 p) i).trans (c_mul (at_v19 p i) (at_v20_2 p i))
theorem at_call1_v2 (p : Arg) (i : S8192x2816.Idx) : val_main_call1_v2 (F := Ideal) (X0 p) (X1 p) (X2 p) (X3 p) i = ((((p.a (i 0).val (i 1).val) * (p.b (i 0).val (i 1).val)) * ((p.sg (i 0).val (i 1).val) * (1 - (p.sg (i 0).val (i 1).val))) : ℝ) : EReal) :=
  (val_main_call1_v2_apply (X0 p) (X1 p) (X2 p) (X3 p) i).trans (c_mul (at_call1_v0 p i) (at_v20_1 p i))
theorem at_v21 (p : Arg) (i : S8192x2816.Idx) : val_main_v21 (F := Ideal) (X0 p) (X1 p) (X2 p) (X3 p) i = ((((p.b (i 0).val (i 1).val) * (p.sg (i 0).val (i 1).val)) + (((p.a (i 0).val (i 1).val) * (p.b (i 0).val (i 1).val)) * ((p.sg (i 0).val (i 1).val) * (1 - (p.sg (i 0).val (i 1).val)))) : ℝ) : EReal) :=
  (val_main_v21_apply (X0 p) (X1 p) (X2 p) (X3 p) i).trans (c_add (at_call1_v1 p i) (at_call1_v2 p i))
theorem at_v22 (p : Arg) (i : S8192x2816.Idx) : val_main_v22 (F := Ideal) (X0 p) (X1 p) (X2 p) (X3 p) i = (((p.S (i 0).val (i 1).val) * (p.b (i 0).val (i 1).val) : ℝ) : EReal) :=
  (val_main_v22_apply (X0 p) (X1 p) (X2 p) (X3 p) i).trans (c_mul (at_v20_0 p i) (at_v19 p i))
theorem at_v23 (p : Arg) (i : S8192x2816.Idx) : val_main_v23 (F := Ideal) (X0 p) (X1 p) (X2 p) i = ((p.S (i 0).val (i 1).val : ℝ) : EReal) :=
  at_v20_0 p i
theorem at_v24 (p : Arg) (i : S8192x2816.Idx) : val_main_v24 (F := Ideal) (X0 p) (X1 p) (X2 p) (X3 p) i = ((((p.b (i 0).val (i 1).val) * (p.sg (i 0).val (i 1).val)) + (((p.a (i 0).val (i 1).val) * (p.b (i 0).val (i 1).val)) * ((p.sg (i 0).val (i 1).val) * (1 - (p.sg (i 0).val (i 1).val)))) : ℝ) : EReal) :=
  at_v21 p i
theorem at_v25 (p : Arg) (i : S8192x2816.Idx) : val_main_v25 (F := Ideal) (X0 p) (X1 p) (X2 p) (X3 p) i = (((p.S (i 0).val (i 1).val) * (p.b (i 0).val (i 1).val) : ℝ) : EReal) :=
  at_v22 p i
theorem at_v26 (p : Arg) (i : S8192x1024.Idx) : val_main_v26 (F := Ideal) (X0 p) (X1 p) i = ((((p.X (i 0).val (i 1).val) * (rs p.X (i 0).val)) * (p.G 0 (i 1).val) : ℝ) : EReal) :=
  at_v13 p i

end Cert.FwdReal

end
-- ==== Proof.Fwd.Meets.lean ====
/- The forward launch and its reference meet: at finite arguments both leave the same four arrays. -/
module

public import proofs.«01_k».proof.Proof.Fwd.Tile
public import proofs.«01_k».proof.Proof.Fwd.Ref
public import proofs.«01_k».proof.Proof.Gmlp.Finite

@[expose] public section

set_option maxRecDepth 16384

noncomputable section

namespace Cert.Kernel4Ideal.Fwd

open Cert.Kernel4Ideal Cert.Kernel4Ideal.Gen Idealize.ShloMosaic Idealize.ShloMosaic.TcCoe Idealize.SL.Sem Finset Cert.Lift Cert.Finite
open Cert.FfnReal (Arg)

instance : Cert.Pre_finite4.Facts := ⟨by decide, by decide, by decide⟩

variable (m : (ℓ : Loc nD τ sig) → Buf (Elt Ideal) ℓ) (ρ : Dev nD → PrngReg) (c : Dev nD)

/-- The arguments of the device `c`, as reals; the forward pass has no gradient and no down product. -/
def arg : Arg where
  X := re2 (a := 8192) (b := 1024) (φ := .f32) (m ((c.tc : Thread nD τ).loc main_arg0))
  D := fun _ _ => 0
  G := re2 (a := 1) (b := 1024) (φ := .f32) (m ((c.tc : Thread nD τ).loc main_arg1))
  Wg := re2 (a := 2816) (b := 1024) (φ := .bf16) (m ((c.tc : Thread nD τ).loc main_arg2))
  Wu := re2 (a := 2816) (b := 1024) (φ := .bf16) (m ((c.tc : Thread nD τ).loc main_arg3))
  Wd := fun _ _ => 0

/-- Finite arguments are arrays of reals. -/
theorem args_real (h : Cert.Pre_Kernel4Ideal_finite4 m) : In m c (arg m c) := by
  obtain ⟨e0, e1, e2, e3⟩ := h c
  refine ⟨eq_re2 _ fun i => real_of_abs ?_, eq_re2 _ fun i => real_of_abs ?_, eq_re2 _ fun i => real_of_abs ?_, eq_re2 _ fun i => real_of_abs ?_⟩
  · rw [← inf_f32]; exact congrFun e0 i
  · rw [← inf_f32]; exact congrFun e1 i
  · rw [← inf_bf16]; exact congrFun e2 i
  · rw [← inf_bf16]; exact congrFun e3 i

/-- From finite arguments the program ends with what the gradient will need, and its arguments unchanged. -/
theorem values (hp : Cert.Pre_Kernel4Ideal_finite4 m) : θ_run defs (onTc (τ := τ) (main (F := Ideal))) ⟨m, fun _ => 0, ρ⟩ (fun r => ∀ c : Dev nD,
      r.2.mem ((c.tc : Thread nD τ).loc main_v0_0) = rv 8192 2816 .bf16 (arg m c).S
      ∧ r.2.mem ((c.tc : Thread nD τ).loc main_v0_1) = rv 8192 2816 .bf16 (arg m c).P
      ∧ r.2.mem ((c.tc : Thread nD τ).loc main_v0_2) = rv 8192 2816 .bf16 (fun i j => (arg m c).S i j * (arg m c).b i j)
      ∧ r.2.mem ((c.tc : Thread nD τ).loc main_v0_3) = rv 8192 1024 .bf16 (H8 (arg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans (all4 (args_real m c hp)), (h c).2.1.trans (all5 (args_real m c hp)), (h c).2.2.1.trans (all6 (args_real m c hp)),
      (h c).2.2.2.1.trans (all7 (args_real m c hp)), (h c).2.2.2.2⟩)
    (Value.run_blocks (F := Ideal) m ρ)

end Cert.Kernel4Ideal.Fwd

namespace Cert.FwdReal

open Cert.FfnReal Cert.Reference4Ideal Cert.Reference4Ideal.Read Idealize.ShloMosaic Cert.Lift Cert.Kernel4Ideal.Fwd Finset

variable (p : Arg)

theorem ref23 : val_main_v23 (F := Ideal) (X0 p) (X1 p) (X2 p) = rv 8192 2816 .bf16 p.S := funext fun i => at_v23 p i
theorem ref24 : val_main_v24 (F := Ideal) (X0 p) (X1 p) (X2 p) (X3 p) = rv 8192 2816 .bf16 p.P := funext fun i => at_v24 p i
theorem ref25 : val_main_v25 (F := Ideal) (X0 p) (X1 p) (X2 p) (X3 p) = rv 8192 2816 .bf16 (fun i j => p.S i j * p.b i j) := funext fun i => at_v25 p i
theorem ref26 : val_main_v26 (F := Ideal) (X0 p) (X1 p) = rv 8192 1024 .bf16 (H8 p) := funext fun i => at_v26 p i

end Cert.FwdReal

end
-- ==== Proof.Head.Real.lean ====
/- The loss head of the feed-forward layer in the reals: the layer's output, its norm against the target, and the gradients. -/
module

public import proofs.«01_k».proof.Proof.Ffn.RefB

@[expose] public section

noncomputable section

namespace Cert.HeadReal

open Finset
open Cert.Kernel3Ideal.Rows (rs ms_pos)

/-- The residual plus half of a product. -/
def zf (x m d : ℕ → ℕ → ℝ) (i j : ℕ) : ℝ := x i j + 1 / 2 * ∑ k ∈ range 2816, m i k * d k j
/-- The normalised scaled rows less the target. -/
def ef (z t q : ℕ → ℕ → ℝ) (i j : ℕ) : ℝ := z i j * rs z i * q 0 j - t i j
/-- The gradient of the normalised scaled rows. -/
def hd (z t q : ℕ → ℕ → ℝ) (i j : ℕ) : ℝ := ef z t q i j * (1 / 1024)
/-- One row's part of the gain's gradient. -/
def gd (z t q : ℕ → ℕ → ℝ) (i j : ℕ) : ℝ := hd z t q i j * (z i j * rs z i)
/-- One row's mean of squares. -/
def sq (z t q : ℕ → ℕ → ℝ) (i : ℕ) : ℝ := (∑ k ∈ range 1024, ef z t q i k * ef z t q i k) / 1024
/-- The gradient of the rows. -/
def dz (z t q : ℕ → ℕ → ℝ) (i j : ℕ) : ℝ :=
  rs z i * (hd z t q i j * q 0 j - z i j * rs z i * ((∑ k ∈ range 1024, hd z t q i k * q 0 k * (z i k * rs z i)) / 1024))

/-- What each element of a row gets, up to a factor two, from the mean square. -/
def cc (z t q : ℕ → ℕ → ℝ) (i : ℕ) : ℝ :=
  (∑ k ∈ range 1024, z i k * (hd z t q i k * q 0 k)) * (-(1 / 2) * (rs z i / ((∑ k ∈ range 1024, z i k * z i k) / 1024 + 8796093 / 8796093022208))) / 1024

/-- The two forms of the rows' gradient. -/
theorem dz_eq (z t q : ℕ → ℕ → ℝ) (i j : ℕ) : hd z t q i j * q 0 j * rs z i + z i j * cc z t q i + cc z t q i * z i j = dz z t q i j := by
  have e : ∑ k ∈ range 1024, hd z t q i k * q 0 k * (z i k * rs z i) = (∑ k ∈ range 1024, z i k * (hd z t q i k * q 0 k)) * rs z i := by
    rw [Finset.sum_mul]
    exact Finset.sum_congr rfl fun k _ => by ring
  unfold dz cc
  rw [e, FfnReal.rs_cube]
  ring

/-- The arguments: a layer's, a target and the last gain. -/
structure Arg extends FfnReal.Arg where
  T : ℕ → ℕ → ℝ
  Q : ℕ → ℕ → ℝ

/-- The layer's output. -/
def Arg.Z (p : Arg) : ℕ → ℕ → ℝ := zf p.X (fun i k => p.S i k * p.b i k) p.Wd

end Cert.HeadReal

end
-- ==== Proof.Head.Tile.lean ====
/- The feed-forward launch with its loss head at real arguments: what a grid step leaves in its seven output blocks. -/
module

public import proofs.«01_k».proof.Proof.Gen.Kernel5Ideal.Value
public import proofs.«01_k».proof.Proof.Gen.Kernel5Ideal.Points
public import proofs.«01_k».proof.Proof.Fwd.Tile
public import proofs.«01_k».proof.Proof.Head.Real

@[expose] public section

set_option maxRecDepth 16384

noncomputable section

namespace Cert.Kernel5Ideal.Head

open Cert.Kernel5Ideal Cert.Kernel5Ideal.Gen Idealize.ShloMosaic Idealize.ShloMosaic.TcCoe Idealize.SL.Sem Finset Cert.Lift Cert.HeadReal
open Cert.Kernel3Ideal.Rows (rs ms_pos ofBits_1024 rv_rowsum)
open Cert.Kernel4Ideal.Fwd (hf sf pf mf)

/-! ## The operations of the head -/

/-- Rows of the product against the rows of the last weight. -/
theorem dot_down (f g : ℕ → ℕ → ℝ) :
    matmul dot_S512x2816_S2816x1024_S512x1024_1_0_0_1_n_n none (rv 512 2816 .bf16 f) (rv 2816 1024 .bf16 g) (constant S512x1024 .f32 0x00000000#32)
      = rv 512 1024 .f32 fun i j => ∑ k ∈ range 2816, f i k * g k j := by
  funext i
  refine (Ideal.matmul_constant_zero_apply dot_S512x2816_S2816x1024_S512x1024_1_0_0_1_n_n none (rv 512 2816 .bf16 f) (rv 2816 1024 .bf16 g) i).trans ?_
  rw [← Equiv.sum_comp (ValueIdx.contrEquiv1 dot_S512x2816_S2816x1024_S512x1024_1_0_0_1_n_n 2816 rfl rfl).symm]
  refine (Finset.sum_congr rfl fun k _ => ?_).trans (sum_fin_coe 2816 fun k => f (i 0).val k * g k (i 1).val)
  have hk := ValueIdx.contrEquiv1_symm_val dot_S512x2816_S2816x1024_S512x1024_1_0_0_1_n_n 2816 rfl rfl k
  generalize (ValueIdx.contrEquiv1 dot_S512x2816_S2816x1024_S512x1024_1_0_0_1_n_n 2816 rfl rfl).symm k = q at hk ⊢
  have l0 : (dot_S512x2816_S2816x1024_S512x1024_1_0_0_1_n_n.lhsIdx i q 0).val = (i 0).val := by
    unfold DotDims.lhsIdx
    rw [dif_neg (show ¬(0 : Fin S512x2816.rank) ∈ dot_S512x2816_S2816x1024_S512x1024_1_0_0_1_n_n.lhsBatch by decide), dif_pos (show (0 : Fin S512x2816.rank) ∈ dot_S512x2816_S2816x1024_S512x1024_1_0_0_1_n_n.lhsNonContracting by decide)]
    rfl
  have r1 : (dot_S512x2816_S2816x1024_S512x1024_1_0_0_1_n_n.rhsIdx i q 1).val = (i 1).val := by
    unfold DotDims.rhsIdx
    rw [dif_neg (show ¬(1 : Fin S2816x1024.rank) ∈ dot_S512x2816_S2816x1024_S512x1024_1_0_0_1_n_n.rhsBatch by decide), dif_pos (show (1 : Fin S2816x1024.rank) ∈ dot_S512x2816_S2816x1024_S512x1024_1_0_0_1_n_n.rhsNonContracting by decide)]
    rfl
  unfold rv
  rw [l0, (dot_S512x2816_S2816x1024_S512x1024_1_0_0_1_n_n.lhsIdx_val_of_single rfl i q).trans hk, (dot_S512x2816_S2816x1024_S512x1024_1_0_0_1_n_n.rhsIdx_val_of_single rfl i q).trans hk, r1, ← EReal.coe_mul]

theorem ofBits_inv : (FloatOps.ofBits .f32 0x3A800000#32 : Ideal .f32) = ((1 / 1024 : ℝ) : EReal) := by
  show Ideal.ofBits .f32 0x3A800000#32 = _
  simp [Ideal.ofBits, Ideal.ieee, -EReal.coe_mul]; norm_num

theorem rowsum (f : ℕ → ℕ → ℝ) :
    shapeCast S512x1 (multiReduction .add [1] S512 (rv 512 1024 .f32 f : FVec Ideal S512x1024 .f32) 0x00000000#32 reduces_S512x1024_S512 (.inl rfl) rfl) shapeCasts_S512_S512x1
      = rv 512 1 .f32 fun i _ => ∑ k ∈ range 1024, f i k := rv_rowsum f _ _ _ _ _

theorem colsum (f : ℕ → ℕ → ℝ) :
    shapeCast S1x1024 (multiReduction .add [0] S1024 (rv 512 1024 .f32 f : FVec Ideal S512x1024 .f32) 0x00000000#32 reduces_S512x1024_S1024 (.inl rfl) rfl) shapeCasts_S1024_S1x1024
      = rv 1 1024 .f32 fun _ j => ∑ k ∈ range 512, f k j := rv_colsum f _ _ _ _ _

theorem total (f : ℕ → ℕ → ℝ) :
    shapeCast S1x1 (multiReduction .add [0] S1 (rv 512 1 .f32 f : FVec Ideal S512x1 .f32) 0x00000000#32 reduces_S512x1_S1 (.inl rfl) rfl) shapeCasts_S1_S1x1
      = rv 1 1 .f32 fun _ j => ∑ k ∈ range 512, f k j := rv_colsum f _ _ _ _ _

section ops

variable {x s d z o e v : ℕ → ℕ → ℝ} {A B : FVec Ideal S512x1024 .f32} {C : FVec Ideal S1x1024 .f32} {R : FVec Ideal S512x1 .f32} {E : FVec Ideal S512x1024 .f32} {S : FVec Ideal S512x2816 .bf16} {D : FVec Ideal S2816x1024 .bf16}

theorem sum_rv (hA : A = rv 512 1024 .f32 x) (hS : S = rv 512 2816 .bf16 s) (hD : D = rv 2816 1024 .bf16 d) : k0_pay80 (F := Ideal) A S D = rv 512 1024 .f32 (zf x s d) := by
  subst hA hS hD
  unfold k0_pay80; dsimp only
  rw [shapeCast_self, dot_down, rv_const ofBits_half, rv_mul, rv_add]
  rfl

theorem root_rv (hA : A = rv 512 1024 .f32 x) (hS : S = rv 512 2816 .bf16 s) (hD : D = rv 2816 1024 .bf16 d) : k0_pay84 (F := Ideal) A S D = rv 512 1 .f32 fun i _ => rs (zf x s d) i := by
  unfold k0_pay84; dsimp only
  rw [sum_rv hA hS hD, rv_mul, rowsum, rv_const ofBits_1024, rv_div _ _ (fun _ _ => by norm_num), rv_const ofBits_eps, rv_add, rv_rsqrt _ fun i _ => ms_pos (zf x s d) i]
  rfl

theorem gain_rv (hC : C = rv 1 1024 .f32 e) : k0_pay83 (F := Ideal) C = rv 1 1024 .f32 e := by
  unfold k0_pay83; dsimp only
  rw [shapeCast_self, hC]

theorem guess_rv (hA : A = rv 512 1024 .f32 x) (hS : S = rv 512 2816 .bf16 s) (hD : D = rv 2816 1024 .bf16 d) (hC : C = rv 1 1024 .f32 e) :
    k0_pay85 (F := Ideal) A S D C = rv 512 1024 .f32 fun i j => zf x s d i j * rs (zf x s d) i * e 0 j := by
  unfold k0_pay85; dsimp only
  rw [sum_rv hA hS hD, root_rv hA hS hD, gain_rv hC, rv_bcast_col, rv_bcast_row, rv_mul, rv_mul]

variable (hA : A = rv 512 1024 .f32 z) (hB : B = rv 512 1024 .f32 o) (hC : C = rv 1 1024 .f32 e) (hR : R = rv 512 1 .f32 fun i _ => rs z i) (hE : E = rv 512 1024 .f32 fun i j => z i j * rs z i * e 0 j)
include hB hE

theorem err_rv : k0_pay86 (F := Ideal) B E = rv 512 1024 .f32 (ef z o e) := by
  unfold k0_pay86; dsimp only
  rw [hB, hE, rv_sub]
  rfl

theorem scaled_rv : k0_pay87 (F := Ideal) B E = rv 512 1024 .f32 (hd z o e) := by
  unfold k0_pay87; dsimp only
  rw [err_rv hB hE, rv_const ofBits_inv, rv_mul]
  rfl

theorem loss_rv (L : FVec Ideal S1x128 .f32) (hL : L = rv 1 128 .f32 v) : k0_pay91 (F := Ideal) B E L = rv 1 128 .f32 fun i j => v i j + 1 / 2 * ∑ k ∈ range 512, sq z o e k := by
  unfold k0_pay91; dsimp only
  rw [err_rv hB hE, rv_mul, rowsum, rv_const ofBits_1024, rv_div _ _ (fun _ _ => by norm_num), total, rv_const ofBits_half, rv_mul, rv_bcast_col, shapeCast_self, hL, rv_add]
  rfl

include hA hR

theorem unit_rv : k0_pay88 (F := Ideal) A R = rv 512 1024 .f32 fun i j => z i j * rs z i := by
  unfold k0_pay88; dsimp only
  rw [hA, hR, rv_bcast_col, rv_mul]

theorem gsum_rv (G : FVec Ideal S1x1024 .f32) (hG : G = rv 1 1024 .f32 v) : k0_pay90 (F := Ideal) A B R E G = rv 1 1024 .f32 fun i j => v i j + ∑ k ∈ range 512, gd z o e k j := by
  unfold k0_pay90; dsimp only
  rw [scaled_rv hB hE, unit_rv hA hB hR hE, rv_mul, colsum, shapeCast_self, hG, rv_add]
  rfl

include hC

theorem back_rv : k0_pay89 (F := Ideal) A B C R E = rv 512 1024 .f32 (dz z o e) := by
  unfold k0_pay89; dsimp only
  rw [scaled_rv hB hE, unit_rv hA hB hR hE, hC, hR]
  simp only [rv_bcast_row, rv_bcast_col, rv_mul]
  rw [rowsum, rv_const ofBits_1024, rv_div _ _ (fun _ _ => by norm_num)]
  simp only [rv_bcast_col, rv_mul, rv_sub]
  rfl

end ops

end Cert.Kernel5Ideal.Head

end
-- ==== Proof.Head.Step.lean ====
/- The feed-forward launch with its loss head at real arguments: the seven output blocks of one grid step. -/
module

public import proofs.«01_k».proof.Proof.Gen.Kernel5Ideal.Value
public import proofs.«01_k».proof.Proof.Gen.Kernel5Ideal.Points
public import proofs.«01_k».proof.Proof.Head.Tile

@[expose] public section

set_option maxRecDepth 16384

noncomputable section

namespace Cert.Kernel5Ideal.Head

open Cert.Kernel5Ideal Cert.Kernel5Ideal.Gen Idealize.ShloMosaic Idealize.ShloMosaic.TcCoe Idealize.SL.Sem Finset Cert.Lift Cert.HeadReal
open Cert.Kernel3Ideal.Rows (rs ms_pos ofBits_1024 rv_rowsum)
open Cert.Kernel4Ideal.Fwd (hf sf pf mf)

/-! ## What one grid step leaves -/

/-- A load of a whole buffer. -/
theorem rd {a b : ℕ} {φ : EltTy} (r : Memref sig .tc .vmem ⟨2, ![a, b]⟩ φ) (h : r.IsWhole) (x : Vec Ideal ⟨2, ![a, b]⟩ φ)
    (inb : ∀ k, (![0, 0] : Fin 2 → ℕ) k + (⟨2, ![a, b]⟩ : Shape).size k ≤ (⟨2, ![a, b]⟩ : Shape).size k) :
    View.readAt (Elt Ideal) r.view (Rect.unit ![0, 0] (⟨2, ![a, b]⟩ : Shape).size inb).toLoadRect (h.unread x) = x := by
  rw [View.readAt_eq_ld, h.read_unread, View.ld_unit_zero (funext fun a => by fin_cases a <;> rfl)]

abbrev tl (f : ℕ → ℕ → ℝ) := rv 512 1024 .f32 f
abbrev rw1 (f : ℕ → ℕ → ℝ) := rv 1 1024 .f32 f
abbrev wt (f : ℕ → ℕ → ℝ) := rv 2816 1024 .bf16 f

variable (x g w u d o e : ℕ → ℕ → ℝ)

theorem silR (q : ℕ) (h : Vec Ideal S512x1024 .bf16) (hh : h = rv 512 1024 .bf16 (hf x g)) (r : Memref sig .tc .vmem S2816x1024 .bf16) (hr : r.IsWhole) (inw : ∀ k, (![q, 0] : Fin 2 → ℕ) k + S256x1024.size k ≤ S2816x1024.size k) (inb : ∀ k, (![0, q] : Fin 2 → ℕ) k + S512x256.size k ≤ S512x2816.size k) (y : S512x256.Idx) :
    rv 512 2816 .bf16 (sf (hf x g) w) ((Rect.unit (s := S512x2816) ![0, q] S512x256.size inb).emb y) = Cert.Kernel4Ideal.Gen.k0_pay15 (F := Ideal) h (View.readAt (Elt Ideal) r.view (Rect.unit (s := S2816x1024) ![q, 0] S256x1024.size inw).toLoadRect (hr.unread (rv 2816 1024 .bf16 w))) y := by
  rw [View.readAt_eq_ld, hr.read_unread]
  exact (Cert.Kernel4Ideal.Fwd.silPiece x g w q h hh inw inb y).symm

theorem slopeR (q : ℕ) (h : Vec Ideal S512x1024 .bf16) (hh : h = rv 512 1024 .bf16 (hf x g)) (r : Memref sig .tc .vmem S2816x1024 .bf16) (hr : r.IsWhole) (r2 : Memref sig .tc .vmem S2816x1024 .bf16) (hr2 : r2.IsWhole) (inw : ∀ k, (![q, 0] : Fin 2 → ℕ) k + S256x1024.size k ≤ S2816x1024.size k) (inb : ∀ k, (![0, q] : Fin 2 → ℕ) k + S512x256.size k ≤ S512x2816.size k) (y : S512x256.Idx) :
    rv 512 2816 .bf16 (pf (hf x g) w u) ((Rect.unit (s := S512x2816) ![0, q] S512x256.size inb).emb y) = Cert.Kernel4Ideal.Gen.k0_pay16 (F := Ideal) h (View.readAt (Elt Ideal) r.view (Rect.unit (s := S2816x1024) ![q, 0] S256x1024.size inw).toLoadRect (hr.unread (rv 2816 1024 .bf16 w))) (View.readAt (Elt Ideal) r2.view (Rect.unit (s := S2816x1024) ![q, 0] S256x1024.size inw).toLoadRect (hr2.unread (rv 2816 1024 .bf16 u))) y := by
  rw [View.readAt_eq_ld, hr.read_unread, View.readAt_eq_ld, hr2.read_unread]
  exact (Cert.Kernel4Ideal.Fwd.slopePiece x g w u q h hh inw inb y).symm

theorem prodR (q : ℕ) (h : Vec Ideal S512x1024 .bf16) (hh : h = rv 512 1024 .bf16 (hf x g)) (r : Memref sig .tc .vmem S2816x1024 .bf16) (hr : r.IsWhole) (r2 : Memref sig .tc .vmem S2816x1024 .bf16) (hr2 : r2.IsWhole) (inw : ∀ k, (![q, 0] : Fin 2 → ℕ) k + S256x1024.size k ≤ S2816x1024.size k) (inb : ∀ k, (![0, q] : Fin 2 → ℕ) k + S512x256.size k ≤ S512x2816.size k) (y : S512x256.Idx) :
    rv 512 2816 .bf16 (mf (hf x g) w u) ((Rect.unit (s := S512x2816) ![0, q] S512x256.size inb).emb y) = Cert.Kernel4Ideal.Gen.k0_pay17 (F := Ideal) h (View.readAt (Elt Ideal) r.view (Rect.unit (s := S2816x1024) ![q, 0] S256x1024.size inw).toLoadRect (hr.unread (rv 2816 1024 .bf16 w))) (View.readAt (Elt Ideal) r2.view (Rect.unit (s := S2816x1024) ![q, 0] S256x1024.size inw).toLoadRect (hr2.unread (rv 2816 1024 .bf16 u))) y := by
  rw [View.readAt_eq_ld, hr.read_unread, View.readAt_eq_ld, hr2.read_unread]
  exact (Cert.Kernel4Ideal.Fwd.prodPiece x g w u q h hh inw inb y).symm

variable (c : Dev nD) (i : grid0.Coords) (a1 : Memref sig .tc .vmem S512x1024 .f32) (h1 : a1.IsWhole) (a2 : Memref sig .tc .vmem S1x1024 .f32) (h2 : a2.IsWhole) (a3 : Memref sig .tc .vmem S2816x1024 .bf16) (h3 : a3.IsWhole) (a4 : Memref sig .tc .vmem S2816x1024 .bf16) (h4 : a4.IsWhole) (a5 : Memref sig .tc .vmem S2816x1024 .bf16) (h5 : a5.IsWhole) (a6 : Memref sig .tc .vmem S512x1024 .f32) (h6 : a6.IsWhole) (a7 : Memref sig .tc .vmem S1x1024 .f32) (h7 : a7.IsWhole) (a8 : Memref sig .tc .vmem S512x1024 .f32) (h8 : a8.IsWhole) (a9 : Memref sig .tc .vmem S512x2816 .bf16) (h9 : a9.IsWhole) (a10 : Memref sig .tc .vmem S512x2816 .bf16) (h10 : a10.IsWhole) (a11 : Memref sig .tc .vmem S512x2816 .bf16) (h11 : a11.IsWhole) (a12 : Memref sig .tc .vmem S512x1024 .bf16) (h12 : a12.IsWhole) (a13 : Memref sig .tc .vmem S1x1024 .f32) (h13 : a13.IsWhole) (a14 : Memref sig .tc .vmem S1x128 .f32) (h14 : a14.IsWhole)

theorem hidden : kernelRun0_B.sl.r_1 (F := Ideal) c a1 h1 a2 h2 (tl x) (rw1 g) = rv 512 1024 .bf16 (hf x g) := by
  show k0_pay1 (F := Ideal) _ _ = _
  rw [rd, rd]
  exact Cert.Kernel4Ideal.Fwd.hid_rv x g

set_option maxHeartbeats 2000000 in
/-- The blocks of the product. -/
theorem prods : View.canon (kernelRun0_B.sl.H10_11 (F := Ideal) c a1 h1 a2 h2 a3 h3 a4 h4 (tl x) (rw1 g) (wt w) (wt u)) = rv 512 2816 .bf16 (mf (hf x g) w u) := by
  funext y
  refine View.canon_apply_of_pieces _ _ ?_ y (View.cover_of_tiledL (kernelRun0_B.sl.H10_11 (F := Ideal) c a1 h1 a2 h2 a3 h3 a4 h4 (tl x) (rw1 g) (wt w) (wt u)) S512x256.size (by sl_kernel_rfl) y)
  clear y
  intro q hq y
  simp only [kernelRun0_B.sl.H10_11, List.mem_cons, List.not_mem_nil, or_false] at hq
  rcases hq with rfl | rfl | rfl | rfl | rfl | rfl | rfl | rfl | rfl | rfl | rfl <;> exact (prodR x g w u _ _ (hidden x g c a1 h1 a2 h2) a3 h3 a4 h4 _ (by intro k; fin_cases k <;> decide) y).symm

/-- The product of the two gates, read back whole. -/
theorem gated : kernelRun0_B.sl.v203 (F := Ideal) c a1 h1 a2 h2 a3 h3 a4 h4 a11 (tl x) (rw1 g) (wt w) (wt u) = rv 512 2816 .bf16 (mf (hf x g) w u) := by
  unfold kernelRun0_B.sl.v203
  rw [View.readCov_eq_canon', prods]
  funext y
  refine congrArg _ (funext fun a => Fin.ext ?_)
  fin_cases a <;> exact (congrArg (0 + ·) (one_mul _)).trans (zero_add _)

theorem summed : kernelRun0_B.sl.r_16 (F := Ideal) c a1 h1 a2 h2 a3 h3 a4 h4 a5 h5 a11 (tl x) (rw1 g) (wt w) (wt u) (wt d) = rv 512 1024 .f32 (zf x (mf (hf x g) w u) d) :=
  sum_rv (rd (a := 512) (b := 1024) a1 h1 _ _) (gated x g w u c a1 h1 a2 h2 a3 h3 a4 h4 a11) (rd (a := 2816) (b := 1024) a5 h5 _ _)

theorem root : kernelRun0_B.sl.r_19 (F := Ideal) c a1 h1 a2 h2 a3 h3 a4 h4 a5 h5 a11 (tl x) (rw1 g) (wt w) (wt u) (wt d) = rv 512 1 .f32 fun i _ => rs (zf x (mf (hf x g) w u) d) i :=
  root_rv (rd (a := 512) (b := 1024) a1 h1 _ _) (gated x g w u c a1 h1 a2 h2 a3 h3 a4 h4 a11) (rd (a := 2816) (b := 1024) a5 h5 _ _)

theorem guess : kernelRun0_B.sl.r_20 (F := Ideal) c a1 h1 a2 h2 a3 h3 a4 h4 a5 h5 a7 h7 a11 (tl x) (rw1 g) (wt w) (wt u) (wt d) (rw1 e) = rv 512 1024 .f32 fun i j => zf x (mf (hf x g) w u) d i j * rs (zf x (mf (hf x g) w u) d) i * e 0 j :=
  guess_rv (rd (a := 512) (b := 1024) a1 h1 _ _) (gated x g w u c a1 h1 a2 h2 a3 h3 a4 h4 a11) (rd (a := 2816) (b := 1024) a5 h5 _ _) (rd (a := 1) (b := 1024) a7 h7 _ _)

theorem left7_A (q0 : cond0_0 i) : out0_A_7 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 512 1024 .f32 (dz (zf x (mf (hf x g) w u) d) o e) := by
  have hc := cover0_A_7 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  unfold kernelRun0_A
  dsimp only
  refine (View.canon_cons_unit_lit inb_S512x1024_S512x1024_0_0 _ _ (fun a => by fin_cases a <;> rfl)).trans ?_
  exact back_rv (summed x g w u d c a1 h1 a2 h2 a3 h3 a4 h4 a5 h5 a11) (rd (a := 512) (b := 1024) a6 h6 _ _) (gain_rv (rd (a := 1) (b := 1024) a7 h7 _ _)) (root x g w u d c a1 h1 a2 h2 a3 h3 a4 h4 a5 h5 a11) (guess x g w u d e c a1 h1 a2 h2 a3 h3 a4 h4 a5 h5 a7 h7 a11)

set_option maxHeartbeats 2000000 in
theorem left8_A (q0 : cond0_0 i) : out0_A_8 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 512 2816 .bf16 (sf (hf x g) w) := by
  have hc := cover0_A_8 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  funext y
  refine View.canon_apply_of_pieces _ _ ?_ y (hc y)
  clear hc y
  unfold kernelRun0_A
  dsimp only
  intro q hq y
  simp only [List.mem_cons, List.not_mem_nil, or_false] at hq
  rcases hq with rfl | rfl | rfl | rfl | rfl | rfl | rfl | rfl | rfl | rfl | rfl <;> exact (silR x g w _ _ (hidden x g c a1 h1 a2 h2) a3 h3 _ (by intro k; fin_cases k <;> decide) y).symm

set_option maxHeartbeats 2000000 in
theorem left9_A (q0 : cond0_0 i) : out0_A_9 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 512 2816 .bf16 (pf (hf x g) w u) := by
  have hc := cover0_A_9 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  funext y
  refine View.canon_apply_of_pieces _ _ ?_ y (hc y)
  clear hc y
  unfold kernelRun0_A
  dsimp only
  intro q hq y
  simp only [List.mem_cons, List.not_mem_nil, or_false] at hq
  rcases hq with rfl | rfl | rfl | rfl | rfl | rfl | rfl | rfl | rfl | rfl | rfl <;> exact (slopeR x g w u _ _ (hidden x g c a1 h1 a2 h2) a3 h3 a4 h4 _ (by intro k; fin_cases k <;> decide) y).symm

theorem left10_A (q0 : cond0_0 i) : out0_A_10 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 512 2816 .bf16 (mf (hf x g) w u) := by
  have hc := cover0_A_10 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  exact prods x g w u c a1 h1 a2 h2 a3 h3 a4 h4

theorem left11_A (q0 : cond0_0 i) : out0_A_11 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 512 1024 .bf16 (hf x g) := by
  have hc := cover0_A_11 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  unfold kernelRun0_A
  dsimp only
  refine (View.canon_cons_unit_lit inb_S512x1024_S512x1024_0_0 _ _ (fun a => by fin_cases a <;> rfl)).trans ?_
  exact hidden x g c a1 h1 a2 h2

theorem left12_A (q0 : cond0_0 i) : out0_A_12 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 1 1024 .f32 fun i j => 0 + ∑ k ∈ range 512, gd (zf x (mf (hf x g) w u) d) o e k j := by
  have hc := cover0_A_12 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  unfold kernelRun0_A
  dsimp only
  refine (View.canon_cons_unit_lit inb_S1x1024_S1x1024_0_0 _ _ (fun a => by fin_cases a <;> rfl)).trans ?_
  exact gsum_rv (summed x g w u d c a1 h1 a2 h2 a3 h3 a4 h4 a5 h5 a11) (rd (a := 512) (b := 1024) a6 h6 _ _) (root x g w u d c a1 h1 a2 h2 a3 h3 a4 h4 a5 h5 a11) (guess x g w u d e c a1 h1 a2 h2 a3 h3 a4 h4 a5 h5 a7 h7 a11) _ ((View.readCov_full _ _ _ _ _).trans (rv_const ofBits_zero))

theorem left13_A (q0 : cond0_0 i) : out0_A_13 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) = rv 1 128 .f32 fun i j => 0 + 1 / 2 * ∑ k ∈ range 512, sq (zf x (mf (hf x g) w u) d) o e k := by
  have hc := cover0_A_13 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e)
  refine (View.read_writes_eq_canon _ _ _ hc).trans ?_
  unfold kernelRun0_A
  dsimp only
  refine (View.canon_cons_unit_lit inb_S1x128_S1x128_0_0 _ _ (fun a => by fin_cases a <;> rfl)).trans ?_
  exact loss_rv (rd (a := 512) (b := 1024) a6 h6 _ _) (guess x g w u d e c a1 h1 a2 h2 a3 h3 a4 h4 a5 h5 a7 h7 a11) _ ((View.readCov_full _ _ _ _ _).trans (rv_const ofBits_zero))

theorem left7_B (q0 : ¬cond0_0 i) (x12 : Vec Ideal S1x1024 .f32) (x13 : Vec Ideal S1x128 .f32) : out0_B_7 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 512 1024 .f32 (dz (zf x (mf (hf x g) w u) d) o e) := by
  have hc := cover0_B_7 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  unfold kernelRun0_B
  dsimp only
  refine (View.canon_cons_unit_lit inb_S512x1024_S512x1024_0_0 _ _ (fun a => by fin_cases a <;> rfl)).trans ?_
  exact back_rv (summed x g w u d c a1 h1 a2 h2 a3 h3 a4 h4 a5 h5 a11) (rd (a := 512) (b := 1024) a6 h6 _ _) (gain_rv (rd (a := 1) (b := 1024) a7 h7 _ _)) (root x g w u d c a1 h1 a2 h2 a3 h3 a4 h4 a5 h5 a11) (guess x g w u d e c a1 h1 a2 h2 a3 h3 a4 h4 a5 h5 a7 h7 a11)

set_option maxHeartbeats 2000000 in
theorem left8_B (q0 : ¬cond0_0 i) (x12 : Vec Ideal S1x1024 .f32) (x13 : Vec Ideal S1x128 .f32) : out0_B_8 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 512 2816 .bf16 (sf (hf x g) w) := by
  have hc := cover0_B_8 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  funext y
  refine View.canon_apply_of_pieces _ _ ?_ y (hc y)
  clear hc y
  unfold kernelRun0_B
  dsimp only
  intro q hq y
  simp only [List.mem_cons, List.not_mem_nil, or_false] at hq
  rcases hq with rfl | rfl | rfl | rfl | rfl | rfl | rfl | rfl | rfl | rfl | rfl <;> exact (silR x g w _ _ (hidden x g c a1 h1 a2 h2) a3 h3 _ (by intro k; fin_cases k <;> decide) y).symm

set_option maxHeartbeats 2000000 in
theorem left9_B (q0 : ¬cond0_0 i) (x12 : Vec Ideal S1x1024 .f32) (x13 : Vec Ideal S1x128 .f32) : out0_B_9 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 512 2816 .bf16 (pf (hf x g) w u) := by
  have hc := cover0_B_9 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  funext y
  refine View.canon_apply_of_pieces _ _ ?_ y (hc y)
  clear hc y
  unfold kernelRun0_B
  dsimp only
  intro q hq y
  simp only [List.mem_cons, List.not_mem_nil, or_false] at hq
  rcases hq with rfl | rfl | rfl | rfl | rfl | rfl | rfl | rfl | rfl | rfl | rfl <;> exact (slopeR x g w u _ _ (hidden x g c a1 h1 a2 h2) a3 h3 a4 h4 _ (by intro k; fin_cases k <;> decide) y).symm

theorem left10_B (q0 : ¬cond0_0 i) (x12 : Vec Ideal S1x1024 .f32) (x13 : Vec Ideal S1x128 .f32) : out0_B_10 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 512 2816 .bf16 (mf (hf x g) w u) := by
  have hc := cover0_B_10 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  exact prods x g w u c a1 h1 a2 h2 a3 h3 a4 h4

theorem left11_B (q0 : ¬cond0_0 i) (x12 : Vec Ideal S1x1024 .f32) (x13 : Vec Ideal S1x128 .f32) : out0_B_11 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 512 1024 .bf16 (hf x g) := by
  have hc := cover0_B_11 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  unfold kernelRun0_B
  dsimp only
  refine (View.canon_cons_unit_lit inb_S512x1024_S512x1024_0_0 _ _ (fun a => by fin_cases a <;> rfl)).trans ?_
  exact hidden x g c a1 h1 a2 h2

theorem left12_B (q0 : ¬cond0_0 i) (x12 : Vec Ideal S1x1024 .f32) (x13 : Vec Ideal S1x128 .f32) (v : ℕ → ℕ → ℝ) (hv : x12 = rv 1 1024 .f32 v) : out0_B_12 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 1 1024 .f32 fun i j => v i j + ∑ k ∈ range 512, gd (zf x (mf (hf x g) w u) d) o e k j := by
  have hc := cover0_B_12 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  unfold kernelRun0_B
  dsimp only
  refine (View.canon_cons_unit_lit inb_S1x1024_S1x1024_0_0 _ _ (fun a => by fin_cases a <;> rfl)).trans ?_
  exact gsum_rv (summed x g w u d c a1 h1 a2 h2 a3 h3 a4 h4 a5 h5 a11) (rd (a := 512) (b := 1024) a6 h6 _ _) (root x g w u d c a1 h1 a2 h2 a3 h3 a4 h4 a5 h5 a11) (guess x g w u d e c a1 h1 a2 h2 a3 h3 a4 h4 a5 h5 a7 h7 a11) _ ((rd (a := 1) (b := 1024) a13 h13 _ _).trans hv)

theorem left13_B (q0 : ¬cond0_0 i) (x12 : Vec Ideal S1x1024 .f32) (x13 : Vec Ideal S1x128 .f32) (v : ℕ → ℕ → ℝ) (hv : x13 = rv 1 128 .f32 v) : out0_B_13 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13 = rv 1 128 .f32 fun i j => v i j + 1 / 2 * ∑ k ∈ range 512, sq (zf x (mf (hf x g) w u) d) o e k := by
  have hc := cover0_B_13 (F := Ideal) c i a1 h1 a2 h2 a3 h3 a4 h4 a5 h5 a6 h6 a7 h7 a8 h8 a9 h9 a10 h10 a11 h11 a12 h12 a13 h13 a14 h14 q0 (tl x) (rw1 g) (wt w) (wt u) (wt d) (tl o) (rw1 e) x12 x13
  refine (View.read_writes_eq_canon _ _ _ hc).trans ?_
  unfold kernelRun0_B
  dsimp only
  refine (View.canon_cons_unit_lit inb_S1x128_S1x128_0_0 _ _ (fun a => by fin_cases a <;> rfl)).trans ?_
  exact loss_rv (rd (a := 512) (b := 1024) a6 h6 _ _) (guess x g w u d e c a1 h1 a2 h2 a3 h3 a4 h4 a5 h5 a7 h7 a11) _ ((rd (a := 1) (b := 128) a14 h14 _ _).trans hv)

end Cert.Kernel5Ideal.Head

end
-- ==== Proof.Head.Fold.lean ====
/- The feed-forward launch with its loss head at real arguments: the blocks it reads and the arrays it leaves. -/
module

public import proofs.«01_k».proof.Proof.Gen.Kernel5Ideal.Value
public import proofs.«01_k».proof.Proof.Gen.Kernel5Ideal.Points
public import proofs.«01_k».proof.Proof.Head.Step

@[expose] public section

set_option maxRecDepth 16384

noncomputable section

namespace Cert.Kernel5Ideal.Head

open Cert.Kernel5Ideal Cert.Kernel5Ideal.Gen Idealize.ShloMosaic Idealize.ShloMosaic.TcCoe Idealize.SL.Sem Finset Cert.Lift Cert.HeadReal
open Cert.Kernel3Ideal.Rows (rs ms_pos ofBits_1024 rv_rowsum)
open Cert.Kernel4Ideal.Fwd (hf sf pf mf take whole inside)

variable {m : (ℓ : Loc nD τ sig) → Buf (Elt Ideal) ℓ} {c : Dev nD} {p : Arg}

/-- The arguments of the device `c` are the arrays `p` describes. -/
structure In (m : (ℓ : Loc nD τ sig) → Buf (Elt Ideal) ℓ) (c : Dev nD) (p : Arg) : Prop where
  x : m ((c.tc : Thread nD τ).loc main_arg0) = rv 8192 1024 .f32 p.X
  g : m ((c.tc : Thread nD τ).loc main_arg1) = rv 1 1024 .f32 p.G
  w : m ((c.tc : Thread nD τ).loc main_arg2) = rv 2816 1024 .bf16 p.Wg
  u : m ((c.tc : Thread nD τ).loc main_arg3) = rv 2816 1024 .bf16 p.Wu
  d : m ((c.tc : Thread nD τ).loc main_arg4) = rv 2816 1024 .bf16 p.Wd
  t : m ((c.tc : Thread nD τ).loc main_arg5) = rv 8192 1024 .f32 p.T
  q : m ((c.tc : Thread nD τ).loc main_arg6) = fun i => ((p.Q 0 (i 0).val : ℝ) : EReal)

/-- The last gain, as the row the launch reads. -/
theorem row (H : In m c p) : V m c main_v0 = rv 1 1024 .f32 p.Q := by
  have e : V m c main_v0 = shapeCast S1x1024 (m ((c.tc : Thread nD τ).loc main_arg6)) shapeCasts_S1024_S1x1024 := by
    show StableHlo.after hostOps0 (fun b => m (c, b)) (Proc.devRef .tc main_v0) = _
    simp only [hostOps0]
    after_results_simp <;> rfl
  rw [e, H.q]
  funext i
  have i0 : (i 0).val < 1 := (i 0).isLt
  refine (shapeCast_addUnit_apply ![1024] _ shapeCasts_S1024_S1x1024 i).trans ?_
  show ((p.Q 0 (i 1).val : ℝ) : EReal) = ((p.Q (i 0).val (i 1).val : ℝ) : EReal)
  rw [show (i 0).val = 0 by omega]

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem at4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem at5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem at6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem at8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem at9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem at10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem at11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem at12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem at13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem blk0 (H : In m c p) (t : Fin cfg0.N) : iblk (F := Ideal) m c 0 t = rv 512 1024 .f32 (fun r j => p.X (t.val * 512 + r) j) :=
  (congrArg (fun z => ((cfg0.win 0).blk t).view.read (Elt Ideal) z) ((V_main_arg0 m c).trans H.x)).trans
    (take p.X _ t.val (fun y => congrArg (fun k => k * 512 + 1 * (y 0).val) (at0 t).1) (fun y => congrArg (fun k => k * 1024 + 1 * (y 1).val) (at0 t).2))

theorem blk1 (H : In m c p) (t : Fin cfg0.N) : iblk (F := Ideal) m c 1 t = rv 1 1024 .f32 p.G :=
  (congrArg (fun z => ((cfg0.win 1).blk t).view.read (Elt Ideal) z) ((V_main_arg1 m c).trans H.g)).trans
    (whole p.G _ (fun y => congrArg (fun k => k * 1 + 1 * (y 0).val) (at1 t).1) (fun y => congrArg (fun k => k * 1024 + 1 * (y 1).val) (at1 t).2))

theorem blk2 (H : In m c p) (t : Fin cfg0.N) : iblk (F := Ideal) m c 2 t = rv 2816 1024 .bf16 p.Wg :=
  (congrArg (fun z => ((cfg0.win 2).blk t).view.read (Elt Ideal) z) ((V_main_arg2 m c).trans H.w)).trans
    (whole p.Wg _ (fun y => congrArg (fun k => k * 2816 + 1 * (y 0).val) (at2 t).1) (fun y => congrArg (fun k => k * 1024 + 1 * (y 1).val) (at2 t).2))

theorem blk3 (H : In m c p) (t : Fin cfg0.N) : iblk (F := Ideal) m c 3 t = rv 2816 1024 .bf16 p.Wu :=
  (congrArg (fun z => ((cfg0.win 3).blk t).view.read (Elt Ideal) z) ((V_main_arg3 m c).trans H.u)).trans
    (whole p.Wu _ (fun y => congrArg (fun k => k * 2816 + 1 * (y 0).val) (at3 t).1) (fun y => congrArg (fun k => k * 1024 + 1 * (y 1).val) (at3 t).2))

theorem blk4 (H : In m c p) (t : Fin cfg0.N) : iblk (F := Ideal) m c 4 t = rv 2816 1024 .bf16 p.Wd :=
  (congrArg (fun z => ((cfg0.win 4).blk t).view.read (Elt Ideal) z) ((V_main_arg4 m c).trans H.d)).trans
    (whole p.Wd _ (fun y => congrArg (fun k => k * 2816 + 1 * (y 0).val) (at4 t).1) (fun y => congrArg (fun k => k * 1024 + 1 * (y 1).val) (at4 t).2))

theorem blk5 (H : In m c p) (t : Fin cfg0.N) : iblk (F := Ideal) m c 5 t = rv 512 1024 .f32 (fun r j => p.T (t.val * 512 + r) j) :=
  (congrArg (fun z => ((cfg0.win 5).blk t).view.read (Elt Ideal) z) ((V_main_arg5 m c).trans H.t)).trans
    (take p.T _ t.val (fun y => congrArg (fun k => k * 512 + 1 * (y 0).val) (at5 t).1) (fun y => congrArg (fun k => k * 1024 + 1 * (y 1).val) (at5 t).2))

theorem blk6 (H : In m c p) (t : Fin cfg0.N) : iblk (F := Ideal) m c 6 t = rv 1 1024 .f32 p.Q :=
  (congrArg (fun z => ((cfg0.win 6).blk t).view.read (Elt Ideal) z) (row H)).trans
    (whole p.Q _ (fun y => congrArg (fun k => k * 1 + 1 * (y 0).val) (at6 t).1) (fun y => congrArg (fun k => k * 1024 + 1 * (y 1).val) (at6 t).2))

/-! ## One step of the grid -/

/-- What the two running sums hold after `n` rows. -/
def gAt (p : Arg) (n : ℕ) (_i j : ℕ) : ℝ := 0 + ∑ k ∈ range n, gd p.Z p.T p.Q k j
def lAt (p : Arg) (n : ℕ) (_i _j : ℕ) : ℝ := 0 + 1 / 2 * ∑ k ∈ range n, sq p.Z p.T p.Q k

theorem gAt_add (p : Arg) (n i j : ℕ) : gAt p n i j + ∑ k ∈ range 512, gd p.Z p.T p.Q (n + k) j = gAt p (n + 512) i j := by
  unfold gAt
  rw [Finset.sum_range_add, add_assoc]
theorem lAt_add (p : Arg) (n i j : ℕ) : lAt p n i j + 1 / 2 * ∑ k ∈ range 512, sq p.Z p.T p.Q (n + k) = lAt p (n + 512) i j := by
  unfold lAt
  rw [Finset.sum_range_add, mul_add, add_assoc]

/-- Rows of the tile `n`. -/
abbrev sh (f : ℕ → ℕ → ℝ) (n r j : ℕ) : ℝ := f (n * 512 + r) j

theorem eZ (p : Arg) (n : ℕ) : zf (sh p.X n) (mf (hf (sh p.X n) p.G) p.Wg p.Wu) p.Wd = sh p.Z n := by
  funext r j
  unfold sh Arg.Z zf
  rfl

/-- The seven blocks after a step. -/
structure Holds (p : Arg) (t : Fin cfg0.N) (v : Vec Ideal S512x1024 .f32 × Vec Ideal S512x2816 .bf16 × Vec Ideal S512x2816 .bf16 × Vec Ideal S512x2816 .bf16 × Vec Ideal S512x1024 .bf16 × Vec Ideal S1x1024 .f32 × Vec Ideal S1x128 .f32) : Prop where
  o7 : v.1 = rv 512 1024 .f32 (sh (dz p.Z p.T p.Q) t.val)
  o8 : v.2.1 = rv 512 2816 .bf16 (sh p.S t.val)
  o9 : v.2.2.1 = rv 512 2816 .bf16 (sh p.P t.val)
  o10 : v.2.2.2.1 = rv 512 2816 .bf16 fun r j => p.S (t.val * 512 + r) j * p.b (t.val * 512 + r) j
  o11 : v.2.2.2.2.1 = rv 512 1024 .bf16 fun r j => p.X (t.val * 512 + r) j * rs p.X (t.val * 512 + r) * p.G 0 j
  o12 : v.2.2.2.2.2.1 = rv 1 1024 .f32 (gAt p (t.val * 512 + 512))
  o13 : v.2.2.2.2.2.2 = rv 1 128 .f32 (lAt p (t.val * 512 + 512))

theorem e7 (p : Arg) (n : ℕ) : rv 512 1024 .f32 (dz (zf (sh p.X n) (mf (hf (sh p.X n) p.G) p.Wg p.Wu) p.Wd) (sh p.T n) p.Q) = rv 512 1024 .f32 (sh (dz p.Z p.T p.Q) n) := by
  rw [eZ]
  exact congrArg (rv 512 1024 .f32) (funext fun r => funext fun j => by unfold sh dz hd ef rs; rfl)
theorem e9 (p : Arg) (n : ℕ) : rv 512 2816 .bf16 (pf (hf (sh p.X n) p.G) p.Wg p.Wu) = rv 512 2816 .bf16 (sh p.P n) :=
  congrArg (rv 512 2816 .bf16) (funext fun r => funext fun j => Cert.Kernel4Ideal.Fwd.gp_eq p.toArg (n * 512 + r) j)
theorem eg (p : Arg) (n k j : ℕ) : gd (zf (sh p.X n) (mf (hf (sh p.X n) p.G) p.Wg p.Wu) p.Wd) (sh p.T n) p.Q k j = gd p.Z p.T p.Q (n * 512 + k) j := by
  rw [eZ]; unfold sh gd hd ef rs; rfl
theorem es (p : Arg) (n k : ℕ) : sq (zf (sh p.X n) (mf (hf (sh p.X n) p.G) p.Wg p.Wu) p.Wd) (sh p.T n) p.Q k = sq p.Z p.T p.Q (n * 512 + k) := by
  rw [eZ]; unfold sh Cert.HeadReal.sq ef rs; rfl
theorem e12 (p : Arg) (n : ℕ) : (rv 1 1024 .f32 fun i j => gAt p (n * 512) i j + ∑ k ∈ range 512, gd (zf (sh p.X n) (mf (hf (sh p.X n) p.G) p.Wg p.Wu) p.Wd) (sh p.T n) p.Q k j) = rv 1 1024 .f32 (gAt p (n * 512 + 512)) := by
  simp only [eg, gAt_add]
theorem e13 (p : Arg) (n : ℕ) : (rv 1 128 .f32 fun i j => lAt p (n * 512) i j + 1 / 2 * ∑ k ∈ range 512, sq (zf (sh p.X n) (mf (hf (sh p.X n) p.G) p.Wg p.Wu) p.Wd) (sh p.T n) p.Q k) = rv 1 128 .f32 (lAt p (n * 512 + 512)) := by
  simp only [es, lAt_add]
theorem gAt_zero (p : Arg) (i j : ℕ) : gAt p 0 i j = 0 := by unfold gAt; rw [range_zero, sum_empty, add_zero]
theorem lAt_zero (p : Arg) (i j : ℕ) : lAt p 0 i j = 0 := by unfold lAt; rw [range_zero, sum_empty, mul_zero, add_zero]

theorem start (H : In m c p) (t : Fin cfg0.N) (h0 : t.val = 0) : Holds p t (outsAt0 m c t.val t.isLt) := by
  have h16 : t.val % 16 = 0 := by omega
  have z : t.val * 512 = 0 := by rw [h0]
  rw [outsAt0_A m c t h16, blk0 H t, blk1 H t, blk2 H t, blk3 H t, blk4 H t, blk5 H t, blk6 H t]
  constructor <;> dsimp only
  · exact (left7_A (sh p.X t.val) p.G p.Wg p.Wu p.Wd (sh p.T t.val) p.Q c (grid0.coords t) _ _ _ _ _ _ _ _ _ _ _ _ _ _ _ _ _ _ _ _ _ _ _ _ _ _ _ _ _).trans (e7 p t.val)
  · exact left8_A (sh p.X t.val) p.G p.Wg p.Wu p.Wd (sh p.T t.val) p.Q c (grid0.coords t) _ _ _ _ _ _ _ _ _ _ _ _ _ _ _ _ _ _ _ _ _ _ _ _ _ _ _ _ _
  · exact (left9_A (sh p.X t.val) p.G p.Wg p.Wu p.Wd (sh p.T t.val) p.Q c (grid0.coords t) _ _ _ _ _ _ _ _ _ _ _ _ _ _ _ _ _ _ _ _ _ _ _ _ _ _ _ _ _).trans (e9 p t.val)
  · exact left10_A (sh p.X t.val) p.G p.Wg p.Wu p.Wd (sh p.T t.val) p.Q c (grid0.coords t) _ _ _ _ _ _ _ _ _ _ _ _ _ _ _ _ _ _ _ _ _ _ _ _ _ _ _ _ _
  · exact left11_A (sh p.X t.val) p.G p.Wg p.Wu p.Wd (sh p.T t.val) p.Q c (grid0.coords t) _ _ _ _ _ _ _ _ _ _ _ _ _ _ _ _ _ _ _ _ _ _ _ _ _ _ _ _ _
  · exact (left12_A (sh p.X t.val) p.G p.Wg p.Wu p.Wd (sh p.T t.val) p.Q c (grid0.coords t) _ _ _ _ _ _ _ _ _ _ _ _ _ _ _ _ _ _ _ _ _ _ _ _ _ _ _ _ _).trans (by rw [← e12 p t.val, z]; simp only [gAt_zero])
  · exact (left13_A (sh p.X t.val) p.G p.Wg p.Wu p.Wd (sh p.T t.val) p.Q c (grid0.coords t) _ _ _ _ _ _ _ _ _ _ _ _ _ _ _ _ _ _ _ _ _ _ _ _ _ _ _ _ _).trans (by rw [← e13 p t.val, z]; simp only [lAt_zero])

theorem step (H : In m c p) (t : Fin cfg0.N) (h0 : ¬t.val % 16 = 0)
    (hg : (outsAt0 m c (t.val - 1) (Nat.lt_of_le_of_lt (Nat.sub_le _ _) t.isLt)).2.2.2.2.2.1 = rv 1 1024 .f32 (gAt p (t.val * 512)))
    (hl : (outsAt0 m c (t.val - 1) (Nat.lt_of_le_of_lt (Nat.sub_le _ _) t.isLt)).2.2.2.2.2.2 = rv 1 128 .f32 (lAt p (t.val * 512))) :
    Holds p t (outsAt0 m c t.val t.isLt) := by
  rw [outsAt0_B m c t h0, blk0 H t, blk1 H t, blk2 H t, blk3 H t, blk4 H t, blk5 H t, blk6 H t]
  constructor <;> dsimp only
  · exact (left7_B (sh p.X t.val) p.G p.Wg p.Wu p.Wd (sh p.T t.val) p.Q c (grid0.coords t) _ _ _ _ _ _ _ _ _ _ _ _ _ _ _ _ _ _ _ _ _ _ _ _ _ _ _ _ _ _ _).trans (e7 p t.val)
  · exact left8_B (sh p.X t.val) p.G p.Wg p.Wu p.Wd (sh p.T t.val) p.Q c (grid0.coords t) _ _ _ _ _ _ _ _ _ _ _ _ _ _ _ _ _ _ _ _ _ _ _ _ _ _ _ _ _ _ _
  · exact (left9_B (sh p.X t.val) p.G p.Wg p.Wu p.Wd (sh p.T t.val) p.Q c (grid0.coords t) _ _ _ _ _ _ _ _ _ _ _ _ _ _ _ _ _ _ _ _ _ _ _ _ _ _ _ _ _ _ _).trans (e9 p t.val)
  · exact left10_B (sh p.X t.val) p.G p.Wg p.Wu p.Wd (sh p.T t.val) p.Q c (grid0.coords t) _ _ _ _ _ _ _ _ _ _ _ _ _ _ _ _ _ _ _ _ _ _ _ _ _ _ _ _ _ _ _
  · exact left11_B (sh p.X t.val) p.G p.Wg p.Wu p.Wd (sh p.T t.val) p.Q c (grid0.coords t) _ _ _ _ _ _ _ _ _ _ _ _ _ _ _ _ _ _ _ _ _ _ _ _ _ _ _ _ _ _ _
  · exact (left12_B (sh p.X t.val) p.G p.Wg p.Wu p.Wd (sh p.T t.val) p.Q c (grid0.coords t) _ _ _ _ _ _ _ _ _ _ _ _ _ _ _ _ _ _ _ _ _ _ _ _ _ _ _ _ _ _ _ _ hg).trans (e12 p t.val)
  · exact (left13_B (sh p.X t.val) p.G p.Wg p.Wu p.Wd (sh p.T t.val) p.Q c (grid0.coords t) _ _ _ _ _ _ _ _ _ _ _ _ _ _ _ _ _ _ _ _ _ _ _ _ _ _ _ _ _ _ _ _ hl).trans (e13 p t.val)

theorem holds (H : In m c p) : ∀ (n : ℕ) (hn : n < cfg0.N), Holds p ⟨n, hn⟩ (outsAt0 m c n hn)
  | 0, hn => start H ⟨0, hn⟩ rfl
  | n + 1, hn => by
    have hN : cfg0.N = 16 := N_0
    have I := holds H n (by omega)
    have e : n * 512 + 512 = (n + 1) * 512 := by omega
    exact step H ⟨n + 1, hn⟩ (by show ¬(n + 1) % 16 = 0; omega) (I.o12.trans (congrArg (fun k => rv 1 1024 .f32 (gAt p k)) e)) (I.o13.trans (congrArg (fun k => rv 1 128 .f32 (lAt p k)) e))

/-! ## The arrays -/

theorem last : 15 < cfg0.N := by rw [show cfg0.N = 16 from N_0]; omega

theorem all7 (H : In m c p) : (dats m 0 c).arrAt 7 cfg0.N = rv 8192 1024 .f32 (dz p.Z p.T p.Q) :=
  (dats m 0 c).arrAt_eq_of_cover 7 _ (fun t hf => (Value.flushed7 m c t).trans ((holds H t.val t.isLt).o7.trans
    (take (dz p.Z p.T p.Q) (fun y => ((cfg0.win 7).blk t).view.emb y) t.val (fun y => congrArg (fun k => k * 512 + 1 * (y 0).val) (at7 t).1) (fun y => congrArg (fun k => k * 1024 + 1 * (y 1).val) (at7 t).2)).symm)) (fun i => by
    have h0 : (i 0).val < 8192 := (i 0).isLt
    have hN : (i 0).val / 512 < cfg0.N := by rw [show cfg0.N = 16 from N_0]; omega
    refine ⟨⟨(i 0).val / 512, hN⟩, flush0_7 _, ?_⟩
    show i ∈ ((View.whole main_v1_0).slice (win0_7.rect ⟨(i 0).val / 512, hN⟩)).set
    rw [View.set_slice_whole, Rect.mem_set_unit]
    exact inside (win0_7.index ⟨(i 0).val / 512, hN⟩) i (at7 _).1 (at7 _).2)

theorem all8 (H : In m c p) : (dats m 0 c).arrAt 8 cfg0.N = rv 8192 2816 .bf16 p.S :=
  (dats m 0 c).arrAt_eq_of_cover 8 _ (fun t hf => (Value.flushed8 m c t).trans ((holds H t.val t.isLt).o8.trans
    (take p.S (fun y => ((cfg0.win 8).blk t).view.emb y) t.val (fun y => congrArg (fun k => k * 512 + 1 * (y 0).val) (at8 t).1) (fun y => congrArg (fun k => k * 2816 + 1 * (y 1).val) (at8 t).2)).symm)) (fun i => by
    have h0 : (i 0).val < 8192 := (i 0).isLt
    have hN : (i 0).val / 512 < cfg0.N := by rw [show cfg0.N = 16 from N_0]; omega
    refine ⟨⟨(i 0).val / 512, hN⟩, flush0_8 _, ?_⟩
    show i ∈ ((View.whole main_v1_1).slice (win0_8.rect ⟨(i 0).val / 512, hN⟩)).set
    rw [View.set_slice_whole, Rect.mem_set_unit]
    exact inside (win0_8.index ⟨(i 0).val / 512, hN⟩) i (at8 _).1 (at8 _).2)

theorem all9 (H : In m c p) : (dats m 0 c).arrAt 9 cfg0.N = rv 8192 2816 .bf16 p.P :=
  (dats m 0 c).arrAt_eq_of_cover 9 _ (fun t hf => (Value.flushed9 m c t).trans ((holds H t.val t.isLt).o9.trans
    (take p.P (fun y => ((cfg0.win 9).blk t).view.emb y) t.val (fun y => congrArg (fun k => k * 512 + 1 * (y 0).val) (at9 t).1) (fun y => congrArg (fun k => k * 2816 + 1 * (y 1).val) (at9 t).2)).symm)) (fun i => by
    have h0 : (i 0).val < 8192 := (i 0).isLt
    have hN : (i 0).val / 512 < cfg0.N := by rw [show cfg0.N = 16 from N_0]; omega
    refine ⟨⟨(i 0).val / 512, hN⟩, flush0_9 _, ?_⟩
    show i ∈ ((View.whole main_v1_2).slice (win0_9.rect ⟨(i 0).val / 512, hN⟩)).set
    rw [View.set_slice_whole, Rect.mem_set_unit]
    exact inside (win0_9.index ⟨(i 0).val / 512, hN⟩) i (at9 _).1 (at9 _).2)

theorem all10 (H : In m c p) : (dats m 0 c).arrAt 10 cfg0.N = rv 8192 2816 .bf16 (fun i j => p.S i j * p.b i j) :=
  (dats m 0 c).arrAt_eq_of_cover 10 _ (fun t hf => (Value.flushed10 m c t).trans ((holds H t.val t.isLt).o10.trans
    (take (fun i j => p.S i j * p.b i j) (fun y => ((cfg0.win 10).blk t).view.emb y) t.val (fun y => congrArg (fun k => k * 512 + 1 * (y 0).val) (at10 t).1) (fun y => congrArg (fun k => k * 2816 + 1 * (y 1).val) (at10 t).2)).symm)) (fun i => by
    have h0 : (i 0).val < 8192 := (i 0).isLt
    have hN : (i 0).val / 512 < cfg0.N := by rw [show cfg0.N = 16 from N_0]; omega
    refine ⟨⟨(i 0).val / 512, hN⟩, flush0_10 _, ?_⟩
    show i ∈ ((View.whole main_v1_3).slice (win0_10.rect ⟨(i 0).val / 512, hN⟩)).set
    rw [View.set_slice_whole, Rect.mem_set_unit]
    exact inside (win0_10.index ⟨(i 0).val / 512, hN⟩) i (at10 _).1 (at10 _).2)

theorem all11 (H : In m c p) : (dats m 0 c).arrAt 11 cfg0.N = rv 8192 1024 .bf16 (fun i j => p.X i j * rs p.X i * p.G 0 j) :=
  (dats m 0 c).arrAt_eq_of_cover 11 _ (fun t hf => (Value.flushed11 m c t).trans ((holds H t.val t.isLt).o11.trans
    (take (fun i j => p.X i j * rs p.X i * p.G 0 j) (fun y => ((cfg0.win 11).blk t).view.emb y) t.val (fun y => congrArg (fun k => k * 512 + 1 * (y 0).val) (at11 t).1) (fun y => congrArg (fun k => k * 1024 + 1 * (y 1).val) (at11 t).2)).symm)) (fun i => by
    have h0 : (i 0).val < 8192 := (i 0).isLt
    have hN : (i 0).val / 512 < cfg0.N := by rw [show cfg0.N = 16 from N_0]; omega
    refine ⟨⟨(i 0).val / 512, hN⟩, flush0_11 _, ?_⟩
    show i ∈ ((View.whole main_v1_4).slice (win0_11.rect ⟨(i 0).val / 512, hN⟩)).set
    rw [View.set_slice_whole, Rect.mem_set_unit]
    exact inside (win0_11.index ⟨(i 0).val / 512, hN⟩) i (at11 _).1 (at11 _).2)

theorem all12 (H : In m c p) : (dats m 0 c).arrAt 12 cfg0.N = rv 1 1024 .f32 (gAt p 8192) :=
  (dats m 0 c).arrAt_eq_of_cover 12 _ (fun t hf => by
    have h15 : t.val = 15 := by have h := (flush0_12 t).mp hf; have : t.val < 16 := lt_of_lt_of_eq t.isLt N_0; omega
    refine (Value.flushed12 m c t).trans ((holds H t.val t.isLt).o12.trans ?_)
    rw [h15]
    exact (whole (gAt p 8192) (fun y => ((cfg0.win 12).blk t).view.emb y) (fun y => congrArg (fun k => k * 1 + 1 * (y 0).val) (at12 t).1) (fun y => congrArg (fun k => k * 1024 + 1 * (y 1).val) (at12 t).2)).symm) (fun i => by
    refine ⟨⟨15, last⟩, (flush0_12 _).mpr rfl, ?_⟩
    show i ∈ ((View.whole main_v1_5).slice (win0_12.rect ⟨15, last⟩)).set
    rw [View.set_slice_whole, Rect.mem_set_unit]
    have i0 : (i 0).val < 1 := (i 0).isLt
    have i1 : (i 1).val < 1024 := (i 1).isLt
    obtain ⟨q0, q1⟩ := at12 ⟨15, last⟩
    intro a
    match a with
    | ⟨0, _⟩ => show win0_12.index ⟨15, last⟩ (0 : Fin 2) * 1 ≤ (i 0).val ∧ (i 0).val < win0_12.index ⟨15, last⟩ (0 : Fin 2) * 1 + 1; omega
    | ⟨1, _⟩ => show win0_12.index ⟨15, last⟩ (1 : Fin 2) * 1024 ≤ (i 1).val ∧ (i 1).val < win0_12.index ⟨15, last⟩ (1 : Fin 2) * 1024 + 1024; omega)

theorem all13 (H : In m c p) : (dats m 0 c).arrAt 13 cfg0.N = rv 1 128 .f32 (lAt p 8192) :=
  (dats m 0 c).arrAt_eq_of_cover 13 _ (fun t hf => by
    have h15 : t.val = 15 := by have h := (flush0_13 t).mp hf; have : t.val < 16 := lt_of_lt_of_eq t.isLt N_0; omega
    refine (Value.flushed13 m c t).trans ((holds H t.val t.isLt).o13.trans ?_)
    rw [h15]
    exact (whole (lAt p 8192) (fun y => ((cfg0.win 13).blk t).view.emb y) (fun y => congrArg (fun k => k * 1 + 1 * (y 0).val) (at13 t).1) (fun y => congrArg (fun k => k * 128 + 1 * (y 1).val) (at13 t).2)).symm) (fun i => by
    refine ⟨⟨15, last⟩, (flush0_13 _).mpr rfl, ?_⟩
    show i ∈ ((View.whole main_v1_6).slice (win0_13.rect ⟨15, last⟩)).set
    rw [View.set_slice_whole, Rect.mem_set_unit]
    have i0 : (i 0).val < 1 := (i 0).isLt
    have i1 : (i 1).val < 128 := (i 1).isLt
    obtain ⟨q0, q1⟩ := at13 ⟨15, last⟩
    intro a
    match a with
    | ⟨0, _⟩ => show win0_13.index ⟨15, last⟩ (0 : Fin 2) * 1 ≤ (i 0).val ∧ (i 0).val < win0_13.index ⟨15, last⟩ (0 : Fin 2) * 1 + 1; omega
    | ⟨1, _⟩ => show win0_13.index ⟨15, last⟩ (1 : Fin 2) * 128 ≤ (i 1).val ∧ (i 1).val < win0_13.index ⟨15, last⟩ (1 : Fin 2) * 128 + 128; omega)

end Cert.Kernel5Ideal.Head

end
-- ==== Proof.Head.Ref.lean ====
/- The reference feed-forward layer with its loss head at real arguments, one operation at a time. -/
module

public import proofs.«01_k».proof.Proof.Fwd.Ref
public import proofs.«01_k».proof.Proof.Head.Real
public import Idealize.ShloMosaic.Lib.ValueIdxRank1
public import proofs.«01_k».proof.Proof.Gen.Reference5Ideal.Read

@[expose] public section

set_option maxRecDepth 16384

noncomputable section

namespace Cert.HeadReal

open Cert.FfnReal Cert.Reference5Ideal Cert.Reference5Ideal.Read Idealize.ShloMosaic Cert.Lift Finset
open Cert.Kernel3Ideal.Rows (rs ms_pos)

variable (p : Arg)
include p
/-- The arguments, as arrays of reals. -/
abbrev X0 : (⟨S8192x1024, .f32⟩ : BufTy).Contents (Elt Ideal) := rv 8192 1024 .f32 p.X
abbrev X1 : (⟨S1x1024, .f32⟩ : BufTy).Contents (Elt Ideal) := rv 1 1024 .f32 p.G
abbrev X2 : (⟨S2816x1024, .bf16⟩ : BufTy).Contents (Elt Ideal) := rv 2816 1024 .bf16 p.Wg
abbrev X3 : (⟨S2816x1024, .bf16⟩ : BufTy).Contents (Elt Ideal) := rv 2816 1024 .bf16 p.Wu
abbrev X4 : (⟨S2816x1024, .bf16⟩ : BufTy).Contents (Elt Ideal) := rv 2816 1024 .bf16 p.Wd
abbrev X5 : (⟨S8192x1024, .f32⟩ : BufTy).Contents (Elt Ideal) := rv 8192 1024 .f32 p.T
abbrev X6 : (⟨S1024, .f32⟩ : BufTy).Contents (Elt Ideal) := fun i => ((p.Q 0 (i 0).val : ℝ) : EReal)
/-- The normalised scaled rows. -/
def H8 (i j : ℕ) : ℝ := p.X i j * rs p.X i * p.G 0 j

theorem sum_rows (g : S8192.Idx → EReal) (f : ℕ → ℝ) (h : ∀ j, g j = ((f (j 0).val : ℝ) : EReal)) : ∑ j : S8192.Idx, g j = ((∑ k ∈ range 8192, f k : ℝ) : EReal) := by
  rw [← Equiv.sum_comp (ValueIdx.idxEquiv1 (n := 8192)).symm g]
  exact (Finset.sum_congr rfl fun k _ => h _).trans (sum_fin_coe 8192 f)

theorem at_v13 (i : S8192x1024.Idx) : val_main_v13 (F := Ideal) (X0 p) (X1 p) i = ((H8 p (i 0).val (i 1).val : ℝ) : EReal) := FwdReal.at_v13 p.toArg i
theorem at_v16 (i : S8192x2816.Idx) : val_main_v16 (F := Ideal) (X0 p) (X1 p) (X2 p) i = ((p.a (i 0).val (i 1).val : ℝ) : EReal) := FwdReal.at_v16 p.toArg i
theorem at_v19 (i : S8192x2816.Idx) : val_main_v19 (F := Ideal) (X0 p) (X1 p) (X3 p) i = ((p.b (i 0).val (i 1).val : ℝ) : EReal) := FwdReal.at_v19 p.toArg i
theorem at_v20_0 (i : S8192x2816.Idx) : val_main_v20_0 (F := Ideal) (X0 p) (X1 p) (X2 p) i = ((p.S (i 0).val (i 1).val : ℝ) : EReal) := FwdReal.at_v20_0 p.toArg i
theorem at_v21 (i : S8192x2816.Idx) : val_main_v21 (F := Ideal) (X0 p) (X1 p) (X2 p) (X3 p) i = (((p.S (i 0).val (i 1).val) * (p.b (i 0).val (i 1).val) : ℝ) : EReal) :=
  (val_main_v21_apply _ _ _ _ i).trans (c_mul (at_v20_0 p i) (at_v19 p i))
theorem at_v22 (i : S2816x1024.Idx) : val_main_v22 (F := Ideal) (X4 p) i = ((p.Wd (i 0).val (i 1).val : ℝ) : EReal) :=
  rfl
theorem at_v23 (i : S8192x1024.Idx) : val_main_v23 (F := Ideal) (X0 p) (X1 p) (X2 p) (X3 p) (X4 p) i = ((∑ k23 ∈ range 2816, ((p.S (i 0).val k23) * (p.b (i 0).val k23)) * (p.Wd k23 (i 1).val) : ℝ) : EReal) :=
  (val_main_v23_apply _ _ _ _ _ i).trans (c_dot 2816 (fun k23 => ((p.S (i 0).val k23) * (p.b (i 0).val k23))) (fun k23 => (p.Wd k23 (i 1).val)) _ _ (fun k => at_v21 p _) fun k => at_v22 p _)
theorem at_cst_2 (i : S_.Idx) : val_main_cst_2 (F := Ideal) i = (((1 / 2) : ℝ) : EReal) := ofBits_half
theorem at_v24 (i : S8192x1024.Idx) : val_main_v24 (F := Ideal) i = (((1 / 2) : ℝ) : EReal) :=
  (val_main_v24_apply i).trans (at_cst_2 p _)
theorem at_v25 (i : S8192x1024.Idx) : val_main_v25 (F := Ideal) (X0 p) (X1 p) (X2 p) (X3 p) (X4 p) i = ((((1 / 2)) * (∑ k23 ∈ range 2816, ((p.S (i 0).val k23) * (p.b (i 0).val k23)) * (p.Wd k23 (i 1).val)) : ℝ) : EReal) :=
  (val_main_v25_apply _ _ _ _ _ i).trans (c_mul (at_v24 p i) (at_v23 p i))
theorem at_v26 (i : S8192x1024.Idx) : val_main_v26 (F := Ideal) (X0 p) (X1 p) (X2 p) (X3 p) (X4 p) i = ((p.Z (i 0).val (i 1).val : ℝ) : EReal) :=
  c_eq (φ := .f32) (u := (p.X (i 0).val (i 1).val) + (((1 / 2)) * (∑ k23 ∈ range 2816, ((p.S (i 0).val k23) * (p.b (i 0).val k23)) * (p.Wd k23 (i 1).val)))) ((val_main_v26_apply _ _ _ _ _ i).trans (c_add rfl (at_v25 p i))) (rfl)
theorem at_v27 (i : S8192x1024.Idx) : val_main_v27 (F := Ideal) (X0 p) (X1 p) (X2 p) (X3 p) (X4 p) i = (((p.Z (i 0).val (i 1).val) * (p.Z (i 0).val (i 1).val) : ℝ) : EReal) :=
  (val_main_v27_apply _ _ _ _ _ i).trans (c_mul (at_v26 p i) (at_v26 p i))
theorem at_cst_3 (i : S_.Idx) : val_main_cst_3 (F := Ideal) i = ((0 : ℝ) : EReal) := ofBits_zero
theorem at_v28 (i : S8192.Idx) : val_main_v28 (F := Ideal) (X0 p) (X1 p) (X2 p) (X3 p) (X4 p) i = ((∑ k28 ∈ range 1024, ((p.Z (i 0).val k28) * (p.Z (i 0).val k28)) : ℝ) : EReal) :=
  (val_main_v28_apply _ _ _ _ _ i).trans (c_sum 1024 (at_cst_3 p _) (fun k28 => ((p.Z (i 0).val k28) * (p.Z (i 0).val k28))) _ fun k => at_v27 p _)
theorem at_v29 (i : S8192x1.Idx) : val_main_v29 (F := Ideal) (X0 p) (X1 p) (X2 p) (X3 p) (X4 p) i = ((∑ k28 ∈ range 1024, ((p.Z (i 0).val k28) * (p.Z (i 0).val k28)) : ℝ) : EReal) :=
  (val_main_v29_apply _ _ _ _ _ i).trans (at_v28 p _)
theorem at_cst_4 (i : S_.Idx) : val_main_cst_4 (F := Ideal) i = ((1024 : ℝ) : EReal) := ofBits_1024
theorem at_v30 (i : S8192x1.Idx) : val_main_v30 (F := Ideal) i = ((1024 : ℝ) : EReal) :=
  (val_main_v30_apply i).trans (at_cst_4 p _)
theorem at_v31 (i : S8192x1.Idx) : val_main_v31 (F := Ideal) (X0 p) (X1 p) (X2 p) (X3 p) (X4 p) i = (((∑ k28 ∈ range 1024, ((p.Z (i 0).val k28) * (p.Z (i 0).val k28))) / 1024 : ℝ) : EReal) :=
  (val_main_v31_apply _ _ _ _ _ i).trans (c_div (at_v29 p i) (at_v30 p i) (by norm_num))
theorem at_cst_5 (i : S_.Idx) : val_main_cst_5 (F := Ideal) i = (((8796093 / 8796093022208) : ℝ) : EReal) := ofBits_eps
theorem at_v32 (i : S8192x1.Idx) : val_main_v32 (F := Ideal) i = (((8796093 / 8796093022208) : ℝ) : EReal) :=
  (val_main_v32_apply i).trans (at_cst_5 p _)
theorem at_v33 (i : S8192x1.Idx) : val_main_v33 (F := Ideal) (X0 p) (X1 p) (X2 p) (X3 p) (X4 p) i = ((((∑ k28 ∈ range 1024, ((p.Z (i 0).val k28) * (p.Z (i 0).val k28))) / 1024) + ((8796093 / 8796093022208)) : ℝ) : EReal) :=
  (val_main_v33_apply _ _ _ _ _ i).trans (c_add (at_v31 p i) (at_v32 p i))
theorem at_v34 (i : S8192x1.Idx) : val_main_v34 (F := Ideal) (X0 p) (X1 p) (X2 p) (X3 p) (X4 p) i = ((rs p.Z (i 0).val : ℝ) : EReal) :=
  c_eq (φ := .f32) (u := (√(((∑ k28 ∈ range 1024, ((p.Z (i 0).val k28) * (p.Z (i 0).val k28))) / 1024) + ((8796093 / 8796093022208))))⁻¹) ((val_main_v34_apply _ _ _ _ _ i).trans (c_rsqrt (at_v33 p i) (ms_pos p.Z _))) (rfl)
theorem at_v35 (i : S8192x1.Idx) : val_main_v35 (F := Ideal) (X0 p) (X1 p) (X2 p) (X3 p) (X4 p) i = (((rs p.Z (i 0).val) / (((∑ k28 ∈ range 1024, ((p.Z (i 0).val k28) * (p.Z (i 0).val k28))) / 1024) + ((8796093 / 8796093022208))) : ℝ) : EReal) :=
  (val_main_v35_apply _ _ _ _ _ i).trans (c_div (at_v34 p i) (at_v33 p i) ((ms_pos p.Z _).ne'))
theorem at_cst_6 (i : S_.Idx) : val_main_cst_6 (F := Ideal) i = (((-(1 / 2)) : ℝ) : EReal) := ofBits_nhalf
theorem at_v36 (i : S8192x1.Idx) : val_main_v36 (F := Ideal) i = (((-(1 / 2)) : ℝ) : EReal) :=
  (val_main_v36_apply i).trans (at_cst_6 p _)
theorem at_v37 (i : S8192x1.Idx) : val_main_v37 (F := Ideal) (X0 p) (X1 p) (X2 p) (X3 p) (X4 p) i = ((((-(1 / 2))) * ((rs p.Z (i 0).val) / (((∑ k28 ∈ range 1024, ((p.Z (i 0).val k28) * (p.Z (i 0).val k28))) / 1024) + ((8796093 / 8796093022208)))) : ℝ) : EReal) :=
  (val_main_v37_apply _ _ _ _ _ i).trans (c_mul (at_v36 p i) (at_v35 p i))
theorem at_v38 (i : S8192x1024.Idx) : val_main_v38 (F := Ideal) (X0 p) (X1 p) (X2 p) (X3 p) (X4 p) i = ((rs p.Z (i 0).val : ℝ) : EReal) :=
  (val_main_v38_apply _ _ _ _ _ i).trans (at_v34 p _)
theorem at_v39 (i : S8192x1024.Idx) : val_main_v39 (F := Ideal) (X0 p) (X1 p) (X2 p) (X3 p) (X4 p) i = (((p.Z (i 0).val (i 1).val) * (rs p.Z (i 0).val) : ℝ) : EReal) :=
  (val_main_v39_apply _ _ _ _ _ i).trans (c_mul (at_v26 p i) (at_v38 p i))
theorem at_v40 (i : S1x1024.Idx) : val_main_v40 (F := Ideal) (X6 p) i = ((p.Q 0 (i 1).val : ℝ) : EReal) :=
  (val_main_v40_apply _ i)
theorem at_v41 (i : S8192x1024.Idx) : val_main_v41 (F := Ideal) (X6 p) i = ((p.Q 0 (i 1).val : ℝ) : EReal) :=
  (val_main_v41_apply _ i).trans (at_v40 p _)
theorem at_v42 (i : S8192x1024.Idx) : val_main_v42 (F := Ideal) (X0 p) (X1 p) (X2 p) (X3 p) (X4 p) (X6 p) i = ((((p.Z (i 0).val (i 1).val) * (rs p.Z (i 0).val)) * (p.Q 0 (i 1).val) : ℝ) : EReal) :=
  (val_main_v42_apply _ _ _ _ _ _ i).trans (c_mul (at_v39 p i) (at_v41 p i))
theorem at_v43 (i : S8192x1024.Idx) : val_main_v43 (F := Ideal) (X0 p) (X1 p) (X2 p) (X3 p) (X4 p) (X5 p) (X6 p) i = ((ef p.Z p.T p.Q (i 0).val (i 1).val : ℝ) : EReal) :=
  c_eq (φ := .f32) (u := (((p.Z (i 0).val (i 1).val) * (rs p.Z (i 0).val)) * (p.Q 0 (i 1).val)) - (p.T (i 0).val (i 1).val)) ((val_main_v43_apply _ _ _ _ _ _ _ i).trans (c_sub (at_v42 p i) rfl)) (rfl)
theorem at_v44 (i : S8192x1024.Idx) : val_main_v44 (F := Ideal) (X0 p) (X1 p) (X2 p) (X3 p) (X4 p) (X5 p) (X6 p) i = (((ef p.Z p.T p.Q (i 0).val (i 1).val) * (ef p.Z p.T p.Q (i 0).val (i 1).val) : ℝ) : EReal) :=
  (val_main_v44_apply _ _ _ _ _ _ _ i).trans (c_mul (at_v43 p i) (at_v43 p i))
theorem at_cst_7 (i : S_.Idx) : val_main_cst_7 (F := Ideal) i = ((0 : ℝ) : EReal) := ofBits_zero
theorem at_v45 (i : S8192.Idx) : val_main_v45 (F := Ideal) (X0 p) (X1 p) (X2 p) (X3 p) (X4 p) (X5 p) (X6 p) i = ((∑ k45 ∈ range 1024, ((ef p.Z p.T p.Q (i 0).val k45) * (ef p.Z p.T p.Q (i 0).val k45)) : ℝ) : EReal) :=
  (val_main_v45_apply _ _ _ _ _ _ _ i).trans (c_sum 1024 (at_cst_7 p _) (fun k45 => ((ef p.Z p.T p.Q (i 0).val k45) * (ef p.Z p.T p.Q (i 0).val k45))) _ fun k => at_v44 p _)
theorem at_cst_8 (i : S_.Idx) : val_main_cst_8 (F := Ideal) i = ((1024 : ℝ) : EReal) := ofBits_1024
theorem at_v46 (i : S8192.Idx) : val_main_v46 (F := Ideal) i = ((1024 : ℝ) : EReal) :=
  (val_main_v46_apply i).trans (at_cst_8 p _)
theorem at_v47 (i : S8192.Idx) : val_main_v47 (F := Ideal) (X0 p) (X1 p) (X2 p) (X3 p) (X4 p) (X5 p) (X6 p) i = ((sq p.Z p.T p.Q (i 0).val : ℝ) : EReal) :=
  c_eq (φ := .f32) (u := (∑ k45 ∈ range 1024, ((ef p.Z p.T p.Q (i 0).val k45) * (ef p.Z p.T p.Q (i 0).val k45))) / 1024) ((val_main_v47_apply _ _ _ _ _ _ _ i).trans (c_div (at_v45 p i) (at_v46 p i) (by norm_num))) (rfl)
theorem at_cst_9 (i : S_.Idx) : val_main_cst_9 (F := Ideal) i = ((0 : ℝ) : EReal) := ofBits_zero
theorem at_v48 (i : S_.Idx) : val_main_v48 (F := Ideal) (X0 p) (X1 p) (X2 p) (X3 p) (X4 p) (X5 p) (X6 p) i = ((∑ k ∈ range 8192, sq p.Z p.T p.Q k : ℝ) : EReal) := (val_main_v48_apply _ _ _ _ _ _ _ i).trans ((congrArg₂ (· + ·) (at_cst_9 p _) (sum_rows p _ (sq p.Z p.T p.Q) fun j => at_v47 p j)).trans (by rw [EReal.coe_zero, zero_add]))
theorem at_cst_10 (i : S_.Idx) : val_main_cst_10 (F := Ideal) i = (((1 / 2) : ℝ) : EReal) := ofBits_half
theorem at_v49 (i : S_.Idx) : val_main_v49 (F := Ideal) (X0 p) (X1 p) (X2 p) (X3 p) (X4 p) (X5 p) (X6 p) i = ((((1 / 2)) * (∑ k ∈ range 8192, sq p.Z p.T p.Q k) : ℝ) : EReal) :=
  (val_main_v49_apply _ _ _ _ _ _ _ i).trans (c_mul (at_cst_10 p i) (at_v48 p i))
theorem at_cst_11 (i : S_.Idx) : val_main_cst_11 (F := Ideal) i = (((1 / 2) : ℝ) : EReal) := ofBits_half
theorem at_cst_12 (i : S_.Idx) : val_main_cst_12 (F := Ideal) i = ((1 : ℝ) : EReal) := ofBits_one
theorem at_v50 (i : S_.Idx) : val_main_v50 (F := Ideal) i = ((((1 / 2)) * 1 : ℝ) : EReal) :=
  (val_main_v50_apply i).trans (c_mul (at_cst_11 p i) (at_cst_12 p i))
theorem at_v51 (i : S8192.Idx) : val_main_v51 (F := Ideal) i = ((((1 / 2)) * 1 : ℝ) : EReal) :=
  (val_main_v51_apply i).trans (at_v50 p _)
theorem at_cst_13 (i : S_.Idx) : val_main_cst_13 (F := Ideal) i = ((1024 : ℝ) : EReal) := ofBits_1024
theorem at_v52 (i : S8192.Idx) : val_main_v52 (F := Ideal) i = ((1024 : ℝ) : EReal) :=
  (val_main_v52_apply i).trans (at_cst_13 p _)
theorem at_v53 (i : S8192.Idx) : val_main_v53 (F := Ideal) i = (((((1 / 2)) * 1) / 1024 : ℝ) : EReal) :=
  (val_main_v53_apply i).trans (c_div (at_v51 p i) (at_v52 p i) (by norm_num))
theorem at_v54 (i : S8192x1024.Idx) : val_main_v54 (F := Ideal) i = (((((1 / 2)) * 1) / 1024 : ℝ) : EReal) :=
  (val_main_v54_apply i).trans (at_v53 p _)
theorem at_v55 (i : S8192x1024.Idx) : val_main_v55 (F := Ideal) (X0 p) (X1 p) (X2 p) (X3 p) (X4 p) (X5 p) (X6 p) i = (((ef p.Z p.T p.Q (i 0).val (i 1).val) * ((((1 / 2)) * 1) / 1024) : ℝ) : EReal) :=
  (val_main_v55_apply _ _ _ _ _ _ _ i).trans (c_mul (at_v43 p i) (at_v54 p i))
theorem at_v56 (i : S8192x1024.Idx) : val_main_v56 (F := Ideal) (X0 p) (X1 p) (X2 p) (X3 p) (X4 p) (X5 p) (X6 p) i = ((((((1 / 2)) * 1) / 1024) * (ef p.Z p.T p.Q (i 0).val (i 1).val) : ℝ) : EReal) :=
  (val_main_v56_apply _ _ _ _ _ _ _ i).trans (c_mul (at_v54 p i) (at_v43 p i))
theorem at_v57 (i : S8192x1024.Idx) : val_main_v57 (F := Ideal) (X0 p) (X1 p) (X2 p) (X3 p) (X4 p) (X5 p) (X6 p) i = ((hd p.Z p.T p.Q (i 0).val (i 1).val : ℝ) : EReal) :=
  c_eq (φ := .f32) (u := ((ef p.Z p.T p.Q (i 0).val (i 1).val) * ((((1 / 2)) * 1) / 1024)) + (((((1 / 2)) * 1) / 1024) * (ef p.Z p.T p.Q (i 0).val (i 1).val))) ((val_main_v57_apply _ _ _ _ _ _ _ i).trans (c_add (at_v55 p i) (at_v56 p i))) (by unfold hd; ring)
theorem at_v58 (i : S8192x1024.Idx) : val_main_v58 (F := Ideal) (X0 p) (X1 p) (X2 p) (X3 p) (X4 p) (X5 p) (X6 p) i = ((((p.Z (i 0).val (i 1).val) * (rs p.Z (i 0).val)) * (hd p.Z p.T p.Q (i 0).val (i 1).val) : ℝ) : EReal) :=
  (val_main_v58_apply _ _ _ _ _ _ _ i).trans (c_mul (at_v39 p i) (at_v57 p i))
theorem at_cst_14 (i : S_.Idx) : val_main_cst_14 (F := Ideal) i = ((0 : ℝ) : EReal) := ofBits_zero
theorem at_v59 (i : S1024.Idx) : val_main_v59 (F := Ideal) (X0 p) (X1 p) (X2 p) (X3 p) (X4 p) (X5 p) (X6 p) i = ((∑ k ∈ range 8192, gd p.Z p.T p.Q k (i 0).val : ℝ) : EReal) :=
  c_eq (φ := .f32) (u := ∑ k59 ∈ range 8192, (((p.Z k59 (i 0).val) * (rs p.Z k59)) * (hd p.Z p.T p.Q k59 (i 0).val))) ((val_main_v59_apply _ _ _ _ _ _ _ i).trans (c_sum 8192 (at_cst_14 p _) (fun k59 => (((p.Z k59 (i 0).val) * (rs p.Z k59)) * (hd p.Z p.T p.Q k59 (i 0).val))) _ fun k => at_v58 p _)) (Finset.sum_congr rfl fun k _ => mul_comm _ _)
theorem at_v60 (i : S1x1024.Idx) : val_main_v60 (F := Ideal) (X0 p) (X1 p) (X2 p) (X3 p) (X4 p) (X5 p) (X6 p) i = ((∑ k ∈ range 8192, gd p.Z p.T p.Q k (i 1).val : ℝ) : EReal) :=
  c_eq (φ := .f32) (u := ∑ k ∈ range 8192, gd p.Z p.T p.Q k ((i 0).val * 1024 + (i 1).val)) ((val_main_v60_apply _ _ _ _ _ _ _ i).trans (at_v59 p _)) (by have h : (i 0).val < 1 := (i 0).isLt; rw [show (i 0).val = 0 by omega, zero_mul, zero_add])
theorem at_v61 (i : S8192x1024.Idx) : val_main_v61 (F := Ideal) (X6 p) i = ((p.Q 0 (i 1).val : ℝ) : EReal) :=
  (val_main_v61_apply _ i).trans (at_v40 p _)
theorem at_v62 (i : S8192x1024.Idx) : val_main_v62 (F := Ideal) (X0 p) (X1 p) (X2 p) (X3 p) (X4 p) (X5 p) (X6 p) i = (((hd p.Z p.T p.Q (i 0).val (i 1).val) * (p.Q 0 (i 1).val) : ℝ) : EReal) :=
  (val_main_v62_apply _ _ _ _ _ _ _ i).trans (c_mul (at_v57 p i) (at_v61 p i))
theorem at_cst_15 (i : S_.Idx) : val_main_cst_15 (F := Ideal) i = ((0 : ℝ) : EReal) := ofBits_zero
theorem at_v63 (i : S1024.Idx) : val_main_v63 (F := Ideal) (X0 p) (X1 p) (X2 p) (X3 p) (X4 p) (X5 p) (X6 p) i = ((∑ k ∈ range 8192, gd p.Z p.T p.Q k (i 0).val : ℝ) : EReal) :=
  c_eq (φ := .f32) (u := ∑ k63 ∈ range 1, (∑ k ∈ range 8192, gd p.Z p.T p.Q k (i 0).val)) ((val_main_v63_apply _ _ _ _ _ _ _ i).trans (c_sum 1 (at_cst_15 p _) (fun k63 => (∑ k ∈ range 8192, gd p.Z p.T p.Q k (i 0).val)) _ fun k => at_v60 p _)) (Finset.sum_range_one _)
theorem at_v64 (i : S8192x1024.Idx) : val_main_v64 (F := Ideal) (X0 p) (X1 p) (X2 p) (X3 p) (X4 p) (X5 p) (X6 p) i = (((p.Z (i 0).val (i 1).val) * ((hd p.Z p.T p.Q (i 0).val (i 1).val) * (p.Q 0 (i 1).val)) : ℝ) : EReal) :=
  (val_main_v64_apply _ _ _ _ _ _ _ i).trans (c_mul (at_v26 p i) (at_v62 p i))
theorem at_cst_16 (i : S_.Idx) : val_main_cst_16 (F := Ideal) i = ((0 : ℝ) : EReal) := ofBits_zero
theorem at_v65 (i : S8192.Idx) : val_main_v65 (F := Ideal) (X0 p) (X1 p) (X2 p) (X3 p) (X4 p) (X5 p) (X6 p) i = ((∑ k65 ∈ range 1024, ((p.Z (i 0).val k65) * ((hd p.Z p.T p.Q (i 0).val k65) * (p.Q 0 k65))) : ℝ) : EReal) :=
  (val_main_v65_apply _ _ _ _ _ _ _ i).trans (c_sum 1024 (at_cst_16 p _) (fun k65 => ((p.Z (i 0).val k65) * ((hd p.Z p.T p.Q (i 0).val k65) * (p.Q 0 k65)))) _ fun k => at_v64 p _)
theorem at_v66 (i : S8192x1.Idx) : val_main_v66 (F := Ideal) (X0 p) (X1 p) (X2 p) (X3 p) (X4 p) (X5 p) (X6 p) i = ((∑ k ∈ range 1024, p.Z (i 0).val k * (hd p.Z p.T p.Q (i 0).val k * p.Q 0 k) : ℝ) : EReal) :=
  c_eq (φ := .f32) (u := ∑ k65 ∈ range 1024, ((p.Z ((i 0).val * 1 + (i 1).val) k65) * ((hd p.Z p.T p.Q ((i 0).val * 1 + (i 1).val) k65) * (p.Q 0 k65)))) ((val_main_v66_apply _ _ _ _ _ _ _ i).trans (at_v65 p _)) (by have h : (i 1).val < 1 := (i 1).isLt; rw [show (i 1).val = 0 by omega, add_zero, mul_one])
theorem at_v67 (i : S8192x1024.Idx) : val_main_v67 (F := Ideal) (X0 p) (X1 p) (X2 p) (X3 p) (X4 p) i = ((rs p.Z (i 0).val : ℝ) : EReal) :=
  (val_main_v67_apply _ _ _ _ _ i).trans (at_v34 p _)
theorem at_v68 (i : S8192x1024.Idx) : val_main_v68 (F := Ideal) (X0 p) (X1 p) (X2 p) (X3 p) (X4 p) (X5 p) (X6 p) i = ((((hd p.Z p.T p.Q (i 0).val (i 1).val) * (p.Q 0 (i 1).val)) * (rs p.Z (i 0).val) : ℝ) : EReal) :=
  (val_main_v68_apply _ _ _ _ _ _ _ i).trans (c_mul (at_v62 p i) (at_v67 p i))
theorem at_v69 (i : S8192x1.Idx) : val_main_v69 (F := Ideal) (X0 p) (X1 p) (X2 p) (X3 p) (X4 p) (X5 p) (X6 p) i = (((∑ k ∈ range 1024, p.Z (i 0).val k * (hd p.Z p.T p.Q (i 0).val k * p.Q 0 k)) * (((-(1 / 2))) * ((rs p.Z (i 0).val) / (((∑ k28 ∈ range 1024, ((p.Z (i 0).val k28) * (p.Z (i 0).val k28))) / 1024) + ((8796093 / 8796093022208))))) : ℝ) : EReal) :=
  (val_main_v69_apply _ _ _ _ _ _ _ i).trans (c_mul (at_v66 p i) (at_v37 p i))
theorem at_cst_17 (i : S_.Idx) : val_main_cst_17 (F := Ideal) i = ((1024 : ℝ) : EReal) := ofBits_1024
theorem at_v70 (i : S8192x1.Idx) : val_main_v70 (F := Ideal) i = ((1024 : ℝ) : EReal) :=
  (val_main_v70_apply i).trans (at_cst_17 p _)
theorem at_v71 (i : S8192x1.Idx) : val_main_v71 (F := Ideal) (X0 p) (X1 p) (X2 p) (X3 p) (X4 p) (X5 p) (X6 p) i = ((cc p.Z p.T p.Q (i 0).val : ℝ) : EReal) :=
  c_eq (φ := .f32) (u := ((∑ k ∈ range 1024, p.Z (i 0).val k * (hd p.Z p.T p.Q (i 0).val k * p.Q 0 k)) * (((-(1 / 2))) * ((rs p.Z (i 0).val) / (((∑ k28 ∈ range 1024, ((p.Z (i 0).val k28) * (p.Z (i 0).val k28))) / 1024) + ((8796093 / 8796093022208)))))) / 1024) ((val_main_v71_apply _ _ _ _ _ _ _ i).trans (c_div (at_v69 p i) (at_v70 p i) (by norm_num))) (rfl)
theorem at_cst_18 (i : S_.Idx) : val_main_cst_18 (F := Ideal) i = ((0 : ℝ) : EReal) := ofBits_zero
theorem at_v72 (i : S8192.Idx) : val_main_v72 (F := Ideal) (X0 p) (X1 p) (X2 p) (X3 p) (X4 p) (X5 p) (X6 p) i = ((cc p.Z p.T p.Q (i 0).val : ℝ) : EReal) :=
  c_eq (φ := .f32) (u := ∑ k72 ∈ range 1, (cc p.Z p.T p.Q (i 0).val)) ((val_main_v72_apply _ _ _ _ _ _ _ i).trans (c_sum 1 (at_cst_18 p _) (fun k72 => (cc p.Z p.T p.Q (i 0).val)) _ fun k => at_v71 p _)) (Finset.sum_range_one _)
theorem at_v73 (i : S8192x1024.Idx) : val_main_v73 (F := Ideal) (X0 p) (X1 p) (X2 p) (X3 p) (X4 p) (X5 p) (X6 p) i = ((cc p.Z p.T p.Q (i 0).val : ℝ) : EReal) :=
  (val_main_v73_apply _ _ _ _ _ _ _ i).trans (at_v72 p _)
theorem at_v74 (i : S8192x1024.Idx) : val_main_v74 (F := Ideal) (X0 p) (X1 p) (X2 p) (X3 p) (X4 p) (X5 p) (X6 p) i = (((p.Z (i 0).val (i 1).val) * (cc p.Z p.T p.Q (i 0).val) : ℝ) : EReal) :=
  (val_main_v74_apply _ _ _ _ _ _ _ i).trans (c_mul (at_v26 p i) (at_v73 p i))
theorem at_v75 (i : S8192x1024.Idx) : val_main_v75 (F := Ideal) (X0 p) (X1 p) (X2 p) (X3 p) (X4 p) (X5 p) (X6 p) i = (((((hd p.Z p.T p.Q (i 0).val (i 1).val) * (p.Q 0 (i 1).val)) * (rs p.Z (i 0).val)) + ((p.Z (i 0).val (i 1).val) * (cc p.Z p.T p.Q (i 0).val)) : ℝ) : EReal) :=
  (val_main_v75_apply _ _ _ _ _ _ _ i).trans (c_add (at_v68 p i) (at_v74 p i))
theorem at_v76 (i : S8192x1024.Idx) : val_main_v76 (F := Ideal) (X0 p) (X1 p) (X2 p) (X3 p) (X4 p) (X5 p) (X6 p) i = (((cc p.Z p.T p.Q (i 0).val) * (p.Z (i 0).val (i 1).val) : ℝ) : EReal) :=
  (val_main_v76_apply _ _ _ _ _ _ _ i).trans (c_mul (at_v73 p i) (at_v26 p i))
theorem at_v77 (i : S8192x1024.Idx) : val_main_v77 (F := Ideal) (X0 p) (X1 p) (X2 p) (X3 p) (X4 p) (X5 p) (X6 p) i = ((dz p.Z p.T p.Q (i 0).val (i 1).val : ℝ) : EReal) :=
  c_eq (φ := .f32) (u := ((((hd p.Z p.T p.Q (i 0).val (i 1).val) * (p.Q 0 (i 1).val)) * (rs p.Z (i 0).val)) + ((p.Z (i 0).val (i 1).val) * (cc p.Z p.T p.Q (i 0).val))) + ((cc p.Z p.T p.Q (i 0).val) * (p.Z (i 0).val (i 1).val))) ((val_main_v77_apply _ _ _ _ _ _ _ i).trans (c_add (at_v75 p i) (at_v76 p i))) (dz_eq p.Z p.T p.Q _ _)
theorem at_v78 (i : S8192x2816.Idx) : val_main_v78 (F := Ideal) (X0 p) (X1 p) (X2 p) (X3 p) i = ((p.P (i 0).val (i 1).val : ℝ) : EReal) := FwdReal.at_v21 p.toArg i
theorem at_v79 (i : S8192x2816.Idx) : val_main_v79 (F := Ideal) (X0 p) (X1 p) (X2 p) i = ((p.S (i 0).val (i 1).val : ℝ) : EReal) :=
  at_v20_0 p i
theorem at_v80 (i : S8192x2816.Idx) : val_main_v80 (F := Ideal) (X0 p) (X1 p) (X2 p) (X3 p) i = ((p.P (i 0).val (i 1).val : ℝ) : EReal) :=
  at_v78 p i
theorem at_v81 (i : S8192x2816.Idx) : val_main_v81 (F := Ideal) (X0 p) (X1 p) (X2 p) (X3 p) i = (((p.S (i 0).val (i 1).val) * (p.b (i 0).val (i 1).val) : ℝ) : EReal) :=
  at_v21 p i
theorem at_v82 (i : S8192x1024.Idx) : val_main_v82 (F := Ideal) (X0 p) (X1 p) i = ((H8 p (i 0).val (i 1).val : ℝ) : EReal) :=
  at_v13 p i
theorem at_v83 (i : S1x1024.Idx) : val_main_v83 (F := Ideal) (X0 p) (X1 p) (X2 p) (X3 p) (X4 p) (X5 p) (X6 p) i = ((∑ k ∈ range 8192, gd p.Z p.T p.Q k (i 1).val : ℝ) : EReal) :=
  c_eq (φ := .f32) (u := ∑ k ∈ range 8192, gd p.Z p.T p.Q k ((i 0).val * 1024 + (i 1).val)) ((val_main_v83_apply _ _ _ _ _ _ _ i).trans (at_v63 p _)) (by have h : (i 0).val < 1 := (i 0).isLt; rw [show (i 0).val = 0 by omega, zero_mul, zero_add])
theorem at_v84 (i : S1x128.Idx) : val_main_v84 (F := Ideal) (X0 p) (X1 p) (X2 p) (X3 p) (X4 p) (X5 p) (X6 p) i = ((((1 / 2)) * (∑ k ∈ range 8192, sq p.Z p.T p.Q k) : ℝ) : EReal) :=
  (val_main_v84_apply _ _ _ _ _ _ _ i).trans (at_v49 p _)

end Cert.HeadReal

end
-- ==== Proof.Head.Meets.lean ====
/- The feed-forward launch with its loss head and its reference meet: at finite arguments both leave the same seven arrays. -/
module

public import proofs.«01_k».proof.Proof.Head.Fold
public import proofs.«01_k».proof.Proof.Head.Ref
public import proofs.«01_k».proof.Proof.Gmlp.Finite

@[expose] public section

set_option maxRecDepth 16384

noncomputable section

namespace Cert.Kernel5Ideal.Head

open Cert.Kernel5Ideal Cert.Kernel5Ideal.Gen Idealize.ShloMosaic Idealize.ShloMosaic.TcCoe Idealize.SL.Sem Finset Cert.Lift Cert.Finite Cert.HeadReal

instance : Cert.Pre_finite5.Facts := ⟨by decide, by decide, by decide, by decide⟩

variable (m : (ℓ : Loc nD τ sig) → Buf (Elt Ideal) ℓ) (ρ : Dev nD → PrngReg) (c : Dev nD)

/-- A vector's entries, as reals. -/
def re1 (x : FVec Ideal S1024 .f32) (j : ℕ) : ℝ := if h : j < 1024 then EReal.toReal (x (ValueIdx.ix1 ⟨j, h⟩)) else 0

theorem eq_re1 (x : FVec Ideal S1024 .f32) (h : ∀ i, x i = ((EReal.toReal (x i) : ℝ) : EReal)) : x = fun i => ((re1 x (i 0).val : ℝ) : EReal) := by
  funext i
  have h0 : (i 0).val < 1024 := (i 0).isLt
  have hi : (ValueIdx.ix1 ⟨(i 0).val, h0⟩ : S1024.Idx) = i := by
    funext k
    match k with
    | ⟨0, _⟩ => rfl
  show x i = ((re1 x (i 0).val : ℝ) : EReal)
  unfold re1
  rw [dif_pos h0, hi]
  exact h i

/-- The arguments of the device `c`, as reals. -/
def arg : Arg where
  D := fun _ _ => 0
  X := re2 (a := 8192) (b := 1024) (φ := .f32) (m ((c.tc : Thread nD τ).loc main_arg0))
  G := re2 (a := 1) (b := 1024) (φ := .f32) (m ((c.tc : Thread nD τ).loc main_arg1))
  Wg := re2 (a := 2816) (b := 1024) (φ := .bf16) (m ((c.tc : Thread nD τ).loc main_arg2))
  Wu := re2 (a := 2816) (b := 1024) (φ := .bf16) (m ((c.tc : Thread nD τ).loc main_arg3))
  Wd := re2 (a := 2816) (b := 1024) (φ := .bf16) (m ((c.tc : Thread nD τ).loc main_arg4))
  T := re2 (a := 8192) (b := 1024) (φ := .f32) (m ((c.tc : Thread nD τ).loc main_arg5))
  Q := fun _ => re1 (m ((c.tc : Thread nD τ).loc main_arg6))

/-- Finite arguments are arrays of reals. -/
theorem args_real (h : Cert.Pre_Kernel5Ideal_finite5 m) : In m c (arg m c) := by
  obtain ⟨e0, e1, e2, e3, e4, e5, e6⟩ := h c
  refine ⟨eq_re2 _ fun i => real_of_abs ?_, eq_re2 _ fun i => real_of_abs ?_, eq_re2 _ fun i => real_of_abs ?_, eq_re2 _ fun i => real_of_abs ?_, eq_re2 _ fun i => real_of_abs ?_, eq_re2 _ fun i => real_of_abs ?_, eq_re1 _ fun i => real_of_abs ?_⟩
  · rw [← inf_f32]; exact congrFun e0 i
  · rw [← inf_f32]; exact congrFun e1 i
  · rw [← inf_bf16]; exact congrFun e2 i
  · rw [← inf_bf16]; exact congrFun e3 i
  · rw [← inf_bf16]; exact congrFun e4 i
  · rw [← inf_f32]; exact congrFun e5 i
  · rw [← inf_f32]; exact congrFun e6 i

/-- From finite arguments the program ends with the gradient at its output, what the gradient of the layer will need, the sums of the gain's gradient and of the loss, and its arguments unchanged. -/
theorem values (hp : Cert.Pre_Kernel5Ideal_finite5 m) : θ_run defs (onTc (τ := τ) (main (F := Ideal))) ⟨m, fun _ => 0, ρ⟩ (fun r => ∀ c : Dev nD,
      r.2.mem ((c.tc : Thread nD τ).loc main_v1_0) = rv 8192 1024 .f32 (dz (arg m c).Z (arg m c).T (arg m c).Q)
      ∧ r.2.mem ((c.tc : Thread nD τ).loc main_v1_1) = rv 8192 2816 .bf16 (arg m c).S
      ∧ r.2.mem ((c.tc : Thread nD τ).loc main_v1_2) = rv 8192 2816 .bf16 (arg m c).P
      ∧ r.2.mem ((c.tc : Thread nD τ).loc main_v1_3) = rv 8192 2816 .bf16 (fun i j => (arg m c).S i j * (arg m c).b i j)
      ∧ r.2.mem ((c.tc : Thread nD τ).loc main_v1_4) = rv 8192 1024 .bf16 (H8 (arg m c))
      ∧ r.2.mem ((c.tc : Thread nD τ).loc main_v1_5) = rv 1 1024 .f32 (gAt (arg m c) 8192)
      ∧ r.2.mem ((c.tc : Thread nD τ).loc main_v1_6) = rv 1 128 .f32 (lAt (arg m c) 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have H := args_real m c hp
    obtain ⟨r0, r1, r2, r3, r4, r5, r6, rest⟩ := h c
    exact ⟨r0.trans (all7 H), r1.trans (all8 H), r2.trans (all9 H), r3.trans (all10 H), r4.trans (all11 H), r5.trans (all12 H), r6.trans (all13 H), rest⟩)
    (Value.run_blocks (F := Ideal) m ρ)

end Cert.Kernel5Ideal.Head

namespace Cert.HeadReal

open Cert.FfnReal Cert.Reference5Ideal Cert.Reference5Ideal.Read Idealize.ShloMosaic Cert.Lift Cert.Kernel5Ideal.Head Finset

variable (p : Arg)

theorem ref77 : val_main_v77 (F := Ideal) (X0 p) (X1 p) (X2 p) (X3 p) (X4 p) (X5 p) (X6 p) = rv 8192 1024 .f32 (dz p.Z p.T p.Q) := funext fun i => at_v77 p i
theorem ref79 : val_main_v79 (F := Ideal) (X0 p) (X1 p) (X2 p) = rv 8192 2816 .bf16 p.S := funext fun i => at_v79 p i
theorem ref80 : val_main_v80 (F := Ideal) (X0 p) (X1 p) (X2 p) (X3 p) = rv 8192 2816 .bf16 p.P := funext fun i => at_v80 p i
theorem ref81 : val_main_v81 (F := Ideal) (X0 p) (X1 p) (X2 p) (X3 p) = rv 8192 2816 .bf16 (fun i j => p.S i j * p.b i j) := funext fun i => at_v81 p i
theorem ref82 : val_main_v82 (F := Ideal) (X0 p) (X1 p) = rv 8192 1024 .bf16 (H8 p) := funext fun i => at_v82 p i
theorem ref83 : val_main_v83 (F := Ideal) (X0 p) (X1 p) (X2 p) (X3 p) (X4 p) (X5 p) (X6 p) = rv 1 1024 .f32 (gAt p 8192) := funext fun i => (at_v83 p i).trans (congrArg _ (zero_add _).symm)
theorem ref84 : val_main_v84 (F := Ideal) (X0 p) (X1 p) (X2 p) (X3 p) (X4 p) (X5 p) (X6 p) = rv 1 128 .f32 (lAt p 8192) := funext fun i => (at_v84 p i).trans (congrArg _ (zero_add _).symm)

end Cert.HeadReal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gmlp.Finite
public import proofs.«01_k».proof.Proof.Gmlp.RefD
public import proofs.«01_k».proof.Proof.Dw.Ref
public import proofs.«01_k».proof.Proof.Ffn.Meets
public import proofs.«01_k».proof.Proof.Fwd.Meets
public import proofs.«01_k».proof.Proof.Head.Meets

@[expose] public section

set_option maxRecDepth 16384

noncomputable section

namespace Cert.Proof

open Idealize.ShloMosaic Idealize.SL.Sem Idealize.ShloMosaic.StableHlo Cert.Lift Cert.Model Finset

section Values

open Cert.ReferenceIdeal Cert.ReferenceIdeal.Read Cert.RefReal

variable (p : Inp)

theorem ref140 : val_main_v140 (F := Ideal) (X0 p) (X1 p) (X2 p) (X3 p) (X4 p) (X5 p) = rv 1024 8192 .bf16 (dz p) :=
  funext fun i => at_v140 p i
theorem ref86 : val_main_v86 (F := Ideal) (X0 p) (X1 p) (X2 p) (X3 p) = rv3 8 128 128 .f32 (dw p 64) :=
  funext fun i => at_v86 p i
theorem ref81 : val_main_v81 (F := Ideal) (X0 p) (X1 p) = rv 8 128 .f32 (db p 64) :=
  funext fun i => at_v81 p i
theorem ref141 : val_main_v141 (F := Ideal) (X0 p) (X1 p) (X4 p) = rv 1 512 .f32 fun _ i => ∑ l ∈ range 128, dg p 64 i l :=
  funext fun i => at_v141 p i
theorem ref142 : val_main_v142 (F := Ideal) (X0 p) (X1 p) (X4 p) = rv 1 512 .f32 fun _ i => ∑ l ∈ range 128, dh p 64 i l :=
  funext fun i => at_v142 p i

end Values

theorem frame_p : Cert.quiescent_Kernel (hKernel := Cert.Kernel.Gen.facts) :=
  fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_pi_finite : Cert.quiescent_KernelIdeal_pre_finite (hKernelIdeal := Cert.KernelIdeal.Gen.facts) :=
  fun m ρ _ => Cert.KernelIdeal.Gen.frame m ρ

theorem frame_ri : Cert.quiescent_ReferenceIdeal (hReferenceIdeal := Cert.ReferenceIdeal.Gen.facts) :=
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ)

theorem frame_ri_finite : Cert.quiescent_ReferenceIdeal_pre_finite (hReferenceIdeal := Cert.ReferenceIdeal.Gen.facts) :=
  fun m ρ _ => frame_ri m ρ trivial

theorem preserves : Cert.preserves_Kernel_KernelIdeal :=
  ⟨IdealRules.named_const.statement Cert.KernelIdeal.κ "gelu_a" .f32 0x3D372713#32 _ rfl,
   IdealRules.named_const.statement Cert.KernelIdeal.κ "gelu_3a" .f32 0x3E095D4F#32 _ rfl⟩

theorem algebraic : Cert.algebraic_KernelIdeal_ReferenceIdeal_pre_finite
    (hKernelIdeal := Cert.KernelIdeal.Gen.facts) (hReferenceIdeal := Cert.ReferenceIdeal.Gen.facts) := by
  intro m ρ m' ρ' hpre hagree
  refine ⟨_, _, _, _, _, Cert.KernelIdeal.Value.run (F := Ideal) m ρ, ?_⟩
  refine (θ_run Cert.ReferenceIdeal.defs _ _).mono (fun r h c => ?_)
    (Cert.ReferenceIdeal.Value.run (F := Ideal) m' ρ')
  have A := Cert.Finite.args m hpre c
  obtain ⟨a0, a1, a2, a3, a4, a5⟩ := hagree c
  have e0 := a0.trans A.h0
  have e1 := a1.trans A.h1
  have e2 := a2.trans A.h2
  have e3 := a3.trans A.h3
  have e4 := a4.trans A.h4
  have e5 := a5.trans A.h5
  obtain ⟨r0, r1, r2, r3, r4, rest⟩ := h c
  refine ⟨?_, ?_, ?_, ?_, ?_, rest⟩
  · refine (r0.trans (Cert.ReferenceIdeal.Read.val_main_v140_eq _)).trans ?_
    rw [launchContents_devRef, launchContents_devRef, launchContents_devRef, launchContents_devRef,
      launchContents_devRef, launchContents_devRef, e0, e1, e2, e3, e4, e5]
    exact (ref140 _).trans (Cert.KernelIdeal.Tile.out6 A).symm
  · refine (r1.trans (Cert.ReferenceIdeal.Read.val_main_v86_eq _)).trans ?_
    rw [launchContents_devRef, launchContents_devRef, launchContents_devRef, launchContents_devRef, e0, e1, e2, e3]
    exact (ref86 _).trans (Cert.KernelIdeal.Tile.out7 A).symm
  · refine (r2.trans (Cert.ReferenceIdeal.Read.val_main_v81_eq _)).trans ?_
    rw [launchContents_devRef, launchContents_devRef, e0, e1]
    exact (ref81 _).trans (Cert.KernelIdeal.Tile.out8 A).symm
  · refine (r3.trans (Cert.ReferenceIdeal.Read.val_main_v141_eq _)).trans ?_
    rw [launchContents_devRef, launchContents_devRef, launchContents_devRef, e0, e1, e4]
    exact (ref141 _).trans (Cert.KernelIdeal.Tile.out9 A).symm
  · refine (r4.trans (Cert.ReferenceIdeal.Read.val_main_v142_eq _)).trans ?_
    rw [launchContents_devRef, launchContents_devRef, launchContents_devRef, e0, e1, e4]
    exact (ref142 _).trans (Cert.KernelIdeal.Tile.out10 A).symm

/-! ## The weight gradients of the feed-forward layers -/

theorem frame_p2 : Cert.quiescent_Kernel2 (hKernel2 := Cert.Kernel2.Gen.facts) :=
  fun m ρ _ => Cert.Kernel2.Gen.frame m ρ

theorem frame_pi2 : Cert.quiescent_Kernel2Ideal (hKernel2Ideal := Cert.Kernel2Ideal.Gen.facts) :=
  fun m ρ _ => Cert.Kernel2Ideal.Gen.frame m ρ

theorem frame_ri2 : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal
    (hKernel2Ideal := Cert.Kernel2Ideal.Gen.facts) (hReference2Ideal := Cert.Reference2Ideal.Gen.facts) := by
  intro m ρ m' ρ' hpre hagree
  refine ⟨_, Cert.Kernel2Ideal.Value.run (F := Ideal) m ρ, ?_⟩
  refine (θ_run Cert.Reference2Ideal.defs _ _).mono (fun r h c => ?_)
    (Cert.Reference2Ideal.Value.run (F := Ideal) m' ρ')
  obtain ⟨a0, a1⟩ := hagree c
  obtain ⟨f, hf⟩ := Cert.Reference2Ideal.Meets.eq_ev (a := 8192) (b := 2816) (φ := .bf16) (m ((c.tc : Thread Cert.Kernel2Ideal.nD Cert.Kernel2Ideal.τ).loc Cert.Kernel2Ideal.main_arg0))
  obtain ⟨g, hg⟩ := Cert.Reference2Ideal.Meets.eq_ev (a := 8192) (b := 1024) (φ := .bf16) (m ((c.tc : Thread Cert.Kernel2Ideal.nD Cert.Kernel2Ideal.τ).loc Cert.Kernel2Ideal.main_arg1))
  have e0 := a0.trans hf
  have e1 := a1.trans hg
  obtain ⟨r0, rest⟩ := h c
  refine ⟨?_, rest⟩
  refine (r0.trans (Cert.Reference2Ideal.Read.val_main_v6_eq _ _)).trans ?_
  rw [e0, e1]
  exact (Cert.Reference2Ideal.Meets.meets f g).trans (Cert.Kernel2Ideal.Tile.out2 hf hg).symm

/-! ## The gradient of a feed-forward layer -/

/-- At the machine's floats the printed program is the one whose run is proved above, text for text. -/
theorem same_run (m : (ℓ : Loc Cert.Kernel3.nD Cert.Kernel3.τ Cert.Kernel3.sig) → Buf (Elt Bits) ℓ) (ρ : Dev Cert.Kernel3.nD → PrngReg) :
    θ_run (@Cert.Kernel3.defs Bits _ Cert.Kernel3.Gen.facts) (onTc (τ := Cert.Kernel3.τ) (@Cert.Kernel3.main Bits _ Cert.Kernel3.Gen.facts)) ⟨m, fun _ => 0, ρ⟩
      = θ_run (@Cert.Kernel3Ideal.defs Bits _ Cert.Kernel3Ideal.Gen.facts) (onTc (τ := Cert.Kernel3Ideal.τ) (@Cert.Kernel3Ideal.main Bits _ Cert.Kernel3Ideal.Gen.facts)) ⟨m, fun _ => 0, ρ⟩ := by chain_rfl

theorem frame_p3 : Cert.quiescent_Kernel3 (hKernel3 := Cert.Kernel3.Gen.facts) := by
  intro m ρ _
  rw [same_run m ρ]
  exact Cert.Kernel3Ideal.Rows.frame (F := Bits) m ρ
theorem frame_pi3 : Cert.quiescent_Kernel3Ideal (hKernel3Ideal := Cert.Kernel3Ideal.Gen.facts) :=
  fun m ρ _ => Cert.Kernel3Ideal.Rows.frame (F := Ideal) m ρ

theorem frame_pi3_finite : Cert.quiescent_Kernel3Ideal_pre_finite3 (hKernel3Ideal := Cert.Kernel3Ideal.Gen.facts) :=
  fun m ρ _ => Cert.Kernel3Ideal.Rows.frame (F := Ideal) m ρ

theorem frame_ri3 : Cert.quiescent_Reference3Ideal (hReference3Ideal := Cert.Reference3Ideal.Gen.facts) :=
  fun m ρ _ => (θ_run Cert.Reference3Ideal.defs _ _).mono
    (fun r h => ⟨fun c => (h c).2.2.2.2.2, sem_eq_zero_of_no_sems (by decide) r.2⟩)
    (Cert.Reference3Ideal.Value.run (F := Ideal) m ρ)

theorem frame_ri3_finite : Cert.quiescent_Reference3Ideal_pre_finite3 (hReference3Ideal := Cert.Reference3Ideal.Gen.facts) :=
  fun m ρ _ => frame_ri3 m ρ trivial

theorem preserves3 : Cert.preserves_Kernel3_Kernel3Ideal := trivial

theorem algebraic3 : Cert.algebraic_Kernel3Ideal_Reference3Ideal_pre_finite3
    (hKernel3Ideal := Cert.Kernel3Ideal.Gen.facts) (hReference3Ideal := Cert.Reference3Ideal.Gen.facts) := by
  intro m ρ m' ρ' hpre hagree
  refine ⟨_, _, _, _, _, Cert.Kernel3Ideal.Rows.values m ρ hpre, ?_⟩
  refine (θ_run Cert.Reference3Ideal.defs _ _).mono (fun r h c => ?_)
    (Cert.Reference3Ideal.Value.run (F := Ideal) m' ρ')
  obtain ⟨b0, b1, b2, b3, b4, b5⟩ := Cert.Kernel3Ideal.Rows.args_real m c hpre
  obtain ⟨a0, a1, a2, a3, a4, a5⟩ := hagree c
  have e0 := a0.trans b0
  have e1 := a1.trans b1
  have e2 := a2.trans b2
  have e3 := a3.trans b3
  have e4 := a4.trans b4
  have e5 := a5.trans b5
  obtain ⟨r0, r1, r2, r3, r4, rest⟩ := h c
  refine ⟨?_, ?_, ?_, ?_, ?_, rest⟩
  · refine (r0.trans (Cert.Reference3Ideal.Read.val_main_v56_eq _ _)).trans ?_
    rw [e0, e1, e2, e3, e4, e5]
    exact Cert.FfnReal.ref56 _
  · refine (r1.trans (Cert.Reference3Ideal.Read.val_main_v57_eq _ _)).trans ?_
    rw [e0, e1, e2, e3, e4, e5]
    exact Cert.FfnReal.ref57 _
  · refine (r2.trans (Cert.Reference3Ideal.Read.val_main_v58_eq _ _ _ _ _)).trans ?_
    rw [e0, e1, e2, e3, e5]
    exact Cert.FfnReal.ref58 _
  · refine (r3.trans (Cert.Reference3Ideal.Read.val_main_v59_eq _)).trans ?_
    rw [e1]
    exact Cert.FfnReal.ref59 _
  · refine (r4.trans (Cert.Reference3Ideal.Read.val_main_v60_eq _ _)).trans ?_
    rw [e0, e1, e2, e3, e4, e5]
    exact Cert.FfnReal.ref60 _

/-! ## The forward pass of a feed-forward layer -/

/-- At the machine's floats the printed program is the idealized one, text for text. -/
theorem same_run4 (m : (ℓ : Loc Cert.Kernel4.nD Cert.Kernel4.τ Cert.Kernel4.sig) → Buf (Elt Bits) ℓ) (ρ : Dev Cert.Kernel4.nD → PrngReg) :
    θ_run (@Cert.Kernel4.defs Bits _ Cert.Kernel4.Gen.facts) (onTc (τ := Cert.Kernel4.τ) (@Cert.Kernel4.main Bits _)) ⟨m, fun _ => 0, ρ⟩
      = θ_run (@Cert.Kernel4Ideal.defs Bits _ Cert.Kernel4Ideal.Gen.facts) (onTc (τ := Cert.Kernel4Ideal.τ) (@Cert.Kernel4Ideal.main Bits _)) ⟨m, fun _ => 0, ρ⟩ := by chain_rfl

theorem frame_p4 : Cert.quiescent_Kernel4 (hKernel4 := Cert.Kernel4.Gen.facts) := by
  intro m ρ _
  rw [same_run4 m ρ]
  exact Cert.Kernel4Ideal.Gen.frame (F := Bits) m ρ
theorem frame_pi4 : Cert.quiescent_Kernel4Ideal (hKernel4Ideal := Cert.Kernel4Ideal.Gen.facts) :=
  fun m ρ _ => Cert.Kernel4Ideal.Gen.frame (F := Ideal) m ρ
theorem frame_pi4_finite : Cert.quiescent_Kernel4Ideal_pre_finite4 (hKernel4Ideal := Cert.Kernel4Ideal.Gen.facts) :=
  fun m ρ _ => Cert.Kernel4Ideal.Gen.frame (F := Ideal) m ρ
theorem frame_ri4 : Cert.quiescent_Reference4Ideal (hReference4Ideal := Cert.Reference4Ideal.Gen.facts) :=
  fun m ρ _ => (θ_run Cert.Reference4Ideal.defs _ _).mono
    (fun r h => ⟨fun c => (h c).2.2.2.2, sem_eq_zero_of_no_sems (by decide) r.2⟩)
    (Cert.Reference4Ideal.Value.run (F := Ideal) m ρ)
theorem frame_ri4_finite : Cert.quiescent_Reference4Ideal_pre_finite4 (hReference4Ideal := Cert.Reference4Ideal.Gen.facts) :=
  fun m ρ _ => frame_ri4 m ρ trivial

theorem preserves4 : Cert.preserves_Kernel4_Kernel4Ideal := trivial

theorem algebraic4 : Cert.algebraic_Kernel4Ideal_Reference4Ideal_pre_finite4
    (hKernel4Ideal := Cert.Kernel4Ideal.Gen.facts) (hReference4Ideal := Cert.Reference4Ideal.Gen.facts) := by
  intro m ρ m' ρ' hpre hagree
  refine ⟨_, _, _, _, Cert.Kernel4Ideal.Fwd.values m ρ hpre, ?_⟩
  refine (θ_run Cert.Reference4Ideal.defs _ _).mono (fun r h c => ?_)
    (Cert.Reference4Ideal.Value.run (F := Ideal) m' ρ')
  obtain ⟨b0, b1, b2, b3⟩ := Cert.Kernel4Ideal.Fwd.args_real m c hpre
  obtain ⟨a0, a1, a2, a3⟩ := hagree c
  have e0 := a0.trans b0
  have e1 := a1.trans b1
  have e2 := a2.trans b2
  have e3 := a3.trans b3
  obtain ⟨r0, r1, r2, r3, rest⟩ := h c
  refine ⟨?_, ?_, ?_, ?_, rest⟩
  · refine (r0.trans (Cert.Reference4Ideal.Read.val_main_v23_eq _ _ _)).trans ?_
    rw [e0, e1, e2]
    exact Cert.FwdReal.ref23 _
  · refine (r1.trans (Cert.Reference4Ideal.Read.val_main_v24_eq _ _)).trans ?_
    rw [e0, e1, e2, e3]
    exact Cert.FwdReal.ref24 _
  · refine (r2.trans (Cert.Reference4Ideal.Read.val_main_v25_eq _ _ _ _)).trans ?_
    rw [e0, e1, e2, e3]
    exact Cert.FwdReal.ref25 _
  · refine (r3.trans (Cert.Reference4Ideal.Read.val_main_v26_eq _ _)).trans ?_
    rw [e0, e1]
    exact Cert.FwdReal.ref26 _

/-! ## The last layer with its loss head -/

/-- At the machine's floats the printed program is the idealized one, text for text. -/
theorem same_run5 (m : (ℓ : Loc Cert.Kernel5.nD Cert.Kernel5.τ Cert.Kernel5.sig) → Buf (Elt Bits) ℓ) (ρ : Dev Cert.Kernel5.nD → PrngReg) :
    θ_run (@Cert.Kernel5.defs Bits _ Cert.Kernel5.Gen.facts) (onTc (τ := Cert.Kernel5.τ) (@Cert.Kernel5.main Bits _)) ⟨m, fun _ => 0, ρ⟩
      = θ_run (@Cert.Kernel5Ideal.defs Bits _ Cert.Kernel5Ideal.Gen.facts) (onTc (τ := Cert.Kernel5Ideal.τ) (@Cert.Kernel5Ideal.main Bits _)) ⟨m, fun _ => 0, ρ⟩ := by chain_rfl

theorem frame_p5 : Cert.quiescent_Kernel5 (hKernel5 := Cert.Kernel5.Gen.facts) := by
  intro m ρ _
  rw [same_run5 m ρ]
  exact Cert.Kernel5Ideal.Gen.frame (F := Bits) m ρ
theorem frame_pi5 : Cert.quiescent_Kernel5Ideal (hKernel5Ideal := Cert.Kernel5Ideal.Gen.facts) :=
  fun m ρ _ => Cert.Kernel5Ideal.Gen.frame (F := Ideal) m ρ
theorem frame_pi5_finite : Cert.quiescent_Kernel5Ideal_pre_finite5 (hKernel5Ideal := Cert.Kernel5Ideal.Gen.facts) :=
  fun m ρ _ => Cert.Kernel5Ideal.Gen.frame (F := Ideal) m ρ
theorem frame_ri5 : Cert.quiescent_Reference5Ideal (hReference5Ideal := Cert.Reference5Ideal.Gen.facts) :=
  fun m ρ _ => (θ_run Cert.Reference5Ideal.defs _ _).mono
    (fun r h => ⟨fun c => (h c).2.2.2.2.2.2.2, sem_eq_zero_of_no_sems (by decide) r.2⟩)
    (Cert.Reference5Ideal.Value.run (F := Ideal) m ρ)
theorem frame_ri5_finite : Cert.quiescent_Reference5Ideal_pre_finite5 (hReference5Ideal := Cert.Reference5Ideal.Gen.facts) :=
  fun m ρ _ => frame_ri5 m ρ trivial

theorem preserves5 : Cert.preserves_Kernel5_Kernel5Ideal := trivial

theorem algebraic5 : Cert.algebraic_Kernel5Ideal_Reference5Ideal_pre_finite5
    (hKernel5Ideal := Cert.Kernel5Ideal.Gen.facts) (hReference5Ideal := Cert.Reference5Ideal.Gen.facts) := by
  intro m ρ m' ρ' hpre hagree
  refine ⟨_, _, _, _, _, _, _, Cert.Kernel5Ideal.Head.values m ρ hpre, ?_⟩
  refine (θ_run Cert.Reference5Ideal.defs _ _).mono (fun r h c => ?_)
    (Cert.Reference5Ideal.Value.run (F := Ideal) m' ρ')
  obtain ⟨b0, b1, b2, b3, b4, b5, b6⟩ := Cert.Kernel5Ideal.Head.args_real m c hpre
  obtain ⟨a0, a1, a2, a3, a4, a5, a6⟩ := hagree c
  have e0 := a0.trans b0
  have e1 := a1.trans b1
  have e2 := a2.trans b2
  have e3 := a3.trans b3
  have e4 := a4.trans b4
  have e5 := a5.trans b5
  have e6 := a6.trans b6
  obtain ⟨r0, r1, r2, r3, r4, r5, r6, rest⟩ := h c
  refine ⟨?_, ?_, ?_, ?_, ?_, ?_, ?_, rest⟩
  · refine (r0.trans (Cert.Reference5Ideal.Read.val_main_v77_eq _)).trans ?_
    show Cert.Reference5Ideal.Read.val_main_v77 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
    rw [e0, e1, e2, e3, e4, e5, e6]
    exact Cert.HeadReal.ref77 _
  · refine (r1.trans (Cert.Reference5Ideal.Read.val_main_v79_eq _)).trans ?_
    show Cert.Reference5Ideal.Read.val_main_v79 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = _
    rw [e0, e1, e2]
    exact Cert.HeadReal.ref79 _
  · refine (r2.trans (Cert.Reference5Ideal.Read.val_main_v80_eq _)).trans ?_
    show Cert.Reference5Ideal.Read.val_main_v80 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [e0, e1, e2, e3]
    exact Cert.HeadReal.ref80 _
  · refine (r3.trans (Cert.Reference5Ideal.Read.val_main_v81_eq _)).trans ?_
    show Cert.Reference5Ideal.Read.val_main_v81 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [e0, e1, e2, e3]
    exact Cert.HeadReal.ref81 _
  · refine (r4.trans (Cert.Reference5Ideal.Read.val_main_v82_eq _)).trans ?_
    show Cert.Reference5Ideal.Read.val_main_v82 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = _
    rw [e0, e1]
    exact Cert.HeadReal.ref82 _
  · refine (r5.trans (Cert.Reference5Ideal.Read.val_main_v83_eq _)).trans ?_
    show Cert.Reference5Ideal.Read.val_main_v83 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
    rw [e0, e1, e2, e3, e4, e5, e6]
    exact Cert.HeadReal.ref83 _
  · refine (r6.trans (Cert.Reference5Ideal.Read.val_main_v84_eq _)).trans ?_
    show Cert.Reference5Ideal.Read.val_main_v84 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = _
    rw [e0, e1, e2, e3, e4, e5, e6]
    exact Cert.HeadReal.ref84 _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, inferInstance, inferInstance, inferInstance, inferInstance,
    frame_p, frame_pi, frame_pi_finite, frame_ri, frame_ri_finite, frame_p2, frame_pi2, frame_ri2,
    frame_p3, frame_pi3, frame_pi3_finite, frame_ri3, frame_ri3_finite,
    frame_p4, frame_pi4, frame_pi4_finite, frame_ri4, frame_ri4_finite,
    frame_p5, frame_pi5, frame_pi5_finite, frame_ri5, frame_ri5_finite,
    preserves, algebraic, preserves2, algebraic2, preserves3, algebraic3, preserves4, algebraic4,
    preserves5, algebraic5⟩

end Cert.Proof

end
